-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)) (v3 : (c : Dev Cert.Kernel5Ideal.nD) → Buf (Elt Ideal) ((c.tc : Thread Cert.Kernel5Ideal.nD Cert.Kernel5Ideal.τ).loc Cert.Kernel5Ideal.main_v13_3)) (v4 : (c : Dev Cert.Kernel5Ideal.nD) → Buf (Elt Ideal) ((c.tc : Thread Cert.Kernel5Ideal.nD Cert.Kernel5Ideal.τ).loc Cert.Kernel5Ideal.main_v13_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_v13_3) = v3 c
          ∧ r.2.mem ((c.tc : Thread Cert.Kernel5Ideal.nD Cert.Kernel5Ideal.τ).loc Cert.Kernel5Ideal.main_v13_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v63) = v0 c
          ∧ r.2.mem ((c.tc : Thread Cert.Reference5Ideal.nD Cert.Reference5Ideal.τ).loc Cert.Reference5Ideal.main_v64) = v1 c
          ∧ r.2.mem ((c.tc : Thread Cert.Reference5Ideal.nD Cert.Reference5Ideal.τ).loc Cert.Reference5Ideal.main_v65) = v2 c
          ∧ r.2.mem ((c.tc : Thread Cert.Reference5Ideal.nD Cert.Reference5Ideal.τ).loc Cert.Reference5Ideal.main_v66) = v3 c
          ∧ r.2.mem ((c.tc : Thread Cert.Reference5Ideal.nD Cert.Reference5Ideal.τ).loc Cert.Reference5Ideal.main_v62) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v39_0)) (v1 : (c : Dev Cert.Kernel7Ideal.nD) → Buf (Elt Ideal) ((c.tc : Thread Cert.Kernel7Ideal.nD Cert.Kernel7Ideal.τ).loc Cert.Kernel7Ideal.main_v39_1)) (v2 : (c : Dev Cert.Kernel7Ideal.nD) → Buf (Elt Ideal) ((c.tc : Thread Cert.Kernel7Ideal.nD Cert.Kernel7Ideal.τ).loc Cert.Kernel7Ideal.main_v39_2)) (v3 : (c : Dev Cert.Kernel7Ideal.nD) → Buf (Elt Ideal) ((c.tc : Thread Cert.Kernel7Ideal.nD Cert.Kernel7Ideal.τ).loc Cert.Kernel7Ideal.main_v39_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v39_0) = v0 c
          ∧ r.2.mem ((c.tc : Thread Cert.Kernel7Ideal.nD Cert.Kernel7Ideal.τ).loc Cert.Kernel7Ideal.main_v39_1) = v1 c
          ∧ r.2.mem ((c.tc : Thread Cert.Kernel7Ideal.nD Cert.Kernel7Ideal.τ).loc Cert.Kernel7Ideal.main_v39_2) = v2 c
          ∧ r.2.mem ((c.tc : Thread Cert.Kernel7Ideal.nD Cert.Kernel7Ideal.τ).loc Cert.Kernel7Ideal.main_v39_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v62) = v0 c
          ∧ r.2.mem ((c.tc : Thread Cert.Reference7Ideal.nD Cert.Reference7Ideal.τ).loc Cert.Reference7Ideal.main_v64) = v1 c
          ∧ r.2.mem ((c.tc : Thread Cert.Reference7Ideal.nD Cert.Reference7Ideal.τ).loc Cert.Reference7Ideal.main_v65) = v2 c
          ∧ r.2.mem ((c.tc : Thread Cert.Reference7Ideal.nD Cert.Reference7Ideal.τ).loc Cert.Reference7Ideal.main_v66) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S2x8192x1024 : Shape := ⟨3, ![2, 8192, 1024]⟩
abbrev S4x1024 : Shape := ⟨2, ![4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x1024 : Shape := ⟨2, ![1, 1024]⟩
abbrev S1024 : Shape := ⟨1, ![1024]⟩
abbrev S1x3x1024 : Shape := ⟨3, ![1, 3, 1024]⟩
abbrev S3x1024 : Shape := ⟨2, ![3, 1024]⟩
abbrev S1x1024x1024 : Shape := ⟨3, ![1, 1024, 1024]⟩
abbrev S1x1024x3072 : Shape := ⟨3, ![1, 1024, 3072]⟩
abbrev S8x1032x128 : Shape := ⟨3, ![8, 1032, 128]⟩
abbrev S1024x1024 : Shape := ⟨2, ![1024, 1024]⟩
abbrev S1024x1 : Shape := ⟨2, ![1024, 1]⟩
abbrev S8x8x128 : Shape := ⟨3, ![8, 8, 128]⟩
abbrev S1x1024x256 : Shape := ⟨3, ![1, 1024, 256]⟩
abbrev S1024x256 : Shape := ⟨2, ![1024, 256]⟩
abbrev S1024x128 : Shape := ⟨2, ![1024, 128]⟩
abbrev S1x1024x128 : Shape := ⟨3, ![1, 1024, 128]⟩
abbrev S1x128 : Shape := ⟨2, ![1, 128]⟩

abbrev nBuf : Space → Nat
  | .hbm => 11
  | .vmem => 10
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S1x1024, .f32⟩
  | .hbm, ⟨6, _⟩ => ⟨S1024, .f32⟩
  | .hbm, ⟨7, _⟩ => ⟨S1x3x1024, .f32⟩
  | .hbm, ⟨8, _⟩ => ⟨S3x1024, .f32⟩
  | .hbm, ⟨9, _⟩ => ⟨S1x1024, .f32⟩
  | .hbm, ⟨10, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x3072, .f32⟩
  | .local _ .vmem, ⟨4, _⟩ => ⟨S3x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S8x1032x128, .f32⟩
  | .local _ .vmem, ⟨9, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x8192x1024 : Shape := ⟨3, ![2, 8192, 1024]⟩
abbrev S4x1024 : Shape := ⟨2, ![4, 1024]⟩
abbrev S2x1024x3072 : Shape := ⟨3, ![2, 1024, 3072]⟩
abbrev S2x3x1024 : Shape := ⟨3, ![2, 3, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x3072 : Shape := ⟨3, ![1, 1024, 3072]⟩
abbrev S1024x3072 : Shape := ⟨2, ![1024, 3072]⟩
abbrev S2x8192x3072 : Shape := ⟨3, ![2, 8192, 3072]⟩
abbrev S1x3x1024 : Shape := ⟨3, ![1, 3, 1024]⟩
abbrev S3x1024 : Shape := ⟨2, ![3, 1024]⟩
abbrev S2x8194x1024 : Shape := ⟨3, ![2, 8194, 1024]⟩
abbrev S1x1024x1024 : Shape := ⟨3, ![1, 1024, 1024]⟩
abbrev S1024x1024 : Shape := ⟨2, ![1024, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S2x1024x3072, .f32⟩
  | .hbm, ⟨3, _⟩ => ⟨S2x3x1024, .f32⟩
  | .hbm, ⟨4, _⟩ => ⟨S2x1024x1024, .f32⟩
  | .hbm, ⟨5, _⟩ => ⟨S1x1024, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1x1024x3072, .f32⟩
  | .hbm, ⟨24, _⟩ => ⟨S1024x3072, .f32⟩
  | .hbm, ⟨25, _⟩ => ⟨S2x8192x3072, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S1x3x1024, .f32⟩
  | .hbm, ⟨31, _⟩ => ⟨S3x1024, .f32⟩
  | .hbm, ⟨32, _⟩ => ⟨S_, .i32⟩
  | .hbm, ⟨33, _⟩ => ⟨S_, .f32⟩
  | .hbm, ⟨34, _⟩ => ⟨S2x8194x1024, .f32⟩
  | .hbm, ⟨35, _⟩ => ⟨S2x8192x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S2x8192x1024, .f32⟩
  | .hbm, ⟨40, _⟩ => ⟨S2x8192x1024, .f32⟩
  | .hbm, ⟨41, _⟩ => ⟨S2x8192x1024, .f32⟩
  | .hbm, ⟨42, _⟩ => ⟨S1x1024, .f32⟩
  | .hbm, ⟨43, _⟩ => ⟨S1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S1x1024, .f32⟩
  | .hbm, ⟨50, _⟩ => ⟨S1024, .f32⟩
  | .hbm, ⟨51, _⟩ => ⟨S1x1x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S1x1024x1024, .f32⟩
  | .hbm, ⟨57, _⟩ => ⟨S1024x1024, .f32⟩
  | .hbm, ⟨58, _⟩ => ⟨S2x8192x1024, .f32⟩
  | .hbm, ⟨59, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Kernel2.lean ====
abbrev S2x8192x1024 : Shape := ⟨3, ![2, 8192, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x2816 : Shape := ⟨2, ![512, 2816]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 9
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .f32⟩
  | .local _ .vmem, ⟨4, _⟩ => ⟨S1x2816x1024, .f32⟩
  | .local _ .vmem, ⟨5, _⟩ => ⟨S512x1024, .f32⟩
  | .local _ .vmem, ⟨6, _⟩ => ⟨S512x1024, .f32⟩
  | .local _ .vmem, ⟨7, _⟩ => ⟨S512x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S2x8192x1024 : Shape := ⟨3, ![2, 8192, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x8192x5632 : Shape := ⟨3, ![2, 8192, 5632]⟩
abbrev S2x8192x2816 : Shape := ⟨3, ![2, 8192, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S4x1024x5632, .f32⟩
  | .hbm, ⟨3, _⟩ => ⟨S4x2816x1024, .f32⟩
  | .hbm, ⟨4, _⟩ => ⟨S1x1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1x1024x5632, .f32⟩
  | .hbm, ⟨23, _⟩ => ⟨S1024x5632, .f32⟩
  | .hbm, ⟨24, _⟩ => ⟨S2x8192x5632, .f32⟩
  | .hbm, ⟨25, _⟩ => ⟨S2x8192x2816, .f32⟩
  | .hbm, ⟨26, _⟩ => ⟨S2x8192x2816, .f32⟩
  | .hbm, ⟨27, _⟩ => ⟨S2x8192x2816, .f32⟩
  | .hbm, ⟨28, _⟩ => ⟨S2x8192x2816, .f32⟩
  | .hbm, ⟨29, _⟩ => ⟨S_, .f32⟩
  | .hbm, ⟨30, _⟩ => ⟨S2x8192x2816, .f32⟩
  | .hbm, ⟨31, _⟩ => ⟨S2x8192x2816, .f32⟩
  | .hbm, ⟨32, _⟩ => ⟨S_, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S2x8192x2816, .f32⟩
  | .hbm, ⟨37, _⟩ => ⟨S1x2816x1024, .f32⟩
  | .hbm, ⟨38, _⟩ => ⟨S2816x1024, .f32⟩
  | .hbm, ⟨39, _⟩ => ⟨S2x8192x1024, .f32⟩
  | .hbm, ⟨40, _⟩ => ⟨S2x8192x1024, .f32⟩
  | .hbm, ⟨41, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel3.lean ====
abbrev S2x8192x1024 : Shape := ⟨3, ![2, 8192, 1024]⟩
abbrev S1x1024x1024 : Shape := ⟨3, ![1, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S16384x1024 : Shape := ⟨2, ![16384, 1024]⟩
abbrev S1x1024 : Shape := ⟨2, ![1, 1024]⟩
abbrev S1024 : Shape := ⟨1, ![1024]⟩
abbrev S1024x1024 : Shape := ⟨2, ![1024, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512x2816 : Shape := ⟨2, ![512, 2816]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S2816x1024 : Shape := ⟨2, ![2816, 1024]⟩

abbrev nBuf : Space → Nat
  | .hbm => 14
  | .vmem => 11
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S1x1024x1024, .f32⟩
  | .hbm, ⟨3, _⟩ => ⟨S4x1024, .f32⟩
  | .hbm, ⟨4, _⟩ => ⟨S4x1024x5632, .f32⟩
  | .hbm, ⟨5, _⟩ => ⟨S4x2816x1024, .f32⟩
  | .hbm, ⟨6, _⟩ => ⟨S16384x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S16384x1024, .bf16⟩
  | .hbm, ⟨11, _⟩ => ⟨S1024x1024, .f32⟩
  | .hbm, ⟨12, _⟩ => ⟨S1024x1024, .bf16⟩
  | .hbm, ⟨13, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024x5632, .f32⟩
  | .local _ .vmem, ⟨7, _⟩ => ⟨S1x2816x1024, .f32⟩
  | .local _ .vmem, ⟨8, _⟩ => ⟨S512x1024, .f32⟩
  | .local _ .vmem, ⟨9, _⟩ => ⟨S512x1024, .f32⟩
  | .local _ .vmem, ⟨10, _⟩ => ⟨S512x2816, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x8192x1024 : Shape := ⟨3, ![2, 8192, 1024]⟩
abbrev S1x1024x1024 : Shape := ⟨3, ![1, 1024, 1024]⟩
abbrev S4x1024 : Shape := ⟨2, ![4, 1024]⟩
abbrev S4x1024x5632 : Shape := ⟨3, ![4, 1024, 5632]⟩
abbrev S4x2816x1024 : Shape := ⟨3, ![4, 2816, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S2x8192x5632 : Shape := ⟨3, ![2, 8192, 5632]⟩
abbrev S2x8192x2816 : Shape := ⟨3, ![2, 8192, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x1024, .f32⟩
  | .hbm, ⟨2, _⟩ => ⟨S1x1024x1024, .f32⟩
  | .hbm, ⟨3, _⟩ => ⟨S4x1024, .f32⟩
  | .hbm, ⟨4, _⟩ => ⟨S4x1024x5632, .f32⟩
  | .hbm, ⟨5, _⟩ => ⟨S4x2816x1024, .f32⟩
  | .hbm, ⟨6, _⟩ => ⟨S2x8192x1024, .f32⟩
  | .hbm, ⟨7, _⟩ => ⟨S1024x1024, .f32⟩
  | .hbm, ⟨8, _⟩ => ⟨S2x8192x1024, .f32⟩
  | .hbm, ⟨9, _⟩ => ⟨S2x8192x1024, .f32⟩
  | .hbm, ⟨10, _⟩ => ⟨S1x1024, .f32⟩
  | .hbm, ⟨11, _⟩ => ⟨S1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1x1x1024, .f32⟩
  | .hbm, ⟨26, _⟩ => ⟨S2x8192x1024, .f32⟩
  | .hbm, ⟨27, _⟩ => ⟨S2x8192x1024, .f32⟩
  | .hbm, ⟨28, _⟩ => ⟨S1x1024x5632, .f32⟩
  | .hbm, ⟨29, _⟩ => ⟨S1024x5632, .f32⟩
  | .hbm, ⟨30, _⟩ => ⟨S2x8192x5632, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S_, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S1x2816x1024, .f32⟩
  | .hbm, ⟨44, _⟩ => ⟨S2816x1024, .f32⟩
  | .hbm, ⟨45, _⟩ => ⟨S2x8192x1024, .f32⟩
  | .hbm, ⟨46, _⟩ => ⟨S2x8192x1024, .f32⟩
  | .hbm, ⟨47, _⟩ => ⟨S16384x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel4.lean ====
abbrev S2x8192x2048 : Shape := ⟨3, ![2, 8192, 2048]⟩
abbrev S2x8192x1024 : Shape := ⟨3, ![2, 8192, 1024]⟩
abbrev S2x8192x128 : Shape := ⟨3, ![2, 8192, 128]⟩
abbrev S1x32 : Shape := ⟨2, ![1, 32]⟩
abbrev S2048 : Shape := ⟨1, ![2048]⟩
abbrev S_ : Shape := ⟨0, ![]⟩
abbrev S128 : Shape := ⟨1, ![128]⟩
abbrev S128x1 : Shape := ⟨2, ![128, 1]⟩
abbrev S1x2048 : Shape := ⟨2, ![1, 2048]⟩
abbrev S128x2048 : Shape := ⟨2, ![128, 2048]⟩
abbrev S32 : Shape := ⟨1, ![32]⟩
abbrev S32x64 : Shape := ⟨2, ![32, 64]⟩
abbrev S1x128 : Shape := ⟨2, ![1, 128]⟩
abbrev S1x512x2048 : Shape := ⟨3, ![1, 512, 2048]⟩
abbrev S1x512x1024 : Shape := ⟨3, ![1, 512, 1024]⟩
abbrev S1x512x128 : Shape := ⟨3, ![1, 512, 128]⟩
abbrev S8x128x256 : Shape := ⟨3, ![8, 128, 256]⟩
abbrev S128x128 : Shape := ⟨2, ![128, 128]⟩
abbrev S128x256 : Shape := ⟨2, ![128, 256]⟩
abbrev S1x128x128 : Shape := ⟨3, ![1, 128, 128]⟩
abbrev S128x384 : Shape := ⟨2, ![128, 384]⟩
abbrev S16x128 : Shape := ⟨2, ![16, 128]⟩
abbrev S16x2048 : Shape := ⟨2, ![16, 2048]⟩
abbrev S1x128x2048 : Shape := ⟨3, ![1, 128, 2048]⟩
abbrev S1x128x256 : Shape := ⟨3, ![1, 128, 256]⟩
abbrev S1x256 : Shape := ⟨2, ![1, 256]⟩
abbrev S512x256 : Shape := ⟨2, ![512, 256]⟩
abbrev S128x512 : Shape := ⟨2, ![128, 512]⟩

abbrev nBuf : Space → Nat
  | .hbm => 40
  | .vmem => 14
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x1024, .bf16⟩
  | .hbm, ⟨2, _⟩ => ⟨S2x8192x1024, .bf16⟩
  | .hbm, ⟨3, _⟩ => ⟨S2x8192x128, .f32⟩
  | .hbm, ⟨4, _⟩ => ⟨S1x32, .f32⟩
  | .hbm, ⟨5, _⟩ => ⟨S1x32, .f32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S128, .i32⟩
  | .hbm, ⟨26, _⟩ => ⟨S128x1, .i32⟩
  | .hbm, ⟨27, _⟩ => ⟨S1x2048, .i32⟩
  | .hbm, ⟨28, _⟩ => ⟨S128x2048, .i32⟩
  | .hbm, ⟨29, _⟩ => ⟨S128x2048, .i32⟩
  | .hbm, ⟨30, _⟩ => ⟨S128x2048, .i1⟩
  | .hbm, ⟨31, _⟩ => ⟨S128x2048, .bf16⟩
  | .hbm, ⟨32, _⟩ => ⟨S32, .f32⟩
  | .hbm, ⟨33, _⟩ => ⟨S32x64, .f32⟩
  | .hbm, ⟨34, _⟩ => ⟨S2048, .f32⟩
  | .hbm, ⟨35, _⟩ => ⟨S1x2048, .f32⟩
  | .hbm, ⟨36, _⟩ => ⟨S_, .i32⟩
  | .hbm, ⟨37, _⟩ => ⟨S_, .f32⟩
  | .hbm, ⟨38, _⟩ => ⟨S1x128, .f32⟩
  | .hbm, ⟨39, _⟩ => ⟨S2x8192x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x128, .f32⟩
  | .local _ .vmem, ⟨7, _⟩ => ⟨S1x512x128, .f32⟩
  | .local _ .vmem, ⟨8, _⟩ => ⟨S1x128, .f32⟩
  | .local _ .vmem, ⟨9, _⟩ => ⟨S1x2048, .f32⟩
  | .local _ .vmem, ⟨10, _⟩ => ⟨S128x2048, .bf16⟩
  | .local _ .vmem, ⟨11, _⟩ => ⟨S1x512x2048, .bf16⟩
  | .local _ .vmem, ⟨12, _⟩ => ⟨S1x512x2048, .bf16⟩
  | .local _ .vmem, ⟨13, _⟩ => ⟨S8x128x256, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_0 : Ref sig .tc := ⟨.hbm, 36, rfl⟩
abbrev main_call1_v0 : Ref sig .tc := ⟨.hbm, 37, rfl⟩
abbrev main_v13 : Ref sig .tc := ⟨.hbm, 38, rfl⟩
abbrev main_v14 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel5.lean ====
abbrev S2x8192x1024 : Shape := ⟨3, ![2, 8192, 1024]⟩
abbrev S4x1024 : Shape := ⟨2, ![4, 1024]⟩
abbrev S1x1024x6176 : Shape := ⟨3, ![1, 1024, 6176]⟩
abbrev S1x4x4096 : Shape := ⟨3, ![1, 4, 4096]⟩
abbrev S1x4096 : Shape := ⟨2, ![1, 4096]⟩
abbrev S1x32 : Shape := ⟨2, ![1, 32]⟩
abbrev S1024x6176 : Shape := ⟨2, ![1024, 6176]⟩
abbrev S1024x32 : Shape := ⟨2, ![1024, 32]⟩
abbrev S_ : Shape := ⟨0, ![]⟩
abbrev S1024x128 : Shape := ⟨2, ![1024, 128]⟩
abbrev S1x1024 : Shape := ⟨2, ![1, 1024]⟩
abbrev S1024 : Shape := ⟨1, ![1024]⟩
abbrev S4x4096 : Shape := ⟨2, ![4, 4096]⟩
abbrev S4096 : Shape := ⟨1, ![4096]⟩
abbrev S1x128 : Shape := ⟨2, ![1, 128]⟩
abbrev S2x8192x2048 : Shape := ⟨3, ![2, 8192, 2048]⟩
abbrev S2x8192x128 : Shape := ⟨3, ![2, 8192, 128]⟩
abbrev S1x512x1024 : Shape := ⟨3, ![1, 512, 1024]⟩
abbrev S1x512x2048 : Shape := ⟨3, ![1, 512, 2048]⟩
abbrev S1x512x128 : Shape := ⟨3, ![1, 512, 128]⟩
abbrev S32x520x128 : Shape := ⟨3, ![32, 520, 128]⟩
abbrev S512x1024 : Shape := ⟨2, ![512, 1024]⟩
abbrev S512 : Shape := ⟨1, ![512]⟩
abbrev S512x1 : Shape := ⟨2, ![512, 1]⟩
abbrev S32x8x128 : Shape := ⟨3, ![32, 8, 128]⟩
abbrev S512x128 : Shape := ⟨2, ![512, 128]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 28
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S1x1024x6176, .f32⟩
  | .hbm, ⟨3, _⟩ => ⟨S1x4x4096, .f32⟩
  | .hbm, ⟨4, _⟩ => ⟨S1x4096, .f32⟩
  | .hbm, ⟨5, _⟩ => ⟨S1x32, .f32⟩
  | .hbm, ⟨6, _⟩ => ⟨S1024x6176, .f32⟩
  | .hbm, ⟨7, _⟩ => ⟨S1024x32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024x6176, .f32⟩
  | .hbm, ⟨16, _⟩ => ⟨S1024x6176, .bf16⟩
  | .hbm, ⟨17, _⟩ => ⟨S4x4096, .f32⟩
  | .hbm, ⟨18, _⟩ => ⟨S4096, .f32⟩
  | .hbm, ⟨19, _⟩ => ⟨S1x4096, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S2x8192x2048, .bf16⟩
  | .hbm, ⟨24, _⟩ => ⟨S2x8192x2048, .bf16⟩
  | .hbm, ⟨25, _⟩ => ⟨S2x8192x1024, .bf16⟩
  | .hbm, ⟨26, _⟩ => ⟨S2x8192x1024, .bf16⟩
  | .hbm, ⟨27, _⟩ => ⟨S2x8192x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x6176, .bf16⟩
  | .local _ .vmem, ⟨4, _⟩ => ⟨S1024x128, .bf16⟩
  | .local _ .vmem, ⟨5, _⟩ => ⟨S4x4096, .f32⟩
  | .local _ .vmem, ⟨6, _⟩ => ⟨S1x4096, .f32⟩
  | .local _ .vmem, ⟨7, _⟩ => ⟨S1x128, .f32⟩
  | .local _ .vmem, ⟨8, _⟩ => ⟨S1x512x2048, .bf16⟩
  | .local _ .vmem, ⟨9, _⟩ => ⟨S1x512x2048, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x128, .f32⟩
  | .local _ .vmem, ⟨17, _⟩ => ⟨S1x512x128, .f32⟩
  | .local _ .vmem, ⟨18, _⟩ => ⟨S32x520x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_call1_v0 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference5Ideal.lean ====
abbrev S2x8192x1024 : Shape := ⟨3, ![2, 8192, 1024]⟩
abbrev S4x1024 : Shape := ⟨2, ![4, 1024]⟩
abbrev S1x1024x6176 : Shape := ⟨3, ![1, 1024, 6176]⟩
abbrev S1x4x4096 : Shape := ⟨3, ![1, 4, 4096]⟩
abbrev S1x4096 : Shape := ⟨2, ![1, 4096]⟩
abbrev S1x32 : Shape := ⟨2, ![1, 32]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x6176 : Shape := ⟨2, ![1024, 6176]⟩
abbrev S2x8192x6176 : Shape := ⟨3, ![2, 8192, 6176]⟩
abbrev S2x8192x2048 : Shape := ⟨3, ![2, 8192, 2048]⟩
abbrev S2x8192x4096 : Shape := ⟨3, ![2, 8192, 4096]⟩
abbrev S2x8192x32 : Shape := ⟨3, ![2, 8192, 32]⟩
abbrev S4x4096 : Shape := ⟨2, ![4, 4096]⟩
abbrev S2x8195x4096 : Shape := ⟨3, ![2, 8195, 4096]⟩
abbrev S4096 : Shape := ⟨1, ![4096]⟩
abbrev S1x1x4096 : Shape := ⟨3, ![1, 1, 4096]⟩
abbrev S32 : Shape := ⟨1, ![32]⟩
abbrev S1x1x32 : Shape := ⟨3, ![1, 1, 32]⟩
abbrev S2x8192x128 : Shape := ⟨3, ![2, 8192, 128]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S1x1024x6176, .f32⟩
  | .hbm, ⟨3, _⟩ => ⟨S1x4x4096, .f32⟩
  | .hbm, ⟨4, _⟩ => ⟨S1x4096, .f32⟩
  | .hbm, ⟨5, _⟩ => ⟨S1x32, .f32⟩
  | .hbm, ⟨6, _⟩ => ⟨S1x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1024x6176, .f32⟩
  | .hbm, ⟨25, _⟩ => ⟨S2x8192x6176, .f32⟩
  | .hbm, ⟨26, _⟩ => ⟨S2x8192x2048, .f32⟩
  | .hbm, ⟨27, _⟩ => ⟨S2x8192x4096, .f32⟩
  | .hbm, ⟨28, _⟩ => ⟨S2x8192x32, .f32⟩
  | .hbm, ⟨29, _⟩ => ⟨S4x4096, .f32⟩
  | .hbm, ⟨30, _⟩ => ⟨S_, .i32⟩
  | .hbm, ⟨31, _⟩ => ⟨S_, .f32⟩
  | .hbm, ⟨32, _⟩ => ⟨S2x8195x4096, .f32⟩
  | .hbm, ⟨33, _⟩ => ⟨S2x8192x4096, .f32⟩
  | .hbm, ⟨34, _⟩ => ⟨S1x4096, .f32⟩
  | .hbm, ⟨35, _⟩ => ⟨S4096, .f32⟩
  | .hbm, ⟨36, _⟩ => ⟨S1x1x4096, .f32⟩
  | .hbm, ⟨37, _⟩ => ⟨S2x8192x4096, .f32⟩
  | .hbm, ⟨38, _⟩ => ⟨S2x8192x4096, .f32⟩
  | .hbm, ⟨39, _⟩ => ⟨S2x8192x4096, .f32⟩
  | .hbm, ⟨40, _⟩ => ⟨S1x4096, .f32⟩
  | .hbm, ⟨41, _⟩ => ⟨S4096, .f32⟩
  | .hbm, ⟨42, _⟩ => ⟨S1x1x4096, .f32⟩
  | .hbm, ⟨43, _⟩ => ⟨S2x8192x4096, .f32⟩
  | .hbm, ⟨44, _⟩ => ⟨S2x8192x4096, .f32⟩
  | .hbm, ⟨45, _⟩ => ⟨S2x8192x4096, .f32⟩
  | .hbm, ⟨46, _⟩ => ⟨S2x8192x4096, .f32⟩
  | .hbm, ⟨47, _⟩ => ⟨S1x4096, .f32⟩
  | .hbm, ⟨48, _⟩ => ⟨S4096, .f32⟩
  | .hbm, ⟨49, _⟩ => ⟨S1x1x4096, .f32⟩
  | .hbm, ⟨50, _⟩ => ⟨S2x8192x4096, .f32⟩
  | .hbm, ⟨51, _⟩ => ⟨S2x8192x4096, .f32⟩
  | .hbm, ⟨52, _⟩ => ⟨S2x8192x4096, .f32⟩
  | .hbm, ⟨53, _⟩ => ⟨S2x8192x4096, .f32⟩
  | .hbm, ⟨54, _⟩ => ⟨S1x4096, .f32⟩
  | .hbm, ⟨55, _⟩ => ⟨S4096, .f32⟩
  | .hbm, ⟨56, _⟩ => ⟨S1x1x4096, .f32⟩
  | .hbm, ⟨57, _⟩ => ⟨S2x8192x4096, .f32⟩
  | .hbm, ⟨58, _⟩ => ⟨S2x8192x4096, .f32⟩
  | .hbm, ⟨59, _⟩ => ⟨S2x8192x4096, .f32⟩
  | .hbm, ⟨60, _⟩ => ⟨S4096, .f32⟩
  | .hbm, ⟨61, _⟩ => ⟨S1x1x4096, .f32⟩
  | .hbm, ⟨62, _⟩ => ⟨S2x8192x4096, .f32⟩
  | .hbm, ⟨63, _⟩ => ⟨S2x8192x4096, .f32⟩
  | .hbm, ⟨64, _⟩ => ⟨S2x8192x4096, .f32⟩
  | .hbm, ⟨65, _⟩ => ⟨S2x8192x4096, .f32⟩
  | .hbm, ⟨66, _⟩ => ⟨S_, .f32⟩
  | .hbm, ⟨67, _⟩ => ⟨S2x8192x4096, .f32⟩
  | .hbm, ⟨68, _⟩ => ⟨S2x8192x4096, .f32⟩
  | .hbm, ⟨69, _⟩ => ⟨S_, .f32⟩
  | .hbm, ⟨70, _⟩ => ⟨S2x8192x4096, .f32⟩
  | .hbm, ⟨71, _⟩ => ⟨S2x8192x4096, .f32⟩
  | .hbm, ⟨72, _⟩ => ⟨S2x8192x4096, .f32⟩
  | .hbm, ⟨73, _⟩ => ⟨S2x8192x2048, .f32⟩
  | .hbm, ⟨74, _⟩ => ⟨S2x8192x1024, .f32⟩
  | .hbm, ⟨75, _⟩ => ⟨S2x8192x1024, .f32⟩
  | .hbm, ⟨76, _⟩ => ⟨S32, .f32⟩
  | .hbm, ⟨77, _⟩ => ⟨S1x1x32, .f32⟩
  | .hbm, ⟨78, _⟩ => ⟨S2x8192x32, .f32⟩
  | .hbm, ⟨79, _⟩ => ⟨S2x8192x32, .f32⟩
  | .hbm, ⟨80, _⟩ => ⟨S_, .i32⟩
  | .hbm, ⟨81, _⟩ => ⟨S_, .f32⟩
  | .hbm, ⟨82, _⟩ => ⟨S2x8192x128, .f32⟩
  | .hbm, ⟨83, _⟩ => ⟨S_, .f32⟩
  | .hbm, ⟨84, _⟩ => ⟨S2x8192x128, .f32⟩
  | .hbm, ⟨85, _⟩ => ⟨S2x8192x128, .f32⟩
  | .hbm, ⟨86, _⟩ => ⟨S2x8192x128, .f32⟩
  | .hbm, ⟨87, _⟩ => ⟨S2x8192x128, .f32⟩
  | .hbm, ⟨88, _⟩ => ⟨S2x8192x128, .i1⟩
  | .hbm, ⟨89, _⟩ => ⟨S2x8192x128, .f32⟩
  | .hbm, ⟨90, _⟩ => ⟨S2x8192x128, .f32⟩
  | .hbm, ⟨91, _⟩ => ⟨S2x8192x128, .f32⟩
  | .hbm, ⟨92, _⟩ => ⟨S2x8192x128, .f32⟩
  | .hbm, ⟨93, _⟩ => ⟨S2x8192x128, .f32⟩
  | .hbm, ⟨94, _⟩ => ⟨S2x8192x128, .f32⟩
  | .hbm, ⟨95, _⟩ => ⟨S2x8192x128, .f32⟩
  | .hbm, ⟨96, _⟩ => ⟨S2x8192x128, .f32⟩
  | .hbm, ⟨97, _⟩ => ⟨S2x8192x2048, .bf16⟩
  | .hbm, ⟨98, _⟩ => ⟨S2x8192x2048, .bf16⟩
  | .hbm, ⟨99, _⟩ => ⟨S2x8192x1024, .bf16⟩
  | .hbm, ⟨100, _⟩ => ⟨S2x8192x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_2 : Ref sig .tc := ⟨.hbm, 80, rfl⟩
abbrev main_call2_v0 : Ref sig .tc := ⟨.hbm, 81, rfl⟩
abbrev main_v61 : Ref sig .tc := ⟨.hbm, 82, rfl⟩
abbrev main_call3_cst : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_v7 : Ref sig .tc := ⟨.hbm, 91, rfl⟩
abbrev main_call3_v8 : Ref sig .tc := ⟨.hbm, 92, rfl⟩
abbrev main_call3_v9 : Ref sig .tc := ⟨.hbm, 93, rfl⟩
abbrev main_call3_v10 : Ref sig .tc := ⟨.hbm, 94, rfl⟩
abbrev main_call3_v11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]
-- ==== Kernel6.lean ====
abbrev S2x8192x2048 : Shape := ⟨3, ![2, 8192, 2048]⟩
abbrev S1x2048 : Shape := ⟨2, ![1, 2048]⟩
abbrev S1x2048x1024 : Shape := ⟨3, ![1, 2048, 1024]⟩
abbrev S2x8192x1024 : Shape := ⟨3, ![2, 8192, 1024]⟩
abbrev S16384x2048 : Shape := ⟨2, ![16384, 2048]⟩
abbrev S2048x1024 : Shape := ⟨2, ![2048, 1024]⟩
abbrev S16384x1024 : Shape := ⟨2, ![16384, 1024]⟩
abbrev S1024x2048 : Shape := ⟨2, ![1024, 2048]⟩
abbrev S1024x1024 : Shape := ⟨2, ![1024, 1024]⟩
abbrev S1024x256 : Shape := ⟨2, ![1024, 256]⟩
abbrev S1x256 : Shape := ⟨2, ![1, 256]⟩
abbrev S1024 : Shape := ⟨1, ![1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S1x2048, .f32⟩
  | .hbm, ⟨3, _⟩ => ⟨S1x2048x1024, .f32⟩
  | .hbm, ⟨4, _⟩ => ⟨S2x8192x1024, .f32⟩
  | .hbm, ⟨5, _⟩ => ⟨S16384x2048, .bf16⟩
  | .hbm, ⟨6, _⟩ => ⟨S16384x2048, .bf16⟩
  | .hbm, ⟨7, _⟩ => ⟨S2048x1024, .f32⟩
  | .hbm, ⟨8, _⟩ => ⟨S2048x1024, .bf16⟩
  | .hbm, ⟨9, _⟩ => ⟨S16384x1024, .f32⟩
  | .hbm, ⟨10, _⟩ => ⟨S16384x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S2048x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x2048, .bf16⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S2x8192x2048 : Shape := ⟨3, ![2, 8192, 2048]⟩
abbrev S1x2048 : Shape := ⟨2, ![1, 2048]⟩
abbrev S1x2048x1024 : Shape := ⟨3, ![1, 2048, 1024]⟩
abbrev S2x8192x1024 : Shape := ⟨3, ![2, 8192, 1024]⟩
abbrev S_ : Shape := ⟨0, ![]⟩
abbrev S2x8192x8x256 : Shape := ⟨4, ![2, 8192, 8, 256]⟩
abbrev S2x8192x8 : Shape := ⟨3, ![2, 8192, 8]⟩
abbrev S2x8192x8x1 : Shape := ⟨4, ![2, 8192, 8, 1]⟩
abbrev S2048 : Shape := ⟨1, ![2048]⟩
abbrev S1x1x2048 : Shape := ⟨3, ![1, 1, 2048]⟩
abbrev S2048x1024 : Shape := ⟨2, ![2048, 1024]⟩
abbrev S16384x1024 : Shape := ⟨2, ![16384, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x2048, .bf16⟩
  | .hbm, ⟨2, _⟩ => ⟨S1x2048, .f32⟩
  | .hbm, ⟨3, _⟩ => ⟨S1x2048x1024, .f32⟩
  | .hbm, ⟨4, _⟩ => ⟨S2x8192x1024, .f32⟩
  | .hbm, ⟨5, _⟩ => ⟨S2x8192x2048, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S_, .f32⟩
  | .hbm, ⟨10, _⟩ => ⟨S2x8192x2048, .f32⟩
  | .hbm, ⟨11, _⟩ => ⟨S2x8192x2048, .f32⟩
  | .hbm, ⟨12, _⟩ => ⟨S_, .f32⟩
  | .hbm, ⟨13, _⟩ => ⟨S2x8192x2048, .f32⟩
  | .hbm, ⟨14, _⟩ => ⟨S2x8192x2048, .f32⟩
  | .hbm, ⟨15, _⟩ => ⟨S2x8192x2048, .f32⟩
  | .hbm, ⟨16, _⟩ => ⟨S2x8192x2048, .f32⟩
  | .hbm, ⟨17, _⟩ => ⟨S2x8192x8x256, .f32⟩
  | .hbm, ⟨18, _⟩ => ⟨S2x8192x8x256, .f32⟩
  | .hbm, ⟨19, _⟩ => ⟨S_, .f32⟩
  | .hbm, ⟨20, _⟩ => ⟨S2x8192x8, .f32⟩
  | .hbm, ⟨21, _⟩ => ⟨S2x8192x8x1, .f32⟩
  | .hbm, ⟨22, _⟩ => ⟨S_, .f32⟩
  | .hbm, ⟨23, _⟩ => ⟨S2x8192x8x1, .f32⟩
  | .hbm, ⟨24, _⟩ => ⟨S2x8192x8x1, .f32⟩
  | .hbm, ⟨25, _⟩ => ⟨S_, .f32⟩
  | .hbm, ⟨26, _⟩ => ⟨S2x8192x8x1, .f32⟩
  | .hbm, ⟨27, _⟩ => ⟨S2x8192x8x1, .f32⟩
  | .hbm, ⟨28, _⟩ => ⟨S2x8192x8x1, .f32⟩
  | .hbm, ⟨29, _⟩ => ⟨S2x8192x8x256, .f32⟩
  | .hbm, ⟨30, _⟩ => ⟨S2x8192x8x256, .f32⟩
  | .hbm, ⟨31, _⟩ => ⟨S2x8192x2048, .f32⟩
  | .hbm, ⟨32, _⟩ => ⟨S2048, .f32⟩
  | .hbm, ⟨33, _⟩ => ⟨S1x1x2048, .f32⟩
  | .hbm, ⟨34, _⟩ => ⟨S2x8192x2048, .f32⟩
  | .hbm, ⟨35, _⟩ => ⟨S2x8192x2048, .f32⟩
  | .hbm, ⟨36, _⟩ => ⟨S2048x1024, .f32⟩
  | .hbm, ⟨37, _⟩ => ⟨S2x8192x1024, .f32⟩
  | .hbm, ⟨38, _⟩ => ⟨S2x8192x1024, .f32⟩
  | .hbm, ⟨39, _⟩ => ⟨S16384x1024, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Kernel7.lean ====
abbrev S2x8192x1024 : Shape := ⟨3, ![2, 8192, 1024]⟩
abbrev S4x1024 : Shape := ⟨2, ![4, 1024]⟩
abbrev S1x1024x3088 : Shape := ⟨3, ![1, 1024, 3088]⟩
abbrev S1x16 : Shape := ⟨2, ![1, 16]⟩
abbrev S1x64 : Shape := ⟨2, ![1, 64]⟩
abbrev S1024x3088 : Shape := ⟨2, ![1024, 3088]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S64 : Shape := ⟨1, ![64]⟩
abbrev S16x64 : Shape := ⟨2, ![16, 64]⟩
abbrev S1024 : Shape := ⟨1, ![1024]⟩
abbrev S1x1024 : Shape := ⟨2, ![1, 1024]⟩
abbrev S1024x1 : Shape := ⟨2, ![1024, 1]⟩
abbrev S128 : Shape := ⟨1, ![128]⟩
abbrev S1x128 : Shape := ⟨2, ![1, 128]⟩
abbrev S128x1024 : Shape := ⟨2, ![128, 1024]⟩
abbrev S256x1024 : Shape := ⟨2, ![256, 1024]⟩
abbrev S2x16x8192 : Shape := ⟨3, ![2, 16, 8192]⟩
abbrev S1x1024x1024 : Shape := ⟨3, ![1, 1024, 1024]⟩
abbrev S1x16x1024 : Shape := ⟨3, ![1, 16, 1024]⟩
abbrev S16x128 : Shape := ⟨2, ![16, 128]⟩
abbrev S1024x1024 : Shape := ⟨2, ![1024, 1024]⟩
abbrev S1024x256 : Shape := ⟨2, ![1024, 256]⟩
abbrev S16x1024 : Shape := ⟨2, ![16, 1024]⟩
abbrev S16x1 : Shape := ⟨2, ![16, 1]⟩

abbrev nBuf : Space → Nat
  | .hbm => 72
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S1x1024x3088, .f32⟩
  | .hbm, ⟨3, _⟩ => ⟨S1x16, .f32⟩
  | .hbm, ⟨4, _⟩ => ⟨S1x64, .f32⟩
  | .hbm, ⟨5, _⟩ => ⟨S1x64, .f32⟩
  | .hbm, ⟨6, _⟩ => ⟨S1024x3088, .f32⟩
  | .hbm, ⟨7, _⟩ => ⟨S1024x3072, .f32⟩
  | .hbm, ⟨8, _⟩ => ⟨S1024x3072, .bf16⟩
  | .hbm, ⟨9, _⟩ => ⟨S1024x3088, .f32⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S64, .f32⟩
  | .hbm, ⟨16, _⟩ => ⟨S1x64, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S64, .f32⟩
  | .hbm, ⟨24, _⟩ => ⟨S1x64, .f32⟩
  | .hbm, ⟨25, _⟩ => ⟨S16x64, .f32⟩
  | .hbm, ⟨26, _⟩ => ⟨S1024, .f32⟩
  | .hbm, ⟨27, _⟩ => ⟨S1x1024, .f32⟩
  | .hbm, ⟨28, _⟩ => ⟨S1024, .i32⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1024x1, .i32⟩
  | .hbm, ⟨48, _⟩ => ⟨S128, .i32⟩
  | .hbm, ⟨49, _⟩ => ⟨S1x128, .i32⟩
  | .hbm, ⟨50, _⟩ => ⟨S1024x128, .i32⟩
  | .hbm, ⟨51, _⟩ => ⟨S1024x128, .i32⟩
  | .hbm, ⟨52, _⟩ => ⟨S1024x128, .i1⟩
  | .hbm, ⟨53, _⟩ => ⟨S1024x128, .f32⟩
  | .hbm, ⟨54, _⟩ => ⟨S128x1024, .f32⟩
  | .hbm, ⟨55, _⟩ => ⟨S128x1024, .f32⟩
  | .hbm, ⟨56, _⟩ => ⟨S256x1024, .f32⟩
  | .hbm, ⟨57, _⟩ => ⟨S256x1024, .bf16⟩
  | .hbm, ⟨58, _⟩ => ⟨S_, .f32⟩
  | .hbm, ⟨59, _⟩ => ⟨S1024x128, .f32⟩
  | .hbm, ⟨60, _⟩ => ⟨S1024x128, .f32⟩
  | .hbm, ⟨61, _⟩ => ⟨S1024x128, .bf16⟩
  | .hbm, ⟨62, _⟩ => ⟨S1x1024, .f32⟩
  | .hbm, ⟨63, _⟩ => ⟨S1024, .f32⟩
  | .hbm, ⟨64, _⟩ => ⟨S1x1024, .f32⟩
  | .hbm, ⟨65, _⟩ => ⟨S_, .i32⟩
  | .hbm, ⟨66, _⟩ => ⟨S_, .f32⟩
  | .hbm, ⟨67, _⟩ => ⟨S1x128, .f32⟩
  | .hbm, ⟨68, _⟩ => ⟨S2x8192x1024, .bf16⟩
  | .hbm, ⟨69, _⟩ => ⟨S2x8192x1024, .bf16⟩
  | .hbm, ⟨70, _⟩ => ⟨S2x8192x1024, .bf16⟩
  | .hbm, ⟨71, _⟩ => ⟨S2x16x8192, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S1x128, .f32⟩
  | .local _ .vmem, ⟨6, _⟩ => ⟨S1x1024, .f32⟩
  | .local _ .vmem, ⟨7, _⟩ => ⟨S1x1024, .f32⟩
  | .local _ .vmem, ⟨8, _⟩ => ⟨S1024x128, .bf16⟩
  | .local _ .vmem, ⟨9, _⟩ => ⟨S256x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x16x1024, .f32⟩
  | .local _ .vmem, ⟨17, _⟩ => ⟨S1x16x1024, .f32⟩
  | .local _ .vmem, ⟨18, _⟩ => ⟨S16x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_1 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_2 : Ref sig .tc := ⟨.hbm, 65, rfl⟩
abbrev main_call2_v0 : Ref sig .tc := ⟨.hbm, 66, rfl⟩
abbrev main_v38 : Ref sig .tc := ⟨.hbm, 67, rfl⟩
abbrev main_v39_0 : Ref sig .tc := ⟨.hbm, 68, rfl⟩
abbrev main_v39_1 : Ref sig .tc := ⟨.hbm, 69, rfl⟩
abbrev main_v39_2 : Ref sig .tc := ⟨.hbm, 70, rfl⟩
abbrev main_v39_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference7Ideal.lean ====
abbrev S2x8192x1024 : Shape := ⟨3, ![2, 8192, 1024]⟩
abbrev S4x1024 : Shape := ⟨2, ![4, 1024]⟩
abbrev S1x1024x3088 : Shape := ⟨3, ![1, 1024, 3088]⟩
abbrev S1x16 : Shape := ⟨2, ![1, 16]⟩
abbrev S1x64 : Shape := ⟨2, ![1, 64]⟩
abbrev S1x1024 : Shape := ⟨2, ![1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3088 : Shape := ⟨2, ![1024, 3088]⟩
abbrev S2x8192x3088 : Shape := ⟨3, ![2, 8192, 3088]⟩
abbrev S2x8192x16 : Shape := ⟨3, ![2, 8192, 16]⟩
abbrev S2x8192x16x64 : Shape := ⟨4, ![2, 8192, 16, 64]⟩
abbrev S64 : Shape := ⟨1, ![64]⟩
abbrev S2x8192x16x1 : Shape := ⟨4, ![2, 8192, 16, 1]⟩
abbrev S1x1x1x64 : Shape := ⟨4, ![1, 1, 1, 64]⟩
abbrev S16 : Shape := ⟨1, ![16]⟩
abbrev S1x1x16 : Shape := ⟨3, ![1, 1, 16]⟩
abbrev S2x16x8192 : Shape := ⟨3, ![2, 16, 8192]⟩

abbrev nBuf : Space → Nat
  | .hbm => 101
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S4x1024, .f32⟩
  | .hbm, ⟨2, _⟩ => ⟨S1x1024x3088, .f32⟩
  | .hbm, ⟨3, _⟩ => ⟨S1x16, .f32⟩
  | .hbm, ⟨4, _⟩ => ⟨S1x64, .f32⟩
  | .hbm, ⟨5, _⟩ => ⟨S1x64, .f32⟩
  | .hbm, ⟨6, _⟩ => ⟨S1x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1024x3088, .f32⟩
  | .hbm, ⟨25, _⟩ => ⟨S2x8192x3088, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x16, .f32⟩
  | .hbm, ⟨30, _⟩ => ⟨S2x8192x16x64, .f32⟩
  | .hbm, ⟨31, _⟩ => ⟨S64, .f32⟩
  | .hbm, ⟨32, _⟩ => ⟨S2x8192x16x64, .f32⟩
  | .hbm, ⟨33, _⟩ => ⟨S_, .f32⟩
  | .hbm, ⟨34, _⟩ => ⟨S2x8192x16, .f32⟩
  | .hbm, ⟨35, _⟩ => ⟨S2x8192x16x1, .f32⟩
  | .hbm, ⟨36, _⟩ => ⟨S_, .f32⟩
  | .hbm, ⟨37, _⟩ => ⟨S2x8192x16x1, .f32⟩
  | .hbm, ⟨38, _⟩ => ⟨S2x8192x16x1, .f32⟩
  | .hbm, ⟨39, _⟩ => ⟨S_, .f32⟩
  | .hbm, ⟨40, _⟩ => ⟨S2x8192x16x1, .f32⟩
  | .hbm, ⟨41, _⟩ => ⟨S2x8192x16x1, .f32⟩
  | .hbm, ⟨42, _⟩ => ⟨S2x8192x16x1, .f32⟩
  | .hbm, ⟨43, _⟩ => ⟨S2x8192x16x64, .f32⟩
  | .hbm, ⟨44, _⟩ => ⟨S2x8192x16x64, .f32⟩
  | .hbm, ⟨45, _⟩ => ⟨S1x1x1x64, .f32⟩
  | .hbm, ⟨46, _⟩ => ⟨S2x8192x16x64, .f32⟩
  | .hbm, ⟨47, _⟩ => ⟨S2x8192x16x64, .f32⟩
  | .hbm, ⟨48, _⟩ => ⟨S_, .f32⟩
  | .hbm, ⟨49, _⟩ => ⟨S2x8192x16x64, .f32⟩
  | .hbm, ⟨50, _⟩ => ⟨S2x8192x16x64, .f32⟩
  | .hbm, ⟨51, _⟩ => ⟨S2x8192x16x64, .f32⟩
  | .hbm, ⟨52, _⟩ => ⟨S64, .f32⟩
  | .hbm, ⟨53, _⟩ => ⟨S2x8192x16x64, .f32⟩
  | .hbm, ⟨54, _⟩ => ⟨S_, .f32⟩
  | .hbm, ⟨55, _⟩ => ⟨S2x8192x16, .f32⟩
  | .hbm, ⟨56, _⟩ => ⟨S2x8192x16x1, .f32⟩
  | .hbm, ⟨57, _⟩ => ⟨S_, .f32⟩
  | .hbm, ⟨58, _⟩ => ⟨S2x8192x16x1, .f32⟩
  | .hbm, ⟨59, _⟩ => ⟨S2x8192x16x1, .f32⟩
  | .hbm, ⟨60, _⟩ => ⟨S_, .f32⟩
  | .hbm, ⟨61, _⟩ => ⟨S2x8192x16x1, .f32⟩
  | .hbm, ⟨62, _⟩ => ⟨S2x8192x16x1, .f32⟩
  | .hbm, ⟨63, _⟩ => ⟨S2x8192x16x1, .f32⟩
  | .hbm, ⟨64, _⟩ => ⟨S2x8192x16x64, .f32⟩
  | .hbm, ⟨65, _⟩ => ⟨S2x8192x16x64, .f32⟩
  | .hbm, ⟨66, _⟩ => ⟨S1x1x1x64, .f32⟩
  | .hbm, ⟨67, _⟩ => ⟨S2x8192x16x64, .f32⟩
  | .hbm, ⟨68, _⟩ => ⟨S2x8192x16x64, .f32⟩
  | .hbm, ⟨69, _⟩ => ⟨S16, .f32⟩
  | .hbm, ⟨70, _⟩ => ⟨S1x1x16, .f32⟩
  | .hbm, ⟨71, _⟩ => ⟨S2x8192x16, .f32⟩
  | .hbm, ⟨72, _⟩ => ⟨S2x8192x16, .f32⟩
  | .hbm, ⟨73, _⟩ => ⟨S2x8192x16, .f32⟩
  | .hbm, ⟨74, _⟩ => ⟨S_, .f32⟩
  | .hbm, ⟨75, _⟩ => ⟨S2x8192x16, .f32⟩
  | .hbm, ⟨76, _⟩ => ⟨S2x8192x16, .f32⟩
  | .hbm, ⟨77, _⟩ => ⟨S2x8192x16, .f32⟩
  | .hbm, ⟨78, _⟩ => ⟨S2x8192x16, .f32⟩
  | .hbm, ⟨79, _⟩ => ⟨S2x8192x16, .i1⟩
  | .hbm, ⟨80, _⟩ => ⟨S2x8192x16, .f32⟩
  | .hbm, ⟨81, _⟩ => ⟨S2x8192x16, .f32⟩
  | .hbm, ⟨82, _⟩ => ⟨S2x8192x16, .f32⟩
  | .hbm, ⟨83, _⟩ => ⟨S2x8192x16, .f32⟩
  | .hbm, ⟨84, _⟩ => ⟨S2x8192x16, .f32⟩
  | .hbm, ⟨85, _⟩ => ⟨S2x8192x16, .f32⟩
  | .hbm, ⟨86, _⟩ => ⟨S2x8192x16, .f32⟩
  | .hbm, ⟨87, _⟩ => ⟨S2x8192x16, .f32⟩
  | .hbm, ⟨88, _⟩ => ⟨S2x8192x16, .f32⟩
  | .hbm, ⟨89, _⟩ => ⟨S_, .f32⟩
  | .hbm, ⟨90, _⟩ => ⟨S2x8192x16, .f32⟩
  | .hbm, ⟨91, _⟩ => ⟨S2x8192x16, .f32⟩
  | .hbm, ⟨92, _⟩ => ⟨S_, .f32⟩
  | .hbm, ⟨93, _⟩ => ⟨S_, .f32⟩
  | .hbm, ⟨94, _⟩ => ⟨S2x8192x16, .f32⟩
  | .hbm, ⟨95, _⟩ => ⟨S2x8192x1024, .f32⟩
  | .hbm, ⟨96, _⟩ => ⟨S2x8192x1024, .bf16⟩
  | .hbm, ⟨97, _⟩ => ⟨S2x8192x1024, .f32⟩
  | .hbm, ⟨98, _⟩ => ⟨S2x8192x1024, .bf16⟩
  | .hbm, ⟨99, _⟩ => ⟨S2x8192x1024, .bf16⟩
  | .hbm, ⟨100, _⟩ => ⟨S2x16x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_call0_v0 : Ref sig .tc := ⟨.hbm, 73, rfl⟩
abbrev main_call0_call0_cst : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_call0_v2 : Ref sig .tc := ⟨.hbm, 77, rfl⟩
abbrev main_call0_call0_v3 : Ref sig .tc := ⟨.hbm, 78, rfl⟩
abbrev main_call0_call0_v4 : Ref sig .tc := ⟨.hbm, 79, rfl⟩
abbrev main_call0_call0_v5 : Ref sig .tc := ⟨.hbm, 80, rfl⟩
abbrev main_call0_call0_v6 : Ref sig .tc := ⟨.hbm, 81, rfl⟩
abbrev main_call0_call0_v7 : Ref sig .tc := ⟨.hbm, 82, rfl⟩
abbrev main_call0_call0_v8 : Ref sig .tc := ⟨.hbm, 83, rfl⟩
abbrev main_call0_call0_v9 : Ref sig .tc := ⟨.hbm, 84, rfl⟩
abbrev main_call0_call0_v10 : Ref sig .tc := ⟨.hbm, 85, rfl⟩
abbrev main_call0_call0_v11 : Ref sig .tc := ⟨.hbm, 86, rfl⟩
abbrev main_call0_v1 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_call1_call0_cst : Ref sig .tc := ⟨.hbm, 92, rfl⟩
abbrev main_call1_call0_v0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩

abbrev nD : Nat := 1
abbrev τ : Topo := Topo.v7x

variable {F : FTy → Type} [FloatOps F]
-- ==== Proof.Layer.lean ====
/- The mathematics of one row of the layer, over extended reals, with nothing of the kernel's tiling in it. -/
module

public import Idealize.ShloMosaic.Lib.Pointwise

@[expose] public section

noncomputable section

namespace Cert.Layer

open Idealize.ShloMosaic

/-- The reciprocal root mean square of a row of 1024 numbers, the small constant added under the root. -/
def rowScale (x : Fin 1024 → EReal) : EReal :=
  Ideal.rsqrt (Ideal.div (∑ k, x k * x k) (Ideal.ofBits FTy.f32 0x44800000#32) + Ideal.ofBits FTy.f32 0x358637BD#32)

/-- The normalised row: each number times the scale, times its weight. -/
def normed (x w : Fin 1024 → EReal) (k : Fin 1024) : EReal := x k * rowScale x * w k

/-- One hidden unit of the gated feed-forward: `silu (h · gate) * (h · up)`; the gate weights are the first 2816
    columns of `gu`, the up weights the last 2816. -/
def ffnAct (h : Fin 1024 → EReal) (gu : Fin 1024 → Fin 5632 → EReal) (c : Fin 2816) : EReal :=
  (∑ k, h k * gu k ⟨c.val, by omega⟩) * Ideal.logistic (∑ k, h k * gu k ⟨c.val, by omega⟩)
    * ∑ k, h k * gu k ⟨2816 + c.val, by omega⟩

/-- The feed-forward of a row, with its residual. -/
def ffnRow (x w : Fin 1024 → EReal) (gu : Fin 1024 → Fin 5632 → EReal) (wd : Fin 2816 → Fin 1024 → EReal) (j : Fin 1024) : EReal :=
  x j + ∑ c, ffnAct (normed x w) gu c * wd c j

/-- The product of the convolution layer's second and third projections, at channel `c`: what the convolution runs over. -/
def convIn (h : Fin 1024 → EReal) (W : Fin 1024 → Fin 3072 → EReal) (c : Fin 1024) : EReal :=
  (∑ k, h k * W k ⟨1024 + c.val, by omega⟩) * ∑ k, h k * W k ⟨2048 + c.val, by omega⟩

/-- The gated sum of the three taps at channel `c`, from the products two rows back, one row back and at the row. -/
def gatedAt (h : Fin 1024 → EReal) (W : Fin 1024 → Fin 3072 → EReal) (dw : Fin 3 → Fin 1024 → EReal) (c : Fin 1024) (e0 e1 e2 : EReal) : EReal :=
  (∑ k, h k * W k ⟨c.val, by omega⟩) * (e0 * dw 0 c + e1 * dw 1 c + e2 * dw 2 c)

/-- The product `d` rows back, nothing before the sequence begins. -/
def convBack (x : Fin 8192 → Fin 1024 → EReal) (w : Fin 1024 → EReal) (W : Fin 1024 → Fin 3072 → EReal) (d : Nat) (s : Fin 8192) (c : Fin 1024) : EReal :=
  if _h : s.val < d then 0 else convIn (normed (x ⟨s.val - d, by omega⟩) w) W c

/-- Row `s` of the convolution layer over one sequence of rows, with its residual. -/
def convRow (x : Fin 8192 → Fin 1024 → EReal) (w : Fin 1024 → EReal) (W : Fin 1024 → Fin 3072 → EReal) (dw : Fin 3 → Fin 1024 → EReal)
    (wo : Fin 1024 → Fin 1024 → EReal) (s : Fin 8192) (j : Fin 1024) : EReal :=
  x s j + ∑ c, gatedAt (normed (x s) w) W dw c (convBack x w W 2 s c) (convBack x w W 1 s c) (convIn (normed (x s) w) W c) * wo c j

end Cert.Layer

end
-- ==== Proof.ConvBlock.lean ====
/- What one grid point of the convolution kernel leaves behind: its output block and the scratch it carries to the next
   point. The kernel writes the products `c * v` of its 1024 rows into eight slabs of a scratch, below eight rows that hold
   the last rows of the tile before (or zeros at the head of a sequence), reads each slab back shifted by two rows and
   by one, and gates and projects the sum of the three taps. -/
module

public import proofs.«01_k».proof.Proof.Layer
public import proofs.«01_k».proof.Proof.Gen.KernelIdeal.Value

@[expose] public section

set_option maxRecDepth 65536

noncomputable section

namespace Cert.KernelIdeal.Block

open Cert.KernelIdeal Cert.KernelIdeal.Gen Cert.Layer Idealize.ShloMosaic Idealize.ShloMosaic.TcCoe Idealize.SL.Sem

/-- Row `r` of the input block. -/
abbrev rowOf (x0 : Vec Ideal S1x1024x1024 .f32) (r : Fin 1024) : Fin 1024 → EReal := fun k => x0 (ix3 0 r k)
/-- The norm's weights. -/
abbrev wOf (x1 : Vec Ideal S1x1024 .f32) : Fin 1024 → EReal := fun k => x1 (ix2 0 k)
/-- The input projection's weights. -/
abbrev winOf (x2 : Vec Ideal S1x1024x3072 .f32) : Fin 1024 → Fin 3072 → EReal := fun k c => x2 (ix3 0 k c)

theorem pay3_apply (x : Vec Ideal S1x1024x1024 .f32) (w : Vec Ideal S1x1024 .f32) (r k : Fin 1024) :
    k0_pay3 (F := Ideal) x w (ix2 r k) = normed (rowOf x r) (wOf w) k := by
  unfold k0_pay3 k0_pay2 normed rowScale
  pointwise

/-- A chunk of 256 columns of the input projection's weights, at an index. -/
theorem ld_in (x2 : Vec Ideal S1x1024x3072 .f32) (o : Nat)
    (inb : ∀ a, (![0, 0, o] : Fin 3 → Nat) a + (![1, 1024, 256] : Fin 3 → Nat) a ≤ S1x1024x3072.size a) (k : Fin 1024) (c : Fin 256) :
    View.ld (Val := Elt Ideal) (S := S1x1024x3072) (e' := .f32) x2 (Rect.unit (s := S1x1024x3072) ![0, 0, o] ![1, 1024, 256] inb) (ix3 0 k c)
      = winOf x2 k ⟨o + c.val, by have h : o + 256 ≤ 3072 := inb 2; omega⟩ := by
  unfold View.ld winOf
  refine congrArg x2 (funext fun a => Fin.ext ?_)
  match a with
  | ⟨0, _⟩ => rfl
  | ⟨1, _⟩ => show 0 + 1 * k.val = k.val; omega
  | ⟨2, _⟩ => show o + 1 * c.val = o + c.val; omega

/-- 128 weights of one tap of the convolution, at an index. -/
theorem ld_dw (x3 : Vec Ideal S3x1024 .f32) (q o : Nat)
    (inb : ∀ a, (![q, o] : Fin 2 → Nat) a + (![1, 128] : Fin 2 → Nat) a ≤ S3x1024.size a) (l : Fin 128) :
    View.ld (Val := Elt Ideal) (S := S3x1024) (e' := .f32) x3 (Rect.unit (s := S3x1024) ![q, o] ![1, 128] inb) (ix2 0 l)
      = x3 (ix2 ⟨q, by have h : q + 1 ≤ 3 := inb 0; omega⟩ ⟨o + l.val, by have h : o + 128 ≤ 1024 := inb 1; omega⟩) := by
  unfold View.ld
  refine congrArg x3 (funext fun a => Fin.ext ?_)
  match a with
  | ⟨0, _⟩ => show q + 1 * 0 = q; omega
  | ⟨1, _⟩ => show o + 1 * l.val = o + l.val; omega

/-- The product `c * v` of row `r` of the block. -/
def cvOf (x0 : Vec Ideal S1x1024x1024 .f32) (x1 : Vec Ideal S1x1024 .f32) (x2 : Vec Ideal S1x1024x3072 .f32) (r c : Fin 1024) : EReal :=
  convIn (normed (rowOf x0 r) (wOf x1)) (winOf x2) c

theorem cv_eq (x0 : Vec Ideal S1x1024x1024 .f32) (x1 : Vec Ideal S1x1024 .f32) (x2 : Vec Ideal S1x1024x3072 .f32) (r c : Fin 1024) (a b : Fin 3072)
    (ha : a.val = 1024 + c.val) (hb : b.val = 2048 + c.val) :
    (∑ k, normed (rowOf x0 r) (wOf x1) k * winOf x2 k a) * (∑ k, normed (rowOf x0 r) (wOf x1) k * winOf x2 k b) = cvOf x0 x1 x2 r c := by
  have la : 1024 + c.val < 3072 := by omega
  have lb : 2048 + c.val < 3072 := by omega
  rw [show a = ⟨_, la⟩ from Fin.ext ha, show b = ⟨_, lb⟩ from Fin.ext hb]
  rfl

/-- The sum of the taps in the kernel's order is the sum in the order of the taps. -/
theorem gate_eq (x0 : Vec Ideal S1x1024x1024 .f32) (x1 : Vec Ideal S1x1024 .f32) (x2 : Vec Ideal S1x1024x3072 .f32) (x3 : Vec Ideal S3x1024 .f32) (r c c0 c1 c2 : Fin 1024) (g a b : Fin 3072)
    (e0 e1 : EReal) (hg : g.val = c.val) (ha : a.val = 1024 + c.val) (hb : b.val = 2048 + c.val) (h0 : c0 = c) (h1 : c1 = c) (h2 : c2 = c) :
    (∑ k, normed (rowOf x0 r) (wOf x1) k * winOf x2 k g)
      * ((∑ k, normed (rowOf x0 r) (wOf x1) k * winOf x2 k a) * (∑ k, normed (rowOf x0 r) (wOf x1) k * winOf x2 k b) * x3 (ix2 2 c2)
          + e0 * x3 (ix2 0 c0) + e1 * x3 (ix2 1 c1))
      = gatedAt (normed (rowOf x0 r) (wOf x1)) (winOf x2) (fun q c => x3 (ix2 q c)) c e0 e1 (cvOf x0 x1 x2 r c) := by
  subst h0 h1 h2
  have lg : c2.val < 3072 := by omega
  rw [show g = ⟨_, lg⟩ from Fin.ext hg]
  rw [cv_eq x0 x1 x2 r _ a b ha hb]
  unfold gatedAt
  rw [add_assoc, add_comm (cvOf x0 x1 x2 r c2 * _)]

/-- What the carried scratch holds: eight rows from the tile before, then the block's products. -/
def extAt (x0 : Vec Ideal S1x1024x1024 .f32) (x1 : Vec Ideal S1x1024 .f32) (x2 : Vec Ideal S1x1024x3072 .f32) (hp : Vec Ideal S8x8x128 .f32)
    (s : Fin 8) (n : Fin 1032) (l : Fin 128) : EReal :=
  if h : n.val < 8 then hp (ix3 s ⟨n.val, h⟩ l) else cvOf x0 x1 x2 ⟨n.val - 8, by omega⟩ ⟨128 * s.val + l.val, by omega⟩

def extOf (x0 : Vec Ideal S1x1024x1024 .f32) (x1 : Vec Ideal S1x1024 .f32) (x2 : Vec Ideal S1x1024x3072 .f32) (hp : Vec Ideal S8x8x128 .f32) : Vec Ideal S8x1032x128 .f32 :=
  fun y => extAt x0 x1 x2 hp (y 0) (y 1) (y 2)

theorem emb_ext (s n : Nat) (hs : s < 8) (hn : n ≤ 8)
    (inb : ∀ a, (![s, n, 0] : Fin 3 → Nat) a + (![1, 1024, 128] : Fin 3 → Nat) a ≤ S8x1032x128.size a) (r : Fin 1024) (l : Fin 128) :
    (Rect.unit (s := S8x1032x128) ![s, n, 0] ![1, 1024, 128] inb).emb (ix3 0 r l) = (ix3 ⟨s, hs⟩ ⟨n + r.val, by omega⟩ l : S8x1032x128.Idx) := by
  funext a
  apply Fin.ext
  rw [Rect.emb_apply]
  match a with
  | ⟨0, _⟩ => show s + 1 * 0 = s; omega
  | ⟨1, _⟩ => show n + 1 * r.val = n + r.val; omega
  | ⟨2, _⟩ => show 0 + 1 * l.val = l.val; omega

theorem ix_slab (x : S1x1024x128.Idx) : ∃ (r : Fin 1024) (l : Fin 128), x = ix3 0 r l :=
  ⟨x 1, x 2, by
    rw [ValueIdx.eq_ix3 x]
    congr 1
    exact Subsingleton.elim (α := Fin 1) _ _⟩

theorem ext_piece (x0 : Vec Ideal S1x1024x1024 .f32) (x1 : Vec Ideal S1x1024 .f32) (x2 : Vec Ideal S1x1024x3072 .f32) (hp : Vec Ideal S8x8x128 .f32)
    (s : Nat) (hs : s < 8) (inb : ∀ a, (![s, 8, 0] : Fin 3 → Nat) a + (![1, 1024, 128] : Fin 3 → Nat) a ≤ S8x1032x128.size a)
    (v : S1x1024x128.Idx → EReal) (hv : ∀ (r : Fin 1024) (l : Fin 128), v (ix3 0 r l) = cvOf x0 x1 x2 r ⟨128 * s + l.val, by omega⟩) (x : S1x1024x128.Idx) :
    v x = extOf x0 x1 x2 hp ((Rect.unit (s := S8x1032x128) ![s, 8, 0] ![1, 1024, 128] inb).emb x) := by
  obtain ⟨r, l, rfl⟩ := ix_slab x
  rw [hv, emb_ext s 8 hs (by omega)]
  show _ = extAt x0 x1 x2 hp ⟨s, hs⟩ ⟨8 + r.val, _⟩ l
  unfold extAt
  rw [dif_neg (by show ¬ 8 + r.val < 8; omega)]
  congr 1
  exact Fin.ext (by show r.val = 8 + r.val - 8; omega)

/-- The gated convolution of row `r`, before the output projection. -/
def gatedOf (x0 : Vec Ideal S1x1024x1024 .f32) (x1 : Vec Ideal S1x1024 .f32) (x2 : Vec Ideal S1x1024x3072 .f32) (x3 : Vec Ideal S3x1024 .f32) (hp : Vec Ideal S8x8x128 .f32) : Vec Ideal S1024x1024 .bf16 :=
  fun y => gatedAt (normed (rowOf x0 (y 0)) (wOf x1)) (winOf x2) (fun q c => x3 (ix2 q c)) (y 1)
    (extAt x0 x1 x2 hp ⟨(y 1).val / 128, by have : (y 1).val < 1024 := (y 1).isLt; omega⟩ ⟨6 + (y 0).val, by have : (y 0).val < 1024 := (y 0).isLt; omega⟩ ⟨(y 1).val % 128, by omega⟩)
    (extAt x0 x1 x2 hp ⟨(y 1).val / 128, by have : (y 1).val < 1024 := (y 1).isLt; omega⟩ ⟨7 + (y 0).val, by have : (y 0).val < 1024 := (y 0).isLt; omega⟩ ⟨(y 1).val % 128, by omega⟩)
    (cvOf x0 x1 x2 (y 0) (y 1))

theorem gate_piece (x0 : Vec Ideal S1x1024x1024 .f32) (x1 : Vec Ideal S1x1024 .f32) (x2 : Vec Ideal S1x1024x3072 .f32) (x3 : Vec Ideal S3x1024 .f32) (hp : Vec Ideal S8x8x128 .f32)
    (s : Nat) (hs : s < 8) (o : Nat) (ho : o = 128 * s) (inb : ∀ a, (![0, o] : Fin 2 → Nat) a + (![1024, 128] : Fin 2 → Nat) a ≤ S1024x1024.size a)
    (v : S1024x128.Idx → EReal)
    (hv : ∀ (r : Fin 1024) (l : Fin 128), v (ix2 r l) = gatedAt (normed (rowOf x0 r) (wOf x1)) (winOf x2) (fun q c => x3 (ix2 q c)) ⟨o + l.val, by omega⟩
      (extAt x0 x1 x2 hp ⟨s, hs⟩ ⟨6 + r.val, by omega⟩ l) (extAt x0 x1 x2 hp ⟨s, hs⟩ ⟨7 + r.val, by omega⟩ l) (cvOf x0 x1 x2 r ⟨o + l.val, by omega⟩))
    (x : S1024x128.Idx) :
    v x = gatedOf x0 x1 x2 x3 hp ((Rect.unit (s := S1024x1024) ![0, o] ![1024, 128] inb).emb x) := by
  subst ho
  obtain ⟨r, l, rfl⟩ : ∃ (r : Fin 1024) (l : Fin 128), x = ix2 r l := ⟨x 0, x 1, ValueIdx.eq_ix2 x⟩
  have he : (Rect.unit (s := S1024x1024) ![0, 128 * s] ![1024, 128] inb).emb (ix2 r l) = (ix2 r ⟨128 * s + l.val, by omega⟩ : S1024x1024.Idx) := by
    funext a
    apply Fin.ext
    rw [Rect.emb_apply]
    match a with
    | ⟨0, _⟩ => show 0 + 1 * r.val = r.val; omega
    | ⟨1, _⟩ => show 128 * s + 1 * l.val = 128 * s + l.val; omega
  rw [hv, he]
  unfold gatedOf
  have h1 : (⟨s, hs⟩ : Fin 8) = ⟨(128 * s + l.val) / 128, by omega⟩ := Fin.ext (by show s = (128 * s + l.val) / 128; omega)
  have h2 : l = ⟨(128 * s + l.val) % 128, by omega⟩ := Fin.ext (by show l.val = (128 * s + l.val) % 128; omega)
  rw [h1]
  conv_lhs => rw [show extAt x0 x1 x2 hp ⟨(128 * s + l.val) / 128, by omega⟩ ⟨6 + r.val, by omega⟩ l = extAt x0 x1 x2 hp ⟨(128 * s + l.val) / 128, by omega⟩ ⟨6 + r.val, by omega⟩ ⟨(128 * s + l.val) % 128, by omega⟩ from congrArg _ h2,
    show extAt x0 x1 x2 hp ⟨(128 * s + l.val) / 128, by omega⟩ ⟨7 + r.val, by omega⟩ l = extAt x0 x1 x2 hp ⟨(128 * s + l.val) / 128, by omega⟩ ⟨7 + r.val, by omega⟩ ⟨(128 * s + l.val) % 128, by omega⟩ from congrArg _ h2]
  rfl

/-- Slab 7 of the convolved values' scratch. -/
theorem ext7 (x0 : Vec Ideal S1x1024x1024 .f32) (x1 : Vec Ideal S1x1024 .f32) (x2 : Vec Ideal S1x1024x3072 .f32) (hp : Vec Ideal S8x8x128 .f32) (x : S1x1024x128.Idx) :
    (k0_pay44 (k0_pay41 (k0_pay3 x0 x1) (k0_pay35 (View.ld (Val := Elt Ideal) (S := S1x1024x3072) (e' := .f32) x2 (Rect.unit (s := S1x1024x3072) ![0, 0, 1792] ![1, 1024, 256] inb_S1x1024x3072_S1x1024x256_0_0_1792))) (constant S1024x256 FTy.f32 0x00000000#32)) (k0_pay42 (k0_pay3 x0 x1) (View.ld (Val := Elt Ideal) (S := S1x1024x3072) (e' := .f32) x2 (Rect.unit (s := S1x1024x3072) ![0, 0, 2816] ![1, 1024, 256] inb_S1x1024x3072_S1x1024x256_0_0_2816))) : S1x1024x128.Idx → EReal) x
      = extOf x0 x1 x2 hp ((Rect.unit (s := S8x1032x128) ![7, 8, 0] ![1, 1024, 128] inb_S8x1032x128_S1x1024x128_7_8_0).emb x) := by
  refine ext_piece x0 x1 x2 hp 7 (by omega) inb_S8x1032x128_S1x1024x128_7_8_0 _ (fun r l => ?_) x
  show (k0_pay44 (k0_pay41 (k0_pay3 x0 x1) (k0_pay35 (View.ld (Val := Elt Ideal) (S := S1x1024x3072) (e' := .f32) x2 (Rect.unit (s := S1x1024x3072) ![0, 0, 1792] ![1, 1024, 256] inb_S1x1024x3072_S1x1024x256_0_0_1792))) (constant S1024x256 FTy.f32 0x00000000#32)) (k0_pay42 (k0_pay3 x0 x1) (View.ld (Val := Elt Ideal) (S := S1x1024x3072) (e' := .f32) x2 (Rect.unit (s := S1x1024x3072) ![0, 0, 2816] ![1, 1024, 256] inb_S1x1024x3072_S1x1024x256_0_0_2816))) : S1x1024x128.Idx → EReal) (ix3 0 r l) = _
  unfold k0_pay44 k0_pay41 k0_pay35 k0_pay42 k0_pay43 k0_pay36 k0_pay37
  pointwise
  simp only [ld_in, pay3_apply]
  refine cv_eq x0 x1 x2 _ _ _ _ ?_ ?_ <;> first | rfl | (dsimp only; omega)

/-- Slab 6 of the convolved values' scratch. -/
theorem ext6 (x0 : Vec Ideal S1x1024x1024 .f32) (x1 : Vec Ideal S1x1024 .f32) (x2 : Vec Ideal S1x1024x3072 .f32) (hp : Vec Ideal S8x8x128 .f32) (x : S1x1024x128.Idx) :
    (k0_pay39 (k0_pay3 x0 x1) (k0_pay35 (View.ld (Val := Elt Ideal) (S := S1x1024x3072) (e' := .f32) x2 (Rect.unit (s := S1x1024x3072) ![0, 0, 1792] ![1, 1024, 256] inb_S1x1024x3072_S1x1024x256_0_0_1792))) (constant S1024x256 FTy.f32 0x00000000#32) (View.ld (Val := Elt Ideal) (S := S1x1024x3072) (e' := .f32) x2 (Rect.unit (s := S1x1024x3072) ![0, 0, 2816] ![1, 1024, 256] inb_S1x1024x3072_S1x1024x256_0_0_2816)) : S1x1024x128.Idx → EReal) x
      = extOf x0 x1 x2 hp ((Rect.unit (s := S8x1032x128) ![6, 8, 0] ![1, 1024, 128] inb_S8x1032x128_S1x1024x128_6_8_0).emb x) := by
  refine ext_piece x0 x1 x2 hp 6 (by omega) inb_S8x1032x128_S1x1024x128_6_8_0 _ (fun r l => ?_) x
  show (k0_pay39 (k0_pay3 x0 x1) (k0_pay35 (View.ld (Val := Elt Ideal) (S := S1x1024x3072) (e' := .f32) x2 (Rect.unit (s := S1x1024x3072) ![0, 0, 1792] ![1, 1024, 256] inb_S1x1024x3072_S1x1024x256_0_0_1792))) (constant S1024x256 FTy.f32 0x00000000#32) (View.ld (Val := Elt Ideal) (S := S1x1024x3072) (e' := .f32) x2 (Rect.unit (s := S1x1024x3072) ![0, 0, 2816] ![1, 1024, 256] inb_S1x1024x3072_S1x1024x256_0_0_2816)) : S1x1024x128.Idx → EReal) (ix3 0 r l) = _
  unfold k0_pay39 k0_pay35 k0_pay38 k0_pay36 k0_pay37
  pointwise
  simp only [ld_in, pay3_apply]
  refine cv_eq x0 x1 x2 _ _ _ _ ?_ ?_ <;> first | rfl | (dsimp only; omega)

/-- Slab 5 of the convolved values' scratch. -/
theorem ext5 (x0 : Vec Ideal S1x1024x1024 .f32) (x1 : Vec Ideal S1x1024 .f32) (x2 : Vec Ideal S1x1024x3072 .f32) (hp : Vec Ideal S8x8x128 .f32) (x : S1x1024x128.Idx) :
    (k0_pay32 (k0_pay31 (k0_pay3 x0 x1) (k0_pay26 (k0_pay3 x0 x1) (View.ld (Val := Elt Ideal) (S := S1x1024x3072) (e' := .f32) x2 (Rect.unit (s := S1x1024x3072) ![0, 0, 1536] ![1, 1024, 256] inb_S1x1024x3072_S1x1024x256_0_0_1536))) (View.ld (Val := Elt Ideal) (S := S1x1024x3072) (e' := .f32) x2 (Rect.unit (s := S1x1024x3072) ![0, 0, 2560] ![1, 1024, 256] inb_S1x1024x3072_S1x1024x256_0_0_2560))) : S1x1024x128.Idx → EReal) x
      = extOf x0 x1 x2 hp ((Rect.unit (s := S8x1032x128) ![5, 8, 0] ![1, 1024, 128] inb_S8x1032x128_S1x1024x128_5_8_0).emb x) := by
  refine ext_piece x0 x1 x2 hp 5 (by omega) inb_S8x1032x128_S1x1024x128_5_8_0 _ (fun r l => ?_) x
  show (k0_pay32 (k0_pay31 (k0_pay3 x0 x1) (k0_pay26 (k0_pay3 x0 x1) (View.ld (Val := Elt Ideal) (S := S1x1024x3072) (e' := .f32) x2 (Rect.unit (s := S1x1024x3072) ![0, 0, 1536] ![1, 1024, 256] inb_S1x1024x3072_S1x1024x256_0_0_1536))) (View.ld (Val := Elt Ideal) (S := S1x1024x3072) (e' := .f32) x2 (Rect.unit (s := S1x1024x3072) ![0, 0, 2560] ![1, 1024, 256] inb_S1x1024x3072_S1x1024x256_0_0_2560))) : S1x1024x128.Idx → EReal) (ix3 0 r l) = _
  unfold k0_pay32 k0_pay31 k0_pay26 k0_pay27
  pointwise
  simp only [ld_in, pay3_apply]
  refine cv_eq x0 x1 x2 _ _ _ _ ?_ ?_ <;> first | rfl | (dsimp only; omega)

/-- Slab 4 of the convolved values' scratch. -/
theorem ext4 (x0 : Vec Ideal S1x1024x1024 .f32) (x1 : Vec Ideal S1x1024 .f32) (x2 : Vec Ideal S1x1024x3072 .f32) (hp : Vec Ideal S8x8x128 .f32) (x : S1x1024x128.Idx) :
    (k0_pay29 (k0_pay3 x0 x1) (k0_pay26 (k0_pay3 x0 x1) (View.ld (Val := Elt Ideal) (S := S1x1024x3072) (e' := .f32) x2 (Rect.unit (s := S1x1024x3072) ![0, 0, 1536] ![1, 1024, 256] inb_S1x1024x3072_S1x1024x256_0_0_1536))) (View.ld (Val := Elt Ideal) (S := S1x1024x3072) (e' := .f32) x2 (Rect.unit (s := S1x1024x3072) ![0, 0, 2560] ![1, 1024, 256] inb_S1x1024x3072_S1x1024x256_0_0_2560)) : S1x1024x128.Idx → EReal) x
      = extOf x0 x1 x2 hp ((Rect.unit (s := S8x1032x128) ![4, 8, 0] ![1, 1024, 128] inb_S8x1032x128_S1x1024x128_4_8_0).emb x) := by
  refine ext_piece x0 x1 x2 hp 4 (by omega) inb_S8x1032x128_S1x1024x128_4_8_0 _ (fun r l => ?_) x
  show (k0_pay29 (k0_pay3 x0 x1) (k0_pay26 (k0_pay3 x0 x1) (View.ld (Val := Elt Ideal) (S := S1x1024x3072) (e' := .f32) x2 (Rect.unit (s := S1x1024x3072) ![0, 0, 1536] ![1, 1024, 256] inb_S1x1024x3072_S1x1024x256_0_0_1536))) (View.ld (Val := Elt Ideal) (S := S1x1024x3072) (e' := .f32) x2 (Rect.unit (s := S1x1024x3072) ![0, 0, 2560] ![1, 1024, 256] inb_S1x1024x3072_S1x1024x256_0_0_2560)) : S1x1024x128.Idx → EReal) (ix3 0 r l) = _
  unfold k0_pay29 k0_pay26 k0_pay28 k0_pay27
  pointwise
  simp only [ld_in, pay3_apply]
  refine cv_eq x0 x1 x2 _ _ _ _ ?_ ?_ <;> first | rfl | (dsimp only; omega)

/-- Slab 3 of the convolved values' scratch. -/
theorem ext3 (x0 : Vec Ideal S1x1024x1024 .f32) (x1 : Vec Ideal S1x1024 .f32) (x2 : Vec Ideal S1x1024x3072 .f32) (hp : Vec Ideal S8x8x128 .f32) (x : S1x1024x128.Idx) :
    (k0_pay23 (k0_pay22 (k0_pay3 x0 x1) (k0_pay17 (k0_pay3 x0 x1) (View.ld (Val := Elt Ideal) (S := S1x1024x3072) (e' := .f32) x2 (Rect.unit (s := S1x1024x3072) ![0, 0, 1280] ![1, 1024, 256] inb_S1x1024x3072_S1x1024x256_0_0_1280))) (View.ld (Val := Elt Ideal) (S := S1x1024x3072) (e' := .f32) x2 (Rect.unit (s := S1x1024x3072) ![0, 0, 2304] ![1, 1024, 256] inb_S1x1024x3072_S1x1024x256_0_0_2304))) : S1x1024x128.Idx → EReal) x
      = extOf x0 x1 x2 hp ((Rect.unit (s := S8x1032x128) ![3, 8, 0] ![1, 1024, 128] inb_S8x1032x128_S1x1024x128_3_8_0).emb x) := by
  refine ext_piece x0 x1 x2 hp 3 (by omega) inb_S8x1032x128_S1x1024x128_3_8_0 _ (fun r l => ?_) x
  show (k0_pay23 (k0_pay22 (k0_pay3 x0 x1) (k0_pay17 (k0_pay3 x0 x1) (View.ld (Val := Elt Ideal) (S := S1x1024x3072) (e' := .f32) x2 (Rect.unit (s := S1x1024x3072) ![0, 0, 1280] ![1, 1024, 256] inb_S1x1024x3072_S1x1024x256_0_0_1280))) (View.ld (Val := Elt Ideal) (S := S1x1024x3072) (e' := .f32) x2 (Rect.unit (s := S1x1024x3072) ![0, 0, 2304] ![1, 1024, 256] inb_S1x1024x3072_S1x1024x256_0_0_2304))) : S1x1024x128.Idx → EReal) (ix3 0 r l) = _
  unfold k0_pay23 k0_pay22 k0_pay17 k0_pay18
  pointwise
  simp only [ld_in, pay3_apply]
  refine cv_eq x0 x1 x2 _ _ _ _ ?_ ?_ <;> first | rfl | (dsimp only; omega)

/-- Slab 2 of the convolved values' scratch. -/
theorem ext2 (x0 : Vec Ideal S1x1024x1024 .f32) (x1 : Vec Ideal S1x1024 .f32) (x2 : Vec Ideal S1x1024x3072 .f32) (hp : Vec Ideal S8x8x128 .f32) (x : S1x1024x128.Idx) :
    (k0_pay20 (k0_pay3 x0 x1) (k0_pay17 (k0_pay3 x0 x1) (View.ld (Val := Elt Ideal) (S := S1x1024x3072) (e' := .f32) x2 (Rect.unit (s := S1x1024x3072) ![0, 0, 1280] ![1, 1024, 256] inb_S1x1024x3072_S1x1024x256_0_0_1280))) (View.ld (Val := Elt Ideal) (S := S1x1024x3072) (e' := .f32) x2 (Rect.unit (s := S1x1024x3072) ![0, 0, 2304] ![1, 1024, 256] inb_S1x1024x3072_S1x1024x256_0_0_2304)) : S1x1024x128.Idx → EReal) x
      = extOf x0 x1 x2 hp ((Rect.unit (s := S8x1032x128) ![2, 8, 0] ![1, 1024, 128] inb_S8x1032x128_S1x1024x128_2_8_0).emb x) := by
  refine ext_piece x0 x1 x2 hp 2 (by omega) inb_S8x1032x128_S1x1024x128_2_8_0 _ (fun r l => ?_) x
  show (k0_pay20 (k0_pay3 x0 x1) (k0_pay17 (k0_pay3 x0 x1) (View.ld (Val := Elt Ideal) (S := S1x1024x3072) (e' := .f32) x2 (Rect.unit (s := S1x1024x3072) ![0, 0, 1280] ![1, 1024, 256] inb_S1x1024x3072_S1x1024x256_0_0_1280))) (View.ld (Val := Elt Ideal) (S := S1x1024x3072) (e' := .f32) x2 (Rect.unit (s := S1x1024x3072) ![0, 0, 2304] ![1, 1024, 256] inb_S1x1024x3072_S1x1024x256_0_0_2304)) : S1x1024x128.Idx → EReal) (ix3 0 r l) = _
  unfold k0_pay20 k0_pay17 k0_pay19 k0_pay18
  pointwise
  simp only [ld_in, pay3_apply]
  refine cv_eq x0 x1 x2 _ _ _ _ ?_ ?_ <;> first | rfl | (dsimp only; omega)

/-- Slab 1 of the convolved values' scratch. -/
theorem ext1 (x0 : Vec Ideal S1x1024x1024 .f32) (x1 : Vec Ideal S1x1024 .f32) (x2 : Vec Ideal S1x1024x3072 .f32) (hp : Vec Ideal S8x8x128 .f32) (x : S1x1024x128.Idx) :
    (k0_pay14 (k0_pay13 (k0_pay3 x0 x1) (k0_pay7 x0 x1 (View.ld (Val := Elt Ideal) (S := S1x1024x3072) (e' := .f32) x2 (Rect.unit (s := S1x1024x3072) ![0, 0, 1024] ![1, 1024, 256] inb_S1x1024x3072_S1x1024x256_0_0_1024))) (k0_pay8 (View.ld (Val := Elt Ideal) (S := S1x1024x3072) (e' := .f32) x2 (Rect.unit (s := S1x1024x3072) ![0, 0, 2048] ![1, 1024, 256] inb_S1x1024x3072_S1x1024x256_0_0_2048)))) : S1x1024x128.Idx → EReal) x
      = extOf x0 x1 x2 hp ((Rect.unit (s := S8x1032x128) ![1, 8, 0] ![1, 1024, 128] inb_S8x1032x128_S1x1024x128_1_8_0).emb x) := by
  refine ext_piece x0 x1 x2 hp 1 (by omega) inb_S8x1032x128_S1x1024x128_1_8_0 _ (fun r l => ?_) x
  show (k0_pay14 (k0_pay13 (k0_pay3 x0 x1) (k0_pay7 x0 x1 (View.ld (Val := Elt Ideal) (S := S1x1024x3072) (e' := .f32) x2 (Rect.unit (s := S1x1024x3072) ![0, 0, 1024] ![1, 1024, 256] inb_S1x1024x3072_S1x1024x256_0_0_1024))) (k0_pay8 (View.ld (Val := Elt Ideal) (S := S1x1024x3072) (e' := .f32) x2 (Rect.unit (s := S1x1024x3072) ![0, 0, 2048] ![1, 1024, 256] inb_S1x1024x3072_S1x1024x256_0_0_2048)))) : S1x1024x128.Idx → EReal) (ix3 0 r l) = _
  unfold k0_pay14 k0_pay13 k0_pay7 k0_pay8 k0_pay9
  pointwise
  simp only [ld_in, pay3_apply]
  refine cv_eq x0 x1 x2 _ _ _ _ ?_ ?_ <;> first | rfl | (dsimp only; omega)

/-- Slab 0 of the convolved values' scratch. -/
theorem ext0 (x0 : Vec Ideal S1x1024x1024 .f32) (x1 : Vec Ideal S1x1024 .f32) (x2 : Vec Ideal S1x1024x3072 .f32) (hp : Vec Ideal S8x8x128 .f32) (x : S1x1024x128.Idx) :
    (k0_pay11 (k0_pay3 x0 x1) (k0_pay7 x0 x1 (View.ld (Val := Elt Ideal) (S := S1x1024x3072) (e' := .f32) x2 (Rect.unit (s := S1x1024x3072) ![0, 0, 1024] ![1, 1024, 256] inb_S1x1024x3072_S1x1024x256_0_0_1024))) (k0_pay8 (View.ld (Val := Elt Ideal) (S := S1x1024x3072) (e' := .f32) x2 (Rect.unit (s := S1x1024x3072) ![0, 0, 2048] ![1, 1024, 256] inb_S1x1024x3072_S1x1024x256_0_0_2048))) : S1x1024x128.Idx → EReal) x
      = extOf x0 x1 x2 hp ((Rect.unit (s := S8x1032x128) ![0, 8, 0] ![1, 1024, 128] inb_S8x1032x128_S1x1024x128_0_8_0).emb x) := by
  refine ext_piece x0 x1 x2 hp 0 (by omega) inb_S8x1032x128_S1x1024x128_0_8_0 _ (fun r l => ?_) x
  show (k0_pay11 (k0_pay3 x0 x1) (k0_pay7 x0 x1 (View.ld (Val := Elt Ideal) (S := S1x1024x3072) (e' := .f32) x2 (Rect.unit (s := S1x1024x3072) ![0, 0, 1024] ![1, 1024, 256] inb_S1x1024x3072_S1x1024x256_0_0_1024))) (k0_pay8 (View.ld (Val := Elt Ideal) (S := S1x1024x3072) (e' := .f32) x2 (Rect.unit (s := S1x1024x3072) ![0, 0, 2048] ![1, 1024, 256] inb_S1x1024x3072_S1x1024x256_0_0_2048))) : S1x1024x128.Idx → EReal) (ix3 0 r l) = _
  unfold k0_pay11 k0_pay7 k0_pay8 k0_pay10 k0_pay9
  pointwise
  simp only [ld_in, pay3_apply]
  refine cv_eq x0 x1 x2 _ _ _ _ ?_ ?_ <;> first | rfl | (dsimp only; omega)

/-- Columns 0 to 127 of the gated convolution's scratch. -/
theorem gate0 (x0 : Vec Ideal S1x1024x1024 .f32) (x1 : Vec Ideal S1x1024 .f32) (x2 : Vec Ideal S1x1024x3072 .f32) (x3 : Vec Ideal S3x1024 .f32) (hp : Vec Ideal S8x8x128 .f32)
    (A B : Vec Ideal S1x1024x128 .f32) (hA : ∀ r l, A (ix3 0 r l) = extAt x0 x1 x2 hp ⟨0, by omega⟩ ⟨6 + r.val, by omega⟩ l)
    (hB : ∀ r l, B (ix3 0 r l) = extAt x0 x1 x2 hp ⟨0, by omega⟩ ⟨7 + r.val, by omega⟩ l) (x : S1024x128.Idx) :
    (k0_pay12 (k0_pay3 x0 x1) (k0_pay6 x0 x1 (View.ld (Val := Elt Ideal) (S := S1x1024x3072) (e' := .f32) x2 (Rect.unit (s := S1x1024x3072) ![0, 0, 0] ![1, 1024, 256] inb_S1x1024x3072_S1x1024x256_0_0_0))) (k0_pay7 x0 x1 (View.ld (Val := Elt Ideal) (S := S1x1024x3072) (e' := .f32) x2 (Rect.unit (s := S1x1024x3072) ![0, 0, 1024] ![1, 1024, 256] inb_S1x1024x3072_S1x1024x256_0_0_1024))) (k0_pay8 (View.ld (Val := Elt Ideal) (S := S1x1024x3072) (e' := .f32) x2 (Rect.unit (s := S1x1024x3072) ![0, 0, 2048] ![1, 1024, 256] inb_S1x1024x3072_S1x1024x256_0_0_2048))) (View.ld (Val := Elt Ideal) (S := S3x1024) (e' := .f32) x3 (Rect.unit (s := S3x1024) ![2, 0] ![1, 128] inb_S3x1024_S1x128_2_0)) A (View.ld (Val := Elt Ideal) (S := S3x1024) (e' := .f32) x3 (Rect.unit (s := S3x1024) ![0, 0] ![1, 128] inb_S3x1024_S1x128_0_0)) B (View.ld (Val := Elt Ideal) (S := S3x1024) (e' := .f32) x3 (Rect.unit (s := S3x1024) ![1, 0] ![1, 128] inb_S3x1024_S1x128_1_0)) : S1024x128.Idx → EReal) x
      = gatedOf x0 x1 x2 x3 hp ((Rect.unit (s := S1024x1024) ![0, 0] ![1024, 128] inb_S1024x1024_S1024x128_0_0).emb x) := by
  refine gate_piece x0 x1 x2 x3 hp 0 (by omega) 0 rfl inb_S1024x1024_S1024x128_0_0 _ (fun r l => ?_) x
  show (k0_pay12 (k0_pay3 x0 x1) (k0_pay6 x0 x1 (View.ld (Val := Elt Ideal) (S := S1x1024x3072) (e' := .f32) x2 (Rect.unit (s := S1x1024x3072) ![0, 0, 0] ![1, 1024, 256] inb_S1x1024x3072_S1x1024x256_0_0_0))) (k0_pay7 x0 x1 (View.ld (Val := Elt Ideal) (S := S1x1024x3072) (e' := .f32) x2 (Rect.unit (s := S1x1024x3072) ![0, 0, 1024] ![1, 1024, 256] inb_S1x1024x3072_S1x1024x256_0_0_1024))) (k0_pay8 (View.ld (Val := Elt Ideal) (S := S1x1024x3072) (e' := .f32) x2 (Rect.unit (s := S1x1024x3072) ![0, 0, 2048] ![1, 1024, 256] inb_S1x1024x3072_S1x1024x256_0_0_2048))) (View.ld (Val := Elt Ideal) (S := S3x1024) (e' := .f32) x3 (Rect.unit (s := S3x1024) ![2, 0] ![1, 128] inb_S3x1024_S1x128_2_0)) A (View.ld (Val := Elt Ideal) (S := S3x1024) (e' := .f32) x3 (Rect.unit (s := S3x1024) ![0, 0] ![1, 128] inb_S3x1024_S1x128_0_0)) B (View.ld (Val := Elt Ideal) (S := S3x1024) (e' := .f32) x3 (Rect.unit (s := S3x1024) ![1, 0] ![1, 128] inb_S3x1024_S1x128_1_0)) : S1024x128.Idx → EReal) (ix2 r l) = _
  unfold k0_pay12 k0_pay6 k0_pay7 k0_pay8 k0_pay10 k0_pay9
  pointwise
  simp only [ld_in, ld_dw, pay3_apply, hA, hB]
  refine gate_eq x0 x1 x2 x3 _ _ _ _ _ _ _ _ _ _ ?_ ?_ ?_ ?_ ?_ ?_ <;> first | rfl | (dsimp only; omega)

/-- Columns 128 to 255 of the gated convolution's scratch. -/
theorem gate1 (x0 : Vec Ideal S1x1024x1024 .f32) (x1 : Vec Ideal S1x1024 .f32) (x2 : Vec Ideal S1x1024x3072 .f32) (x3 : Vec Ideal S3x1024 .f32) (hp : Vec Ideal S8x8x128 .f32)
    (A B : Vec Ideal S1x1024x128 .f32) (hA : ∀ r l, A (ix3 0 r l) = extAt x0 x1 x2 hp ⟨1, by omega⟩ ⟨6 + r.val, by omega⟩ l)
    (hB : ∀ r l, B (ix3 0 r l) = extAt x0 x1 x2 hp ⟨1, by omega⟩ ⟨7 + r.val, by omega⟩ l) (x : S1024x128.Idx) :
    (k0_pay15 (k0_pay6 x0 x1 (View.ld (Val := Elt Ideal) (S := S1x1024x3072) (e' := .f32) x2 (Rect.unit (s := S1x1024x3072) ![0, 0, 0] ![1, 1024, 256] inb_S1x1024x3072_S1x1024x256_0_0_0))) (k0_pay13 (k0_pay3 x0 x1) (k0_pay7 x0 x1 (View.ld (Val := Elt Ideal) (S := S1x1024x3072) (e' := .f32) x2 (Rect.unit (s := S1x1024x3072) ![0, 0, 1024] ![1, 1024, 256] inb_S1x1024x3072_S1x1024x256_0_0_1024))) (k0_pay8 (View.ld (Val := Elt Ideal) (S := S1x1024x3072) (e' := .f32) x2 (Rect.unit (s := S1x1024x3072) ![0, 0, 2048] ![1, 1024, 256] inb_S1x1024x3072_S1x1024x256_0_0_2048)))) (View.ld (Val := Elt Ideal) (S := S3x1024) (e' := .f32) x3 (Rect.unit (s := S3x1024) ![2, 128] ![1, 128] inb_S3x1024_S1x128_2_128)) A (View.ld (Val := Elt Ideal) (S := S3x1024) (e' := .f32) x3 (Rect.unit (s := S3x1024) ![0, 128] ![1, 128] inb_S3x1024_S1x128_0_128)) B (View.ld (Val := Elt Ideal) (S := S3x1024) (e' := .f32) x3 (Rect.unit (s := S3x1024) ![1, 128] ![1, 128] inb_S3x1024_S1x128_1_128)) : S1024x128.Idx → EReal) x
      = gatedOf x0 x1 x2 x3 hp ((Rect.unit (s := S1024x1024) ![0, 128] ![1024, 128] inb_S1024x1024_S1024x128_0_128).emb x) := by
  refine gate_piece x0 x1 x2 x3 hp 1 (by omega) 128 rfl inb_S1024x1024_S1024x128_0_128 _ (fun r l => ?_) x
  show (k0_pay15 (k0_pay6 x0 x1 (View.ld (Val := Elt Ideal) (S := S1x1024x3072) (e' := .f32) x2 (Rect.unit (s := S1x1024x3072) ![0, 0, 0] ![1, 1024, 256] inb_S1x1024x3072_S1x1024x256_0_0_0))) (k0_pay13 (k0_pay3 x0 x1) (k0_pay7 x0 x1 (View.ld (Val := Elt Ideal) (S := S1x1024x3072) (e' := .f32) x2 (Rect.unit (s := S1x1024x3072) ![0, 0, 1024] ![1, 1024, 256] inb_S1x1024x3072_S1x1024x256_0_0_1024))) (k0_pay8 (View.ld (Val := Elt Ideal) (S := S1x1024x3072) (e' := .f32) x2 (Rect.unit (s := S1x1024x3072) ![0, 0, 2048] ![1, 1024, 256] inb_S1x1024x3072_S1x1024x256_0_0_2048)))) (View.ld (Val := Elt Ideal) (S := S3x1024) (e' := .f32) x3 (Rect.unit (s := S3x1024) ![2, 128] ![1, 128] inb_S3x1024_S1x128_2_128)) A (View.ld (Val := Elt Ideal) (S := S3x1024) (e' := .f32) x3 (Rect.unit (s := S3x1024) ![0, 128] ![1, 128] inb_S3x1024_S1x128_0_128)) B (View.ld (Val := Elt Ideal) (S := S3x1024) (e' := .f32) x3 (Rect.unit (s := S3x1024) ![1, 128] ![1, 128] inb_S3x1024_S1x128_1_128)) : S1024x128.Idx → EReal) (ix2 r l) = _
  unfold k0_pay15 k0_pay6 k0_pay13 k0_pay7 k0_pay8 k0_pay9
  pointwise
  simp only [ld_in, ld_dw, pay3_apply, hA, hB]
  refine gate_eq x0 x1 x2 x3 _ _ _ _ _ _ _ _ _ _ ?_ ?_ ?_ ?_ ?_ ?_ <;> first | rfl | (dsimp only; omega)

/-- Columns 256 to 383 of the gated convolution's scratch. -/
theorem gate2 (x0 : Vec Ideal S1x1024x1024 .f32) (x1 : Vec Ideal S1x1024 .f32) (x2 : Vec Ideal S1x1024x3072 .f32) (x3 : Vec Ideal S3x1024 .f32) (hp : Vec Ideal S8x8x128 .f32)
    (A B : Vec Ideal S1x1024x128 .f32) (hA : ∀ r l, A (ix3 0 r l) = extAt x0 x1 x2 hp ⟨2, by omega⟩ ⟨6 + r.val, by omega⟩ l)
    (hB : ∀ r l, B (ix3 0 r l) = extAt x0 x1 x2 hp ⟨2, by omega⟩ ⟨7 + r.val, by omega⟩ l) (x : S1024x128.Idx) :
    (k0_pay21 (k0_pay3 x0 x1) (k0_pay16 (k0_pay3 x0 x1) (View.ld (Val := Elt Ideal) (S := S1x1024x3072) (e' := .f32) x2 (Rect.unit (s := S1x1024x3072) ![0, 0, 256] ![1, 1024, 256] inb_S1x1024x3072_S1x1024x256_0_0_256))) (k0_pay17 (k0_pay3 x0 x1) (View.ld (Val := Elt Ideal) (S := S1x1024x3072) (e' := .f32) x2 (Rect.unit (s := S1x1024x3072) ![0, 0, 1280] ![1, 1024, 256] inb_S1x1024x3072_S1x1024x256_0_0_1280))) (View.ld (Val := Elt Ideal) (S := S1x1024x3072) (e' := .f32) x2 (Rect.unit (s := S1x1024x3072) ![0, 0, 2304] ![1, 1024, 256] inb_S1x1024x3072_S1x1024x256_0_0_2304)) (View.ld (Val := Elt Ideal) (S := S3x1024) (e' := .f32) x3 (Rect.unit (s := S3x1024) ![2, 256] ![1, 128] inb_S3x1024_S1x128_2_256)) A (View.ld (Val := Elt Ideal) (S := S3x1024) (e' := .f32) x3 (Rect.unit (s := S3x1024) ![0, 256] ![1, 128] inb_S3x1024_S1x128_0_256)) B (View.ld (Val := Elt Ideal) (S := S3x1024) (e' := .f32) x3 (Rect.unit (s := S3x1024) ![1, 256] ![1, 128] inb_S3x1024_S1x128_1_256)) : S1024x128.Idx → EReal) x
      = gatedOf x0 x1 x2 x3 hp ((Rect.unit (s := S1024x1024) ![0, 256] ![1024, 128] inb_S1024x1024_S1024x128_0_256).emb x) := by
  refine gate_piece x0 x1 x2 x3 hp 2 (by omega) 256 rfl inb_S1024x1024_S1024x128_0_256 _ (fun r l => ?_) x
  show (k0_pay21 (k0_pay3 x0 x1) (k0_pay16 (k0_pay3 x0 x1) (View.ld (Val := Elt Ideal) (S := S1x1024x3072) (e' := .f32) x2 (Rect.unit (s := S1x1024x3072) ![0, 0, 256] ![1, 1024, 256] inb_S1x1024x3072_S1x1024x256_0_0_256))) (k0_pay17 (k0_pay3 x0 x1) (View.ld (Val := Elt Ideal) (S := S1x1024x3072) (e' := .f32) x2 (Rect.unit (s := S1x1024x3072) ![0, 0, 1280] ![1, 1024, 256] inb_S1x1024x3072_S1x1024x256_0_0_1280))) (View.ld (Val := Elt Ideal) (S := S1x1024x3072) (e' := .f32) x2 (Rect.unit (s := S1x1024x3072) ![0, 0, 2304] ![1, 1024, 256] inb_S1x1024x3072_S1x1024x256_0_0_2304)) (View.ld (Val := Elt Ideal) (S := S3x1024) (e' := .f32) x3 (Rect.unit (s := S3x1024) ![2, 256] ![1, 128] inb_S3x1024_S1x128_2_256)) A (View.ld (Val := Elt Ideal) (S := S3x1024) (e' := .f32) x3 (Rect.unit (s := S3x1024) ![0, 256] ![1, 128] inb_S3x1024_S1x128_0_256)) B (View.ld (Val := Elt Ideal) (S := S3x1024) (e' := .f32) x3 (Rect.unit (s := S3x1024) ![1, 256] ![1, 128] inb_S3x1024_S1x128_1_256)) : S1024x128.Idx → EReal) (ix2 r l) = _
  unfold k0_pay21 k0_pay16 k0_pay17 k0_pay19 k0_pay18
  pointwise
  simp only [ld_in, ld_dw, pay3_apply, hA, hB]
  refine gate_eq x0 x1 x2 x3 _ _ _ _ _ _ _ _ _ _ ?_ ?_ ?_ ?_ ?_ ?_ <;> first | rfl | (dsimp only; omega)

/-- Columns 384 to 511 of the gated convolution's scratch. -/
theorem gate3 (x0 : Vec Ideal S1x1024x1024 .f32) (x1 : Vec Ideal S1x1024 .f32) (x2 : Vec Ideal S1x1024x3072 .f32) (x3 : Vec Ideal S3x1024 .f32) (hp : Vec Ideal S8x8x128 .f32)
    (A B : Vec Ideal S1x1024x128 .f32) (hA : ∀ r l, A (ix3 0 r l) = extAt x0 x1 x2 hp ⟨3, by omega⟩ ⟨6 + r.val, by omega⟩ l)
    (hB : ∀ r l, B (ix3 0 r l) = extAt x0 x1 x2 hp ⟨3, by omega⟩ ⟨7 + r.val, by omega⟩ l) (x : S1024x128.Idx) :
    (k0_pay24 (k0_pay16 (k0_pay3 x0 x1) (View.ld (Val := Elt Ideal) (S := S1x1024x3072) (e' := .f32) x2 (Rect.unit (s := S1x1024x3072) ![0, 0, 256] ![1, 1024, 256] inb_S1x1024x3072_S1x1024x256_0_0_256))) (k0_pay22 (k0_pay3 x0 x1) (k0_pay17 (k0_pay3 x0 x1) (View.ld (Val := Elt Ideal) (S := S1x1024x3072) (e' := .f32) x2 (Rect.unit (s := S1x1024x3072) ![0, 0, 1280] ![1, 1024, 256] inb_S1x1024x3072_S1x1024x256_0_0_1280))) (View.ld (Val := Elt Ideal) (S := S1x1024x3072) (e' := .f32) x2 (Rect.unit (s := S1x1024x3072) ![0, 0, 2304] ![1, 1024, 256] inb_S1x1024x3072_S1x1024x256_0_0_2304))) (View.ld (Val := Elt Ideal) (S := S3x1024) (e' := .f32) x3 (Rect.unit (s := S3x1024) ![2, 384] ![1, 128] inb_S3x1024_S1x128_2_384)) A (View.ld (Val := Elt Ideal) (S := S3x1024) (e' := .f32) x3 (Rect.unit (s := S3x1024) ![0, 384] ![1, 128] inb_S3x1024_S1x128_0_384)) B (View.ld (Val := Elt Ideal) (S := S3x1024) (e' := .f32) x3 (Rect.unit (s := S3x1024) ![1, 384] ![1, 128] inb_S3x1024_S1x128_1_384)) : S1024x128.Idx → EReal) x
      = gatedOf x0 x1 x2 x3 hp ((Rect.unit (s := S1024x1024) ![0, 384] ![1024, 128] inb_S1024x1024_S1024x128_0_384).emb x) := by
  refine gate_piece x0 x1 x2 x3 hp 3 (by omega) 384 rfl inb_S1024x1024_S1024x128_0_384 _ (fun r l => ?_) x
  show (k0_pay24 (k0_pay16 (k0_pay3 x0 x1) (View.ld (Val := Elt Ideal) (S := S1x1024x3072) (e' := .f32) x2 (Rect.unit (s := S1x1024x3072) ![0, 0, 256] ![1, 1024, 256] inb_S1x1024x3072_S1x1024x256_0_0_256))) (k0_pay22 (k0_pay3 x0 x1) (k0_pay17 (k0_pay3 x0 x1) (View.ld (Val := Elt Ideal) (S := S1x1024x3072) (e' := .f32) x2 (Rect.unit (s := S1x1024x3072) ![0, 0, 1280] ![1, 1024, 256] inb_S1x1024x3072_S1x1024x256_0_0_1280))) (View.ld (Val := Elt Ideal) (S := S1x1024x3072) (e' := .f32) x2 (Rect.unit (s := S1x1024x3072) ![0, 0, 2304] ![1, 1024, 256] inb_S1x1024x3072_S1x1024x256_0_0_2304))) (View.ld (Val := Elt Ideal) (S := S3x1024) (e' := .f32) x3 (Rect.unit (s := S3x1024) ![2, 384] ![1, 128] inb_S3x1024_S1x128_2_384)) A (View.ld (Val := Elt Ideal) (S := S3x1024) (e' := .f32) x3 (Rect.unit (s := S3x1024) ![0, 384] ![1, 128] inb_S3x1024_S1x128_0_384)) B (View.ld (Val := Elt Ideal) (S := S3x1024) (e' := .f32) x3 (Rect.unit (s := S3x1024) ![1, 384] ![1, 128] inb_S3x1024_S1x128_1_384)) : S1024x128.Idx → EReal) (ix2 r l) = _
  unfold k0_pay24 k0_pay16 k0_pay22 k0_pay17 k0_pay18
  pointwise
  simp only [ld_in, ld_dw, pay3_apply, hA, hB]
  refine gate_eq x0 x1 x2 x3 _ _ _ _ _ _ _ _ _ _ ?_ ?_ ?_ ?_ ?_ ?_ <;> first | rfl | (dsimp only; omega)

/-- Columns 512 to 639 of the gated convolution's scratch. -/
theorem gate4 (x0 : Vec Ideal S1x1024x1024 .f32) (x1 : Vec Ideal S1x1024 .f32) (x2 : Vec Ideal S1x1024x3072 .f32) (x3 : Vec Ideal S3x1024 .f32) (hp : Vec Ideal S8x8x128 .f32)
    (A B : Vec Ideal S1x1024x128 .f32) (hA : ∀ r l, A (ix3 0 r l) = extAt x0 x1 x2 hp ⟨4, by omega⟩ ⟨6 + r.val, by omega⟩ l)
    (hB : ∀ r l, B (ix3 0 r l) = extAt x0 x1 x2 hp ⟨4, by omega⟩ ⟨7 + r.val, by omega⟩ l) (x : S1024x128.Idx) :
    (k0_pay30 (k0_pay3 x0 x1) (k0_pay25 (k0_pay3 x0 x1) (View.ld (Val := Elt Ideal) (S := S1x1024x3072) (e' := .f32) x2 (Rect.unit (s := S1x1024x3072) ![0, 0, 512] ![1, 1024, 256] inb_S1x1024x3072_S1x1024x256_0_0_512))) (k0_pay26 (k0_pay3 x0 x1) (View.ld (Val := Elt Ideal) (S := S1x1024x3072) (e' := .f32) x2 (Rect.unit (s := S1x1024x3072) ![0, 0, 1536] ![1, 1024, 256] inb_S1x1024x3072_S1x1024x256_0_0_1536))) (View.ld (Val := Elt Ideal) (S := S1x1024x3072) (e' := .f32) x2 (Rect.unit (s := S1x1024x3072) ![0, 0, 2560] ![1, 1024, 256] inb_S1x1024x3072_S1x1024x256_0_0_2560)) (View.ld (Val := Elt Ideal) (S := S3x1024) (e' := .f32) x3 (Rect.unit (s := S3x1024) ![2, 512] ![1, 128] inb_S3x1024_S1x128_2_512)) A (View.ld (Val := Elt Ideal) (S := S3x1024) (e' := .f32) x3 (Rect.unit (s := S3x1024) ![0, 512] ![1, 128] inb_S3x1024_S1x128_0_512)) B (View.ld (Val := Elt Ideal) (S := S3x1024) (e' := .f32) x3 (Rect.unit (s := S3x1024) ![1, 512] ![1, 128] inb_S3x1024_S1x128_1_512)) : S1024x128.Idx → EReal) x
      = gatedOf x0 x1 x2 x3 hp ((Rect.unit (s := S1024x1024) ![0, 512] ![1024, 128] inb_S1024x1024_S1024x128_0_512).emb x) := by
  refine gate_piece x0 x1 x2 x3 hp 4 (by omega) 512 rfl inb_S1024x1024_S1024x128_0_512 _ (fun r l => ?_) x
  show (k0_pay30 (k0_pay3 x0 x1) (k0_pay25 (k0_pay3 x0 x1) (View.ld (Val := Elt Ideal) (S := S1x1024x3072) (e' := .f32) x2 (Rect.unit (s := S1x1024x3072) ![0, 0, 512] ![1, 1024, 256] inb_S1x1024x3072_S1x1024x256_0_0_512))) (k0_pay26 (k0_pay3 x0 x1) (View.ld (Val := Elt Ideal) (S := S1x1024x3072) (e' := .f32) x2 (Rect.unit (s := S1x1024x3072) ![0, 0, 1536] ![1, 1024, 256] inb_S1x1024x3072_S1x1024x256_0_0_1536))) (View.ld (Val := Elt Ideal) (S := S1x1024x3072) (e' := .f32) x2 (Rect.unit (s := S1x1024x3072) ![0, 0, 2560] ![1, 1024, 256] inb_S1x1024x3072_S1x1024x256_0_0_2560)) (View.ld (Val := Elt Ideal) (S := S3x1024) (e' := .f32) x3 (Rect.unit (s := S3x1024) ![2, 512] ![1, 128] inb_S3x1024_S1x128_2_512)) A (View.ld (Val := Elt Ideal) (S := S3x1024) (e' := .f32) x3 (Rect.unit (s := S3x1024) ![0, 512] ![1, 128] inb_S3x1024_S1x128_0_512)) B (View.ld (Val := Elt Ideal) (S := S3x1024) (e' := .f32) x3 (Rect.unit (s := S3x1024) ![1, 512] ![1, 128] inb_S3x1024_S1x128_1_512)) : S1024x128.Idx → EReal) (ix2 r l) = _
  unfold k0_pay30 k0_pay25 k0_pay26 k0_pay28 k0_pay27
  pointwise
  simp only [ld_in, ld_dw, pay3_apply, hA, hB]
  refine gate_eq x0 x1 x2 x3 _ _ _ _ _ _ _ _ _ _ ?_ ?_ ?_ ?_ ?_ ?_ <;> first | rfl | (dsimp only; omega)

/-- Columns 640 to 767 of the gated convolution's scratch. -/
theorem gate5 (x0 : Vec Ideal S1x1024x1024 .f32) (x1 : Vec Ideal S1x1024 .f32) (x2 : Vec Ideal S1x1024x3072 .f32) (x3 : Vec Ideal S3x1024 .f32) (hp : Vec Ideal S8x8x128 .f32)
    (A B : Vec Ideal S1x1024x128 .f32) (hA : ∀ r l, A (ix3 0 r l) = extAt x0 x1 x2 hp ⟨5, by omega⟩ ⟨6 + r.val, by omega⟩ l)
    (hB : ∀ r l, B (ix3 0 r l) = extAt x0 x1 x2 hp ⟨5, by omega⟩ ⟨7 + r.val, by omega⟩ l) (x : S1024x128.Idx) :
    (k0_pay33 (k0_pay25 (k0_pay3 x0 x1) (View.ld (Val := Elt Ideal) (S := S1x1024x3072) (e' := .f32) x2 (Rect.unit (s := S1x1024x3072) ![0, 0, 512] ![1, 1024, 256] inb_S1x1024x3072_S1x1024x256_0_0_512))) (k0_pay31 (k0_pay3 x0 x1) (k0_pay26 (k0_pay3 x0 x1) (View.ld (Val := Elt Ideal) (S := S1x1024x3072) (e' := .f32) x2 (Rect.unit (s := S1x1024x3072) ![0, 0, 1536] ![1, 1024, 256] inb_S1x1024x3072_S1x1024x256_0_0_1536))) (View.ld (Val := Elt Ideal) (S := S1x1024x3072) (e' := .f32) x2 (Rect.unit (s := S1x1024x3072) ![0, 0, 2560] ![1, 1024, 256] inb_S1x1024x3072_S1x1024x256_0_0_2560))) (View.ld (Val := Elt Ideal) (S := S3x1024) (e' := .f32) x3 (Rect.unit (s := S3x1024) ![2, 640] ![1, 128] inb_S3x1024_S1x128_2_640)) A (View.ld (Val := Elt Ideal) (S := S3x1024) (e' := .f32) x3 (Rect.unit (s := S3x1024) ![0, 640] ![1, 128] inb_S3x1024_S1x128_0_640)) B (View.ld (Val := Elt Ideal) (S := S3x1024) (e' := .f32) x3 (Rect.unit (s := S3x1024) ![1, 640] ![1, 128] inb_S3x1024_S1x128_1_640)) : S1024x128.Idx → EReal) x
      = gatedOf x0 x1 x2 x3 hp ((Rect.unit (s := S1024x1024) ![0, 640] ![1024, 128] inb_S1024x1024_S1024x128_0_640).emb x) := by
  refine gate_piece x0 x1 x2 x3 hp 5 (by omega) 640 rfl inb_S1024x1024_S1024x128_0_640 _ (fun r l => ?_) x
  show (k0_pay33 (k0_pay25 (k0_pay3 x0 x1) (View.ld (Val := Elt Ideal) (S := S1x1024x3072) (e' := .f32) x2 (Rect.unit (s := S1x1024x3072) ![0, 0, 512] ![1, 1024, 256] inb_S1x1024x3072_S1x1024x256_0_0_512))) (k0_pay31 (k0_pay3 x0 x1) (k0_pay26 (k0_pay3 x0 x1) (View.ld (Val := Elt Ideal) (S := S1x1024x3072) (e' := .f32) x2 (Rect.unit (s := S1x1024x3072) ![0, 0, 1536] ![1, 1024, 256] inb_S1x1024x3072_S1x1024x256_0_0_1536))) (View.ld (Val := Elt Ideal) (S := S1x1024x3072) (e' := .f32) x2 (Rect.unit (s := S1x1024x3072) ![0, 0, 2560] ![1, 1024, 256] inb_S1x1024x3072_S1x1024x256_0_0_2560))) (View.ld (Val := Elt Ideal) (S := S3x1024) (e' := .f32) x3 (Rect.unit (s := S3x1024) ![2, 640] ![1, 128] inb_S3x1024_S1x128_2_640)) A (View.ld (Val := Elt Ideal) (S := S3x1024) (e' := .f32) x3 (Rect.unit (s := S3x1024) ![0, 640] ![1, 128] inb_S3x1024_S1x128_0_640)) B (View.ld (Val := Elt Ideal) (S := S3x1024) (e' := .f32) x3 (Rect.unit (s := S3x1024) ![1, 640] ![1, 128] inb_S3x1024_S1x128_1_640)) : S1024x128.Idx → EReal) (ix2 r l) = _
  unfold k0_pay33 k0_pay25 k0_pay31 k0_pay26 k0_pay27
  pointwise
  simp only [ld_in, ld_dw, pay3_apply, hA, hB]
  refine gate_eq x0 x1 x2 x3 _ _ _ _ _ _ _ _ _ _ ?_ ?_ ?_ ?_ ?_ ?_ <;> first | rfl | (dsimp only; omega)

/-- Columns 768 to 895 of the gated convolution's scratch. -/
theorem gate6 (x0 : Vec Ideal S1x1024x1024 .f32) (x1 : Vec Ideal S1x1024 .f32) (x2 : Vec Ideal S1x1024x3072 .f32) (x3 : Vec Ideal S3x1024 .f32) (hp : Vec Ideal S8x8x128 .f32)
    (A B : Vec Ideal S1x1024x128 .f32) (hA : ∀ r l, A (ix3 0 r l) = extAt x0 x1 x2 hp ⟨6, by omega⟩ ⟨6 + r.val, by omega⟩ l)
    (hB : ∀ r l, B (ix3 0 r l) = extAt x0 x1 x2 hp ⟨6, by omega⟩ ⟨7 + r.val, by omega⟩ l) (x : S1024x128.Idx) :
    (k0_pay40 (k0_pay3 x0 x1) (k0_pay34 (k0_pay3 x0 x1) (View.ld (Val := Elt Ideal) (S := S1x1024x3072) (e' := .f32) x2 (Rect.unit (s := S1x1024x3072) ![0, 0, 768] ![1, 1024, 256] inb_S1x1024x3072_S1x1024x256_0_0_768))) (k0_pay35 (View.ld (Val := Elt Ideal) (S := S1x1024x3072) (e' := .f32) x2 (Rect.unit (s := S1x1024x3072) ![0, 0, 1792] ![1, 1024, 256] inb_S1x1024x3072_S1x1024x256_0_0_1792))) (constant S1024x256 FTy.f32 0x00000000#32) (View.ld (Val := Elt Ideal) (S := S1x1024x3072) (e' := .f32) x2 (Rect.unit (s := S1x1024x3072) ![0, 0, 2816] ![1, 1024, 256] inb_S1x1024x3072_S1x1024x256_0_0_2816)) (View.ld (Val := Elt Ideal) (S := S3x1024) (e' := .f32) x3 (Rect.unit (s := S3x1024) ![2, 768] ![1, 128] inb_S3x1024_S1x128_2_768)) A (View.ld (Val := Elt Ideal) (S := S3x1024) (e' := .f32) x3 (Rect.unit (s := S3x1024) ![0, 768] ![1, 128] inb_S3x1024_S1x128_0_768)) B (View.ld (Val := Elt Ideal) (S := S3x1024) (e' := .f32) x3 (Rect.unit (s := S3x1024) ![1, 768] ![1, 128] inb_S3x1024_S1x128_1_768)) : S1024x128.Idx → EReal) x
      = gatedOf x0 x1 x2 x3 hp ((Rect.unit (s := S1024x1024) ![0, 768] ![1024, 128] inb_S1024x1024_S1024x128_0_768).emb x) := by
  refine gate_piece x0 x1 x2 x3 hp 6 (by omega) 768 rfl inb_S1024x1024_S1024x128_0_768 _ (fun r l => ?_) x
  show (k0_pay40 (k0_pay3 x0 x1) (k0_pay34 (k0_pay3 x0 x1) (View.ld (Val := Elt Ideal) (S := S1x1024x3072) (e' := .f32) x2 (Rect.unit (s := S1x1024x3072) ![0, 0, 768] ![1, 1024, 256] inb_S1x1024x3072_S1x1024x256_0_0_768))) (k0_pay35 (View.ld (Val := Elt Ideal) (S := S1x1024x3072) (e' := .f32) x2 (Rect.unit (s := S1x1024x3072) ![0, 0, 1792] ![1, 1024, 256] inb_S1x1024x3072_S1x1024x256_0_0_1792))) (constant S1024x256 FTy.f32 0x00000000#32) (View.ld (Val := Elt Ideal) (S := S1x1024x3072) (e' := .f32) x2 (Rect.unit (s := S1x1024x3072) ![0, 0, 2816] ![1, 1024, 256] inb_S1x1024x3072_S1x1024x256_0_0_2816)) (View.ld (Val := Elt Ideal) (S := S3x1024) (e' := .f32) x3 (Rect.unit (s := S3x1024) ![2, 768] ![1, 128] inb_S3x1024_S1x128_2_768)) A (View.ld (Val := Elt Ideal) (S := S3x1024) (e' := .f32) x3 (Rect.unit (s := S3x1024) ![0, 768] ![1, 128] inb_S3x1024_S1x128_0_768)) B (View.ld (Val := Elt Ideal) (S := S3x1024) (e' := .f32) x3 (Rect.unit (s := S3x1024) ![1, 768] ![1, 128] inb_S3x1024_S1x128_1_768)) : S1024x128.Idx → EReal) (ix2 r l) = _
  unfold k0_pay40 k0_pay34 k0_pay35 k0_pay38 k0_pay36 k0_pay37
  pointwise
  simp only [ld_in, ld_dw, pay3_apply, hA, hB]
  refine gate_eq x0 x1 x2 x3 _ _ _ _ _ _ _ _ _ _ ?_ ?_ ?_ ?_ ?_ ?_ <;> first | rfl | (dsimp only; omega)

/-- Columns 896 to 1023 of the gated convolution's scratch. -/
theorem gate7 (x0 : Vec Ideal S1x1024x1024 .f32) (x1 : Vec Ideal S1x1024 .f32) (x2 : Vec Ideal S1x1024x3072 .f32) (x3 : Vec Ideal S3x1024 .f32) (hp : Vec Ideal S8x8x128 .f32)
    (A B : Vec Ideal S1x1024x128 .f32) (hA : ∀ r l, A (ix3 0 r l) = extAt x0 x1 x2 hp ⟨7, by omega⟩ ⟨6 + r.val, by omega⟩ l)
    (hB : ∀ r l, B (ix3 0 r l) = extAt x0 x1 x2 hp ⟨7, by omega⟩ ⟨7 + r.val, by omega⟩ l) (x : S1024x128.Idx) :
    (k0_pay45 (k0_pay34 (k0_pay3 x0 x1) (View.ld (Val := Elt Ideal) (S := S1x1024x3072) (e' := .f32) x2 (Rect.unit (s := S1x1024x3072) ![0, 0, 768] ![1, 1024, 256] inb_S1x1024x3072_S1x1024x256_0_0_768))) (k0_pay41 (k0_pay3 x0 x1) (k0_pay35 (View.ld (Val := Elt Ideal) (S := S1x1024x3072) (e' := .f32) x2 (Rect.unit (s := S1x1024x3072) ![0, 0, 1792] ![1, 1024, 256] inb_S1x1024x3072_S1x1024x256_0_0_1792))) (constant S1024x256 FTy.f32 0x00000000#32)) (k0_pay42 (k0_pay3 x0 x1) (View.ld (Val := Elt Ideal) (S := S1x1024x3072) (e' := .f32) x2 (Rect.unit (s := S1x1024x3072) ![0, 0, 2816] ![1, 1024, 256] inb_S1x1024x3072_S1x1024x256_0_0_2816))) (View.ld (Val := Elt Ideal) (S := S3x1024) (e' := .f32) x3 (Rect.unit (s := S3x1024) ![2, 896] ![1, 128] inb_S3x1024_S1x128_2_896)) A (View.ld (Val := Elt Ideal) (S := S3x1024) (e' := .f32) x3 (Rect.unit (s := S3x1024) ![0, 896] ![1, 128] inb_S3x1024_S1x128_0_896)) B (View.ld (Val := Elt Ideal) (S := S3x1024) (e' := .f32) x3 (Rect.unit (s := S3x1024) ![1, 896] ![1, 128] inb_S3x1024_S1x128_1_896)) : S1024x128.Idx → EReal) x
      = gatedOf x0 x1 x2 x3 hp ((Rect.unit (s := S1024x1024) ![0, 896] ![1024, 128] inb_S1024x1024_S1024x128_0_896).emb x) := by
  refine gate_piece x0 x1 x2 x3 hp 7 (by omega) 896 rfl inb_S1024x1024_S1024x128_0_896 _ (fun r l => ?_) x
  show (k0_pay45 (k0_pay34 (k0_pay3 x0 x1) (View.ld (Val := Elt Ideal) (S := S1x1024x3072) (e' := .f32) x2 (Rect.unit (s := S1x1024x3072) ![0, 0, 768] ![1, 1024, 256] inb_S1x1024x3072_S1x1024x256_0_0_768))) (k0_pay41 (k0_pay3 x0 x1) (k0_pay35 (View.ld (Val := Elt Ideal) (S := S1x1024x3072) (e' := .f32) x2 (Rect.unit (s := S1x1024x3072) ![0, 0, 1792] ![1, 1024, 256] inb_S1x1024x3072_S1x1024x256_0_0_1792))) (constant S1024x256 FTy.f32 0x00000000#32)) (k0_pay42 (k0_pay3 x0 x1) (View.ld (Val := Elt Ideal) (S := S1x1024x3072) (e' := .f32) x2 (Rect.unit (s := S1x1024x3072) ![0, 0, 2816] ![1, 1024, 256] inb_S1x1024x3072_S1x1024x256_0_0_2816))) (View.ld (Val := Elt Ideal) (S := S3x1024) (e' := .f32) x3 (Rect.unit (s := S3x1024) ![2, 896] ![1, 128] inb_S3x1024_S1x128_2_896)) A (View.ld (Val := Elt Ideal) (S := S3x1024) (e' := .f32) x3 (Rect.unit (s := S3x1024) ![0, 896] ![1, 128] inb_S3x1024_S1x128_0_896)) B (View.ld (Val := Elt Ideal) (S := S3x1024) (e' := .f32) x3 (Rect.unit (s := S3x1024) ![1, 896] ![1, 128] inb_S3x1024_S1x128_1_896)) : S1024x128.Idx → EReal) (ix2 r l) = _
  unfold k0_pay45 k0_pay34 k0_pay41 k0_pay35 k0_pay42 k0_pay43 k0_pay36 k0_pay37
  pointwise
  simp only [ld_in, ld_dw, pay3_apply, hA, hB]
  refine gate_eq x0 x1 x2 x3 _ _ _ _ _ _ _ _ _ _ ?_ ?_ ?_ ?_ ?_ ?_ <;> first | rfl | (dsimp only; omega)

end Cert.KernelIdeal.Block

end
-- ==== Proof.ConvOut.lean ====
/- The output block and the carried scratch of one grid point of the convolution kernel, put together from their pieces, for
   the first tile of a sequence (case A) and for the others (case B). -/
module

public import proofs.«01_k».proof.Proof.ConvBlock

@[expose] public section

set_option maxRecDepth 65536

noncomputable section

namespace Cert.KernelIdeal.Block

open Cert.KernelIdeal Cert.KernelIdeal.Gen Cert.Layer Idealize.ShloMosaic Idealize.ShloMosaic.TcCoe Idealize.SL.Sem

theorem emb_halo (inb : ∀ a, (![0, 0, 0] : Fin 3 → Nat) a + (![8, 8, 128] : Fin 3 → Nat) a ≤ S8x1032x128.size a) (s n : Fin 8) (l : Fin 128) :
    (Rect.unit (s := S8x1032x128) ![0, 0, 0] ![8, 8, 128] inb).emb (ix3 s n l) = (ix3 s ⟨n.val, by omega⟩ l : S8x1032x128.Idx) := by
  funext a
  apply Fin.ext
  rw [Rect.emb_apply]
  match a with
  | ⟨0, _⟩ => show 0 + 1 * s.val = s.val; omega
  | ⟨1, _⟩ => show 0 + 1 * n.val = n.val; omega
  | ⟨2, _⟩ => show 0 + 1 * l.val = l.val; omega

theorem halo_piece (x0 : Vec Ideal S1x1024x1024 .f32) (x1 : Vec Ideal S1x1024 .f32) (x2 : Vec Ideal S1x1024x3072 .f32) (hp : Vec Ideal S8x8x128 .f32)
    (inb : ∀ a, (![0, 0, 0] : Fin 3 → Nat) a + (![8, 8, 128] : Fin 3 → Nat) a ≤ S8x1032x128.size a) (x : S8x8x128.Idx) :
    hp x = extOf x0 x1 x2 hp ((Rect.unit (s := S8x1032x128) ![0, 0, 0] ![8, 8, 128] inb).emb x) := by
  obtain ⟨s, n, l, rfl⟩ : ∃ (s n : Fin 8) (l : Fin 128), x = ix3 s n l := ⟨x 0, x 1, x 2, ValueIdx.eq_ix3 x⟩
  rw [emb_halo]
  show _ = extAt x0 x1 x2 hp s ⟨n.val, _⟩ l
  unfold extAt
  rw [dif_pos (by show n.val < 8; omega)]

/-- The stores into the carried scratch, the last first. -/
def slabs (x0 : Vec Ideal S1x1024x1024 .f32) (x1 : Vec Ideal S1x1024 .f32) (x2 : Vec Ideal S1x1024x3072 .f32) (hp : Vec Ideal S8x8x128 .f32) : List (View.Piece (Elt Ideal) S8x1032x128 .f32) :=
  [⟨Rect.unit (s := S8x1032x128) ![7, 8, 0] ![1, 1024, 128] inb_S8x1032x128_S1x1024x128_7_8_0, k0_pay44 (k0_pay41 (k0_pay3 x0 x1) (k0_pay35 (View.ld (Val := Elt Ideal) (S := S1x1024x3072) (e' := .f32) x2 (Rect.unit (s := S1x1024x3072) ![0, 0, 1792] ![1, 1024, 256] inb_S1x1024x3072_S1x1024x256_0_0_1792))) (constant S1024x256 FTy.f32 0x00000000#32)) (k0_pay42 (k0_pay3 x0 x1) (View.ld (Val := Elt Ideal) (S := S1x1024x3072) (e' := .f32) x2 (Rect.unit (s := S1x1024x3072) ![0, 0, 2816] ![1, 1024, 256] inb_S1x1024x3072_S1x1024x256_0_0_2816)))⟩,
   ⟨Rect.unit (s := S8x1032x128) ![6, 8, 0] ![1, 1024, 128] inb_S8x1032x128_S1x1024x128_6_8_0, k0_pay39 (k0_pay3 x0 x1) (k0_pay35 (View.ld (Val := Elt Ideal) (S := S1x1024x3072) (e' := .f32) x2 (Rect.unit (s := S1x1024x3072) ![0, 0, 1792] ![1, 1024, 256] inb_S1x1024x3072_S1x1024x256_0_0_1792))) (constant S1024x256 FTy.f32 0x00000000#32) (View.ld (Val := Elt Ideal) (S := S1x1024x3072) (e' := .f32) x2 (Rect.unit (s := S1x1024x3072) ![0, 0, 2816] ![1, 1024, 256] inb_S1x1024x3072_S1x1024x256_0_0_2816))⟩,
   ⟨Rect.unit (s := S8x1032x128) ![5, 8, 0] ![1, 1024, 128] inb_S8x1032x128_S1x1024x128_5_8_0, k0_pay32 (k0_pay31 (k0_pay3 x0 x1) (k0_pay26 (k0_pay3 x0 x1) (View.ld (Val := Elt Ideal) (S := S1x1024x3072) (e' := .f32) x2 (Rect.unit (s := S1x1024x3072) ![0, 0, 1536] ![1, 1024, 256] inb_S1x1024x3072_S1x1024x256_0_0_1536))) (View.ld (Val := Elt Ideal) (S := S1x1024x3072) (e' := .f32) x2 (Rect.unit (s := S1x1024x3072) ![0, 0, 2560] ![1, 1024, 256] inb_S1x1024x3072_S1x1024x256_0_0_2560)))⟩,
   ⟨Rect.unit (s := S8x1032x128) ![4, 8, 0] ![1, 1024, 128] inb_S8x1032x128_S1x1024x128_4_8_0, k0_pay29 (k0_pay3 x0 x1) (k0_pay26 (k0_pay3 x0 x1) (View.ld (Val := Elt Ideal) (S := S1x1024x3072) (e' := .f32) x2 (Rect.unit (s := S1x1024x3072) ![0, 0, 1536] ![1, 1024, 256] inb_S1x1024x3072_S1x1024x256_0_0_1536))) (View.ld (Val := Elt Ideal) (S := S1x1024x3072) (e' := .f32) x2 (Rect.unit (s := S1x1024x3072) ![0, 0, 2560] ![1, 1024, 256] inb_S1x1024x3072_S1x1024x256_0_0_2560))⟩,
   ⟨Rect.unit (s := S8x1032x128) ![3, 8, 0] ![1, 1024, 128] inb_S8x1032x128_S1x1024x128_3_8_0, k0_pay23 (k0_pay22 (k0_pay3 x0 x1) (k0_pay17 (k0_pay3 x0 x1) (View.ld (Val := Elt Ideal) (S := S1x1024x3072) (e' := .f32) x2 (Rect.unit (s := S1x1024x3072) ![0, 0, 1280] ![1, 1024, 256] inb_S1x1024x3072_S1x1024x256_0_0_1280))) (View.ld (Val := Elt Ideal) (S := S1x1024x3072) (e' := .f32) x2 (Rect.unit (s := S1x1024x3072) ![0, 0, 2304] ![1, 1024, 256] inb_S1x1024x3072_S1x1024x256_0_0_2304)))⟩,
   ⟨Rect.unit (s := S8x1032x128) ![2, 8, 0] ![1, 1024, 128] inb_S8x1032x128_S1x1024x128_2_8_0, k0_pay20 (k0_pay3 x0 x1) (k0_pay17 (k0_pay3 x0 x1) (View.ld (Val := Elt Ideal) (S := S1x1024x3072) (e' := .f32) x2 (Rect.unit (s := S1x1024x3072) ![0, 0, 1280] ![1, 1024, 256] inb_S1x1024x3072_S1x1024x256_0_0_1280))) (View.ld (Val := Elt Ideal) (S := S1x1024x3072) (e' := .f32) x2 (Rect.unit (s := S1x1024x3072) ![0, 0, 2304] ![1, 1024, 256] inb_S1x1024x3072_S1x1024x256_0_0_2304))⟩,
   ⟨Rect.unit (s := S8x1032x128) ![1, 8, 0] ![1, 1024, 128] inb_S8x1032x128_S1x1024x128_1_8_0, k0_pay14 (k0_pay13 (k0_pay3 x0 x1) (k0_pay7 x0 x1 (View.ld (Val := Elt Ideal) (S := S1x1024x3072) (e' := .f32) x2 (Rect.unit (s := S1x1024x3072) ![0, 0, 1024] ![1, 1024, 256] inb_S1x1024x3072_S1x1024x256_0_0_1024))) (k0_pay8 (View.ld (Val := Elt Ideal) (S := S1x1024x3072) (e' := .f32) x2 (Rect.unit (s := S1x1024x3072) ![0, 0, 2048] ![1, 1024, 256] inb_S1x1024x3072_S1x1024x256_0_0_2048))))⟩,
   ⟨Rect.unit (s := S8x1032x128) ![0, 8, 0] ![1, 1024, 128] inb_S8x1032x128_S1x1024x128_0_8_0, k0_pay11 (k0_pay3 x0 x1) (k0_pay7 x0 x1 (View.ld (Val := Elt Ideal) (S := S1x1024x3072) (e' := .f32) x2 (Rect.unit (s := S1x1024x3072) ![0, 0, 1024] ![1, 1024, 256] inb_S1x1024x3072_S1x1024x256_0_0_1024))) (k0_pay8 (View.ld (Val := Elt Ideal) (S := S1x1024x3072) (e' := .f32) x2 (Rect.unit (s := S1x1024x3072) ![0, 0, 2048] ![1, 1024, 256] inb_S1x1024x3072_S1x1024x256_0_0_2048)))⟩,
   ⟨Rect.unit (s := S8x1032x128) ![0, 0, 0] ![8, 8, 128] inb_S8x1032x128_S8x8x128_0_0_0, hp⟩]

theorem slabs_ok (x0 : Vec Ideal S1x1024x1024 .f32) (x1 : Vec Ideal S1x1024 .f32) (x2 : Vec Ideal S1x1024x3072 .f32) (hp : Vec Ideal S8x8x128 .f32) :
    ∀ p ∈ slabs x0 x1 x2 hp, ∀ x : p.1.shape.Idx, p.2 x = extOf x0 x1 x2 hp (p.1.emb x) := by
  intro p hm
  unfold slabs at hm
  simp only [List.mem_cons, List.not_mem_nil, or_false] at hm
  rcases hm with rfl | rfl | rfl | rfl | rfl | rfl | rfl | rfl | rfl
  · exact ext7 x0 x1 x2 hp
  · exact ext6 x0 x1 x2 hp
  · exact ext5 x0 x1 x2 hp
  · exact ext4 x0 x1 x2 hp
  · exact ext3 x0 x1 x2 hp
  · exact ext2 x0 x1 x2 hp
  · exact ext1 x0 x1 x2 hp
  · exact ext0 x0 x1 x2 hp
  · exact halo_piece x0 x1 x2 hp inb_S8x1032x128_S8x8x128_0_0_0

/-- A slab read back `n` rows down. -/
theorem ext_read (x0 : Vec Ideal S1x1024x1024 .f32) (x1 : Vec Ideal S1x1024 .f32) (x2 : Vec Ideal S1x1024x3072 .f32) (hp : Vec Ideal S8x8x128 .f32) (v : Memref sig .tc .vmem S8x1032x128 .f32) (L : List (View.Piece (Elt Ideal) S8x1032x128 .f32))
    (hL : ∀ p ∈ L, ∀ x : p.1.shape.Idx, p.2 x = extOf x0 x1 x2 hp (p.1.emb x)) (s n : Nat) (hs : s < 8) (hn : n ≤ 8)
    (inb : ∀ a, (![s, n, 0] : Fin 3 → Nat) a + (![1, 1024, 128] : Fin 3 → Nat) a ≤ S8x1032x128.size a)
    (inb8 : ∀ a, (![s, 8, 0] : Fin 3 → Nat) a + (![1, 1024, 128] : Fin 3 → Nat) a ≤ S8x1032x128.size a)
    (inb0 : ∀ a, (![0, 0, 0] : Fin 3 → Nat) a + (![8, 8, 128] : Fin 3 → Nat) a ≤ S8x1032x128.size a)
    (w : S1x1024x128.Idx → EReal) (w0 : S8x8x128.Idx → EReal)
    (h8 : (⟨Rect.unit (s := S8x1032x128) ![s, 8, 0] ![1, 1024, 128] inb8, w⟩ : View.Piece (Elt Ideal) S8x1032x128 .f32) ∈ L)
    (h0 : (⟨Rect.unit (s := S8x1032x128) ![0, 0, 0] ![8, 8, 128] inb0, w0⟩ : View.Piece (Elt Ideal) S8x1032x128 .f32) ∈ L) (r : Fin 1024) (l : Fin 128) :
    v.view.readCov (Val := Elt Ideal) L (Rect.unit (s := S8x1032x128) ![s, n, 0] ![1, 1024, 128] inb).toLoadRect (ix3 0 r l)
      = extAt x0 x1 x2 hp ⟨s, hs⟩ ⟨n + r.val, by omega⟩ l := by
  rw [View.readCov_eq_canon']
  refine (congrArg _ (emb_ext s n hs hn inb r l)).trans ?_
  refine (View.canon_apply_of_pieces (extOf x0 x1 x2 hp) L hL _ ?_).trans rfl
  by_cases h : n + r.val < 8
  · refine ⟨_, h0, ?_⟩
    rw [show (ix3 ⟨s, hs⟩ ⟨n + r.val, by omega⟩ l : S8x1032x128.Idx) = (Rect.unit (s := S8x1032x128) ![0, 0, 0] ![8, 8, 128] inb0).emb (ix3 ⟨s, hs⟩ ⟨n + r.val, h⟩ l) from (emb_halo inb0 ⟨s, hs⟩ ⟨n + r.val, h⟩ l).symm]
    exact LoadRect.idx_mem _ _
  · refine ⟨_, h8, ?_⟩
    have hr : n + r.val - 8 < 1024 := by omega
    have he : (ix3 ⟨s, hs⟩ ⟨n + r.val, by omega⟩ l : S8x1032x128.Idx) = (Rect.unit (s := S8x1032x128) ![s, 8, 0] ![1, 1024, 128] inb8).emb (ix3 0 ⟨n + r.val - 8, hr⟩ l) := by
      rw [emb_ext s 8 hs (by omega)]
      congr 1
      exact Fin.ext (by show n + r.val = 8 + (n + r.val - 8); omega)
    rw [he]
    exact LoadRect.idx_mem _ _

/-- The output block, from the carried rows. -/
def outOf (x0 : Vec Ideal S1x1024x1024 .f32) (x1 : Vec Ideal S1x1024 .f32) (x2 : Vec Ideal S1x1024x3072 .f32) (x3 : Vec Ideal S3x1024 .f32) (x4 : Vec Ideal S1x1024x1024 .f32) (hp : Vec Ideal S8x8x128 .f32) : Vec Ideal S1x1024x1024 .f32 :=
  fun y => x0 (ix3 0 (y 1) (y 2)) + ∑ k, gatedOf x0 x1 x2 x3 hp (ix2 (y 1) k) * x4 (ix3 0 k (y 2))

theorem pay1_apply (x : Vec Ideal S1x1024x1024 .f32) (a : Vec Ideal S1024x1024 .bf16) (g : Vec Ideal S1x1024x1024 .f32) (r k : Fin 1024) :
    k0_pay1 (F := Ideal) (k0_pay46 (k0_pay2 x) a g) (ix3 0 r k) = x (ix3 0 r k) + ∑ c, a (ix2 r c) * g (ix3 0 c k) := by
  unfold k0_pay1 k0_pay46 k0_pay2
  pointwise

theorem ix_block (x : S1x1024x1024.Idx) : ∃ (r k : Fin 1024), x = ix3 0 r k :=
  ⟨x 1, x 2, by
    rw [ValueIdx.eq_ix3 x]
    congr 1
    exact Subsingleton.elim (α := Fin 1) _ _⟩

theorem sout_A (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1024x3072 .f32) (harg4 : arg4.IsWhole) (arg5 : Memref sig .tc .vmem S3x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S8x1032x128 .f32) (harg8 : arg8.IsWhole) (arg9 : Memref sig .tc .vmem S1024x1024 .bf16) (harg9 : arg9.IsWhole) (hc0 : cond0_0 i) (hc1 : ¬cond0_1 i)
    (x0 : Vec Ideal S1x1024x1024 .f32) (x1 : Vec Ideal S1x1024 .f32) (x2 : Vec Ideal S1x1024x3072 .f32) (x3 : Vec Ideal S3x1024 .f32) (x4 : Vec Ideal S1x1024x1024 .f32) :
    sout0_A_0 c i arg2 harg2 arg3 harg3 arg4 harg4 arg5 harg5 arg6 harg6 arg7 harg7 arg8 harg8 arg9 harg9 hc0 hc1 x0 x1 x2 x3 x4 = extOf x0 x1 x2 (k0_pay4 (F := Ideal)) := by
  have hz2 : (![0, 0] : Fin 2 → Nat) = fun _ => 0 := by funext a; fin_cases a <;> rfl
  have hz3 : (![0, 0, 0] : Fin 3 → Nat) = fun _ => 0 := by funext a; fin_cases a <;> rfl
  funext y
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  refine View.canon_apply_of_pieces (extOf x0 x1 x2 (k0_pay4 (F := Ideal))) _ ?_ y (scover0_A_0 c i arg2 harg2 arg3 harg3 arg4 harg4 arg5 harg5 arg6 harg6 arg7 harg7 arg8 harg8 arg9 harg9 hc0 hc1 x0 x1 x2 x3 x4 y)
  unfold kernelRun0_A
  dsimp only
  sl_unfold_words
  simp only [View.readAt_eq_ld, harg2.read_unread, harg3.read_unread, harg4.read_unread, harg5.read_unread, harg6.read_unread, View.ld_unit_zero (S := S1x1024x1024) hz3, View.ld_unit_zero (S := S1x1024) hz2]
  exact slabs_ok x0 x1 x2 (k0_pay4 (F := Ideal))

theorem out_A (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1024x3072 .f32) (harg4 : arg4.IsWhole) (arg5 : Memref sig .tc .vmem S3x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S8x1032x128 .f32) (harg8 : arg8.IsWhole) (arg9 : Memref sig .tc .vmem S1024x1024 .bf16) (harg9 : arg9.IsWhole) (hc0 : cond0_0 i) (hc1 : ¬cond0_1 i)
    (x0 : Vec Ideal S1x1024x1024 .f32) (x1 : Vec Ideal S1x1024 .f32) (x2 : Vec Ideal S1x1024x3072 .f32) (x3 : Vec Ideal S3x1024 .f32) (x4 : Vec Ideal S1x1024x1024 .f32) :
    out0_A_5 c i arg2 harg2 arg3 harg3 arg4 harg4 arg5 harg5 arg6 harg6 arg7 harg7 arg8 harg8 arg9 harg9 hc0 hc1 x0 x1 x2 x3 x4 = outOf x0 x1 x2 x3 x4 (k0_pay4 (F := Ideal)) := by
  have hz2 : (![0, 0] : Fin 2 → Nat) = fun _ => 0 := by funext a; fin_cases a <;> rfl
  have hz3 : (![0, 0, 0] : Fin 3 → Nat) = fun _ => 0 := by funext a; fin_cases a <;> rfl
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz3]
  simp only [View.readAt_eq_ld, harg2.read_unread, harg3.read_unread, harg4.read_unread, harg5.read_unread, harg6.read_unread, View.ld_unit_zero (S := S1x1024x1024) hz3, View.ld_unit_zero (S := S1x1024) hz2]
  funext y
  obtain ⟨r, j, rfl⟩ := ix_block y
  rw [pay1_apply]
  refine congrArg _ (Finset.sum_congr rfl fun q _ => congrArg (· * _) ?_)
  rw [View.readCov_eq_canon']
  have hid : ((Rect.unit (s := S1024x1024) ![0, 0] S1024x1024.size inb_S1024x1024_S1024x1024_0_0).toLoadRect.idx (ix2 r q) : S1024x1024.Idx) = ix2 r q := by
    funext a; apply Fin.ext
    match a with
    | ⟨0, _⟩ => show 0 + 1 * r.val = r.val; omega
    | ⟨1, _⟩ => show 0 + 1 * q.val = q.val; omega
  refine (congrArg _ hid).trans ?_
  refine (View.canon_apply_of_pieces (gatedOf x0 x1 x2 x3 (k0_pay4 (F := Ideal))) _ ?_ (ix2 r q) ?_).trans rfl
  · intro p hm x
    simp only [List.mem_cons, List.not_mem_nil, or_false] at hm
    have hL := slabs_ok x0 x1 x2 (k0_pay4 (F := Ideal))
    rcases hm with rfl | rfl | rfl | rfl | rfl | rfl | rfl | rfl
    · refine gate7 x0 x1 x2 x3 (k0_pay4 (F := Ideal)) _ _ (fun r l => ?_) (fun r l => ?_) x
      · exact ext_read x0 x1 x2 (k0_pay4 (F := Ideal)) arg8 _ (fun p h => hL p (List.mem_of_mem_drop (i := 0) h)) 7 6 (by omega) (by omega) inb_S8x1032x128_S1x1024x128_7_6_0 inb_S8x1032x128_S1x1024x128_7_8_0 inb_S8x1032x128_S8x8x128_0_0_0 _ _ List.mem_cons_self (List.mem_of_mem_drop (i := 8) List.mem_cons_self) r l
      · exact ext_read x0 x1 x2 (k0_pay4 (F := Ideal)) arg8 _ (fun p h => hL p (List.mem_of_mem_drop (i := 0) h)) 7 7 (by omega) (by omega) inb_S8x1032x128_S1x1024x128_7_7_0 inb_S8x1032x128_S1x1024x128_7_8_0 inb_S8x1032x128_S8x8x128_0_0_0 _ _ List.mem_cons_self (List.mem_of_mem_drop (i := 8) List.mem_cons_self) r l
    · refine gate6 x0 x1 x2 x3 (k0_pay4 (F := Ideal)) _ _ (fun r l => ?_) (fun r l => ?_) x
      · exact ext_read x0 x1 x2 (k0_pay4 (F := Ideal)) arg8 _ (fun p h => hL p (List.mem_of_mem_drop (i := 1) h)) 6 6 (by omega) (by omega) inb_S8x1032x128_S1x1024x128_6_6_0 inb_S8x1032x128_S1x1024x128_6_8_0 inb_S8x1032x128_S8x8x128_0_0_0 _ _ List.mem_cons_self (List.mem_of_mem_drop (i := 7) List.mem_cons_self) r l
      · exact ext_read x0 x1 x2 (k0_pay4 (F := Ideal)) arg8 _ (fun p h => hL p (List.mem_of_mem_drop (i := 1) h)) 6 7 (by omega) (by omega) inb_S8x1032x128_S1x1024x128_6_7_0 inb_S8x1032x128_S1x1024x128_6_8_0 inb_S8x1032x128_S8x8x128_0_0_0 _ _ List.mem_cons_self (List.mem_of_mem_drop (i := 7) List.mem_cons_self) r l
    · refine gate5 x0 x1 x2 x3 (k0_pay4 (F := Ideal)) _ _ (fun r l => ?_) (fun r l => ?_) x
      · exact ext_read x0 x1 x2 (k0_pay4 (F := Ideal)) arg8 _ (fun p h => hL p (List.mem_of_mem_drop (i := 2) h)) 5 6 (by omega) (by omega) inb_S8x1032x128_S1x1024x128_5_6_0 inb_S8x1032x128_S1x1024x128_5_8_0 inb_S8x1032x128_S8x8x128_0_0_0 _ _ List.mem_cons_self (List.mem_of_mem_drop (i := 6) List.mem_cons_self) r l
      · exact ext_read x0 x1 x2 (k0_pay4 (F := Ideal)) arg8 _ (fun p h => hL p (List.mem_of_mem_drop (i := 2) h)) 5 7 (by omega) (by omega) inb_S8x1032x128_S1x1024x128_5_7_0 inb_S8x1032x128_S1x1024x128_5_8_0 inb_S8x1032x128_S8x8x128_0_0_0 _ _ List.mem_cons_self (List.mem_of_mem_drop (i := 6) List.mem_cons_self) r l
    · refine gate4 x0 x1 x2 x3 (k0_pay4 (F := Ideal)) _ _ (fun r l => ?_) (fun r l => ?_) x
      · exact ext_read x0 x1 x2 (k0_pay4 (F := Ideal)) arg8 _ (fun p h => hL p (List.mem_of_mem_drop (i := 3) h)) 4 6 (by omega) (by omega) inb_S8x1032x128_S1x1024x128_4_6_0 inb_S8x1032x128_S1x1024x128_4_8_0 inb_S8x1032x128_S8x8x128_0_0_0 _ _ List.mem_cons_self (List.mem_of_mem_drop (i := 5) List.mem_cons_self) r l
      · exact ext_read x0 x1 x2 (k0_pay4 (F := Ideal)) arg8 _ (fun p h => hL p (List.mem_of_mem_drop (i := 3) h)) 4 7 (by omega) (by omega) inb_S8x1032x128_S1x1024x128_4_7_0 inb_S8x1032x128_S1x1024x128_4_8_0 inb_S8x1032x128_S8x8x128_0_0_0 _ _ List.mem_cons_self (List.mem_of_mem_drop (i := 5) List.mem_cons_self) r l
    · refine gate3 x0 x1 x2 x3 (k0_pay4 (F := Ideal)) _ _ (fun r l => ?_) (fun r l => ?_) x
      · exact ext_read x0 x1 x2 (k0_pay4 (F := Ideal)) arg8 _ (fun p h => hL p (List.mem_of_mem_drop (i := 4) h)) 3 6 (by omega) (by omega) inb_S8x1032x128_S1x1024x128_3_6_0 inb_S8x1032x128_S1x1024x128_3_8_0 inb_S8x1032x128_S8x8x128_0_0_0 _ _ List.mem_cons_self (List.mem_of_mem_drop (i := 4) List.mem_cons_self) r l
      · exact ext_read x0 x1 x2 (k0_pay4 (F := Ideal)) arg8 _ (fun p h => hL p (List.mem_of_mem_drop (i := 4) h)) 3 7 (by omega) (by omega) inb_S8x1032x128_S1x1024x128_3_7_0 inb_S8x1032x128_S1x1024x128_3_8_0 inb_S8x1032x128_S8x8x128_0_0_0 _ _ List.mem_cons_self (List.mem_of_mem_drop (i := 4) List.mem_cons_self) r l
    · refine gate2 x0 x1 x2 x3 (k0_pay4 (F := Ideal)) _ _ (fun r l => ?_) (fun r l => ?_) x
      · exact ext_read x0 x1 x2 (k0_pay4 (F := Ideal)) arg8 _ (fun p h => hL p (List.mem_of_mem_drop (i := 5) h)) 2 6 (by omega) (by omega) inb_S8x1032x128_S1x1024x128_2_6_0 inb_S8x1032x128_S1x1024x128_2_8_0 inb_S8x1032x128_S8x8x128_0_0_0 _ _ List.mem_cons_self (List.mem_of_mem_drop (i := 3) List.mem_cons_self) r l
      · exact ext_read x0 x1 x2 (k0_pay4 (F := Ideal)) arg8 _ (fun p h => hL p (List.mem_of_mem_drop (i := 5) h)) 2 7 (by omega) (by omega) inb_S8x1032x128_S1x1024x128_2_7_0 inb_S8x1032x128_S1x1024x128_2_8_0 inb_S8x1032x128_S8x8x128_0_0_0 _ _ List.mem_cons_self (List.mem_of_mem_drop (i := 3) List.mem_cons_self) r l
    · refine gate1 x0 x1 x2 x3 (k0_pay4 (F := Ideal)) _ _ (fun r l => ?_) (fun r l => ?_) x
      · exact ext_read x0 x1 x2 (k0_pay4 (F := Ideal)) arg8 _ (fun p h => hL p (List.mem_of_mem_drop (i := 6) h)) 1 6 (by omega) (by omega) inb_S8x1032x128_S1x1024x128_1_6_0 inb_S8x1032x128_S1x1024x128_1_8_0 inb_S8x1032x128_S8x8x128_0_0_0 _ _ List.mem_cons_self (List.mem_of_mem_drop (i := 2) List.mem_cons_self) r l
      · exact ext_read x0 x1 x2 (k0_pay4 (F := Ideal)) arg8 _ (fun p h => hL p (List.mem_of_mem_drop (i := 6) h)) 1 7 (by omega) (by omega) inb_S8x1032x128_S1x1024x128_1_7_0 inb_S8x1032x128_S1x1024x128_1_8_0 inb_S8x1032x128_S8x8x128_0_0_0 _ _ List.mem_cons_self (List.mem_of_mem_drop (i := 2) List.mem_cons_self) r l
    · refine gate0 x0 x1 x2 x3 (k0_pay4 (F := Ideal)) _ _ (fun r l => ?_) (fun r l => ?_) x
      · exact ext_read x0 x1 x2 (k0_pay4 (F := Ideal)) arg8 _ (fun p h => hL p (List.mem_of_mem_drop (i := 7) h)) 0 6 (by omega) (by omega) inb_S8x1032x128_S1x1024x128_0_6_0 inb_S8x1032x128_S1x1024x128_0_8_0 inb_S8x1032x128_S8x8x128_0_0_0 _ _ List.mem_cons_self (List.mem_of_mem_drop (i := 1) List.mem_cons_self) r l
      · exact ext_read x0 x1 x2 (k0_pay4 (F := Ideal)) arg8 _ (fun p h => hL p (List.mem_of_mem_drop (i := 7) h)) 0 7 (by omega) (by omega) inb_S8x1032x128_S1x1024x128_0_7_0 inb_S8x1032x128_S1x1024x128_0_8_0 inb_S8x1032x128_S8x8x128_0_0_0 _ _ List.mem_cons_self (List.mem_of_mem_drop (i := 1) List.mem_cons_self) r l
  · exact View.cover_of_tiledL (s := S1024x1024) _ S1024x128.size (by sl_kernel_rfl) _

theorem sout_B (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1024x3072 .f32) (harg4 : arg4.IsWhole) (arg5 : Memref sig .tc .vmem S3x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S8x1032x128 .f32) (harg8 : arg8.IsWhole) (arg9 : Memref sig .tc .vmem S1024x1024 .bf16) (harg9 : arg9.IsWhole) (hc0 : ¬cond0_0 i) (hc1 : cond0_1 i)
    (x0 : Vec Ideal S1x1024x1024 .f32) (x1 : Vec Ideal S1x1024 .f32) (x2 : Vec Ideal S1x1024x3072 .f32) (x3 : Vec Ideal S3x1024 .f32) (x4 : Vec Ideal S1x1024x1024 .f32) (xs0 : Vec Ideal S8x1032x128 .f32) :
    sout0_B_0 c i arg2 harg2 arg3 harg3 arg4 harg4 arg5 harg5 arg6 harg6 arg7 harg7 arg8 harg8 arg9 harg9 hc0 hc1 x0 x1 x2 x3 x4 xs0 = extOf x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) := by
  have hz2 : (![0, 0] : Fin 2 → Nat) = fun _ => 0 := by funext a; fin_cases a <;> rfl
  have hz3 : (![0, 0, 0] : Fin 3 → Nat) = fun _ => 0 := by funext a; fin_cases a <;> rfl
  funext y
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0)]
  refine View.canon_apply_of_pieces (extOf x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0)))) _ ?_ y (scover0_B_0 c i arg2 harg2 arg3 harg3 arg4 harg4 arg5 harg5 arg6 harg6 arg7 harg7 arg8 harg8 arg9 harg9 hc0 hc1 x0 x1 x2 x3 x4 xs0 y)
  unfold kernelRun0_B
  dsimp only
  sl_unfold_words
  simp only [View.readAt_eq_ld, harg2.read_unread, harg3.read_unread, harg4.read_unread, harg5.read_unread, harg6.read_unread, harg8.read_unread, View.ld_unit_zero (S := S1x1024x1024) hz3, View.ld_unit_zero (S := S1x1024) hz2]
  exact slabs_ok x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0)))

theorem out_B (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1x1024x3072 .f32) (harg4 : arg4.IsWhole) (arg5 : Memref sig .tc .vmem S3x1024 .f32) (harg5 : arg5.IsWhole) (arg6 : Memref sig .tc .vmem S1x1024x1024 .f32) (harg6 : arg6.IsWhole) (arg7 : Memref sig .tc .vmem S1x1024x1024 .f32) (harg7 : arg7.IsWhole) (arg8 : Memref sig .tc .vmem S8x1032x128 .f32) (harg8 : arg8.IsWhole) (arg9 : Memref sig .tc .vmem S1024x1024 .bf16) (harg9 : arg9.IsWhole) (hc0 : ¬cond0_0 i) (hc1 : cond0_1 i)
    (x0 : Vec Ideal S1x1024x1024 .f32) (x1 : Vec Ideal S1x1024 .f32) (x2 : Vec Ideal S1x1024x3072 .f32) (x3 : Vec Ideal S3x1024 .f32) (x4 : Vec Ideal S1x1024x1024 .f32) (xs0 : Vec Ideal S8x1032x128 .f32) :
    out0_B_5 c i arg2 harg2 arg3 harg3 arg4 harg4 arg5 harg5 arg6 harg6 arg7 harg7 arg8 harg8 arg9 harg9 hc0 hc1 x0 x1 x2 x3 x4 xs0 = outOf x0 x1 x2 x3 x4 (k0_pay5 (F := Ideal) (View.ld (Val := Elt Ideal) (S := S8x1032x128) (e' := .f32) xs0 (Rect.unit (s := S8x1032x128) ![0, 1024, 0] ![8, 8, 128] inb_S8x1032x128_S8x8x128_0_1024_0))) := by
  have hz2 : (![0, 0] : Fin 2 → Nat) = fun _ => 0 := by funext a; fin_cases a <;> rfl
  have hz3 : (![0, 0, 0] : Fin 3 → Nat) = fun _ => 0 := by funext a; fin_cases a <;> rfl
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero hz3]
  simp only [View.readAt_eq_ld, harg2.read_unread, harg3.read_unread, harg4.read_unread, harg5.read_unread, harg6.read_unread, harg8.read_unread, View.ld_unit_zero (S := S1x1024x1024) hz3, View.ld_unit_zero (S := S1x1024) hz2]
  funext y
  obtain ⟨r, j, rfl⟩ := ix_block y
  rw [pay1_apply]
  refine congrArg _ (Finset.sum_congr rfl fun q _ => congrArg (· * _) ?_)
  rw [View.readCov_eq_canon']
  have hid : ((Rect.unit (s := S1024x1024) ![0, 0] S1024x1024.size inb_S1024x1024_S1024x1024_0_0).toLoadRect.idx (ix2 r q) : S1024x1024.Idx) = ix2 r q := by
    funext a; apply Fin.ext
    match a with
    | ⟨0, _⟩ => show 0 + 1 * r.val = r.val; omega
    | ⟨1, _⟩ => show 0 + 1 * q.val = q.val; omega
  refine (congrArg _ hid).trans ?_
  refine (View.canon_apply_of_pieces (gatedOf x0 x1 x2 x3 (k0_pay5 (F := Ideal) (View.ld (Val := Elt Ideal) (S := S8x1032x128) (e' := .f32) xs0 (Rect.unit (s := S8x1032x128) ![0, 1024, 0] ![8, 8, 128] inb_S8x1032x128_S8x8x128_0_1024_0)))) _ ?_ (ix2 r q) ?_).trans rfl
  · intro p hm x
    simp only [List.mem_cons, List.not_mem_nil, or_false] at hm
    have hL := slabs_ok x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0)))
    rcases hm with rfl | rfl | rfl | rfl | rfl | rfl | rfl | rfl
    · refine gate7 x0 x1 x2 x3 (k0_pay5 (F := Ideal) (View.ld (Val := Elt Ideal) (S := S8x1032x128) (e' := .f32) xs0 (Rect.unit (s := S8x1032x128) ![0, 1024, 0] ![8, 8, 128] inb_S8x1032x128_S8x8x128_0_1024_0))) _ _ (fun r l => ?_) (fun r l => ?_) x
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 0) h)) 7 6 (by omega) (by omega) inb_S8x1032x128_S1x1024x128_7_6_0 inb_S8x1032x128_S1x1024x128_7_8_0 inb_S8x1032x128_S8x8x128_0_0_0 _ _ List.mem_cons_self (List.mem_of_mem_drop (i := 8) List.mem_cons_self) r l
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 0) h)) 7 7 (by omega) (by omega) inb_S8x1032x128_S1x1024x128_7_7_0 inb_S8x1032x128_S1x1024x128_7_8_0 inb_S8x1032x128_S8x8x128_0_0_0 _ _ List.mem_cons_self (List.mem_of_mem_drop (i := 8) List.mem_cons_self) r l
    · refine gate6 x0 x1 x2 x3 (k0_pay5 (F := Ideal) (View.ld (Val := Elt Ideal) (S := S8x1032x128) (e' := .f32) xs0 (Rect.unit (s := S8x1032x128) ![0, 1024, 0] ![8, 8, 128] inb_S8x1032x128_S8x8x128_0_1024_0))) _ _ (fun r l => ?_) (fun r l => ?_) x
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 1) h)) 6 6 (by omega) (by omega) inb_S8x1032x128_S1x1024x128_6_6_0 inb_S8x1032x128_S1x1024x128_6_8_0 inb_S8x1032x128_S8x8x128_0_0_0 _ _ List.mem_cons_self (List.mem_of_mem_drop (i := 7) List.mem_cons_self) r l
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 1) h)) 6 7 (by omega) (by omega) inb_S8x1032x128_S1x1024x128_6_7_0 inb_S8x1032x128_S1x1024x128_6_8_0 inb_S8x1032x128_S8x8x128_0_0_0 _ _ List.mem_cons_self (List.mem_of_mem_drop (i := 7) List.mem_cons_self) r l
    · refine gate5 x0 x1 x2 x3 (k0_pay5 (F := Ideal) (View.ld (Val := Elt Ideal) (S := S8x1032x128) (e' := .f32) xs0 (Rect.unit (s := S8x1032x128) ![0, 1024, 0] ![8, 8, 128] inb_S8x1032x128_S8x8x128_0_1024_0))) _ _ (fun r l => ?_) (fun r l => ?_) x
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 2) h)) 5 6 (by omega) (by omega) inb_S8x1032x128_S1x1024x128_5_6_0 inb_S8x1032x128_S1x1024x128_5_8_0 inb_S8x1032x128_S8x8x128_0_0_0 _ _ List.mem_cons_self (List.mem_of_mem_drop (i := 6) List.mem_cons_self) r l
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 2) h)) 5 7 (by omega) (by omega) inb_S8x1032x128_S1x1024x128_5_7_0 inb_S8x1032x128_S1x1024x128_5_8_0 inb_S8x1032x128_S8x8x128_0_0_0 _ _ List.mem_cons_self (List.mem_of_mem_drop (i := 6) List.mem_cons_self) r l
    · refine gate4 x0 x1 x2 x3 (k0_pay5 (F := Ideal) (View.ld (Val := Elt Ideal) (S := S8x1032x128) (e' := .f32) xs0 (Rect.unit (s := S8x1032x128) ![0, 1024, 0] ![8, 8, 128] inb_S8x1032x128_S8x8x128_0_1024_0))) _ _ (fun r l => ?_) (fun r l => ?_) x
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 3) h)) 4 6 (by omega) (by omega) inb_S8x1032x128_S1x1024x128_4_6_0 inb_S8x1032x128_S1x1024x128_4_8_0 inb_S8x1032x128_S8x8x128_0_0_0 _ _ List.mem_cons_self (List.mem_of_mem_drop (i := 5) List.mem_cons_self) r l
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 3) h)) 4 7 (by omega) (by omega) inb_S8x1032x128_S1x1024x128_4_7_0 inb_S8x1032x128_S1x1024x128_4_8_0 inb_S8x1032x128_S8x8x128_0_0_0 _ _ List.mem_cons_self (List.mem_of_mem_drop (i := 5) List.mem_cons_self) r l
    · refine gate3 x0 x1 x2 x3 (k0_pay5 (F := Ideal) (View.ld (Val := Elt Ideal) (S := S8x1032x128) (e' := .f32) xs0 (Rect.unit (s := S8x1032x128) ![0, 1024, 0] ![8, 8, 128] inb_S8x1032x128_S8x8x128_0_1024_0))) _ _ (fun r l => ?_) (fun r l => ?_) x
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 4) h)) 3 6 (by omega) (by omega) inb_S8x1032x128_S1x1024x128_3_6_0 inb_S8x1032x128_S1x1024x128_3_8_0 inb_S8x1032x128_S8x8x128_0_0_0 _ _ List.mem_cons_self (List.mem_of_mem_drop (i := 4) List.mem_cons_self) r l
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 4) h)) 3 7 (by omega) (by omega) inb_S8x1032x128_S1x1024x128_3_7_0 inb_S8x1032x128_S1x1024x128_3_8_0 inb_S8x1032x128_S8x8x128_0_0_0 _ _ List.mem_cons_self (List.mem_of_mem_drop (i := 4) List.mem_cons_self) r l
    · refine gate2 x0 x1 x2 x3 (k0_pay5 (F := Ideal) (View.ld (Val := Elt Ideal) (S := S8x1032x128) (e' := .f32) xs0 (Rect.unit (s := S8x1032x128) ![0, 1024, 0] ![8, 8, 128] inb_S8x1032x128_S8x8x128_0_1024_0))) _ _ (fun r l => ?_) (fun r l => ?_) x
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 5) h)) 2 6 (by omega) (by omega) inb_S8x1032x128_S1x1024x128_2_6_0 inb_S8x1032x128_S1x1024x128_2_8_0 inb_S8x1032x128_S8x8x128_0_0_0 _ _ List.mem_cons_self (List.mem_of_mem_drop (i := 3) List.mem_cons_self) r l
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 5) h)) 2 7 (by omega) (by omega) inb_S8x1032x128_S1x1024x128_2_7_0 inb_S8x1032x128_S1x1024x128_2_8_0 inb_S8x1032x128_S8x8x128_0_0_0 _ _ List.mem_cons_self (List.mem_of_mem_drop (i := 3) List.mem_cons_self) r l
    · refine gate1 x0 x1 x2 x3 (k0_pay5 (F := Ideal) (View.ld (Val := Elt Ideal) (S := S8x1032x128) (e' := .f32) xs0 (Rect.unit (s := S8x1032x128) ![0, 1024, 0] ![8, 8, 128] inb_S8x1032x128_S8x8x128_0_1024_0))) _ _ (fun r l => ?_) (fun r l => ?_) x
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 6) h)) 1 6 (by omega) (by omega) inb_S8x1032x128_S1x1024x128_1_6_0 inb_S8x1032x128_S1x1024x128_1_8_0 inb_S8x1032x128_S8x8x128_0_0_0 _ _ List.mem_cons_self (List.mem_of_mem_drop (i := 2) List.mem_cons_self) r l
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 6) h)) 1 7 (by omega) (by omega) inb_S8x1032x128_S1x1024x128_1_7_0 inb_S8x1032x128_S1x1024x128_1_8_0 inb_S8x1032x128_S8x8x128_0_0_0 _ _ List.mem_cons_self (List.mem_of_mem_drop (i := 2) List.mem_cons_self) r l
    · refine gate0 x0 x1 x2 x3 (k0_pay5 (F := Ideal) (View.ld (Val := Elt Ideal) (S := S8x1032x128) (e' := .f32) xs0 (Rect.unit (s := S8x1032x128) ![0, 1024, 0] ![8, 8, 128] inb_S8x1032x128_S8x8x128_0_1024_0))) _ _ (fun r l => ?_) (fun r l => ?_) x
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 7) h)) 0 6 (by omega) (by omega) inb_S8x1032x128_S1x1024x128_0_6_0 inb_S8x1032x128_S1x1024x128_0_8_0 inb_S8x1032x128_S8x8x128_0_0_0 _ _ List.mem_cons_self (List.mem_of_mem_drop (i := 1) List.mem_cons_self) r l
      · exact ext_read x0 x1 x2 (k0_pay5 (F := Ideal) (View.ld (Val := Elt Ideal) (S := S8x1032x128) (e' := .f32) xs0 (Rect.unit (s := S8x1032x128) ![0, 1024, 0] ![8, 8, 128] inb_S8x1032x128_S8x8x128_0_1024_0))) arg8 _ (fun p h => hL p (List.mem_of_mem_drop (i := 7) h)) 0 7 (by omega) (by omega) inb_S8x1032x128_S1x1024x128_0_7_0 inb_S8x1032x128_S1x1024x128_0_8_0 inb_S8x1032x128_S8x8x128_0_0_0 _ _ List.mem_cons_self (List.mem_of_mem_drop (i := 1) List.mem_cons_self) r l
  · exact View.cover_of_tiledL (s := S1024x1024) _ S1024x128.size (by sl_kernel_rfl) _

end Cert.KernelIdeal.Block

end
-- ==== Proof.ConvArray.lean ====
/- The convolution kernel's result array. Grid point `t = 8 b + i` reads rows `1024 i … 1024 i + 1023` of sequence `b`, carries
   the last eight rows' products to the next point, and writes the same rows of the result. -/
module

public import proofs.«01_k».proof.Proof.ConvOut
public import Idealize.ShloMosaic.Lib.Pipeline.ValueKit.Geometry

@[expose] public section

set_option maxRecDepth 65536

noncomputable section

namespace Cert.KernelIdeal.Block

open Cert.KernelIdeal Cert.KernelIdeal.Gen Cert.Layer Idealize.ShloMosaic Idealize.ShloMosaic.TcCoe Idealize.SL.Sem

variable (m : (ℓ : Loc nD τ sig) → Buf (Elt Ideal) ℓ) (ρ : Dev nD → PrngReg)

/-- The result as one function of the five arguments. -/
def result (a0 : FVec Ideal S2x8192x1024 .f32) (a1 : FVec Ideal S4x1024 .f32) (a2 : FVec Ideal S2x1024x3072 .f32)
    (a3 : FVec Ideal S2x3x1024 .f32) (a4 : FVec Ideal S2x1024x1024 .f32) : FVec Ideal S2x8192x1024 .f32 := fun y =>
  convRow (fun s k => a0 (ix3 (y 0) s k)) (fun k => a1 (ix2 3 k)) (fun k c => a2 (ix3 1 k c)) (fun q c => a3 (ix3 1 q c)) (fun c k => a4 (ix3 1 c k)) (y 1) (y 2)

theorem V_w (c : Dev nD) (k : Fin 1024) : (V m c main_v4 : FVec Ideal S1x1024 .f32) (ix2 0 k)
    = (m ((c : Thread nD τ).loc main_arg1) : FVec Ideal S4x1024 .f32) (ix2 3 k) := by
  have h : (V m c main_v4 : FVec Ideal S1x1024 .f32) = broadcastInDim S1x1024 ![1] bcast_S1024_S1x1024_1
      (shapeCast S1024 (extractStridedSlice S1x1024 ![3, 0] (m ((c : Thread nD τ).loc main_arg1) : FVec Ideal S4x1024 .f32) slices_S4x1024_S1x1024_3_0) shapeCasts_S1x1024_S1024) := by
    show StableHlo.after hostOps0 _ (Proc.devRef .tc main_v4) = _
    after_results
    rfl
  rw [h]
  pointwise

theorem V_dw (c : Dev nD) (q : Fin 3) (k : Fin 1024) : (V m c main_v3 : FVec Ideal S3x1024 .f32) (ix2 q k)
    = (m ((c : Thread nD τ).loc main_arg3) : FVec Ideal S2x3x1024 .f32) (ix3 1 q k) := by
  have h : (V m c main_v3 : FVec Ideal S3x1024 .f32) = shapeCast S3x1024 (extractStridedSlice S1x3x1024 ![1, 0, 0] (m ((c : Thread nD τ).loc main_arg3) : FVec Ideal S2x3x1024 .f32) slices_S2x3x1024_S1x3x1024_1_0_0) shapeCasts_S1x3x1024_S3x1024 := by
    show StableHlo.after hostOps0 _ (Proc.devRef .tc main_v3) = _
    after_results
    rfl
  rw [h]
  pointwise

theorem idx0 : ∀ t : Fin cfg0.N, win0_0.index t 0 = t.val / 8 ∧ win0_0.index t 1 = t.val % 8 ∧ win0_0.index t 2 = 0 := by
  show ∀ t : Fin grid0.N, _
  decide +kernel
theorem idx1 : ∀ t : Fin cfg0.N, win0_1.index t 0 = 0 ∧ win0_1.index t 1 = 0 := by
  show ∀ t : Fin grid0.N, _
  decide +kernel
theorem idx2 : ∀ t : Fin cfg0.N, win0_2.index t 0 = 1 ∧ win0_2.index t 1 = 0 ∧ win0_2.index t 2 = 0 := by
  show ∀ t : Fin grid0.N, _
  decide +kernel
theorem idx3 : ∀ t : Fin cfg0.N, win0_3.index t 0 = 0 ∧ win0_3.index t 1 = 0 := by
  show ∀ t : Fin grid0.N, _
  decide +kernel
theorem idx4 : ∀ t : Fin cfg0.N, win0_4.index t 0 = 1 ∧ win0_4.index t 1 = 0 ∧ win0_4.index t 2 = 0 := by
  show ∀ t : Fin grid0.N, _
  decide +kernel
theorem idx5 : ∀ t : Fin cfg0.N, win0_5.index t 0 = t.val / 8 ∧ win0_5.index t 1 = t.val % 8 ∧ win0_5.index t 2 = 0 := by
  show ∀ t : Fin grid0.N, _
  decide +kernel

theorem tlt (t : Fin cfg0.N) : t.val < 16 := t.isLt

/-- The sequence of point `t` and the row of the sequence that row `r` of its block is. -/
def seqOf (t : Fin cfg0.N) : Fin 2 := ⟨t.val / 8, by have := tlt t; omega⟩
def posOf (t : Fin cfg0.N) (r : Fin 1024) : Fin 8192 := ⟨t.val % 8 * 1024 + r.val, by omega⟩

theorem blk0 (c : Dev nD) (t : Fin cfg0.N) (r k : Fin 1024) :
    (iblk m c 0 t : Vec Ideal S1x1024x1024 .f32) (ix3 0 r k) = (m ((c : Thread nD τ).loc main_arg0) : FVec Ideal S2x8192x1024 .f32) (ix3 (seqOf t) (posOf t r) k) := by
  unfold iblk
  rw [View.read_apply, ← V_main_arg0 m c]
  show (V m c main_arg0 : FVec Ideal S2x8192x1024 .f32) ((win0_0.rect t).emb (ix3 0 r k)) = _
  refine congrArg _ (funext fun a => Fin.ext ?_)
  rw [Pipeline.Window.rect_emb_val win0_0 t _ a]
  match a with
  | ⟨0, _⟩ => show win0_0.index t 0 * 1 + 0 = t.val / 8; rw [(idx0 t).1]; all_goals omega
  | ⟨1, _⟩ => show win0_0.index t 1 * 1024 + r.val = t.val % 8 * 1024 + r.val; rw [(idx0 t).2.1]; all_goals omega
  | ⟨2, _⟩ => show win0_0.index t 2 * 1024 + k.val = k.val; rw [(idx0 t).2.2]; all_goals omega

theorem blk1 (c : Dev nD) (t : Fin cfg0.N) (k : Fin 1024) :
    (iblk m c 1 t : Vec Ideal S1x1024 .f32) (ix2 0 k) = (V m c main_v4 : FVec Ideal S1x1024 .f32) (ix2 0 k) := by
  unfold iblk
  rw [View.read_apply]
  show (V m c main_v4 : FVec Ideal S1x1024 .f32) ((win0_1.rect t).emb (ix2 0 k)) = _
  refine congrArg _ (funext fun a => Fin.ext ?_)
  rw [Pipeline.Window.rect_emb_val win0_1 t _ a]
  match a with
  | ⟨0, _⟩ => show win0_1.index t 0 * 1 + 0 = 0; rw [(idx1 t).1]; all_goals omega
  | ⟨1, _⟩ => show win0_1.index t 1 * 1024 + k.val = k.val; rw [(idx1 t).2]; all_goals omega

theorem blk2 (c : Dev nD) (t : Fin cfg0.N) (k : Fin 1024) (j : Fin 3072) :
    (iblk m c 2 t : Vec Ideal S1x1024x3072 .f32) (ix3 0 k j) = (m ((c : Thread nD τ).loc main_arg2) : FVec Ideal S2x1024x3072 .f32) (ix3 1 k j) := by
  unfold iblk
  rw [View.read_apply, ← V_main_arg2 m c]
  show (V m c main_arg2 : FVec Ideal S2x1024x3072 .f32) ((win0_2.rect t).emb (ix3 0 k j)) = _
  refine congrArg _ (funext fun a => Fin.ext ?_)
  rw [Pipeline.Window.rect_emb_val win0_2 t _ a]
  match a with
  | ⟨0, _⟩ => show win0_2.index t 0 * 1 + 0 = 1; rw [(idx2 t).1]; all_goals omega
  | ⟨1, _⟩ => show win0_2.index t 1 * 1024 + k.val = k.val; rw [(idx2 t).2.1]; all_goals omega
  | ⟨2, _⟩ => show win0_2.index t 2 * 3072 + j.val = j.val; rw [(idx2 t).2.2]; all_goals omega

theorem blk3 (c : Dev nD) (t : Fin cfg0.N) (q : Fin 3) (k : Fin 1024) :
    (iblk m c 3 t : Vec Ideal S3x1024 .f32) (ix2 q k) = (V m c main_v3 : FVec Ideal S3x1024 .f32) (ix2 q k) := by
  unfold iblk
  rw [View.read_apply]
  show (V m c main_v3 : FVec Ideal S3x1024 .f32) ((win0_3.rect t).emb (ix2 q k)) = _
  refine congrArg _ (funext fun a => Fin.ext ?_)
  rw [Pipeline.Window.rect_emb_val win0_3 t _ a]
  match a with
  | ⟨0, _⟩ => show win0_3.index t 0 * 3 + q.val = q.val; rw [(idx3 t).1]; all_goals omega
  | ⟨1, _⟩ => show win0_3.index t 1 * 1024 + k.val = k.val; rw [(idx3 t).2]; all_goals omega

theorem blk4 (c : Dev nD) (t : Fin cfg0.N) (k j : Fin 1024) :
    (iblk m c 4 t : Vec Ideal S1x1024x1024 .f32) (ix3 0 k j) = (m ((c : Thread nD τ).loc main_arg4) : FVec Ideal S2x1024x1024 .f32) (ix3 1 k j) := by
  unfold iblk
  rw [View.read_apply, ← V_main_arg4 m c]
  show (V m c main_arg4 : FVec Ideal S2x1024x1024 .f32) ((win0_4.rect t).emb (ix3 0 k j)) = _
  refine congrArg _ (funext fun a => Fin.ext ?_)
  rw [Pipeline.Window.rect_emb_val win0_4 t _ a]
  match a with
  | ⟨0, _⟩ => show win0_4.index t 0 * 1 + 0 = 1; rw [(idx4 t).1]; all_goals omega
  | ⟨1, _⟩ => show win0_4.index t 1 * 1024 + k.val = k.val; rw [(idx4 t).2.1]; all_goals omega
  | ⟨2, _⟩ => show win0_4.index t 2 * 1024 + j.val = j.val; rw [(idx4 t).2.2]; all_goals omega

/-- The sequence's rows, and the layer's weights, as functions. -/
abbrev xf (c : Dev nD) (b : Fin 2) : Fin 8192 → Fin 1024 → EReal := fun s k => (m ((c : Thread nD τ).loc main_arg0) : FVec Ideal S2x8192x1024 .f32) (ix3 b s k)
abbrev wf (c : Dev nD) : Fin 1024 → EReal := fun k => (m ((c : Thread nD τ).loc main_arg1) : FVec Ideal S4x1024 .f32) (ix2 3 k)
abbrev winf (c : Dev nD) : Fin 1024 → Fin 3072 → EReal := fun k j => (m ((c : Thread nD τ).loc main_arg2) : FVec Ideal S2x1024x3072 .f32) (ix3 1 k j)
abbrev dwf (c : Dev nD) : Fin 3 → Fin 1024 → EReal := fun q k => (m ((c : Thread nD τ).loc main_arg3) : FVec Ideal S2x3x1024 .f32) (ix3 1 q k)
abbrev wof (c : Dev nD) : Fin 1024 → Fin 1024 → EReal := fun k j => (m ((c : Thread nD τ).loc main_arg4) : FVec Ideal S2x1024x1024 .f32) (ix3 1 k j)

theorem row_eq (c : Dev nD) (t : Fin cfg0.N) (r : Fin 1024) : rowOf (iblk m c 0 t) r = xf m c (seqOf t) (posOf t r) := funext fun k => blk0 m c t r k
theorem w_eq (c : Dev nD) (t : Fin cfg0.N) : wOf (iblk m c 1 t) = wf m c := funext fun k => (blk1 m c t k).trans (V_w m c k)
theorem win_eq (c : Dev nD) (t : Fin cfg0.N) : winOf (iblk m c 2 t) = winf m c := funext fun k => funext fun j => blk2 m c t k j
theorem dw_eq (c : Dev nD) (t : Fin cfg0.N) : (fun (q : Fin 3) (k : Fin 1024) => (iblk m c 3 t : Vec Ideal S3x1024 .f32) (ix2 q k)) = dwf m c := funext fun q => funext fun k => (blk3 m c t q k).trans (V_dw m c q k)

theorem cv_at (c : Dev nD) (t : Fin cfg0.N) (r k : Fin 1024) :
    cvOf (iblk m c 0 t) (iblk m c 1 t) (iblk m c 2 t) r k = convIn (normed (xf m c (seqOf t) (posOf t r)) (wf m c)) (winf m c) k := by
  unfold cvOf
  rw [row_eq, w_eq, win_eq]

/-- The eight rows a point starts from. -/
def haloAt (c : Dev nD) (t : Fin cfg0.N) : Vec Ideal S8x8x128 .f32 :=
  if t.val % 8 = 0 then k0_pay4 (F := Ideal)
  else k0_pay5 (F := Ideal) (View.ld (Val := Elt Ideal) (S := S8x1032x128) (e' := .f32) (outsAt0 m c (t.val - 1) (Nat.lt_of_le_of_lt (Nat.sub_le _ _) t.isLt)).2 (Rect.unit (s := S8x1032x128) ![0, 1024, 0] ![8, 8, 128] inb_S8x1032x128_S8x8x128_0_1024_0))

theorem outs_eq (c : Dev nD) (t : Fin cfg0.N) :
    outsAt0 m c t.val t.isLt = (outOf (iblk m c 0 t) (iblk m c 1 t) (iblk m c 2 t) (iblk m c 3 t) (iblk m c 4 t) (haloAt m c t),
      extOf (iblk m c 0 t) (iblk m c 1 t) (iblk m c 2 t) (haloAt m c t)) := by
  unfold haloAt
  by_cases h0 : t.val % 8 = 0
  · rw [if_pos h0, outsAt0_A m c t h0 (by omega), out_A, sout_A]
  · rw [if_neg h0, outsAt0_B m c t h0 (by omega), out_B, sout_B]

theorem pay4_apply (s n : Fin 8) (l : Fin 128) : k0_pay4 (F := Ideal) (ix3 s n l) = 0 := by
  unfold k0_pay4
  pointwise

theorem pay5_apply (y : Vec Ideal S8x1032x128 .f32) (s n : Fin 8) (l : Fin 128) :
    k0_pay5 (F := Ideal) (View.ld (Val := Elt Ideal) (S := S8x1032x128) (e' := .f32) y (Rect.unit (s := S8x1032x128) ![0, 1024, 0] ![8, 8, 128] inb_S8x1032x128_S8x8x128_0_1024_0)) (ix3 s n l)
      = y (ix3 s ⟨1024 + n.val, by omega⟩ l) := by
  unfold k0_pay5
  pointwise

/-- The carried scratch at `8 - d` rows below row `r` holds the products `d` rows back. -/
theorem ext_at (c : Dev nD) (t : Fin cfg0.N) (d : Nat) (hd : 1 ≤ d) (hd' : d ≤ 8) (s : Fin 8) (r : Fin 1024) (l : Fin 128) (n : Fin 1032) (hn : n.val = 8 - d + r.val)
    (k : Fin 1024) (hk : k.val = 128 * s.val + l.val) :
    extAt (iblk m c 0 t) (iblk m c 1 t) (iblk m c 2 t) (haloAt m c t) s n l = convBack (xf m c (seqOf t)) (wf m c) (winf m c) d (posOf t r) k := by
  have hp : (posOf t r).val = t.val % 8 * 1024 + r.val := rfl
  have ht := tlt t
  have hke : ∀ h, (⟨128 * s.val + l.val, h⟩ : Fin 1024) = k := fun h => Fin.ext hk.symm
  unfold extAt convBack
  by_cases h : n.val < 8
  · rw [dif_pos h]
    unfold haloAt
    by_cases h0 : t.val % 8 = 0
    · rw [if_pos h0, dif_pos (by omega)]
      exact pay4_apply _ _ _
    · rw [if_neg h0, dif_neg (by omega), pay5_apply]
      have ho := outs_eq m c ⟨t.val - 1, Nat.lt_of_le_of_lt (Nat.sub_le _ _) t.isLt⟩
      dsimp only at ho
      rw [ho]
      show extAt _ _ _ _ s ⟨1024 + n.val, _⟩ l = _
      unfold extAt
      rw [dif_neg (by show ¬ 1024 + n.val < 8; omega), cv_at, hke]
      have e1 : seqOf ⟨t.val - 1, Nat.lt_of_le_of_lt (Nat.sub_le _ _) t.isLt⟩ = seqOf t := Fin.ext (by show (t.val - 1) / 8 = t.val / 8; omega)
      rw [e1]
      congr 3
      exact Fin.ext (by show (t.val - 1) % 8 * 1024 + (1024 + n.val - 8) = t.val % 8 * 1024 + r.val - d; omega)
  · rw [dif_neg h, dif_neg (by omega), cv_at, hke]
    congr 3
    exact Fin.ext (by show t.val % 8 * 1024 + (n.val - 8) = t.val % 8 * 1024 + r.val - d; omega)

theorem gated_at (c : Dev nD) (t : Fin cfg0.N) (r k : Fin 1024) :
    gatedOf (iblk m c 0 t) (iblk m c 1 t) (iblk m c 2 t) (iblk m c 3 t) (haloAt m c t) (ix2 r k)
      = gatedAt (normed (xf m c (seqOf t) (posOf t r)) (wf m c)) (winf m c) (dwf m c) k (convBack (xf m c (seqOf t)) (wf m c) (winf m c) 2 (posOf t r) k)
          (convBack (xf m c (seqOf t)) (wf m c) (winf m c) 1 (posOf t r) k) (convIn (normed (xf m c (seqOf t) (posOf t r)) (wf m c)) (winf m c) k) := by
  unfold gatedOf
  show gatedAt (normed (rowOf (iblk m c 0 t) r) (wOf (iblk m c 1 t))) (winOf (iblk m c 2 t)) _ k (extAt _ _ _ _ ⟨k.val / 128, _⟩ ⟨6 + r.val, _⟩ ⟨k.val % 128, _⟩)
    (extAt _ _ _ _ ⟨k.val / 128, _⟩ ⟨7 + r.val, _⟩ ⟨k.val % 128, _⟩) (cvOf _ _ _ r k) = _
  rw [ext_at m c t 2 (by omega) (by omega) _ r _ _ (by show 6 + r.val = 8 - 2 + r.val; omega) k (by show k.val = 128 * (k.val / 128) + k.val % 128; omega),
    ext_at m c t 1 (by omega) (by omega) _ r _ _ (by show 7 + r.val = 8 - 1 + r.val; omega) k (by show k.val = 128 * (k.val / 128) + k.val % 128; omega),
    cv_at, row_eq, w_eq, win_eq, dw_eq]

theorem outOf_apply (x0 : Vec Ideal S1x1024x1024 .f32) (x1 : Vec Ideal S1x1024 .f32) (x2 : Vec Ideal S1x1024x3072 .f32) (x3 : Vec Ideal S3x1024 .f32)
    (x4 : Vec Ideal S1x1024x1024 .f32) (hp : Vec Ideal S8x8x128 .f32) (r j : Fin 1024) :
    outOf x0 x1 x2 x3 x4 hp (ix3 0 r j) = x0 (ix3 0 r j) + ∑ k, gatedOf x0 x1 x2 x3 hp (ix2 r k) * x4 (ix3 0 k j) := rfl

theorem point_apply (c : Dev nD) (t : Fin cfg0.N) (r j : Fin 1024) :
    (outsAt0 m c t.val t.isLt).1 (ix3 0 r j)
      = result (m ((c : Thread nD τ).loc main_arg0)) (m ((c : Thread nD τ).loc main_arg1)) (m ((c : Thread nD τ).loc main_arg2)) (m ((c : Thread nD τ).loc main_arg3)) (m ((c : Thread nD τ).loc main_arg4))
          (ix3 (seqOf t) (posOf t r) j) := by
  rw [outs_eq]
  refine (outOf_apply _ _ _ _ _ _ r j).trans ?_
  simp only [gated_at, blk0, blk4]
  rfl

theorem emb5 (t : Fin cfg0.N) (r j : Fin 1024) :
    ((cfg0.win 5).blk t).view.emb (ix3 0 r j) = (ix3 (seqOf t) (posOf t r) j : S2x8192x1024.Idx) := by
  show (win0_5.rect t).emb (ix3 0 r j) = _
  refine funext fun a => Fin.ext ?_
  rw [Pipeline.Window.rect_emb_val win0_5 t _ a]
  match a with
  | ⟨0, _⟩ => show win0_5.index t 0 * 1 + 0 = t.val / 8; rw [(idx5 t).1]; all_goals omega
  | ⟨1, _⟩ => show win0_5.index t 1 * 1024 + r.val = t.val % 8 * 1024 + r.val; rw [(idx5 t).2.1]
  | ⟨2, _⟩ => show win0_5.index t 2 * 1024 + j.val = j.val; rw [(idx5 t).2.2]; all_goals omega

theorem covers5 : (cfg0.win 5).Covers := by decide +kernel

/-- The result as the contents of the result array. -/
def G (c : Dev nD) : Buf (Elt Ideal) ((c : Thread nD τ).loc main_v5) :=
  result (m ((c : Thread nD τ).loc main_arg0)) (m ((c : Thread nD τ).loc main_arg1)) (m ((c : Thread nD τ).loc main_arg2)) (m ((c : Thread nD τ).loc main_arg3)) (m ((c : Thread nD τ).loc main_arg4))

theorem flushed_eq (c : Dev nD) (t : Fin cfg0.N) :
    (dats m 0 c).flushed 5 t = ((cfg0.win 5).blk t).view.read (Elt Ideal) (G m c) := by
  rw [Value.flushed5]
  funext y
  obtain ⟨r, j, rfl⟩ := ix_block y
  rw [View.read_apply, emb5]
  exact point_apply m c t r j

theorem final (c : Dev nD) : (dats m 0 c).arrAt 5 cfg0.N = G m c :=
  (dats m 0 c).arrAt_eq_of_cover 5 (G m c) (fun t _ => flushed_eq m c t) (covers5.cover _ (Memref.isWhole_whole _))

end Cert.KernelIdeal.Block

end
-- ==== Proof.ConvRef.lean ====
/- The convolution layer's reference, read at an index: the same row function. -/
module

public import proofs.«01_k».proof.Proof.Layer
public import proofs.«01_k».proof.Proof.Gen.ReferenceIdeal.Read

@[expose] public section

set_option maxRecDepth 65536

noncomputable section

namespace Cert.ReferenceIdeal.RowValue

open Cert.ReferenceIdeal Cert.ReferenceIdeal.Gen Cert.ReferenceIdeal.Read Cert.Layer Idealize.ShloMosaic Idealize.ShloMosaic.TcCoe Idealize.SL.Sem

variable (x0 : FVec Ideal S2x8192x1024 .f32) (x1 : FVec Ideal S4x1024 .f32) (x2 : FVec Ideal S2x1024x3072 .f32) (x3 : FVec Ideal S2x3x1024 .f32) (x4 : FVec Ideal S2x1024x1024 .f32)

theorem h_apply (b : Fin 2) (s : Fin 8192) (k : Fin 1024) :
    val_main_v14 (F := Ideal) x0 x1 (ix3 b s k) = normed (fun k => x0 (ix3 b s k)) (fun k => x1 (ix2 3 k)) k := by
  unfold normed rowScale
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise

theorem in_apply (b : Fin 2) (s : Fin 8192) (c : Fin 3072) :
    val_main_v17 (F := Ideal) x0 x1 x2 (ix3 b s c) = ∑ k, normed (fun k => x0 (ix3 b s k)) (fun k => x1 (ix2 3 k)) k * x2 (ix3 1 k c) := by
  simp only [← h_apply]
  unfold val_main_v17 val_main_v16 val_main_v15
  pointwise

theorem cv_apply (b : Fin 2) (s : Fin 8192) (c : Fin 1024) :
    val_main_v21 (F := Ideal) x0 x1 x2 (ix3 b s c) = convIn (normed (fun k => x0 (ix3 b s k)) (fun k => x1 (ix2 3 k))) (fun k c => x2 (ix3 1 k c)) c := by
  unfold convIn
  simp only [← in_apply]
  unfold val_main_v21 val_main_v20 val_main_v19
  pointwise

theorem pad_apply (b : Fin 2) (s : Fin 8194) (c : Fin 1024) :
    val_main_v24 (F := Ideal) x0 x1 x2 (ix3 b s c) = if h : s.val < 2 then 0 else val_main_v21 (F := Ideal) x0 x1 x2 (ix3 b ⟨s.val - 2, by omega⟩ c) := by
  unfold val_main_v24 val_main_call0_v0 val_main_c
  pointwise
  have hz : (FloatOps.sitofp FTy.f32 0#32 : Ideal .f32) = (0 : EReal) := by
    show (((0#32 : BitVec 32).toInt : ℝ) : EReal) = 0
    simp
  rw [hz]
  by_cases h : s.val < 2
  · rw [dif_pos h, dif_neg (by omega)]
  · rw [dif_neg h, dif_pos ⟨by omega, by omega⟩]

theorem back_apply (b : Fin 2) (s : Fin 8192) (c : Fin 1024) (d : Nat) (hd : d ≤ 2) :
    val_main_v24 (F := Ideal) x0 x1 x2 (ix3 b ⟨2 - d + s.val, by omega⟩ c)
      = convBack (fun s k => x0 (ix3 b s k)) (fun k => x1 (ix2 3 k)) (fun k c => x2 (ix3 1 k c)) d s c := by
  rw [pad_apply]
  unfold convBack
  by_cases h : s.val < d
  · rw [dif_pos h, dif_pos (by show 2 - d + s.val < 2; omega)]
  · rw [dif_neg h, dif_neg (by show ¬ 2 - d + s.val < 2; omega), cv_apply]
    have he : ∀ h', (⟨2 - d + s.val - 2, h'⟩ : Fin 8192) = ⟨s.val - d, by omega⟩ := fun h' => Fin.ext (by show 2 - d + s.val - 2 = s.val - d; omega)
    simp only [he]

theorem back0_apply (b : Fin 2) (s : Fin 8192) (c : Fin 1024) :
    val_main_v38 (F := Ideal) x0 x1 x2 (ix3 b s c) = convIn (normed (fun k => x0 (ix3 b s k)) (fun k => x1 (ix2 3 k))) (fun k c => x2 (ix3 1 k c)) c := by
  refine Eq.trans ?_ ((back_apply x0 x1 x2 b s c 0 (by omega)).trans ?_)
  · unfold val_main_v38
    pointwise
  · unfold convBack
    rw [dif_neg (by omega)]
    rfl

theorem back1_apply (b : Fin 2) (s : Fin 8192) (c : Fin 1024) :
    val_main_v31 (F := Ideal) x0 x1 x2 (ix3 b s c) = convBack (fun s k => x0 (ix3 b s k)) (fun k => x1 (ix2 3 k)) (fun k c => x2 (ix3 1 k c)) 1 s c := by
  refine Eq.trans ?_ (back_apply x0 x1 x2 b s c 1 (by omega))
  unfold val_main_v31
  pointwise

theorem back2_apply (b : Fin 2) (s : Fin 8192) (c : Fin 1024) :
    val_main_v25 (F := Ideal) x0 x1 x2 (ix3 b s c) = convBack (fun s k => x0 (ix3 b s k)) (fun k => x1 (ix2 3 k)) (fun k c => x2 (ix3 1 k c)) 2 s c := by
  refine Eq.trans ?_ (back_apply x0 x1 x2 b s c 2 (by omega))
  unfold val_main_v25
  pointwise

theorem gated_apply (b : Fin 2) (s : Fin 8192) (c : Fin 1024) :
    val_main_v45 (F := Ideal) x0 x1 x2 x3 (ix3 b s c) = gatedAt (normed (fun k => x0 (ix3 b s k)) (fun k => x1 (ix2 3 k))) (fun k c => x2 (ix3 1 k c)) (fun q c => x3 (ix3 1 q c)) c
      (convBack (fun s k => x0 (ix3 b s k)) (fun k => x1 (ix2 3 k)) (fun k c => x2 (ix3 1 k c)) 2 s c)
      (convBack (fun s k => x0 (ix3 b s k)) (fun k => x1 (ix2 3 k)) (fun k c => x2 (ix3 1 k c)) 1 s c)
      (convIn (normed (fun k => x0 (ix3 b s k)) (fun k => x1 (ix2 3 k))) (fun k c => x2 (ix3 1 k c)) c) := by
  unfold gatedAt
  simp only [← back0_apply, ← back1_apply, ← back2_apply, ← in_apply]
  unfold val_main_v45 val_main_v44 val_main_v43 val_main_v42 val_main_v41 val_main_v40 val_main_v39 val_main_v37 val_main_v36 val_main_v35 val_main_v34 val_main_v33 val_main_v32 val_main_v30 val_main_v29 val_main_v28 val_main_v27 val_main_v26 val_main_v23 val_main_v22 val_main_v18
  pointwise

theorem out_apply (b : Fin 2) (s : Fin 8192) (j : Fin 1024) :
    val_main_v49 (F := Ideal) x0 x1 x2 x3 x4 (ix3 b s j)
      = convRow (fun s k => x0 (ix3 b s k)) (fun k => x1 (ix2 3 k)) (fun k c => x2 (ix3 1 k c)) (fun q c => x3 (ix3 1 q c)) (fun c k => x4 (ix3 1 c k)) s j := by
  unfold convRow
  simp only [← gated_apply]
  unfold val_main_v49 val_main_v48 val_main_v47 val_main_v46
  pointwise

end Cert.ReferenceIdeal.RowValue

end
-- ==== Proof.ConvPair.lean ====
/- The convolution layer: the kernel and the reference end with the same array. -/
module

public import proofs.«01_k».proof.Defs
public import proofs.«01_k».proof.Proof.ConvArray
public import proofs.«01_k».proof.Proof.ConvRef
public import proofs.«01_k».proof.Proof.Gen.ReferenceIdeal.Run

@[expose] public section

set_option maxRecDepth 65536

noncomputable section

namespace Cert.KernelIdeal.Pair

open Idealize.ShloMosaic Idealize.ShloMosaic.TcCoe Idealize.SL.Sem

theorem result_eq (a0 : FVec Ideal Cert.ReferenceIdeal.S2x8192x1024 .f32) (a1 : FVec Ideal Cert.ReferenceIdeal.S4x1024 .f32) (a2 : FVec Ideal Cert.ReferenceIdeal.S2x1024x3072 .f32)
    (a3 : FVec Ideal Cert.ReferenceIdeal.S2x3x1024 .f32) (a4 : FVec Ideal Cert.ReferenceIdeal.S2x1024x1024 .f32) :
    Cert.ReferenceIdeal.Read.val_main_v49 (F := Ideal) a0 a1 a2 a3 a4 = Cert.KernelIdeal.Block.result a0 a1 a2 a3 a4 := by
  funext y
  obtain ⟨b, s, j, rfl⟩ : ∃ (b : Fin 2) (s : Fin 8192) (j : Fin 1024), y = ix3 b s j := ⟨y 0, y 1, y 2, ValueIdx.eq_ix3 y⟩
  exact Cert.ReferenceIdeal.RowValue.out_apply a0 a1 a2 a3 a4 b s j

theorem algebraic : Cert.algebraic_KernelIdeal_ReferenceIdeal (hKernelIdeal := Cert.KernelIdeal.Gen.facts) (hReferenceIdeal := Cert.ReferenceIdeal.Gen.facts) := by
  intro m g m' g' _ hag
  refine ⟨fun c => Cert.KernelIdeal.Block.G m c, ?_, ?_⟩
  · refine (θ_run _ _ _).mono (fun r h c => ?_) (Cert.KernelIdeal.Value.run_blocks m g)
    exact ⟨(h c).1.trans (Cert.KernelIdeal.Block.final m c), (h c).2⟩
  · refine (θ_run _ _ _).mono (fun r h c => ?_) (Cert.ReferenceIdeal.Value.run (F := Ideal) m' g')
    refine ⟨(h c).1.trans ((Cert.ReferenceIdeal.Read.val_main_v49_eq (F := Ideal) m' c).trans ?_), (h c).2⟩
    obtain ⟨h0, h1, h2, h3, h4⟩ := hag c
    rw [h0, h1, h2, h3, h4]
    exact result_eq _ _ _ _ _

end Cert.KernelIdeal.Pair

end
-- ==== Proof.FfnBlock.lean ====
/- What one grid point of the feed-forward kernel leaves in its output block: every row of the block is the feed-forward
   of the same row of the input block. The kernel computes the hidden units in eleven column chunks into a scratch and
   multiplies the whole scratch by the down weights. -/
module

public import proofs.«01_k».proof.Proof.Layer
public import proofs.«01_k».proof.Proof.Gen.Kernel2Ideal.Value

@[expose] public section

set_option maxRecDepth 65536

noncomputable section

namespace Cert.Kernel2Ideal.Block

open Cert.Kernel2Ideal Cert.Kernel2Ideal.Gen Cert.Layer Idealize.ShloMosaic Idealize.ShloMosaic.TcCoe Idealize.SL.Sem

/-- Row `r` of the input block. -/
abbrev rowOf (x0 : Vec Ideal S512x1024 .f32) (r : Fin 512) : Fin 1024 → EReal := fun k => x0 (ix2 r k)
/-- The norm's weights. -/
abbrev wOf (x1 : Vec Ideal S1x1024 .f32) : Fin 1024 → EReal := fun k => x1 (ix2 0 k)
/-- The gate and up weights. -/
abbrev guOf (x2 : Vec Ideal S1x1024x5632 .f32) : Fin 1024 → Fin 5632 → EReal := fun k c => x2 (ix3 0 k c)
/-- The down weights. -/
abbrev wdOf (x3 : Vec Ideal S1x2816x1024 .f32) : Fin 2816 → Fin 1024 → EReal := fun k c => x3 (ix3 0 k c)

theorem pay4_apply (x : Vec Ideal S512x1024 .f32) (w : Vec Ideal S1x1024 .f32) (r : Fin 512) (k : Fin 1024) :
    k0_pay4 (F := Ideal) x w (ix2 r k) = normed (rowOf x r) (wOf w) k := by
  unfold k0_pay4 k0_pay3 normed rowScale
  pointwise

/-- A chunk of 256 columns of the gate and up weights, at an index. -/
theorem ld_gu (x2 : Vec Ideal S1x1024x5632 .f32) (o : Nat) (ho : o + 256 ≤ 5632)
    (inb : ∀ a, (![0, 0, o] : Fin 3 → Nat) a + (![1, 1024, 256] : Fin 3 → Nat) a ≤ S1x1024x5632.size a) (k : Fin 1024) (c : Fin 256) :
    View.ld (Val := Elt Ideal) (S := S1x1024x5632) (e' := .f32) x2 (Rect.unit (s := S1x1024x5632) ![0, 0, o] ![1, 1024, 256] inb) (ix3 0 k c) = guOf x2 k ⟨o + c.val, by omega⟩ := by
  unfold View.ld guOf
  refine congrArg x2 (funext fun a => Fin.ext ?_)
  match a with
  | ⟨0, _⟩ => rfl
  | ⟨1, _⟩ => show 0 + 1 * k.val = k.val; omega
  | ⟨2, _⟩ => show o + 1 * c.val = o + c.val; omega

/-- The chunk of the scratch at column offset `o`, at an index. -/
theorem emb_a (o : Nat) (ho : o + 256 ≤ 2816)
    (inb : ∀ a, (![0, o] : Fin 2 → Nat) a + (![512, 256] : Fin 2 → Nat) a ≤ S512x2816.size a) (r : Fin 512) (c : Fin 256) :
    (Rect.unit (s := S512x2816) ![0, o] ![512, 256] inb).emb (ix2 r c) = (ix2 r ⟨o + c.val, by omega⟩ : S512x2816.Idx) := by
  funext a
  apply Fin.ext
  rw [Rect.emb_apply]
  match a with
  | ⟨0, _⟩ => show 0 + 1 * r.val = r.val; omega
  | ⟨1, _⟩ => show o + 1 * c.val = o + c.val; omega

/-- What the scratch holds: the hidden units of every row. -/
def hidden (x0 : Vec Ideal S512x1024 .f32) (x1 : Vec Ideal S1x1024 .f32) (x2 : Vec Ideal S1x1024x5632 .f32) : Vec Ideal S512x2816 .bf16 :=
  fun y => ffnAct (normed (rowOf x0 (y 0)) (wOf x1)) (guOf x2) (y 1)

theorem pay2_apply (x : Vec Ideal S512x1024 .f32) (a : Vec Ideal S512x2816 .bf16) (g : Vec Ideal S1x2816x1024 .f32) (r : Fin 512) (k : Fin 1024) :
    k0_pay2 (F := Ideal) (k0_pay3 x) a g (ix2 r k) = x (ix2 r k) + ∑ c, a (ix2 r c) * g (ix3 0 c k) := by
  unfold k0_pay2 k0_pay3
  pointwise

/-- The chunk's values: `silu (h · gate) * (h · up)` at the chunk's columns. -/
theorem chunk (x0 : Vec Ideal S512x1024 .f32) (x1 : Vec Ideal S1x1024 .f32) (x2 : Vec Ideal S1x1024x5632 .f32) (o o' : Nat) (ho : o + 256 ≤ 2816) (ho' : o' = o + 2816)
    (inb : ∀ a, (![0, 0, o] : Fin 3 → Nat) a + (![1, 1024, 256] : Fin 3 → Nat) a ≤ S1x1024x5632.size a)
    (inb' : ∀ a, (![0, 0, o'] : Fin 3 → Nat) a + (![1, 1024, 256] : Fin 3 → Nat) a ≤ S1x1024x5632.size a)
    (inba : ∀ a, (![0, o] : Fin 2 → Nat) a + (![512, 256] : Fin 2 → Nat) a ≤ S512x2816.size a)
    (v : S512x256.Idx → EReal)
    (hv : ∀ (r : Fin 512) (c : Fin 256), v (ix2 r c) =
      (∑ k, k0_pay4 x0 x1 (ix2 r k) * View.ld (Val := Elt Ideal) (S := S1x1024x5632) (e' := .f32) x2 (Rect.unit (s := S1x1024x5632) ![0, 0, o] ![1, 1024, 256] inb) (ix3 0 k c))
        * Ideal.logistic (∑ k, k0_pay4 x0 x1 (ix2 r k) * View.ld (Val := Elt Ideal) (S := S1x1024x5632) (e' := .f32) x2 (Rect.unit (s := S1x1024x5632) ![0, 0, o] ![1, 1024, 256] inb) (ix3 0 k c))
        * ∑ k, k0_pay4 x0 x1 (ix2 r k) * View.ld (Val := Elt Ideal) (S := S1x1024x5632) (e' := .f32) x2 (Rect.unit (s := S1x1024x5632) ![0, 0, o'] ![1, 1024, 256] inb') (ix3 0 k c))
    (y : S512x256.Idx) :
    v y = hidden x0 x1 x2 ((Rect.unit (s := S512x2816) ![0, o] ![512, 256] inba).emb y) := by
  subst ho'
  obtain ⟨r, c, rfl⟩ : ∃ (r : Fin 512) (c : Fin 256), y = ix2 r c := ⟨y 0, y 1, ValueIdx.eq_ix2 y⟩
  rw [hv, emb_a o ho]
  simp only [ld_gu x2 o (by omega), ld_gu x2 (o + 2816) (by omega), pay4_apply]
  unfold hidden ffnAct
  have h1 : ∀ h : o + 2816 + c.val < 5632, (⟨o + 2816 + c.val, h⟩ : Fin 5632) = ⟨2816 + (o + c.val), by omega⟩ := fun h => Fin.ext (by show o + 2816 + c.val = 2816 + (o + c.val); omega)
  simp only [h1]
  rfl

theorem out_A (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1x1024x5632 .f32) (harg3 : arg3.IsWhole) (arg4 : Memref sig .tc .vmem S1x2816x1024 .f32) (harg4 : arg4.IsWhole) (arg5 : Memref sig .tc .vmem S512x1024 .f32) (harg5 : arg5.IsWhole) (arg6 : Memref sig .tc .vmem S512x2816 .bf16) (harg6 : arg6.IsWhole)
    (x0 : Vec Ideal S512x1024 .f32) (x1 : Vec Ideal S1x1024 .f32) (x2 : Vec Ideal S1x1024x5632 .f32) (x3 : Vec Ideal S1x2816x1024 .f32) :
    out0_A_4 c i arg1 harg1 arg2 harg2 arg3 harg3 arg4 harg4 arg5 harg5 arg6 harg6 x0 x1 x2 x3
      = fun y => ffnRow (rowOf x0 (y 0)) (wOf x1) (guOf x2) (wdOf x3) (y 1) := by
  have hz2 : (![0, 0] : Fin 2 → Nat) = fun _ => 0 := by funext a; fin_cases a <;> rfl
  have hz3 : (![0, 0, 0] : Fin 3 → Nat) = fun _ => 0 := by funext a; fin_cases a <;> rfl
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_unit_zero hz2]
  simp only [View.readAt_eq_ld, harg1.read_unread, harg2.read_unread, harg3.read_unread, harg4.read_unread, View.ld_unit_zero (S := S512x1024) hz2, View.ld_unit_zero (S := S1x1024) hz2, View.ld_unit_zero (S := S1x2816x1024) hz3]
  rw [View.readCov_eq_canon']
  funext y
  obtain ⟨r, j, rfl⟩ : ∃ (r : Fin 512) (j : Fin 1024), y = ix2 r j := ⟨y 0, y 1, ValueIdx.eq_ix2 y⟩
  rw [pay2_apply]
  unfold ffnRow
  refine congrArg _ (Finset.sum_congr rfl fun q _ => congrArg (· * _) ?_)
  have hid : ((Rect.unit (s := S512x2816) ![0, 0] S512x2816.size inb_S512x2816_S512x2816_0_0).toLoadRect.idx (ix2 r q) : S512x2816.Idx) = ix2 r q := by
    funext a; apply Fin.ext
    match a with
    | ⟨0, _⟩ => show 0 + 1 * r.val = r.val; omega
    | ⟨1, _⟩ => show 0 + 1 * q.val = q.val; omega
  refine (congrArg _ hid).trans ?_
  refine (View.canon_apply_of_pieces (hidden x0 x1 x2) _ ?_ (ix2 r q) ?_).trans rfl
  · intro p hp
    simp only [List.mem_cons, List.not_mem_nil, or_false] at hp
    rcases hp with rfl | rfl | rfl | rfl | rfl | rfl | rfl | rfl | rfl | rfl | rfl
    · refine chunk x0 x1 x2 2560 5376 (by omega) rfl inb_S1x1024x5632_S1x1024x256_0_0_2560 inb_S1x1024x5632_S1x1024x256_0_0_5376 inb_S512x2816_S512x256_0_2560 _ fun r c => ?_
      unfold k0_pay1 k0_pay20 k0_pay21
      pointwise
    · refine chunk x0 x1 x2 2304 5120 (by omega) rfl inb_S1x1024x5632_S1x1024x256_0_0_2304 inb_S1x1024x5632_S1x1024x256_0_0_5120 inb_S512x2816_S512x256_0_2304 _ fun r c => ?_
      unfold k0_pay19
      pointwise
    · refine chunk x0 x1 x2 2048 4864 (by omega) rfl inb_S1x1024x5632_S1x1024x256_0_0_2048 inb_S1x1024x5632_S1x1024x256_0_0_4864 inb_S512x2816_S512x256_0_2048 _ fun r c => ?_
      unfold k0_pay18 k0_pay17
      pointwise
    · refine chunk x0 x1 x2 1792 4608 (by omega) rfl inb_S1x1024x5632_S1x1024x256_0_0_1792 inb_S1x1024x5632_S1x1024x256_0_0_4608 inb_S512x2816_S512x256_0_1792 _ fun r c => ?_
      unfold k0_pay16
      pointwise
    · refine chunk x0 x1 x2 1536 4352 (by omega) rfl inb_S1x1024x5632_S1x1024x256_0_0_1536 inb_S1x1024x5632_S1x1024x256_0_0_4352 inb_S512x2816_S512x256_0_1536 _ fun r c => ?_
      unfold k0_pay15
      pointwise
    · refine chunk x0 x1 x2 1280 4096 (by omega) rfl inb_S1x1024x5632_S1x1024x256_0_0_1280 inb_S1x1024x5632_S1x1024x256_0_0_4096 inb_S512x2816_S512x256_0_1280 _ fun r c => ?_
      unfold k0_pay14
      pointwise
    · refine chunk x0 x1 x2 1024 3840 (by omega) rfl inb_S1x1024x5632_S1x1024x256_0_0_1024 inb_S1x1024x5632_S1x1024x256_0_0_3840 inb_S512x2816_S512x256_0_1024 _ fun r c => ?_
      unfold k0_pay13
      pointwise
    · refine chunk x0 x1 x2 768 3584 (by omega) rfl inb_S1x1024x5632_S1x1024x256_0_0_768 inb_S1x1024x5632_S1x1024x256_0_0_3584 inb_S512x2816_S512x256_0_768 _ fun r c => ?_
      unfold k0_pay12 k0_pay11 k0_pay10 k0_pay9
      pointwise
    · refine chunk x0 x1 x2 512 3328 (by omega) rfl inb_S1x1024x5632_S1x1024x256_0_0_512 inb_S1x1024x5632_S1x1024x256_0_0_3328 inb_S512x2816_S512x256_0_512 _ fun r c => ?_
      unfold k0_pay8
      pointwise
    · refine chunk x0 x1 x2 256 3072 (by omega) rfl inb_S1x1024x5632_S1x1024x256_0_0_256 inb_S1x1024x5632_S1x1024x256_0_0_3072 inb_S512x2816_S512x256_0_256 _ fun r c => ?_
      unfold k0_pay7 k0_pay6
      pointwise
    · refine chunk x0 x1 x2 0 2816 (by omega) rfl inb_S1x1024x5632_S1x1024x256_0_0_0 inb_S1x1024x5632_S1x1024x256_0_0_2816 inb_S512x2816_S512x256_0_0 _ fun r c => ?_
      unfold k0_pay5
      pointwise
  · exact View.cover_of_tiledL (s := S512x2816) _ S512x256.size (by sl_kernel_rfl) _

end Cert.Kernel2Ideal.Block

end
-- ==== Proof.FfnArray.lean ====
/- The feed-forward kernel's result array: every row is the feed-forward of the same row of the layer's input. Grid point
   `t` reads rows `512 t … 512 t + 511` and writes the same rows of the result. -/
module

public import proofs.«01_k».proof.Proof.FfnBlock
public import Idealize.ShloMosaic.Lib.Pipeline.ValueKit.Geometry

@[expose] public section

set_option maxRecDepth 65536

noncomputable section

namespace Cert.Kernel2Ideal.Block

open Cert.Kernel2Ideal Cert.Kernel2Ideal.Gen Cert.Layer Idealize.ShloMosaic Idealize.ShloMosaic.TcCoe Idealize.SL.Sem

variable (m : (ℓ : Loc nD τ sig) → Buf (Elt Ideal) ℓ) (ρ : Dev nD → PrngReg)

/-- The result as one function of the four arguments, read at a row of the flattened input. -/
def result (a0 : FVec Ideal S2x8192x1024 .f32) (a1 : FVec Ideal S4x1024 .f32) (a2 : FVec Ideal S4x1024x5632 .f32)
    (a3 : FVec Ideal S4x2816x1024 .f32) : FVec Ideal S16384x1024 .f32 := fun y =>
  ffnRow (fun k => shapeCast S16384x1024 a0 shapeCasts_S2x8192x1024_S16384x1024 (ix2 (y 0) k)) (fun k => a1 (ix2 3 k))
    (fun k c => a2 (ix3 3 k c)) (fun c k => a3 (ix3 3 c k)) (y 1)

theorem V_x (c : Dev nD) : V m c main_v0
    = (shapeCast S16384x1024 (m ((c : Thread nD τ).loc main_arg0) : FVec Ideal S2x8192x1024 .f32) shapeCasts_S2x8192x1024_S16384x1024 : FVec Ideal S16384x1024 .f32) := by
  show StableHlo.after hostOps0 _ (Proc.devRef .tc main_v0) = _
  after_results
  rfl

theorem V_w (c : Dev nD) (k : Fin 1024) : (V m c main_v3 : FVec Ideal S1x1024 .f32) (ix2 0 k)
    = (m ((c : Thread nD τ).loc main_arg1) : FVec Ideal S4x1024 .f32) (ix2 3 k) := by
  have h : (V m c main_v3 : FVec Ideal S1x1024 .f32) = broadcastInDim S1x1024 ![1] bcast_S1024_S1x1024_1
      (shapeCast S1024 (extractStridedSlice S1x1024 ![3, 0] (m ((c : Thread nD τ).loc main_arg1) : FVec Ideal S4x1024 .f32) slices_S4x1024_S1x1024_3_0) shapeCasts_S1x1024_S1024) := by
    show StableHlo.after hostOps0 _ (Proc.devRef .tc main_v3) = _
    after_results
    rfl
  rw [h]
  pointwise

theorem idx0 : ∀ t : Fin cfg0.N, win0_0.index t 0 = t.val ∧ win0_0.index t 1 = 0 := by
  show ∀ t : Fin grid0.N, _
  decide +kernel
theorem idx1 : ∀ t : Fin cfg0.N, win0_1.index t 0 = 0 ∧ win0_1.index t 1 = 0 := by
  show ∀ t : Fin grid0.N, _
  decide +kernel
theorem idx2 : ∀ t : Fin cfg0.N, win0_2.index t 0 = 3 ∧ win0_2.index t 1 = 0 ∧ win0_2.index t 2 = 0 := by
  show ∀ t : Fin grid0.N, _
  decide +kernel
theorem idx3 : ∀ t : Fin cfg0.N, win0_3.index t 0 = 3 ∧ win0_3.index t 1 = 0 ∧ win0_3.index t 2 = 0 := by
  show ∀ t : Fin grid0.N, _
  decide +kernel
theorem idx4 : ∀ t : Fin cfg0.N, win0_4.index t 0 = t.val ∧ win0_4.index t 1 = 0 := by
  show ∀ t : Fin grid0.N, _
  decide +kernel

theorem tlt (t : Fin cfg0.N) : t.val < 32 := t.isLt

theorem blk0 (c : Dev nD) (t : Fin cfg0.N) (r : Fin 512) (k : Fin 1024) :
    (iblk m c 0 t : Vec Ideal S512x1024 .f32) (ix2 r k) = (V m c main_v0 : FVec Ideal S16384x1024 .f32) (ix2 ⟨t.val * 512 + r.val, by have := tlt t; omega⟩ k) := by
  unfold iblk
  rw [View.read_apply]
  show (V m c main_v0 : FVec Ideal S16384x1024 .f32) ((win0_0.rect t).emb (ix2 r k)) = _
  refine congrArg _ (funext fun a => Fin.ext ?_)
  rw [Pipeline.Window.rect_emb_val win0_0 t _ a]
  match a with
  | ⟨0, _⟩ => show win0_0.index t 0 * 512 + r.val = t.val * 512 + r.val; rw [(idx0 t).1]
  | ⟨1, _⟩ => show win0_0.index t 1 * 1024 + k.val = k.val; rw [(idx0 t).2]; omega

theorem blk1 (c : Dev nD) (t : Fin cfg0.N) (k : Fin 1024) :
    (iblk m c 1 t : Vec Ideal S1x1024 .f32) (ix2 0 k) = (V m c main_v3 : FVec Ideal S1x1024 .f32) (ix2 0 k) := by
  unfold iblk
  rw [View.read_apply]
  show (V m c main_v3 : FVec Ideal S1x1024 .f32) ((win0_1.rect t).emb (ix2 0 k)) = _
  refine congrArg _ (funext fun a => Fin.ext ?_)
  rw [Pipeline.Window.rect_emb_val win0_1 t _ a]
  match a with
  | ⟨0, _⟩ => show win0_1.index t 0 * 1 + 0 = 0; rw [(idx1 t).1]
  | ⟨1, _⟩ => show win0_1.index t 1 * 1024 + k.val = k.val; rw [(idx1 t).2]; omega

theorem blk2 (c : Dev nD) (t : Fin cfg0.N) (k : Fin 1024) (j : Fin 5632) :
    (iblk m c 2 t : Vec Ideal S1x1024x5632 .f32) (ix3 0 k j) = (m ((c : Thread nD τ).loc main_arg2) : FVec Ideal S4x1024x5632 .f32) (ix3 3 k j) := by
  unfold iblk
  rw [View.read_apply, ← V_main_arg2 m c]
  show (V m c main_arg2 : FVec Ideal S4x1024x5632 .f32) ((win0_2.rect t).emb (ix3 0 k j)) = _
  refine congrArg _ (funext fun a => Fin.ext ?_)
  rw [Pipeline.Window.rect_emb_val win0_2 t _ a]
  match a with
  | ⟨0, _⟩ => show win0_2.index t 0 * 1 + 0 = 3; rw [(idx2 t).1]
  | ⟨1, _⟩ => show win0_2.index t 1 * 1024 + k.val = k.val; rw [(idx2 t).2.1]; omega
  | ⟨2, _⟩ => show win0_2.index t 2 * 5632 + j.val = j.val; rw [(idx2 t).2.2]; omega

theorem blk3 (c : Dev nD) (t : Fin cfg0.N) (k : Fin 2816) (j : Fin 1024) :
    (iblk m c 3 t : Vec Ideal S1x2816x1024 .f32) (ix3 0 k j) = (m ((c : Thread nD τ).loc main_arg3) : FVec Ideal S4x2816x1024 .f32) (ix3 3 k j) := by
  unfold iblk
  rw [View.read_apply, ← V_main_arg3 m c]
  show (V m c main_arg3 : FVec Ideal S4x2816x1024 .f32) ((win0_3.rect t).emb (ix3 0 k j)) = _
  refine congrArg _ (funext fun a => Fin.ext ?_)
  rw [Pipeline.Window.rect_emb_val win0_3 t _ a]
  match a with
  | ⟨0, _⟩ => show win0_3.index t 0 * 1 + 0 = 3; rw [(idx3 t).1]
  | ⟨1, _⟩ => show win0_3.index t 1 * 2816 + k.val = k.val; rw [(idx3 t).2.1]; omega
  | ⟨2, _⟩ => show win0_3.index t 2 * 1024 + j.val = j.val; rw [(idx3 t).2.2]; omega

theorem point_apply (c : Dev nD) (t : Fin cfg0.N) (r : Fin 512) (j : Fin 1024) :
    (outsAt0 m c t : Vec Ideal S512x1024 .f32) (ix2 r j)
      = result (m ((c : Thread nD τ).loc main_arg0)) (m ((c : Thread nD τ).loc main_arg1)) (m ((c : Thread nD τ).loc main_arg2)) (m ((c : Thread nD τ).loc main_arg3))
          (ix2 ⟨t.val * 512 + r.val, by have := tlt t; omega⟩ j) := by
  unfold outsAt0
  rw [out_A]
  refine (show _ = ffnRow (rowOf (iblk m c 0 t) r) (wOf (iblk m c 1 t)) (guOf (iblk m c 2 t)) (wdOf (iblk m c 3 t)) j from rfl).trans ?_
  have h0 : rowOf (iblk m c 0 t) r = fun k => (V m c main_v0 : FVec Ideal S16384x1024 .f32) (ix2 ⟨t.val * 512 + r.val, by have := tlt t; omega⟩ k) := funext fun k => blk0 m c t r k
  have h1 : wOf (iblk m c 1 t) = fun k => (m ((c : Thread nD τ).loc main_arg1) : FVec Ideal S4x1024 .f32) (ix2 3 k) := funext fun k => (blk1 m c t k).trans (V_w m c k)
  have h2 : guOf (iblk m c 2 t) = fun k j => (m ((c : Thread nD τ).loc main_arg2) : FVec Ideal S4x1024x5632 .f32) (ix3 3 k j) := funext fun k => funext fun j => blk2 m c t k j
  have h3 : wdOf (iblk m c 3 t) = fun k j => (m ((c : Thread nD τ).loc main_arg3) : FVec Ideal S4x2816x1024 .f32) (ix3 3 k j) := funext fun k => funext fun j => blk3 m c t k j
  rw [h0, h1, h2, h3, V_x]
  rfl

theorem emb4 (t : Fin cfg0.N) (r : Fin 512) (j : Fin 1024) :
    ((cfg0.win 4).blk t).view.emb (ix2 r j) = (ix2 ⟨t.val * 512 + r.val, by have := tlt t; omega⟩ j : S16384x1024.Idx) := by
  show (win0_4.rect t).emb (ix2 r j) = _
  refine funext fun a => Fin.ext ?_
  rw [Pipeline.Window.rect_emb_val win0_4 t _ a]
  match a with
  | ⟨0, _⟩ => show win0_4.index t 0 * 512 + r.val = t.val * 512 + r.val; rw [(idx4 t).1]
  | ⟨1, _⟩ => show win0_4.index t 1 * 1024 + j.val = j.val; rw [(idx4 t).2]; omega

theorem covers4 : (cfg0.win 4).Covers := by decide +kernel

/-- The result as the contents of the result array. -/
def G (c : Dev nD) : Buf (Elt Ideal) ((c : Thread nD τ).loc main_v4) :=
  result (m ((c : Thread nD τ).loc main_arg0)) (m ((c : Thread nD τ).loc main_arg1)) (m ((c : Thread nD τ).loc main_arg2)) (m ((c : Thread nD τ).loc main_arg3))

theorem flushed_eq (c : Dev nD) (t : Fin cfg0.N) :
    (dats m 0 c).flushed 4 t = ((cfg0.win 4).blk t).view.read (Elt Ideal) (G m c) := by
  rw [Value.flushed4]
  funext y
  obtain ⟨r, j, rfl⟩ : ∃ (r : Fin 512) (j : Fin 1024), y = ix2 r j := ⟨y 0, y 1, ValueIdx.eq_ix2 y⟩
  rw [View.read_apply, emb4]
  exact point_apply m c t r j

theorem final (c : Dev nD) : (dats m 0 c).arrAt 4 cfg0.N = G m c :=
  (dats m 0 c).arrAt_eq_of_cover 4 (G m c) (fun t _ => flushed_eq m c t) (covers4.cover _ (Memref.isWhole_whole _))

end Cert.Kernel2Ideal.Block

end
-- ==== Proof.FfnRef.lean ====
/- The feed-forward's reference, read at an index: the same row function. -/
module

public import proofs.«01_k».proof.Proof.Layer
public import proofs.«01_k».proof.Proof.Gen.Reference2Ideal.Read

@[expose] public section

set_option maxRecDepth 65536

noncomputable section

namespace Cert.Reference2Ideal.RowValue

open Cert.Reference2Ideal Cert.Reference2Ideal.Gen Cert.Reference2Ideal.Read Cert.Layer Idealize.ShloMosaic Idealize.ShloMosaic.TcCoe Idealize.SL.Sem

theorem h_apply (x0 : FVec Ideal S2x8192x1024 .f32) (x1 : FVec Ideal S4x1024 .f32) (b : Fin 2) (s : Fin 8192) (k : Fin 1024) :
    val_main_v14 (F := Ideal) x0 x1 (ix3 b s k) = normed (fun k => x0 (ix3 b s k)) (fun k => x1 (ix2 3 k)) k := by
  unfold normed rowScale
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise

theorem gu_apply (x0 : FVec Ideal S2x8192x1024 .f32) (x1 : FVec Ideal S4x1024 .f32) (x2 : FVec Ideal S4x1024x5632 .f32) (b : Fin 2) (s : Fin 8192) (c : Fin 5632) :
    val_main_v17 (F := Ideal) x0 x1 x2 (ix3 b s c) = ∑ k, normed (fun k => x0 (ix3 b s k)) (fun k => x1 (ix2 3 k)) k * x2 (ix3 3 k c) := by
  simp only [← h_apply]
  unfold val_main_v17 val_main_v16 val_main_v15
  pointwise

theorem gate_apply (x0 : FVec Ideal S2x8192x1024 .f32) (x1 : FVec Ideal S4x1024 .f32) (x2 : FVec Ideal S4x1024x5632 .f32) (b : Fin 2) (s : Fin 8192) (c : Fin 2816) :
    val_main_v18 (F := Ideal) x0 x1 x2 (ix3 b s c) = val_main_v17 (F := Ideal) x0 x1 x2 (ix3 b s ⟨c.val, by omega⟩) := by
  unfold val_main_v18
  pointwise

theorem act_apply (x0 : FVec Ideal S2x8192x1024 .f32) (x1 : FVec Ideal S4x1024 .f32) (x2 : FVec Ideal S4x1024x5632 .f32) (b : Fin 2) (s : Fin 8192) (c : Fin 2816) :
    val_main_v21 (F := Ideal) x0 x1 x2 (ix3 b s c) = ffnAct (normed (fun k => x0 (ix3 b s k)) (fun k => x1 (ix2 3 k))) (fun k c => x2 (ix3 3 k c)) c := by
  unfold ffnAct
  simp only [← gu_apply]
  unfold val_main_v21 val_main_v20 val_main_v19 val_main_call0_v5 val_main_call0_v4 val_main_call0_v3 val_main_call0_v2 val_main_call0_v1 val_main_call0_v0 val_main_call0_cst val_main_call0_cst_0
  unfold Ideal.logistic
  pointwise [gate_apply]

theorem out_apply (x0 : FVec Ideal S2x8192x1024 .f32) (x1 : FVec Ideal S4x1024 .f32) (x2 : FVec Ideal S4x1024x5632 .f32) (x3 : FVec Ideal S4x2816x1024 .f32) (b : Fin 2) (s : Fin 8192) (j : Fin 1024) :
    val_main_v25 (F := Ideal) x0 x1 x2 x3 (ix3 b s j) = ffnRow (fun k => x0 (ix3 b s k)) (fun k => x1 (ix2 3 k)) (fun k c => x2 (ix3 3 k c)) (fun c k => x3 (ix3 3 c k)) j := by
  unfold ffnRow
  simp only [← act_apply]
  unfold val_main_v25 val_main_v24 val_main_v23 val_main_v22
  pointwise

end Cert.Reference2Ideal.RowValue

end
-- ==== Proof.FfnPair.lean ====
/- The feed-forward: the kernel and the reference end with the same array. -/
module

public import proofs.«01_k».proof.Defs
public import proofs.«01_k».proof.Proof.FfnArray
public import proofs.«01_k».proof.Proof.FfnRef
public import proofs.«01_k».proof.Proof.Gen.Reference2Ideal.Run

@[expose] public section

set_option maxRecDepth 65536

noncomputable section

namespace Cert.Kernel2Ideal.Pair

open Idealize.ShloMosaic Idealize.ShloMosaic.TcCoe Idealize.SL.Sem

theorem result_eq (a0 : FVec Ideal Cert.Reference2Ideal.S2x8192x1024 .f32) (a1 : FVec Ideal Cert.Reference2Ideal.S4x1024 .f32) (a2 : FVec Ideal Cert.Reference2Ideal.S4x1024x5632 .f32)
    (a3 : FVec Ideal Cert.Reference2Ideal.S4x2816x1024 .f32) :
    Cert.Reference2Ideal.Read.val_main_v26 (F := Ideal) a0 a1 a2 a3 = Cert.Kernel2Ideal.Block.result a0 a1 a2 a3 := by
  funext y
  obtain ⟨n, j, rfl⟩ : ∃ (n : Fin 16384) (j : Fin 1024), y = ix2 n j := ⟨y 0, y 1, ValueIdx.eq_ix2 y⟩
  show _ = Cert.Layer.ffnRow (fun k => shapeCast Cert.Kernel2Ideal.S16384x1024 a0 _ (ix2 n k)) _ _ _ j
  unfold Cert.Reference2Ideal.Read.val_main_v26
  pointwise [Cert.Reference2Ideal.RowValue.out_apply]

theorem algebraic : Cert.algebraic_Kernel2Ideal_Reference2Ideal (hKernel2Ideal := Cert.Kernel2Ideal.Gen.facts) (hReference2Ideal := Cert.Reference2Ideal.Gen.facts) := by
  intro m g m' g' _ hag
  refine ⟨fun c => Cert.Kernel2Ideal.Block.G m c, ?_, ?_⟩
  · refine (θ_run _ _ _).mono (fun r h c => ?_) (Cert.Kernel2Ideal.Value.run_blocks m g)
    exact ⟨(h c).1.trans (Cert.Kernel2Ideal.Block.final m c), (h c).2⟩
  · refine (θ_run _ _ _).mono (fun r h c => ?_) (Cert.Reference2Ideal.Value.run (F := Ideal) m' g')
    refine ⟨(h c).1.trans ((Cert.Reference2Ideal.Read.val_main_v26_eq (F := Ideal) m' c).trans ?_), (h c).2⟩
    obtain ⟨h0, h1, h2, h3⟩ := hag c
    rw [h0, h1, h2, h3]
    exact result_eq _ _ _ _

end Cert.Kernel2Ideal.Pair

end
-- ==== Proof.Ffn3Block.lean ====
/- What one grid point of the feed-forward kernel with the projection inside leaves in its output block: the row of the
   attention's output is projected and added to the row of the residual stream, and the feed-forward of that sum follows. -/
module

public import proofs.«01_k».proof.Proof.Layer
public import proofs.«01_k».proof.Proof.Gen.Kernel3Ideal.Value

@[expose] public section

set_option maxRecDepth 65536

noncomputable section

namespace Cert.Kernel3Ideal.Block

open Cert.Kernel3Ideal Cert.Kernel3Ideal.Gen Cert.Layer Idealize.ShloMosaic Idealize.ShloMosaic.TcCoe Idealize.SL.Sem

/-- Row `r` of the sum that the feed-forward runs over: the residual row and the projected row of the other mixer. -/
def rowOf (x0 : Vec Ideal S512x1024 .bf16) (x1 : Vec Ideal S1024x1024 .bf16) (x2 : Vec Ideal S512x1024 .f32) (r : Fin 512) : Fin 1024 → EReal :=
  fun k => x2 (ix2 r k) + ∑ c : Fin 1024, x0 (ix2 r c) * x1 (ix2 c k)
/-- The norm's weights. -/
abbrev wOf (x3 : Vec Ideal S1x1024 .f32) : Fin 1024 → EReal := fun k => x3 (ix2 0 k)
/-- The gate and up weights. -/
abbrev guOf (x4 : Vec Ideal S1x1024x5632 .f32) : Fin 1024 → Fin 5632 → EReal := fun k c => x4 (ix3 0 k c)
/-- The down weights. -/
abbrev wdOf (x5 : Vec Ideal S1x2816x1024 .f32) : Fin 2816 → Fin 1024 → EReal := fun k c => x5 (ix3 0 k c)

theorem pay3_apply (x2 : Vec Ideal S512x1024 .f32) (x0 : Vec Ideal S512x1024 .bf16) (x1 : Vec Ideal S1024x1024 .bf16) (r : Fin 512) (k : Fin 1024) :
    k0_pay3 (F := Ideal) x2 x0 x1 (ix2 r k) = rowOf x0 x1 x2 r k := by
  unfold k0_pay3 rowOf
  pointwise

theorem pay4_apply (x2 : Vec Ideal S512x1024 .f32) (x0 : Vec Ideal S512x1024 .bf16) (x1 : Vec Ideal S1024x1024 .bf16) (w : Vec Ideal S1x1024 .f32) (r : Fin 512) (k : Fin 1024) :
    k0_pay4 (F := Ideal) x2 x0 x1 w (ix2 r k) = normed (rowOf x0 x1 x2 r) (wOf w) k := by
  unfold normed rowScale
  simp only [← pay3_apply]
  unfold k0_pay4
  pointwise

/-- A chunk of 256 columns of the gate and up weights, at an index. -/
theorem ld_gu (x2 : Vec Ideal S1x1024x5632 .f32) (o : Nat) (ho : o + 256 ≤ 5632)
    (inb : ∀ a, (![0, 0, o] : Fin 3 → Nat) a + (![1, 1024, 256] : Fin 3 → Nat) a ≤ S1x1024x5632.size a) (k : Fin 1024) (c : Fin 256) :
    View.ld (Val := Elt Ideal) (S := S1x1024x5632) (e' := .f32) x2 (Rect.unit (s := S1x1024x5632) ![0, 0, o] ![1, 1024, 256] inb) (ix3 0 k c) = guOf x2 k ⟨o + c.val, by omega⟩ := by
  unfold View.ld guOf
  refine congrArg x2 (funext fun a => Fin.ext ?_)
  match a with
  | ⟨0, _⟩ => rfl
  | ⟨1, _⟩ => show 0 + 1 * k.val = k.val; omega
  | ⟨2, _⟩ => show o + 1 * c.val = o + c.val; omega

/-- The chunk of the scratch at column offset `o`, at an index. -/
theorem emb_a (o : Nat) (ho : o + 256 ≤ 2816)
    (inb : ∀ a, (![0, o] : Fin 2 → Nat) a + (![512, 256] : Fin 2 → Nat) a ≤ S512x2816.size a) (r : Fin 512) (c : Fin 256) :
    (Rect.unit (s := S512x2816) ![0, o] ![512, 256] inb).emb (ix2 r c) = (ix2 r ⟨o + c.val, by omega⟩ : S512x2816.Idx) := by
  funext a
  apply Fin.ext
  rw [Rect.emb_apply]
  match a with
  | ⟨0, _⟩ => show 0 + 1 * r.val = r.val; omega
  | ⟨1, _⟩ => show o + 1 * c.val = o + c.val; omega

/-- What the scratch holds: the hidden units of every row. -/
def hidden (x0 : Vec Ideal S512x1024 .bf16) (x1 : Vec Ideal S1024x1024 .bf16) (x2 : Vec Ideal S512x1024 .f32) (x3 : Vec Ideal S1x1024 .f32) (x4 : Vec Ideal S1x1024x5632 .f32) : Vec Ideal S512x2816 .bf16 :=
  fun y => ffnAct (normed (rowOf x0 x1 x2 (y 0)) (wOf x3)) (guOf x4) (y 1)

theorem pay2_apply (x : FVec Ideal S512x1024 .f32) (a : Vec Ideal S512x2816 .bf16) (g : Vec Ideal S1x2816x1024 .f32) (r : Fin 512) (k : Fin 1024) :
    k0_pay2 (F := Ideal) x a g (ix2 r k) = x (ix2 r k) + ∑ c, a (ix2 r c) * g (ix3 0 c k) := by
  unfold k0_pay2
  pointwise

/-- The chunk's values: `silu (h · gate) * (h · up)` at the chunk's columns. -/
theorem chunk (x0 : Vec Ideal S512x1024 .bf16) (x1 : Vec Ideal S1024x1024 .bf16) (x2 : Vec Ideal S512x1024 .f32) (x3 : Vec Ideal S1x1024 .f32) (x4 : Vec Ideal S1x1024x5632 .f32) (o o' : Nat) (ho : o + 256 ≤ 2816) (ho' : o' = o + 2816)
    (inb : ∀ a, (![0, 0, o] : Fin 3 → Nat) a + (![1, 1024, 256] : Fin 3 → Nat) a ≤ S1x1024x5632.size a)
    (inb' : ∀ a, (![0, 0, o'] : Fin 3 → Nat) a + (![1, 1024, 256] : Fin 3 → Nat) a ≤ S1x1024x5632.size a)
    (inba : ∀ a, (![0, o] : Fin 2 → Nat) a + (![512, 256] : Fin 2 → Nat) a ≤ S512x2816.size a)
    (v : S512x256.Idx → EReal)
    (hv : ∀ (r : Fin 512) (c : Fin 256), v (ix2 r c) =
      (∑ k, k0_pay4 x2 x0 x1 x3 (ix2 r k) * View.ld (Val := Elt Ideal) (S := S1x1024x5632) (e' := .f32) x4 (Rect.unit (s := S1x1024x5632) ![0, 0, o] ![1, 1024, 256] inb) (ix3 0 k c))
        * Ideal.logistic (∑ k, k0_pay4 x2 x0 x1 x3 (ix2 r k) * View.ld (Val := Elt Ideal) (S := S1x1024x5632) (e' := .f32) x4 (Rect.unit (s := S1x1024x5632) ![0, 0, o] ![1, 1024, 256] inb) (ix3 0 k c))
        * ∑ k, k0_pay4 x2 x0 x1 x3 (ix2 r k) * View.ld (Val := Elt Ideal) (S := S1x1024x5632) (e' := .f32) x4 (Rect.unit (s := S1x1024x5632) ![0, 0, o'] ![1, 1024, 256] inb') (ix3 0 k c))
    (y : S512x256.Idx) :
    v y = hidden x0 x1 x2 x3 x4 ((Rect.unit (s := S512x2816) ![0, o] ![512, 256] inba).emb y) := by
  subst ho'
  obtain ⟨r, c, rfl⟩ : ∃ (r : Fin 512) (c : Fin 256), y = ix2 r c := ⟨y 0, y 1, ValueIdx.eq_ix2 y⟩
  rw [hv, emb_a o ho]
  simp only [ld_gu x4 o (by omega), ld_gu x4 (o + 2816) (by omega), pay4_apply]
  unfold hidden ffnAct
  have h1 : ∀ h : o + 2816 + c.val < 5632, (⟨o + 2816 + c.val, h⟩ : Fin 5632) = ⟨2816 + (o + c.val), by omega⟩ := fun h => Fin.ext (by show o + 2816 + c.val = 2816 + (o + c.val); omega)
  simp only [h1]
  rfl

theorem out_A (c : Dev nD) (i : grid0.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024x5632 .f32) (harg5 : arg5.IsWhole) (arg6 : Memref sig .tc .vmem S1x2816x1024 .f32) (harg6 : arg6.IsWhole) (arg7 : Memref sig .tc .vmem S512x1024 .f32) (harg7 : arg7.IsWhole) (arg8 : Memref sig .tc .vmem S512x2816 .bf16) (harg8 : arg8.IsWhole)
    (x0 : Vec Ideal S512x1024 .bf16) (x1 : Vec Ideal S1024x1024 .bf16) (x2 : Vec Ideal S512x1024 .f32) (x3 : Vec Ideal S1x1024 .f32) (x4 : Vec Ideal S1x1024x5632 .f32) (x5 : Vec Ideal S1x2816x1024 .f32) :
    out0_A_6 c i arg1 harg1 arg2 harg2 arg3 harg3 arg4 harg4 arg5 harg5 arg6 harg6 arg7 harg7 arg8 harg8 x0 x1 x2 x3 x4 x5
      = fun y => ffnRow (rowOf x0 x1 x2 (y 0)) (wOf x3) (guOf x4) (wdOf x5) (y 1) := by
  have hz2 : (![0, 0] : Fin 2 → Nat) = fun _ => 0 := by funext a; fin_cases a <;> rfl
  have hz3 : (![0, 0, 0] : Fin 3 → Nat) = fun _ => 0 := by funext a; fin_cases a <;> rfl
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_words
  rw [View.canon_unit_zero hz2]
  simp only [View.readAt_eq_ld, harg1.read_unread, harg2.read_unread, harg3.read_unread, harg4.read_unread, harg5.read_unread, harg6.read_unread, View.ld_unit_zero (S := S512x1024) hz2, View.ld_unit_zero (S := S1024x1024) hz2, View.ld_unit_zero (S := S1x1024) hz2, View.ld_unit_zero (S := S1x2816x1024) hz3]
  rw [View.readCov_eq_canon']
  funext y
  obtain ⟨r, j, rfl⟩ : ∃ (r : Fin 512) (j : Fin 1024), y = ix2 r j := ⟨y 0, y 1, ValueIdx.eq_ix2 y⟩
  rw [pay2_apply, pay3_apply]
  unfold ffnRow
  refine congrArg _ (Finset.sum_congr rfl fun q _ => congrArg (· * _) ?_)
  have hid : ((Rect.unit (s := S512x2816) ![0, 0] S512x2816.size inb_S512x2816_S512x2816_0_0).toLoadRect.idx (ix2 r q) : S512x2816.Idx) = ix2 r q := by
    funext a; apply Fin.ext
    match a with
    | ⟨0, _⟩ => show 0 + 1 * r.val = r.val; omega
    | ⟨1, _⟩ => show 0 + 1 * q.val = q.val; omega
  refine (congrArg _ hid).trans ?_
  refine (View.canon_apply_of_pieces (hidden x0 x1 x2 x3 x4) _ ?_ (ix2 r q) ?_).trans rfl
  · intro p hp
    simp only [List.mem_cons, List.not_mem_nil, or_false] at hp
    rcases hp with rfl | rfl | rfl | rfl | rfl | rfl | rfl | rfl | rfl | rfl | rfl
    · refine chunk x0 x1 x2 x3 x4 2560 5376 (by omega) rfl inb_S1x1024x5632_S1x1024x256_0_0_2560 inb_S1x1024x5632_S1x1024x256_0_0_5376 inb_S512x2816_S512x256_0_2560 _ fun r c => ?_
      unfold k0_pay1
      pointwise
    · refine chunk x0 x1 x2 x3 x4 2304 5120 (by omega) rfl inb_S1x1024x5632_S1x1024x256_0_0_2304 inb_S1x1024x5632_S1x1024x256_0_0_5120 inb_S512x2816_S512x256_0_2304 _ fun r c => ?_
      unfold k0_pay19
      pointwise
    · refine chunk x0 x1 x2 x3 x4 2048 4864 (by omega) rfl inb_S1x1024x5632_S1x1024x256_0_0_2048 inb_S1x1024x5632_S1x1024x256_0_0_4864 inb_S512x2816_S512x256_0_2048 _ fun r c => ?_
      unfold k0_pay18
      pointwise
    · refine chunk x0 x1 x2 x3 x4 1792 4608 (by omega) rfl inb_S1x1024x5632_S1x1024x256_0_0_1792 inb_S1x1024x5632_S1x1024x256_0_0_4608 inb_S512x2816_S512x256_0_1792 _ fun r c => ?_
      unfold k0_pay17 k0_pay16
      pointwise
    · refine chunk x0 x1 x2 x3 x4 1536 4352 (by omega) rfl inb_S1x1024x5632_S1x1024x256_0_0_1536 inb_S1x1024x5632_S1x1024x256_0_0_4352 inb_S512x2816_S512x256_0_1536 _ fun r c => ?_
      unfold k0_pay15
      pointwise
    · refine chunk x0 x1 x2 x3 x4 1280 4096 (by omega) rfl inb_S1x1024x5632_S1x1024x256_0_0_1280 inb_S1x1024x5632_S1x1024x256_0_0_4096 inb_S512x2816_S512x256_0_1280 _ fun r c => ?_
      unfold k0_pay14 k0_pay13 k0_pay12
      pointwise
    · refine chunk x0 x1 x2 x3 x4 1024 3840 (by omega) rfl inb_S1x1024x5632_S1x1024x256_0_0_1024 inb_S1x1024x5632_S1x1024x256_0_0_3840 inb_S512x2816_S512x256_0_1024 _ fun r c => ?_
      unfold k0_pay11
      pointwise
    · refine chunk x0 x1 x2 x3 x4 768 3584 (by omega) rfl inb_S1x1024x5632_S1x1024x256_0_0_768 inb_S1x1024x5632_S1x1024x256_0_0_3584 inb_S512x2816_S512x256_0_768 _ fun r c => ?_
      unfold k0_pay10 k0_pay9
      pointwise
    · refine chunk x0 x1 x2 x3 x4 512 3328 (by omega) rfl inb_S1x1024x5632_S1x1024x256_0_0_512 inb_S1x1024x5632_S1x1024x256_0_0_3328 inb_S512x2816_S512x256_0_512 _ fun r c => ?_
      unfold k0_pay8
      pointwise
    · refine chunk x0 x1 x2 x3 x4 256 3072 (by omega) rfl inb_S1x1024x5632_S1x1024x256_0_0_256 inb_S1x1024x5632_S1x1024x256_0_0_3072 inb_S512x2816_S512x256_0_256 _ fun r c => ?_
      unfold k0_pay7
      pointwise
    · refine chunk x0 x1 x2 x3 x4 0 2816 (by omega) rfl inb_S1x1024x5632_S1x1024x256_0_0_0 inb_S1x1024x5632_S1x1024x256_0_0_2816 inb_S512x2816_S512x256_0_0 _ fun r c => ?_
      unfold k0_pay6 k0_pay5
      pointwise
  · exact View.cover_of_tiledL (s := S512x2816) _ S512x256.size (by sl_kernel_rfl) _

end Cert.Kernel3Ideal.Block

end
-- ==== Proof.Ffn3Array.lean ====
/- The result array of the feed-forward kernel with the projection inside: every row is the feed-forward of the projected and
   added row. Grid point `t` reads rows `512 t … 512 t + 511` and writes the same rows of the result. -/
module

public import proofs.«01_k».proof.Proof.Ffn3Block
public import Idealize.ShloMosaic.Lib.Pipeline.ValueKit.Geometry

@[expose] public section

set_option maxRecDepth 65536

noncomputable section

namespace Cert.Kernel3Ideal.Block

open Cert.Kernel3Ideal Cert.Kernel3Ideal.Gen Cert.Layer Idealize.ShloMosaic Idealize.ShloMosaic.TcCoe Idealize.SL.Sem

variable (m : (ℓ : Loc nD τ sig) → Buf (Elt Ideal) ℓ) (ρ : Dev nD → PrngReg)

/-- A row of the flattened stream with the projected row added. -/
def mixed (v0 : FVec Ideal S16384x1024 .f32) (v4 : FVec Ideal S16384x1024 .bf16) (a2 : FVec Ideal S1x1024x1024 .f32) (n : Fin 16384) (k : Fin 1024) : EReal :=
  v0 (ix2 n k) + ∑ c : Fin 1024, v4 (ix2 n c) * a2 (ix3 0 c k)

/-- The result as one function of the six arguments, read at a row of the flattened inputs. -/
def result (a0 : FVec Ideal S2x8192x1024 .bf16) (a1 : FVec Ideal S2x8192x1024 .f32) (a2 : FVec Ideal S1x1024x1024 .f32)
    (a3 : FVec Ideal S4x1024 .f32) (a4 : FVec Ideal S4x1024x5632 .f32) (a5 : FVec Ideal S4x2816x1024 .f32) : FVec Ideal S16384x1024 .f32 := fun y =>
  ffnRow (mixed (shapeCast S16384x1024 a1 shapeCasts_S2x8192x1024_S16384x1024) (shapeCast S16384x1024 a0 shapeCasts_S2x8192x1024_S16384x1024) a2 (y 0))
    (fun k => a3 (ix2 1 k)) (fun k c => a4 (ix3 1 k c)) (fun c k => a5 (ix3 1 c k)) (y 1)

theorem V_x (c : Dev nD) : V m c main_v0
    = (shapeCast S16384x1024 (m ((c : Thread nD τ).loc main_arg1) : FVec Ideal S2x8192x1024 .f32) shapeCasts_S2x8192x1024_S16384x1024 : FVec Ideal S16384x1024 .f32) := by
  show StableHlo.after hostOps0 _ (Proc.devRef .tc main_v0) = _
  after_results
  rfl

theorem V_y (c : Dev nD) : V m c main_v4
    = (shapeCast S16384x1024 (m ((c : Thread nD τ).loc main_arg0) : FVec Ideal S2x8192x1024 .bf16) shapeCasts_S2x8192x1024_S16384x1024 : FVec Ideal S16384x1024 .bf16) := by
  show StableHlo.after hostOps0 _ (Proc.devRef .tc main_v4) = _
  after_results
  rfl

theorem wo_apply (a : FVec Ideal S1x1024x1024 .f32) (j k : Fin 1024) :
    (truncf .bf16 (shapeCast S1024x1024 a shapeCasts_S1x1024x1024_S1024x1024 : FVec Ideal S1024x1024 .f32) bitsLt_bf16_f32 : FVec Ideal S1024x1024 .bf16) (ix2 j k) = a (ix3 0 j k) := by
  pointwise

theorem V_wo (c : Dev nD) (j k : Fin 1024) : (V m c main_v6 : FVec Ideal S1024x1024 .bf16) (ix2 j k)
    = (m ((c : Thread nD τ).loc main_arg2) : FVec Ideal S1x1024x1024 .f32) (ix3 0 j k) := by
  have h : (V m c main_v6 : FVec Ideal S1024x1024 .bf16)
      = (truncf .bf16 (shapeCast S1024x1024 (m ((c : Thread nD τ).loc main_arg2) : FVec Ideal S1x1024x1024 .f32) shapeCasts_S1x1024x1024_S1024x1024 : FVec Ideal S1024x1024 .f32) bitsLt_bf16_f32 : FVec Ideal S1024x1024 .bf16) := by
    show StableHlo.after hostOps0 _ (Proc.devRef .tc main_v6) = _
    after_results
    rfl
  rw [h]
  exact wo_apply _ j k

theorem V_w (c : Dev nD) (k : Fin 1024) : (V m c main_v3 : FVec Ideal S1x1024 .f32) (ix2 0 k)
    = (m ((c : Thread nD τ).loc main_arg3) : FVec Ideal S4x1024 .f32) (ix2 1 k) := by
  have h : (V m c main_v3 : FVec Ideal S1x1024 .f32) = broadcastInDim S1x1024 ![1] bcast_S1024_S1x1024_1
      (shapeCast S1024 (extractStridedSlice S1x1024 ![1, 0] (m ((c : Thread nD τ).loc main_arg3) : FVec Ideal S4x1024 .f32) slices_S4x1024_S1x1024_1_0) shapeCasts_S1x1024_S1024) := by
    show StableHlo.after hostOps0 _ (Proc.devRef .tc main_v3) = _
    after_results
    rfl
  rw [h]
  pointwise

theorem idx0 : ∀ t : Fin cfg0.N, win0_0.index t 0 = t.val ∧ win0_0.index t 1 = 0 := by
  show ∀ t : Fin grid0.N, _
  decide +kernel
theorem idx1 : ∀ t : Fin cfg0.N, win0_1.index t 0 = 0 ∧ win0_1.index t 1 = 0 := by
  show ∀ t : Fin grid0.N, _
  decide +kernel
theorem idx2 : ∀ t : Fin cfg0.N, win0_2.index t 0 = t.val ∧ win0_2.index t 1 = 0 := by
  show ∀ t : Fin grid0.N, _
  decide +kernel
theorem idx3 : ∀ t : Fin cfg0.N, win0_3.index t 0 = 0 ∧ win0_3.index t 1 = 0 := by
  show ∀ t : Fin grid0.N, _
  decide +kernel
theorem idx4 : ∀ t : Fin cfg0.N, win0_4.index t 0 = 1 ∧ win0_4.index t 1 = 0 ∧ win0_4.index t 2 = 0 := by
  show ∀ t : Fin grid0.N, _
  decide +kernel
theorem idx5 : ∀ t : Fin cfg0.N, win0_5.index t 0 = 1 ∧ win0_5.index t 1 = 0 ∧ win0_5.index t 2 = 0 := by
  show ∀ t : Fin grid0.N, _
  decide +kernel
theorem idx6 : ∀ t : Fin cfg0.N, win0_6.index t 0 = t.val ∧ win0_6.index t 1 = 0 := by
  show ∀ t : Fin grid0.N, _
  decide +kernel

theorem tlt (t : Fin cfg0.N) : t.val < 32 := t.isLt

theorem blk0 (c : Dev nD) (t : Fin cfg0.N) (r : Fin 512) (k : Fin 1024) :
    (iblk m c 0 t : Vec Ideal S512x1024 .bf16) (ix2 r k) = (V m c main_v4 : FVec Ideal S16384x1024 .bf16) (ix2 ⟨t.val * 512 + r.val, by have := tlt t; omega⟩ k) := by
  unfold iblk
  rw [View.read_apply]
  show (V m c main_v4 : FVec Ideal S16384x1024 .bf16) ((win0_0.rect t).emb (ix2 r k)) = _
  refine congrArg _ (funext fun a => Fin.ext ?_)
  rw [Pipeline.Window.rect_emb_val win0_0 t _ a]
  match a with
  | ⟨0, _⟩ => show win0_0.index t 0 * 512 + r.val = t.val * 512 + r.val; rw [(idx0 t).1]
  | ⟨1, _⟩ => show win0_0.index t 1 * 1024 + k.val = k.val; rw [(idx0 t).2]; omega

theorem blk2 (c : Dev nD) (t : Fin cfg0.N) (r : Fin 512) (k : Fin 1024) :
    (iblk m c 2 t : Vec Ideal S512x1024 .f32) (ix2 r k) = (V m c main_v0 : FVec Ideal S16384x1024 .f32) (ix2 ⟨t.val * 512 + r.val, by have := tlt t; omega⟩ k) := by
  unfold iblk
  rw [View.read_apply]
  show (V m c main_v0 : FVec Ideal S16384x1024 .f32) ((win0_2.rect t).emb (ix2 r k)) = _
  refine congrArg _ (funext fun a => Fin.ext ?_)
  rw [Pipeline.Window.rect_emb_val win0_2 t _ a]
  match a with
  | ⟨0, _⟩ => show win0_2.index t 0 * 512 + r.val = t.val * 512 + r.val; rw [(idx2 t).1]
  | ⟨1, _⟩ => show win0_2.index t 1 * 1024 + k.val = k.val; rw [(idx2 t).2]; omega

theorem blk1 (c : Dev nD) (t : Fin cfg0.N) (j k : Fin 1024) :
    (iblk m c 1 t : Vec Ideal S1024x1024 .bf16) (ix2 j k) = (V m c main_v6 : FVec Ideal S1024x1024 .bf16) (ix2 j k) := by
  unfold iblk
  rw [View.read_apply]
  show (V m c main_v6 : FVec Ideal S1024x1024 .bf16) ((win0_1.rect t).emb (ix2 j k)) = _
  refine congrArg _ (funext fun a => Fin.ext ?_)
  rw [Pipeline.Window.rect_emb_val win0_1 t _ a]
  match a with
  | ⟨0, _⟩ => show win0_1.index t 0 * 1024 + j.val = j.val; rw [(idx1 t).1]; omega
  | ⟨1, _⟩ => show win0_1.index t 1 * 1024 + k.val = k.val; rw [(idx1 t).2]; omega

theorem blk3 (c : Dev nD) (t : Fin cfg0.N) (k : Fin 1024) :
    (iblk m c 3 t : Vec Ideal S1x1024 .f32) (ix2 0 k) = (V m c main_v3 : FVec Ideal S1x1024 .f32) (ix2 0 k) := by
  unfold iblk
  rw [View.read_apply]
  show (V m c main_v3 : FVec Ideal S1x1024 .f32) ((win0_3.rect t).emb (ix2 0 k)) = _
  refine congrArg _ (funext fun a => Fin.ext ?_)
  rw [Pipeline.Window.rect_emb_val win0_3 t _ a]
  match a with
  | ⟨0, _⟩ => show win0_3.index t 0 * 1 + 0 = 0; rw [(idx3 t).1]
  | ⟨1, _⟩ => show win0_3.index t 1 * 1024 + k.val = k.val; rw [(idx3 t).2]; omega

theorem blk4 (c : Dev nD) (t : Fin cfg0.N) (k : Fin 1024) (j : Fin 5632) :
    (iblk m c 4 t : Vec Ideal S1x1024x5632 .f32) (ix3 0 k j) = (m ((c : Thread nD τ).loc main_arg4) : FVec Ideal S4x1024x5632 .f32) (ix3 1 k j) := by
  unfold iblk
  rw [View.read_apply, ← V_main_arg4 m c]
  show (V m c main_arg4 : FVec Ideal S4x1024x5632 .f32) ((win0_4.rect t).emb (ix3 0 k j)) = _
  refine congrArg _ (funext fun a => Fin.ext ?_)
  rw [Pipeline.Window.rect_emb_val win0_4 t _ a]
  match a with
  | ⟨0, _⟩ => show win0_4.index t 0 * 1 + 0 = 1; rw [(idx4 t).1]
  | ⟨1, _⟩ => show win0_4.index t 1 * 1024 + k.val = k.val; rw [(idx4 t).2.1]; omega
  | ⟨2, _⟩ => show win0_4.index t 2 * 5632 + j.val = j.val; rw [(idx4 t).2.2]; omega

theorem blk5 (c : Dev nD) (t : Fin cfg0.N) (k : Fin 2816) (j : Fin 1024) :
    (iblk m c 5 t : Vec Ideal S1x2816x1024 .f32) (ix3 0 k j) = (m ((c : Thread nD τ).loc main_arg5) : FVec Ideal S4x2816x1024 .f32) (ix3 1 k j) := by
  unfold iblk
  rw [View.read_apply, ← V_main_arg5 m c]
  show (V m c main_arg5 : FVec Ideal S4x2816x1024 .f32) ((win0_5.rect t).emb (ix3 0 k j)) = _
  refine congrArg _ (funext fun a => Fin.ext ?_)
  rw [Pipeline.Window.rect_emb_val win0_5 t _ a]
  match a with
  | ⟨0, _⟩ => show win0_5.index t 0 * 1 + 0 = 1; rw [(idx5 t).1]
  | ⟨1, _⟩ => show win0_5.index t 1 * 2816 + k.val = k.val; rw [(idx5 t).2.1]; omega
  | ⟨2, _⟩ => show win0_5.index t 2 * 1024 + j.val = j.val; rw [(idx5 t).2.2]; omega

theorem point_apply (c : Dev nD) (t : Fin cfg0.N) (r : Fin 512) (j : Fin 1024) :
    (outsAt0 m c t : Vec Ideal S512x1024 .f32) (ix2 r j)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
          (ix2 ⟨t.val * 512 + r.val, by have := tlt t; omega⟩ j) := by
  unfold outsAt0
  rw [out_A]
  refine (show _ = ffnRow (rowOf (iblk m c 0 t) (iblk m c 1 t) (iblk m c 2 t) r) (wOf (iblk m c 3 t)) (guOf (iblk m c 4 t)) (wdOf (iblk m c 5 t)) j from rfl).trans ?_
  have h0 : rowOf (iblk m c 0 t) (iblk m c 1 t) (iblk m c 2 t) r = mixed (V m c main_v0) (V m c main_v4) (m ((c : Thread nD τ).loc main_arg2)) ⟨t.val * 512 + r.val, by have := tlt t; omega⟩ := by
    funext k
    unfold rowOf mixed
    rw [blk2 m c t r k]
    refine congrArg _ (Finset.sum_congr rfl fun j _ => ?_)
    rw [blk0 m c t r j, blk1 m c t j k, V_wo m c j k]
  have h1 : wOf (iblk m c 3 t) = fun k => (m ((c : Thread nD τ).loc main_arg3) : FVec Ideal S4x1024 .f32) (ix2 1 k) := funext fun k => (blk3 m c t k).trans (V_w m c k)
  have h2 : guOf (iblk m c 4 t) = fun k j => (m ((c : Thread nD τ).loc main_arg4) : FVec Ideal S4x1024x5632 .f32) (ix3 1 k j) := funext fun k => funext fun j => blk4 m c t k j
  have h3 : wdOf (iblk m c 5 t) = fun k j => (m ((c : Thread nD τ).loc main_arg5) : FVec Ideal S4x2816x1024 .f32) (ix3 1 k j) := funext fun k => funext fun j => blk5 m c t k j
  rw [h0, h1, h2, h3, V_x, V_y]
  rfl

theorem emb6 (t : Fin cfg0.N) (r : Fin 512) (j : Fin 1024) :
    ((cfg0.win 6).blk t).view.emb (ix2 r j) = (ix2 ⟨t.val * 512 + r.val, by have := tlt t; omega⟩ j : S16384x1024.Idx) := by
  show (win0_6.rect t).emb (ix2 r j) = _
  refine funext fun a => Fin.ext ?_
  rw [Pipeline.Window.rect_emb_val win0_6 t _ a]
  match a with
  | ⟨0, _⟩ => show win0_6.index t 0 * 512 + r.val = t.val * 512 + r.val; rw [(idx6 t).1]
  | ⟨1, _⟩ => show win0_6.index t 1 * 1024 + j.val = j.val; rw [(idx6 t).2]; omega

theorem covers6 : (cfg0.win 6).Covers := by decide +kernel

/-- The result as the contents of the result array. -/
def G (c : Dev nD) : Buf (Elt Ideal) ((c : Thread nD τ).loc main_v7) :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem flushed_eq (c : Dev nD) (t : Fin cfg0.N) :
    (dats m 0 c).flushed 6 t = ((cfg0.win 6).blk t).view.read (Elt Ideal) (G m c) := by
  rw [Value.flushed6]
  funext y
  obtain ⟨r, j, rfl⟩ : ∃ (r : Fin 512) (j : Fin 1024), y = ix2 r j := ⟨y 0, y 1, ValueIdx.eq_ix2 y⟩
  rw [View.read_apply, emb6]
  exact point_apply m c t r j

theorem final (c : Dev nD) : (dats m 0 c).arrAt 6 cfg0.N = G m c :=
  (dats m 0 c).arrAt_eq_of_cover 6 (G m c) (fun t _ => flushed_eq m c t) (covers6.cover _ (Memref.isWhole_whole _))

end Cert.Kernel3Ideal.Block

end
-- ==== Proof.Ffn3Ref.lean ====
/- The reference of the feed-forward with the projection, read at an index: the same row function. -/
module

public import proofs.«01_k».proof.Proof.Layer
public import proofs.«01_k».proof.Proof.Gen.Reference3Ideal.Read

@[expose] public section

set_option maxRecDepth 65536

noncomputable section

namespace Cert.Reference3Ideal.RowValue

open Cert.Reference3Ideal Cert.Reference3Ideal.Gen Cert.Reference3Ideal.Read Cert.Layer Idealize.ShloMosaic Idealize.ShloMosaic.TcCoe Idealize.SL.Sem

/-- The row of the residual stream with the projected row added. -/
def mixedRow (x0 : FVec Ideal S2x8192x1024 .bf16) (x1 : FVec Ideal S2x8192x1024 .f32) (x2 : FVec Ideal S1x1024x1024 .f32) (b : Fin 2) (s : Fin 8192) (k : Fin 1024) : EReal :=
  x1 (ix3 b s k) + ∑ c : Fin 1024, x0 (ix3 b s c) * x2 (ix3 0 c k)

theorem x_apply (x0 : FVec Ideal S2x8192x1024 .bf16) (x1 : FVec Ideal S2x8192x1024 .f32) (x2 : FVec Ideal S1x1024x1024 .f32) (b : Fin 2) (s : Fin 8192) (k : Fin 1024) :
    val_main_v3 (F := Ideal) x0 x1 x2 (ix3 b s k) = mixedRow x0 x1 x2 b s k := by
  unfold mixedRow
  unfold val_main_v3 val_main_v2 val_main_v1 val_main_v0
  pointwise

theorem h_apply (x0 : FVec Ideal S2x8192x1024 .bf16) (x1 : FVec Ideal S2x8192x1024 .f32) (x2 : FVec Ideal S1x1024x1024 .f32) (x3 : FVec Ideal S4x1024 .f32) (b : Fin 2) (s : Fin 8192) (k : Fin 1024) :
    val_main_v18 (F := Ideal) x0 x1 x2 x3 (ix3 b s k) = normed (mixedRow x0 x1 x2 b s) (fun k => x3 (ix2 1 k)) k := by
  unfold normed rowScale
  simp only [← x_apply]
  unfold val_main_v18 val_main_v17 val_main_v16 val_main_v15 val_main_v14 val_main_v13 val_main_v12 val_main_v11 val_main_v10 val_main_v9 val_main_v8 val_main_v7 val_main_v6 val_main_v5 val_main_v4 val_main_cst val_main_cst_0 val_main_cst_1
  pointwise

theorem gu_apply (x0 : FVec Ideal S2x8192x1024 .bf16) (x1 : FVec Ideal S2x8192x1024 .f32) (x2 : FVec Ideal S1x1024x1024 .f32) (x3 : FVec Ideal S4x1024 .f32) (x4 : FVec Ideal S4x1024x5632 .f32) (b : Fin 2) (s : Fin 8192) (c : Fin 5632) :
    val_main_v21 (F := Ideal) x0 x1 x2 x3 x4 (ix3 b s c) = ∑ k, normed (mixedRow x0 x1 x2 b s) (fun k => x3 (ix2 1 k)) k * x4 (ix3 1 k c) := by
  simp only [← h_apply]
  unfold val_main_v21 val_main_v20 val_main_v19
  pointwise

theorem gate_apply (x0 : FVec Ideal S2x8192x1024 .bf16) (x1 : FVec Ideal S2x8192x1024 .f32) (x2 : FVec Ideal S1x1024x1024 .f32) (x3 : FVec Ideal S4x1024 .f32) (x4 : FVec Ideal S4x1024x5632 .f32) (b : Fin 2) (s : Fin 8192) (c : Fin 2816) :
    val_main_v22 (F := Ideal) x0 x1 x2 x3 x4 (ix3 b s c) = val_main_v21 (F := Ideal) x0 x1 x2 x3 x4 (ix3 b s ⟨c.val, by omega⟩) := by
  unfold val_main_v22
  pointwise

theorem act_apply (x0 : FVec Ideal S2x8192x1024 .bf16) (x1 : FVec Ideal S2x8192x1024 .f32) (x2 : FVec Ideal S1x1024x1024 .f32) (x3 : FVec Ideal S4x1024 .f32) (x4 : FVec Ideal S4x1024x5632 .f32) (b : Fin 2) (s : Fin 8192) (c : Fin 2816) :
    val_main_v25 (F := Ideal) x0 x1 x2 x3 x4 (ix3 b s c) = ffnAct (normed (mixedRow x0 x1 x2 b s) (fun k => x3 (ix2 1 k))) (fun k c => x4 (ix3 1 k c)) c := by
  unfold ffnAct
  simp only [← gu_apply]
  unfold val_main_v25 val_main_v24 val_main_v23 val_main_call0_v5 val_main_call0_v4 val_main_call0_v3 val_main_call0_v2 val_main_call0_v1 val_main_call0_v0 val_main_call0_cst val_main_call0_cst_0
  unfold Ideal.logistic
  pointwise [gate_apply]

theorem out_apply (x0 : FVec Ideal S2x8192x1024 .bf16) (x1 : FVec Ideal S2x8192x1024 .f32) (x2 : FVec Ideal S1x1024x1024 .f32) (x3 : FVec Ideal S4x1024 .f32) (x4 : FVec Ideal S4x1024x5632 .f32) (x5 : FVec Ideal S4x2816x1024 .f32) (b : Fin 2) (s : Fin 8192) (j : Fin 1024) :
    val_main_v29 (F := Ideal) x0 x1 x2 x3 x4 x5 (ix3 b s j) = ffnRow (mixedRow x0 x1 x2 b s) (fun k => x3 (ix2 1 k)) (fun k c => x4 (ix3 1 k c)) (fun c k => x5 (ix3 1 c k)) j := by
  unfold ffnRow
  simp only [← act_apply, ← x_apply]
  unfold val_main_v29 val_main_v28 val_main_v27 val_main_v26
  pointwise

end Cert.Reference3Ideal.RowValue

end
-- ==== Proof.Ffn3Pair.lean ====
/- The feed-forward with the projection: the kernel and the reference end with the same array. -/
module

public import proofs.«01_k».proof.Defs
public import proofs.«01_k».proof.Proof.Ffn3Array
public import proofs.«01_k».proof.Proof.Ffn3Ref
public import proofs.«01_k».proof.Proof.Gen.Reference3Ideal.Run

@[expose] public section

set_option maxRecDepth 65536

noncomputable section

namespace Cert.Kernel3Ideal.Pair

open  Cert.Layer Idealize.ShloMosaic Idealize.ShloMosaic.TcCoe Idealize.SL.Sem

theorem result_eq (a0 : FVec Ideal Cert.Reference3Ideal.S2x8192x1024 .bf16) (a1 : FVec Ideal Cert.Reference3Ideal.S2x8192x1024 .f32) (a2 : FVec Ideal Cert.Reference3Ideal.S1x1024x1024 .f32)
    (a3 : FVec Ideal Cert.Reference3Ideal.S4x1024 .f32) (a4 : FVec Ideal Cert.Reference3Ideal.S4x1024x5632 .f32) (a5 : FVec Ideal Cert.Reference3Ideal.S4x2816x1024 .f32) :
    Cert.Reference3Ideal.Read.val_main_v30 (F := Ideal) a0 a1 a2 a3 a4 a5 = Cert.Kernel3Ideal.Block.result a0 a1 a2 a3 a4 a5 := by
  funext y
  obtain ⟨n, j, rfl⟩ : ∃ (n : Fin 16384) (j : Fin 1024), y = ix2 n j := ⟨y 0, y 1, ValueIdx.eq_ix2 y⟩
  show _ = ffnRow (Cert.Kernel3Ideal.Block.mixed (shapeCast Cert.Kernel3Ideal.S16384x1024 a1 _) (shapeCast Cert.Kernel3Ideal.S16384x1024 a0 _) a2 n) _ _ _ j
  unfold Cert.Reference3Ideal.Read.val_main_v30 Cert.Kernel3Ideal.Block.mixed
  pointwise [Cert.Reference3Ideal.RowValue.out_apply]
  rfl

theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => Cert.Kernel3Ideal.Block.G m c, ?_, ?_⟩
  · refine (θ_run _ _ _).mono (fun r h c => ?_) (Cert.Kernel3Ideal.Value.run_blocks m g)
    exact ⟨(h c).1.trans (Cert.Kernel3Ideal.Block.final m c), (h c).2⟩
  · refine (θ_run _ _ _).mono (fun r h c => ?_) (Cert.Reference3Ideal.Value.run (F := Ideal) m' g')
    refine ⟨(h c).1.trans ((Cert.Reference3Ideal.Read.val_main_v30_eq (F := Ideal) m' c).trans ?_), (h c).2⟩
    obtain ⟨h0, h1, h2, h3, h4, h5⟩ := hag c
    rw [h0, h1, h2, h3, h4, h5]
    exact result_eq _ _ _ _ _ _

end Cert.Kernel3Ideal.Pair

end
-- ==== Proof.SsdInLayer.lean ====
/- The mathematics of one row of the state space layer's input side, over extended reals. -/
module

public import proofs.«01_k».proof.Proof.Layer

@[expose] public section

noncomputable section

namespace Cert.Layer

open Idealize.ShloMosaic

/-- One number of the projection of a row. -/
def projAt (h : Fin 1024 → EReal) (W : Fin 1024 → Fin 6176 → EReal) (c : Fin 6176) : EReal := ∑ k, h k * W k c

/-- `silu` of a number. -/
def silu (u : EReal) : EReal := u * Ideal.logistic u

/-- `log (1 + e ^ u)`, taken without overflow. -/
def softplus (u : EReal) : EReal := max u 0 + Ideal.log1p (Ideal.exp (0 - max u (-u)))

/-- The projection `d` rows back at channel `c` of the convolution, nothing before the sequence begins. -/
def ssdBack (x : Fin 8192 → Fin 1024 → EReal) (w : Fin 1024 → EReal) (W : Fin 1024 → Fin 6176 → EReal) (d : Nat) (s : Fin 8192) (c : Fin 4096) : EReal :=
  if _h : s.val < d then 0 else projAt (normed (x ⟨s.val - d, by omega⟩) w) W ⟨2048 + c.val, by omega⟩

/-- The four taps of the convolution and its bias, the row's own tap first. -/
def taps (cw : Fin 4 → Fin 4096 → EReal) (cb : Fin 4096 → EReal) (c : Fin 4096) (e0 e1 e2 e3 : EReal) : EReal :=
  e3 * cw 3 c + cb c + e0 * cw 0 c + e1 * cw 1 c + e2 * cw 2 c

/-- Channel `c` of the convolved projections of row `s`, after `silu`. -/
def ssdConv (x : Fin 8192 → Fin 1024 → EReal) (w : Fin 1024 → EReal) (W : Fin 1024 → Fin 6176 → EReal) (cw : Fin 4 → Fin 4096 → EReal)
    (cb : Fin 4096 → EReal) (s : Fin 8192) (c : Fin 4096) : EReal :=
  silu (taps cw cb c (ssdBack x w W 3 s c) (ssdBack x w W 2 s c) (ssdBack x w W 1 s c) (projAt (normed (x s) w) W ⟨2048 + c.val, by omega⟩))

/-- The time step of a row, `softplus` of the padded projection and bias. -/
def ssdDt (h : Fin 1024 → EReal) (W : Fin 1024 → Fin 6176 → EReal) (b : Fin 32 → EReal) (l : Fin 128) : EReal :=
  softplus (if hl : l.val < 32 then projAt h W ⟨6144 + l.val, by omega⟩ + b ⟨l.val, hl⟩ else 0)

end Cert.Layer

end
-- ==== Proof.SsdInBlock.lean ====
/- What one grid point of the state space layer's input kernel computes, block by block. The kernel writes the 4096
   convolved columns of its 512 projected rows into thirty-two slabs of a scratch, below eight rows that hold the last
   rows of the tile before (or zeros at the head of a sequence), and reads each slab back shifted by three, two and one
   rows. All the slabs have one form, stated here once for a slab number. -/
module

public import proofs.«01_k».proof.Proof.SsdInLayer
public import proofs.«01_k».proof.Proof.Gen.Kernel5Ideal.Value
public import Idealize.ShloMosaic.Lib.Pointwise

@[expose] public section

set_option maxRecDepth 65536

noncomputable section

namespace Cert.Kernel5Ideal.Block

open Cert.Kernel5Ideal Cert.Kernel5Ideal.Gen Cert.Layer Idealize.ShloMosaic Idealize.ShloMosaic.TcCoe Idealize.SL.Sem

/-- Row `r` of the input block. -/
abbrev rowOf (x0 : Vec Ideal S1x512x1024 .f32) (r : Fin 512) : Fin 1024 → EReal := fun k => x0 (ix3 0 r k)
/-- The norm's weights. -/
abbrev wOf (x1 : Vec Ideal S1x1024 .f32) : Fin 1024 → EReal := fun k => x1 (ix2 0 k)
/-- The input projection's weights. -/
abbrev winOf (x2 : Vec Ideal S1024x6176 .bf16) : Fin 1024 → Fin 6176 → EReal := fun k c => x2 (ix2 k c)

theorem pay2_apply (x : Vec Ideal S1x512x1024 .f32) (w : Vec Ideal S1x1024 .f32) (r : Fin 512) (k : Fin 1024) :
    k0_pay2 (F := Ideal) x w (ix2 r k) = normed (rowOf x r) (wOf w) k := by
  unfold k0_pay2 normed rowScale
  pointwise

/-- Column `c` of the projection of row `r` of the block. -/
def projB (x0 : Vec Ideal S1x512x1024 .f32) (x1 : Vec Ideal S1x1024 .f32) (x2 : Vec Ideal S1024x6176 .bf16) (r : Fin 512) (c : Fin 6176) : EReal := projAt (normed (rowOf x0 r) (wOf x1)) (winOf x2) c

/-- 512 columns of the input projection's weights, at an index. -/
theorem ld_in (x2 : Vec Ideal S1024x6176 .bf16) (o : Nat)
    (inb : ∀ a, (![0, o] : Fin 2 → Nat) a + (![1024, 512] : Fin 2 → Nat) a ≤ S1024x6176.size a) (k : Fin 1024) (c : Fin 512) :
    View.ld (Val := Elt Ideal) (S := S1024x6176) (e' := .bf16) x2 (Rect.unit (s := S1024x6176) ![0, o] ![1024, 512] inb) (ix2 k c)
      = winOf x2 k ⟨o + c.val, by have h : o + 512 ≤ 6176 := inb 1; omega⟩ := by
  unfold View.ld winOf
  refine congrArg x2 (funext fun a => Fin.ext ?_)
  match a with
  | ⟨0, _⟩ => show 0 + 1 * k.val = k.val; omega
  | ⟨1, _⟩ => show o + 1 * c.val = o + c.val; omega

/-- 128 weights of one tap of the convolution, at an index. -/
theorem ld_cw (x4 : Vec Ideal S4x4096 .f32) (q o : Nat)
    (inb : ∀ a, (![q, o] : Fin 2 → Nat) a + (![1, 128] : Fin 2 → Nat) a ≤ S4x4096.size a) (l : Fin 128) :
    View.ld (Val := Elt Ideal) (S := S4x4096) (e' := .f32) x4 (Rect.unit (s := S4x4096) ![q, o] ![1, 128] inb) (ix2 0 l)
      = x4 (ix2 ⟨q, by have h : q + 1 ≤ 4 := inb 0; omega⟩ ⟨o + l.val, by have h : o + 128 ≤ 4096 := inb 1; omega⟩) := by
  unfold View.ld
  refine congrArg x4 (funext fun a => Fin.ext ?_)
  match a with
  | ⟨0, _⟩ => show q + 1 * 0 = q; omega
  | ⟨1, _⟩ => show o + 1 * l.val = o + l.val; omega

/-- 128 numbers of the convolution's bias, at an index. -/
theorem ld_cb (x5 : Vec Ideal S1x4096 .f32) (o : Nat)
    (inb : ∀ a, (![0, o] : Fin 2 → Nat) a + (![1, 128] : Fin 2 → Nat) a ≤ S1x4096.size a) (l : Fin 128) :
    View.ld (Val := Elt Ideal) (S := S1x4096) (e' := .f32) x5 (Rect.unit (s := S1x4096) ![0, o] ![1, 128] inb) (ix2 0 l)
      = x5 (ix2 0 ⟨o + l.val, by have h : o + 128 ≤ 4096 := inb 1; omega⟩) := by
  unfold View.ld
  refine congrArg x5 (funext fun a => Fin.ext ?_)
  match a with
  | ⟨0, _⟩ => rfl
  | ⟨1, _⟩ => show o + 1 * l.val = o + l.val; omega

theorem inbIn (o : Nat) (h : o + 512 ≤ 6176) (a : Fin 2) : (![0, o] : Fin 2 → Nat) a + (![1024, 512] : Fin 2 → Nat) a ≤ S1024x6176.size a := by
  match a with
  | ⟨0, _⟩ => exact Nat.le_refl _
  | ⟨1, _⟩ => exact h

theorem inbCw (q o : Nat) (hq : q < 4) (h : o + 128 ≤ 4096) (a : Fin 2) : (![q, o] : Fin 2 → Nat) a + (![1, 128] : Fin 2 → Nat) a ≤ S4x4096.size a := by
  match a with
  | ⟨0, _⟩ => exact hq
  | ⟨1, _⟩ => exact h

theorem inbCb (o : Nat) (h : o + 128 ≤ 4096) (a : Fin 2) : (![0, o] : Fin 2 → Nat) a + (![1, 128] : Fin 2 → Nat) a ≤ S1x4096.size a := by
  match a with
  | ⟨0, _⟩ => exact Nat.le_refl _
  | ⟨1, _⟩ => exact h

theorem inbExt (s n : Nat) (hs : s < 32) (hn : n ≤ 8) (a : Fin 3) : (![s, n, 0] : Fin 3 → Nat) a + (![1, 512, 128] : Fin 3 → Nat) a ≤ S32x520x128.size a := by
  match a with
  | ⟨0, _⟩ => exact hs
  | ⟨1, _⟩ => show n + 512 ≤ 520; omega
  | ⟨2, _⟩ => exact Nat.le_refl _

theorem sliceIn (j : Nat) (h : 128 * j + 128 ≤ 512) : S512x512.Slices ![0, 128 * j] S512x128 :=
  ⟨rfl, fun a => by
    match a with
    | ⟨0, _⟩ => exact Nat.le_refl _
    | ⟨1, _⟩ => exact h⟩

/-- The projections of slab `s`: 128 columns of one of the products of 512 columns. -/
def cur (x0 : Vec Ideal S1x512x1024 .f32) (x1 : Vec Ideal S1x1024 .f32) (x2 : Vec Ideal S1024x6176 .bf16) (s : Nat) (hs : s < 32) : FVec Ideal S512x128 .f32 :=
  extractStridedSlice S512x128 ![0, 128 * (s % 4)]
    (k0_pay9 (k0_pay2 x0 x1) (View.ld (Val := Elt Ideal) (S := S1024x6176) (e' := .bf16) x2 (Rect.unit (s := S1024x6176) ![0, 2048 + 512 * (s / 4)] ![1024, 512] (inbIn _ (by omega)))))
    (sliceIn (s % 4) (by omega))

theorem pay9_apply (h : FVec Ideal S512x1024 .bf16) (w : Vec Ideal S1024x512 .bf16) (r c : Fin 512) :
    k0_pay9 (F := Ideal) h w (ix2 r c) = ∑ k, h (ix2 r k) * w (ix2 k c) := by
  unfold k0_pay9
  pointwise

theorem slice_apply (v : FVec Ideal S512x512 .f32) (j : Nat) (h : 128 * j + 128 ≤ 512) (r : Fin 512) (l : Fin 128) :
    extractStridedSlice S512x128 ![0, 128 * j] v (sliceIn j h) (ix2 r l) = v (ix2 r ⟨128 * j + l.val, by omega⟩) := by
  pointwise

theorem cur_apply (x0 : Vec Ideal S1x512x1024 .f32) (x1 : Vec Ideal S1x1024 .f32) (x2 : Vec Ideal S1024x6176 .bf16) (s : Nat) (hs : s < 32) (r : Fin 512) (l : Fin 128) :
    cur x0 x1 x2 s hs (ix2 r l) = projB x0 x1 x2 r ⟨2048 + (128 * s + l.val), by omega⟩ := by
  unfold cur projB projAt
  rw [slice_apply _ (s % 4) (by omega), pay9_apply]
  refine Finset.sum_congr rfl fun k _ => ?_
  rw [pay2_apply, ld_in]
  congr 2
  exact Fin.ext (by show 2048 + 512 * (s / 4) + (128 * (s % 4) + l.val) = 2048 + (128 * s + l.val); omega)

/-- What the carried scratch holds: eight rows from the tile before, then the block's projections. -/
def extAt (x0 : Vec Ideal S1x512x1024 .f32) (x1 : Vec Ideal S1x1024 .f32) (x2 : Vec Ideal S1024x6176 .bf16) (hp : Vec Ideal S32x8x128 .f32) (s : Fin 32) (n : Fin 520) (l : Fin 128) : EReal :=
  if h : n.val < 8 then hp (ix3 s ⟨n.val, h⟩ l) else projB x0 x1 x2 ⟨n.val - 8, by omega⟩ ⟨2048 + (128 * s.val + l.val), by omega⟩

def extOf (x0 : Vec Ideal S1x512x1024 .f32) (x1 : Vec Ideal S1x1024 .f32) (x2 : Vec Ideal S1024x6176 .bf16) (hp : Vec Ideal S32x8x128 .f32) : Vec Ideal S32x520x128 .f32 := fun y => extAt x0 x1 x2 hp (y 0) (y 1) (y 2)

theorem emb_ext (s n : Nat) (hs : s < 32) (hn : n ≤ 8)
    (inb : ∀ a, (![s, n, 0] : Fin 3 → Nat) a + (![1, 512, 128] : Fin 3 → Nat) a ≤ S32x520x128.size a) (r : Fin 512) (l : Fin 128) :
    (Rect.unit (s := S32x520x128) ![s, n, 0] ![1, 512, 128] inb).emb (ix3 0 r l) = (ix3 ⟨s, hs⟩ ⟨n + r.val, by omega⟩ l : S32x520x128.Idx) := by
  funext a
  apply Fin.ext
  rw [Rect.emb_apply]
  match a with
  | ⟨0, _⟩ => show s + 1 * 0 = s; omega
  | ⟨1, _⟩ => show n + 1 * r.val = n + r.val; omega
  | ⟨2, _⟩ => show 0 + 1 * l.val = l.val; omega

theorem emb_halo (inb : ∀ a, (![0, 0, 0] : Fin 3 → Nat) a + (![32, 8, 128] : Fin 3 → Nat) a ≤ S32x520x128.size a) (s : Fin 32) (n : Fin 8) (l : Fin 128) :
    (Rect.unit (s := S32x520x128) ![0, 0, 0] ![32, 8, 128] inb).emb (ix3 s n l) = (ix3 s ⟨n.val, by omega⟩ l : S32x520x128.Idx) := by
  funext a
  apply Fin.ext
  rw [Rect.emb_apply]
  match a with
  | ⟨0, _⟩ => show 0 + 1 * s.val = s.val; omega
  | ⟨1, _⟩ => show 0 + 1 * n.val = n.val; omega
  | ⟨2, _⟩ => show 0 + 1 * l.val = l.val; omega

theorem ix_slab (x : S1x512x128.Idx) : ∃ (r : Fin 512) (l : Fin 128), x = ix3 0 r l :=
  ⟨x 1, x 2, by
    rw [ValueIdx.eq_ix3 x]
    congr 1
    exact Subsingleton.elim (α := Fin 1) _ _⟩

/-- The first `n` slabs as they are stored, the newest first, and last the eight rows carried in. -/
def slabs (x0 : Vec Ideal S1x512x1024 .f32) (x1 : Vec Ideal S1x1024 .f32) (x2 : Vec Ideal S1024x6176 .bf16) (hp : Vec Ideal S32x8x128 .f32) : (n : Nat) → n ≤ 32 → List (View.Piece (Elt Ideal) S32x520x128 .f32)
  | 0, _ => [⟨Rect.unit (s := S32x520x128) ![0, 0, 0] ![32, 8, 128] inb_S32x520x128_S32x8x128_0_0_0, hp⟩]
  | n + 1, h => ⟨Rect.unit (s := S32x520x128) ![n, 8, 0] ![1, 512, 128] (inbExt n 8 h (Nat.le_refl 8)),
      shapeCast S1x512x128 (cur x0 x1 x2 n h) shapeCasts_S512x128_S1x512x128⟩ :: slabs x0 x1 x2 hp n (Nat.le_of_succ_le h)

theorem lift_apply (v : FVec Ideal S512x128 .f32) (r : Fin 512) (l : Fin 128) :
    shapeCast S1x512x128 v shapeCasts_S512x128_S1x512x128 (ix3 0 r l) = v (ix2 r l) := by
  pointwise

theorem slabs_ok (x0 : Vec Ideal S1x512x1024 .f32) (x1 : Vec Ideal S1x1024 .f32) (x2 : Vec Ideal S1024x6176 .bf16) (hp : Vec Ideal S32x8x128 .f32) (n : Nat) (hn : n ≤ 32) :
    ∀ p ∈ slabs x0 x1 x2 hp n hn, ∀ x : p.1.shape.Idx, p.2 x = extOf x0 x1 x2 hp (p.1.emb x) := by
  induction n with
  | zero =>
    intro p hm
    obtain rfl := List.mem_singleton.1 hm
    intro x
    obtain ⟨s, n, l, rfl⟩ : ∃ (s : Fin 32) (n : Fin 8) (l : Fin 128), x = ix3 s n l := ⟨x 0, x 1, x 2, ValueIdx.eq_ix3 x⟩
    refine Eq.trans ?_ (congrArg (extOf x0 x1 x2 hp) (emb_halo inb_S32x520x128_S32x8x128_0_0_0 s n l)).symm
    show _ = extAt x0 x1 x2 hp s ⟨n.val, _⟩ l
    unfold extAt
    rw [dif_pos n.isLt]
  | succ n ih =>
    intro p hm
    rcases List.mem_cons.1 hm with rfl | hm
    · intro x
      obtain ⟨r, l, rfl⟩ := ix_slab x
      refine (lift_apply _ r l).trans ((cur_apply x0 x1 x2 n hn r l).trans ?_)
      refine Eq.trans ?_ (congrArg (extOf x0 x1 x2 hp) (emb_ext n 8 hn (Nat.le_refl 8) (inbExt n 8 hn (Nat.le_refl 8)) r l)).symm
      show _ = extAt x0 x1 x2 hp ⟨n, hn⟩ ⟨8 + r.val, _⟩ l
      unfold extAt
      rw [dif_neg (by show ¬ 8 + r.val < 8; omega)]
      congr 1
      exact Fin.ext (by show r.val = 8 + r.val - 8; omega)
    · exact ih (Nat.le_of_succ_le hn) p hm

theorem halo_mem (x0 : Vec Ideal S1x512x1024 .f32) (x1 : Vec Ideal S1x1024 .f32) (x2 : Vec Ideal S1024x6176 .bf16) (hp : Vec Ideal S32x8x128 .f32) (n : Nat) (hn : n ≤ 32) :
    (⟨Rect.unit (s := S32x520x128) ![0, 0, 0] ![32, 8, 128] inb_S32x520x128_S32x8x128_0_0_0, hp⟩ : View.Piece (Elt Ideal) S32x520x128 .f32) ∈ slabs x0 x1 x2 hp n hn := by
  induction n with
  | zero => exact List.mem_singleton.2 rfl
  | succ n ih => exact List.mem_cons_of_mem _ (ih (Nat.le_of_succ_le hn))

/-- A slab just stored, read back `n` rows down. -/
theorem ext_read (x0 : Vec Ideal S1x512x1024 .f32) (x1 : Vec Ideal S1x1024 .f32) (x2 : Vec Ideal S1024x6176 .bf16) (hp : Vec Ideal S32x8x128 .f32) (v : Memref sig .tc .vmem S32x520x128 .f32) (s n : Nat) (hs : s < 32) (hn : n ≤ 8) (r : Fin 512) (l : Fin 128) :
    v.view.readCov (Val := Elt Ideal) (slabs x0 x1 x2 hp (s + 1) hs) (Rect.unit (s := S32x520x128) ![s, n, 0] ![1, 512, 128] (inbExt s n hs hn)).toLoadRect (ix3 0 r l)
      = extAt x0 x1 x2 hp ⟨s, hs⟩ ⟨n + r.val, by omega⟩ l := by
  rw [View.readCov_eq_canon']
  refine (congrArg _ (emb_ext s n hs hn _ r l)).trans ?_
  refine (View.canon_apply_of_pieces (extOf x0 x1 x2 hp) _ (slabs_ok x0 x1 x2 hp (s + 1) hs) _ ?_).trans rfl
  by_cases h : n + r.val < 8
  · refine ⟨_, halo_mem x0 x1 x2 hp (s + 1) hs, ?_⟩
    rw [show (ix3 ⟨s, hs⟩ ⟨n + r.val, by omega⟩ l : S32x520x128.Idx) = (Rect.unit (s := S32x520x128) ![0, 0, 0] ![32, 8, 128] inb_S32x520x128_S32x8x128_0_0_0).emb (ix3 ⟨s, hs⟩ ⟨n + r.val, h⟩ l) from (emb_halo _ ⟨s, hs⟩ ⟨n + r.val, h⟩ l).symm]
    exact LoadRect.idx_mem _ _
  · refine ⟨_, List.mem_cons_self, ?_⟩
    have hr : n + r.val - 8 < 512 := by omega
    have he : (ix3 ⟨s, hs⟩ ⟨n + r.val, by omega⟩ l : S32x520x128.Idx) = (Rect.unit (s := S32x520x128) ![s, 8, 0] ![1, 512, 128] (inbExt s 8 hs (Nat.le_refl 8))).emb (ix3 0 ⟨n + r.val - 8, hr⟩ l) := by
      rw [emb_ext s 8 hs (by omega)]
      congr 1
      exact Fin.ext (by show n + r.val = 8 + (n + r.val - 8); omega)
    rw [he]
    exact LoadRect.idx_mem _ _

/-- A slab's four taps and its bias. -/
def slabSum (u : FVec Ideal S512x128 .f32) (w3 cb : Vec Ideal S1x128 .f32) (e0 : Vec Ideal S1x512x128 .f32) (w0 : Vec Ideal S1x128 .f32)
    (e1 : Vec Ideal S1x512x128 .f32) (w1 : Vec Ideal S1x128 .f32) (e2 : Vec Ideal S1x512x128 .f32) (w2 : Vec Ideal S1x128 .f32) : FVec Ideal S512x128 .f32 :=
  addf (addf (addf (addf (mulf u (broadcastTo S512x128 (shapeCast S1x128 w3 shapeCasts_S1x128_S1x128) broadcasts_S1x128_S512x128))
    (broadcastTo S512x128 (shapeCast S1x128 cb shapeCasts_S1x128_S1x128) broadcasts_S1x128_S512x128))
    (mulf (shapeCast S512x128 e0 shapeCasts_S1x512x128_S512x128) (broadcastTo S512x128 (shapeCast S1x128 w0 shapeCasts_S1x128_S1x128) broadcasts_S1x128_S512x128)))
    (mulf (shapeCast S512x128 e1 shapeCasts_S1x512x128_S512x128) (broadcastTo S512x128 (shapeCast S1x128 w1 shapeCasts_S1x128_S1x128) broadcasts_S1x128_S512x128)))
    (mulf (shapeCast S512x128 e2 shapeCasts_S1x512x128_S512x128) (broadcastTo S512x128 (shapeCast S1x128 w2 shapeCasts_S1x128_S1x128) broadcasts_S1x128_S512x128))

/-- What a slab sends out: `silu` of the sum. -/
def slabSilu (v : FVec Ideal S512x128 .f32) : FVec Ideal S1x512x128 .bf16 :=
  shapeCast S1x512x128 (truncf .bf16 (mulf v (logistic v)) bitsLt_bf16_f32 : FVec Ideal S512x128 .bf16) shapeCasts_S512x128_S1x512x128

theorem slabSum_apply (u : FVec Ideal S512x128 .f32) (w3 cb : Vec Ideal S1x128 .f32) (e0 : Vec Ideal S1x512x128 .f32) (w0 : Vec Ideal S1x128 .f32)
    (e1 : Vec Ideal S1x512x128 .f32) (w1 : Vec Ideal S1x128 .f32) (e2 : Vec Ideal S1x512x128 .f32) (w2 : Vec Ideal S1x128 .f32) (r : Fin 512) (l : Fin 128) :
    slabSum u w3 cb e0 w0 e1 w1 e2 w2 (ix2 r l)
      = u (ix2 r l) * w3 (ix2 0 l) + cb (ix2 0 l) + e0 (ix3 0 r l) * w0 (ix2 0 l) + e1 (ix3 0 r l) * w1 (ix2 0 l) + e2 (ix3 0 r l) * w2 (ix2 0 l) := by
  unfold slabSum
  pointwise

theorem slabSilu_apply (v : FVec Ideal S512x128 .f32) (r : Fin 512) (l : Fin 128) : slabSilu v (ix3 0 r l) = silu (v (ix2 r l)) := by
  unfold slabSilu silu
  pointwise

/-- What slab `s` sends out, from the loads the kernel does. -/
def slabOut (x0 : Vec Ideal S1x512x1024 .f32) (x1 : Vec Ideal S1x1024 .f32) (x2 : Vec Ideal S1024x6176 .bf16) (x4 : Vec Ideal S4x4096 .f32) (x5 : Vec Ideal S1x4096 .f32) (hp : Vec Ideal S32x8x128 .f32) (v : Memref sig .tc .vmem S32x520x128 .f32) (s : Nat) (hs : s < 32) : FVec Ideal S1x512x128 .bf16 :=
  slabSilu (slabSum (cur x0 x1 x2 s hs)
    (View.ld (Val := Elt Ideal) (S := S4x4096) (e' := .f32) x4 (Rect.unit (s := S4x4096) ![3, 128 * s] ![1, 128] (inbCw 3 _ (by omega) (by omega))))
    (View.ld (Val := Elt Ideal) (S := S1x4096) (e' := .f32) x5 (Rect.unit (s := S1x4096) ![0, 128 * s] ![1, 128] (inbCb _ (by omega))))
    (v.view.readCov (Val := Elt Ideal) (slabs x0 x1 x2 hp (s + 1) hs) (Rect.unit (s := S32x520x128) ![s, 5, 0] ![1, 512, 128] (inbExt s 5 hs (by omega))).toLoadRect)
    (View.ld (Val := Elt Ideal) (S := S4x4096) (e' := .f32) x4 (Rect.unit (s := S4x4096) ![0, 128 * s] ![1, 128] (inbCw 0 _ (by omega) (by omega))))
    (v.view.readCov (Val := Elt Ideal) (slabs x0 x1 x2 hp (s + 1) hs) (Rect.unit (s := S32x520x128) ![s, 6, 0] ![1, 512, 128] (inbExt s 6 hs (by omega))).toLoadRect)
    (View.ld (Val := Elt Ideal) (S := S4x4096) (e' := .f32) x4 (Rect.unit (s := S4x4096) ![1, 128 * s] ![1, 128] (inbCw 1 _ (by omega) (by omega))))
    (v.view.readCov (Val := Elt Ideal) (slabs x0 x1 x2 hp (s + 1) hs) (Rect.unit (s := S32x520x128) ![s, 7, 0] ![1, 512, 128] (inbExt s 7 hs (by omega))).toLoadRect)
    (View.ld (Val := Elt Ideal) (S := S4x4096) (e' := .f32) x4 (Rect.unit (s := S4x4096) ![2, 128 * s] ![1, 128] (inbCw 2 _ (by omega) (by omega)))))

/-- Channel `c` of the convolution at row `r` of the block, after `silu`. -/
def convB (x0 : Vec Ideal S1x512x1024 .f32) (x1 : Vec Ideal S1x1024 .f32) (x2 : Vec Ideal S1024x6176 .bf16) (x4 : Vec Ideal S4x4096 .f32) (x5 : Vec Ideal S1x4096 .f32) (hp : Vec Ideal S32x8x128 .f32) (r : Fin 512) (c : Fin 4096) : EReal :=
  silu (taps (fun q c => x4 (ix2 q c)) (fun c => x5 (ix2 0 c)) c
    (extAt x0 x1 x2 hp ⟨c.val / 128, by omega⟩ ⟨5 + r.val, by omega⟩ ⟨c.val % 128, by omega⟩)
    (extAt x0 x1 x2 hp ⟨c.val / 128, by omega⟩ ⟨6 + r.val, by omega⟩ ⟨c.val % 128, by omega⟩)
    (extAt x0 x1 x2 hp ⟨c.val / 128, by omega⟩ ⟨7 + r.val, by omega⟩ ⟨c.val % 128, by omega⟩)
    (projB x0 x1 x2 r ⟨2048 + c.val, by omega⟩))

theorem slabOut_apply (x0 : Vec Ideal S1x512x1024 .f32) (x1 : Vec Ideal S1x1024 .f32) (x2 : Vec Ideal S1024x6176 .bf16) (x4 : Vec Ideal S4x4096 .f32) (x5 : Vec Ideal S1x4096 .f32) (hp : Vec Ideal S32x8x128 .f32) (v : Memref sig .tc .vmem S32x520x128 .f32) (s : Nat) (hs : s < 32) (r : Fin 512) (l : Fin 128) :
    slabOut x0 x1 x2 x4 x5 hp v s hs (ix3 0 r l) = convB x0 x1 x2 x4 x5 hp r ⟨128 * s + l.val, by omega⟩ := by
  have h1 : (⟨(128 * s + l.val) / 128, by omega⟩ : Fin 32) = ⟨s, hs⟩ := Fin.ext (by show (128 * s + l.val) / 128 = s; omega)
  have h2 : (⟨(128 * s + l.val) % 128, by omega⟩ : Fin 128) = l := Fin.ext (by show (128 * s + l.val) % 128 = l.val; omega)
  unfold slabOut convB taps
  rw [slabSilu_apply, slabSum_apply, cur_apply, ld_cb, h1, h2]
  rw [ld_cw x4 3, ld_cw x4 0, ld_cw x4 1, ld_cw x4 2, ext_read x0 x1 x2 hp v s 5 hs (by omega), ext_read x0 x1 x2 hp v s 6 hs (by omega), ext_read x0 x1 x2 hp v s 7 hs (by omega)]
  rfl

/-- The softplus of a row's time step. -/
def dtB (x0 : Vec Ideal S1x512x1024 .f32) (x1 : Vec Ideal S1x1024 .f32) (x3 : Vec Ideal S1024x128 .bf16) (x6 : Vec Ideal S1x128 .f32) (r : Fin 512) (l : Fin 128) : EReal :=
  softplus ((∑ k, normed (rowOf x0 r) (wOf x1) k * x3 (ix2 k l)) + x6 (ix2 0 l))

theorem pay5_apply (x0 : Vec Ideal S1x512x1024 .f32) (x1 : Vec Ideal S1x1024 .f32) (x3 : Vec Ideal S1024x128 .bf16) (x6 : Vec Ideal S1x128 .f32) (r : Fin 512) (l : Fin 128) :
    k0_pay5 (F := Ideal) x0 x1 x3 x6 (ix2 r l) = (∑ k, k0_pay2 (F := Ideal) x0 x1 (ix2 r k) * x3 (ix2 k l)) + x6 (ix2 0 l) := by
  unfold k0_pay5
  pointwise

theorem pay8_apply (x0 : Vec Ideal S1x512x1024 .f32) (x1 : Vec Ideal S1x1024 .f32) (x3 : Vec Ideal S1024x128 .bf16) (x6 : Vec Ideal S1x128 .f32) (r : Fin 512) (l : Fin 128) :
    k0_pay8 (k0_pay6 (F := Ideal) x0 x1 x3 x6) (k0_pay7 (F := Ideal) x0 x1 x3 x6) (ix3 0 r l) = softplus (k0_pay5 (F := Ideal) x0 x1 x3 x6 (ix2 r l)) := by
  unfold k0_pay8 k0_pay7 k0_pay6 softplus
  pointwise
  rfl

theorem dt_apply (x0 : Vec Ideal S1x512x1024 .f32) (x1 : Vec Ideal S1x1024 .f32) (x3 : Vec Ideal S1024x128 .bf16) (x6 : Vec Ideal S1x128 .f32) (r : Fin 512) (l : Fin 128) :
    k0_pay8 (k0_pay6 (F := Ideal) x0 x1 x3 x6) (k0_pay7 (F := Ideal) x0 x1 x3 x6) (ix3 0 r l) = dtB x0 x1 x3 x6 r l := by
  rw [pay8_apply, pay5_apply]
  simp only [pay2_apply]
  rfl

theorem pay10_apply (h : FVec Ideal S512x1024 .bf16) (w : Vec Ideal S1024x512 .bf16) (r c : Fin 512) :
    k0_pay10 (F := Ideal) h w (ix3 0 r c) = ∑ k, h (ix2 r k) * w (ix2 k c) := by
  unfold k0_pay10
  pointwise

end Cert.Kernel5Ideal.Block

end
-- ==== Proof.SsdInOut.lean ====
/- What one grid point of the state space layer's input kernel leaves behind: its five output blocks and the scratch it
   carries to the next point. Each output's stores are the same list for any number of slabs, so each is read once. -/
module

public import proofs.«01_k».proof.Proof.SsdInBlock

@[expose] public section

set_option maxRecDepth 65536

noncomputable section

namespace Cert.Kernel5Ideal.Block

open Cert.Kernel5Ideal Cert.Kernel5Ideal.Gen Cert.Layer Idealize.ShloMosaic Idealize.ShloMosaic.TcCoe Idealize.SL.Sem

theorem inbWide (n : Nat) (h : 128 * n + 128 ≤ 2048) (a : Fin 3) : (![0, 0, 128 * n] : Fin 3 → Nat) a + (![1, 512, 128] : Fin 3 → Nat) a ≤ S1x512x2048.size a := by
  match a with
  | ⟨0, _⟩ => exact Nat.le_refl _
  | ⟨1, _⟩ => exact Nat.le_refl _
  | ⟨2, _⟩ => exact h

/-- The first `n` stores of an output of sixteen slabs from slab `b` on, the newest first. -/
def piecesWide (x0 : Vec Ideal S1x512x1024 .f32) (x1 : Vec Ideal S1x1024 .f32) (x2 : Vec Ideal S1024x6176 .bf16) (x4 : Vec Ideal S4x4096 .f32) (x5 : Vec Ideal S1x4096 .f32) (hp : Vec Ideal S32x8x128 .f32) (v : Memref sig .tc .vmem S32x520x128 .f32) (b : Nat) (hb : b + 16 ≤ 32) : (n : Nat) → n ≤ 16 → List (View.Piece (Elt Ideal) S1x512x2048 .bf16)
  | 0, _ => []
  | n + 1, h => ⟨Rect.unit (s := S1x512x2048) ![0, 0, 128 * n] ![1, 512, 128] (inbWide n (by omega)),
      slabOut x0 x1 x2 x4 x5 hp v (b + n) (by omega)⟩ :: piecesWide x0 x1 x2 x4 x5 hp v b hb n (Nat.le_of_succ_le h)

/-- 2048 channels of the convolution from slab `b` on. -/
def convWide (x0 : Vec Ideal S1x512x1024 .f32) (x1 : Vec Ideal S1x1024 .f32) (x2 : Vec Ideal S1024x6176 .bf16) (x4 : Vec Ideal S4x4096 .f32) (x5 : Vec Ideal S1x4096 .f32) (hp : Vec Ideal S32x8x128 .f32) (b : Nat) (hb : b + 16 ≤ 32) : Vec Ideal S1x512x2048 .bf16 :=
  fun y => convB x0 x1 x2 x4 x5 hp (y 1) ⟨128 * b + (y 2).val, by have : (y 2).val < 2048 := (y 2).isLt; omega⟩

theorem piecesWide_ok (x0 : Vec Ideal S1x512x1024 .f32) (x1 : Vec Ideal S1x1024 .f32) (x2 : Vec Ideal S1024x6176 .bf16) (x4 : Vec Ideal S4x4096 .f32) (x5 : Vec Ideal S1x4096 .f32) (hp : Vec Ideal S32x8x128 .f32) (v : Memref sig .tc .vmem S32x520x128 .f32) (b : Nat) (hb : b + 16 ≤ 32) (n : Nat) (hn : n ≤ 16) :
    ∀ p ∈ piecesWide x0 x1 x2 x4 x5 hp v b hb n hn, ∀ x : p.1.shape.Idx, p.2 x = convWide x0 x1 x2 x4 x5 hp b hb (p.1.emb x) := by
  induction n with
  | zero => exact fun p hm => absurd hm List.not_mem_nil
  | succ n ih =>
    intro p hm
    rcases List.mem_cons.1 hm with rfl | hm
    · intro x
      obtain ⟨r, l, rfl⟩ := ix_slab x
      have he : (Rect.unit (s := S1x512x2048) ![0, 0, 128 * n] ![1, 512, 128] (inbWide n (by omega))).emb (ix3 0 r l) = (ix3 0 r ⟨128 * n + l.val, by omega⟩ : S1x512x2048.Idx) := by
        funext a
        apply Fin.ext
        rw [Rect.emb_apply]
        match a with
        | ⟨0, _⟩ => rfl
        | ⟨1, _⟩ => show 0 + 1 * r.val = r.val; omega
        | ⟨2, _⟩ => show 128 * n + 1 * l.val = 128 * n + l.val; omega
      refine (slabOut_apply x0 x1 x2 x4 x5 hp v (b + n) (by omega) r l).trans ?_
      refine Eq.trans ?_ (congrArg (convWide x0 x1 x2 x4 x5 hp b hb) he).symm
      show _ = convB x0 x1 x2 x4 x5 hp r ⟨128 * b + (128 * n + l.val), _⟩
      congr 1
      exact Fin.ext (by show 128 * (b + n) + l.val = 128 * b + (128 * n + l.val); omega)
    · exact ih (Nat.le_of_succ_le hn) p hm

theorem inbHalf (n : Nat) (h : 128 * n + 128 ≤ 1024) (a : Fin 3) : (![0, 0, 128 * n] : Fin 3 → Nat) a + (![1, 512, 128] : Fin 3 → Nat) a ≤ S1x512x1024.size a := by
  match a with
  | ⟨0, _⟩ => exact Nat.le_refl _
  | ⟨1, _⟩ => exact Nat.le_refl _
  | ⟨2, _⟩ => exact h

/-- The first `n` stores of an output of eight slabs from slab `b` on, the newest first. -/
def piecesHalf (x0 : Vec Ideal S1x512x1024 .f32) (x1 : Vec Ideal S1x1024 .f32) (x2 : Vec Ideal S1024x6176 .bf16) (x4 : Vec Ideal S4x4096 .f32) (x5 : Vec Ideal S1x4096 .f32) (hp : Vec Ideal S32x8x128 .f32) (v : Memref sig .tc .vmem S32x520x128 .f32) (b : Nat) (hb : b + 8 ≤ 32) : (n : Nat) → n ≤ 8 → List (View.Piece (Elt Ideal) S1x512x1024 .bf16)
  | 0, _ => []
  | n + 1, h => ⟨Rect.unit (s := S1x512x1024) ![0, 0, 128 * n] ![1, 512, 128] (inbHalf n (by omega)),
      slabOut x0 x1 x2 x4 x5 hp v (b + n) (by omega)⟩ :: piecesHalf x0 x1 x2 x4 x5 hp v b hb n (Nat.le_of_succ_le h)

/-- 1024 channels of the convolution from slab `b` on. -/
def convHalf (x0 : Vec Ideal S1x512x1024 .f32) (x1 : Vec Ideal S1x1024 .f32) (x2 : Vec Ideal S1024x6176 .bf16) (x4 : Vec Ideal S4x4096 .f32) (x5 : Vec Ideal S1x4096 .f32) (hp : Vec Ideal S32x8x128 .f32) (b : Nat) (hb : b + 8 ≤ 32) : Vec Ideal S1x512x1024 .bf16 :=
  fun y => convB x0 x1 x2 x4 x5 hp (y 1) ⟨128 * b + (y 2).val, by have : (y 2).val < 1024 := (y 2).isLt; omega⟩

theorem piecesHalf_ok (x0 : Vec Ideal S1x512x1024 .f32) (x1 : Vec Ideal S1x1024 .f32) (x2 : Vec Ideal S1024x6176 .bf16) (x4 : Vec Ideal S4x4096 .f32) (x5 : Vec Ideal S1x4096 .f32) (hp : Vec Ideal S32x8x128 .f32) (v : Memref sig .tc .vmem S32x520x128 .f32) (b : Nat) (hb : b + 8 ≤ 32) (n : Nat) (hn : n ≤ 8) :
    ∀ p ∈ piecesHalf x0 x1 x2 x4 x5 hp v b hb n hn, ∀ x : p.1.shape.Idx, p.2 x = convHalf x0 x1 x2 x4 x5 hp b hb (p.1.emb x) := by
  induction n with
  | zero => exact fun p hm => absurd hm List.not_mem_nil
  | succ n ih =>
    intro p hm
    rcases List.mem_cons.1 hm with rfl | hm
    · intro x
      obtain ⟨r, l, rfl⟩ := ix_slab x
      have he : (Rect.unit (s := S1x512x1024) ![0, 0, 128 * n] ![1, 512, 128] (inbHalf n (by omega))).emb (ix3 0 r l) = (ix3 0 r ⟨128 * n + l.val, by omega⟩ : S1x512x1024.Idx) := by
        funext a
        apply Fin.ext
        rw [Rect.emb_apply]
        match a with
        | ⟨0, _⟩ => rfl
        | ⟨1, _⟩ => show 0 + 1 * r.val = r.val; omega
        | ⟨2, _⟩ => show 128 * n + 1 * l.val = 128 * n + l.val; omega
      refine (slabOut_apply x0 x1 x2 x4 x5 hp v (b + n) (by omega) r l).trans ?_
      refine Eq.trans ?_ (congrArg (convHalf x0 x1 x2 x4 x5 hp b hb) he).symm
      show _ = convB x0 x1 x2 x4 x5 hp r ⟨128 * b + (128 * n + l.val), _⟩
      congr 1
      exact Fin.ext (by show 128 * (b + n) + l.val = 128 * b + (128 * n + l.val); omega)
    · exact ih (Nat.le_of_succ_le hn) p hm

theorem inbZ (n : Nat) (h : 512 * n + 512 ≤ 2048) (a : Fin 3) : (![0, 0, 512 * n] : Fin 3 → Nat) a + (![1, 512, 512] : Fin 3 → Nat) a ≤ S1x512x2048.size a := by
  match a with
  | ⟨0, _⟩ => exact Nat.le_refl _
  | ⟨1, _⟩ => exact Nat.le_refl _
  | ⟨2, _⟩ => exact h

/-- The first `n` stores of the gate's projections, the newest first. -/
def piecesZ (x0 : Vec Ideal S1x512x1024 .f32) (x1 : Vec Ideal S1x1024 .f32) (x2 : Vec Ideal S1024x6176 .bf16) : (n : Nat) → n ≤ 4 → List (View.Piece (Elt Ideal) S1x512x2048 .bf16)
  | 0, _ => []
  | n + 1, h => ⟨Rect.unit (s := S1x512x2048) ![0, 0, 512 * n] ![1, 512, 512] (inbZ n (by omega)),
      k0_pay10 (k0_pay2 x0 x1) (View.ld (Val := Elt Ideal) (S := S1024x6176) (e' := .bf16) x2 (Rect.unit (s := S1024x6176) ![0, 512 * n] ![1024, 512] (inbIn _ (by omega))))⟩
      :: piecesZ x0 x1 x2 n (Nat.le_of_succ_le h)

/-- The gate's projections. -/
def zOf (x0 : Vec Ideal S1x512x1024 .f32) (x1 : Vec Ideal S1x1024 .f32) (x2 : Vec Ideal S1024x6176 .bf16) : Vec Ideal S1x512x2048 .bf16 := fun y => projB x0 x1 x2 (y 1) ⟨(y 2).val, by have : (y 2).val < 2048 := (y 2).isLt; omega⟩

theorem piecesZ_ok (x0 : Vec Ideal S1x512x1024 .f32) (x1 : Vec Ideal S1x1024 .f32) (x2 : Vec Ideal S1024x6176 .bf16) (n : Nat) (hn : n ≤ 4) :
    ∀ p ∈ piecesZ x0 x1 x2 n hn, ∀ x : p.1.shape.Idx, p.2 x = zOf x0 x1 x2 (p.1.emb x) := by
  induction n with
  | zero => exact fun p hm => absurd hm List.not_mem_nil
  | succ n ih =>
    intro p hm
    rcases List.mem_cons.1 hm with rfl | hm
    · intro x
      obtain ⟨r, l, rfl⟩ : ∃ (r : Fin 512) (l : Fin 512), x = ix3 0 r l := ⟨x 1, x 2, by
        rw [ValueIdx.eq_ix3 x]
        congr 1
        exact Subsingleton.elim (α := Fin 1) _ _⟩
      have he : (Rect.unit (s := S1x512x2048) ![0, 0, 512 * n] ![1, 512, 512] (inbZ n (by omega))).emb (ix3 0 r l) = (ix3 0 r ⟨512 * n + l.val, by omega⟩ : S1x512x2048.Idx) := by
        funext a
        apply Fin.ext
        rw [Rect.emb_apply]
        match a with
        | ⟨0, _⟩ => rfl
        | ⟨1, _⟩ => show 0 + 1 * r.val = r.val; omega
        | ⟨2, _⟩ => show 512 * n + 1 * l.val = 512 * n + l.val; omega
      refine (pay10_apply _ _ r l).trans ?_
      refine Eq.trans ?_ (congrArg (zOf x0 x1 x2) he).symm
      show _ = projB x0 x1 x2 r ⟨512 * n + l.val, _⟩
      unfold projB projAt
      refine Finset.sum_congr rfl fun k _ => ?_
      rw [pay2_apply, ld_in]
    · exact ih (Nat.le_of_succ_le hn) p hm

/-- The softplus of the time steps. -/
def dtOf (x0 : Vec Ideal S1x512x1024 .f32) (x1 : Vec Ideal S1x1024 .f32) (x3 : Vec Ideal S1024x128 .bf16) (x6 : Vec Ideal S1x128 .f32) : Vec Ideal S1x512x128 .f32 :=
  fun y => dtB x0 x1 x3 x6 (y 1) (y 2)

theorem dt_all (x0 : Vec Ideal S1x512x1024 .f32) (x1 : Vec Ideal S1x1024 .f32) (x3 : Vec Ideal S1024x128 .bf16) (x6 : Vec Ideal S1x128 .f32) :
    k0_pay8 (k0_pay6 (F := Ideal) x0 x1 x3 x6) (k0_pay7 (F := Ideal) x0 x1 x3 x6) = dtOf x0 x1 x3 x6 := by
  funext y
  obtain ⟨r, l, rfl⟩ := ix_slab y
  exact dt_apply x0 x1 x3 x6 r l

theorem sout0_A_0_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : cond0_0 i) (hc1 : ¬cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = extOf x0 x1 x2 (k0_pay3 (F := Ideal)) := by
  have hz2 : (![0, 0] : Fin 2 → Nat) = fun _ => 0 := by funext a; fin_cases a <;> rfl
  have hz3 : (![0, 0, 0] : Fin 3 → Nat) = fun _ => 0 := by funext a; fin_cases a <;> rfl
  funext y
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  refine View.canon_apply_of_pieces (extOf x0 x1 x2 (k0_pay3 (F := Ideal))) _ ?_ y (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y)
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S1x512x1024) hz3, View.ld_unit_zero (S := S1x1024) hz2, View.ld_unit_zero (S := S1024x128) hz2, View.ld_unit_zero (S := S1x128) hz2]
  exact slabs_ok x0 x1 x2 (k0_pay3 (F := Ideal)) 32 (by omega)

theorem out0_A_7_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : cond0_0 i) (hc1 : ¬cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) :
    out0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = zOf x0 x1 x2 := by
  have hz2 : (![0, 0] : Fin 2 → Nat) = fun _ => 0 := by funext a; fin_cases a <;> rfl
  have hz3 : (![0, 0, 0] : Fin 3 → Nat) = fun _ => 0 := by funext a; fin_cases a <;> rfl
  funext y
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  refine View.canon_apply_of_pieces (zOf x0 x1 x2) _ ?_ y (cover0_A_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y)
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S1x512x1024) hz3, View.ld_unit_zero (S := S1x1024) hz2, View.ld_unit_zero (S := S1024x128) hz2, View.ld_unit_zero (S := S1x128) hz2]
  exact piecesZ_ok x0 x1 x2 4 (by omega)

theorem out0_A_8_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : cond0_0 i) (hc1 : ¬cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) :
    out0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = convWide x0 x1 x2 x4 x5 (k0_pay3 (F := Ideal)) 0 (by omega) := by
  have hz2 : (![0, 0] : Fin 2 → Nat) = fun _ => 0 := by funext a; fin_cases a <;> rfl
  have hz3 : (![0, 0, 0] : Fin 3 → Nat) = fun _ => 0 := by funext a; fin_cases a <;> rfl
  funext y
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  refine View.canon_apply_of_pieces (convWide x0 x1 x2 x4 x5 (k0_pay3 (F := Ideal)) 0 (by omega)) _ ?_ y (cover0_A_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y)
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S1x512x1024) hz3, View.ld_unit_zero (S := S1x1024) hz2, View.ld_unit_zero (S := S1024x128) hz2, View.ld_unit_zero (S := S1x128) hz2]
  exact piecesWide_ok x0 x1 x2 x4 x5 (k0_pay3 (F := Ideal)) arg14 0 (by omega) 16 (by omega)

theorem out0_A_9_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : cond0_0 i) (hc1 : ¬cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) :
    out0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = convHalf x0 x1 x2 x4 x5 (k0_pay3 (F := Ideal)) 16 (by omega) := by
  have hz2 : (![0, 0] : Fin 2 → Nat) = fun _ => 0 := by funext a; fin_cases a <;> rfl
  have hz3 : (![0, 0, 0] : Fin 3 → Nat) = fun _ => 0 := by funext a; fin_cases a <;> rfl
  funext y
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  refine View.canon_apply_of_pieces (convHalf x0 x1 x2 x4 x5 (k0_pay3 (F := Ideal)) 16 (by omega)) _ ?_ y (cover0_A_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y)
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S1x512x1024) hz3, View.ld_unit_zero (S := S1x1024) hz2, View.ld_unit_zero (S := S1024x128) hz2, View.ld_unit_zero (S := S1x128) hz2]
  exact piecesHalf_ok x0 x1 x2 x4 x5 (k0_pay3 (F := Ideal)) arg14 16 (by omega) 8 (by omega)

theorem out0_A_10_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : cond0_0 i) (hc1 : ¬cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) :
    out0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = convHalf x0 x1 x2 x4 x5 (k0_pay3 (F := Ideal)) 24 (by omega) := by
  have hz2 : (![0, 0] : Fin 2 → Nat) = fun _ => 0 := by funext a; fin_cases a <;> rfl
  have hz3 : (![0, 0, 0] : Fin 3 → Nat) = fun _ => 0 := by funext a; fin_cases a <;> rfl
  funext y
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  refine View.canon_apply_of_pieces (convHalf x0 x1 x2 x4 x5 (k0_pay3 (F := Ideal)) 24 (by omega)) _ ?_ y (cover0_A_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 y)
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S1x512x1024) hz3, View.ld_unit_zero (S := S1x1024) hz2, View.ld_unit_zero (S := S1024x128) hz2, View.ld_unit_zero (S := S1x128) hz2]
  exact piecesHalf_ok x0 x1 x2 x4 x5 (k0_pay3 (F := Ideal)) arg14 24 (by omega) 8 (by omega)

theorem out0_A_11_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : cond0_0 i) (hc1 : ¬cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) :
    out0_A_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = dtOf x0 x1 x3 x6 := by
  have hz2 : (![0, 0] : Fin 2 → Nat) = fun _ => 0 := by funext a; fin_cases a <;> rfl
  have hz3 : (![0, 0, 0] : Fin 3 → Nat) = fun _ => 0 := by funext a; fin_cases a <;> rfl
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x512x1024) hz3, View.ld_unit_zero (S := S1x1024) hz2, View.ld_unit_zero (S := S1024x128) hz2, View.ld_unit_zero (S := S1x128) hz2]
  exact dt_all x0 x1 x3 x6

theorem sout0_B_0_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : ¬cond0_0 i) (hc1 : cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) (xs0 : Vec Ideal S32x520x128 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 = extOf x0 x1 x2 (k0_pay4 (View.ld (Val := Elt Ideal) (S := S32x520x128) (e' := .f32) xs0 (Rect.unit (s := S32x520x128) ![0, 512, 0] ![32, 8, 128] inb_S32x520x128_S32x8x128_0_512_0))) := by
  have hz2 : (![0, 0] : Fin 2 → Nat) = fun _ => 0 := by funext a; fin_cases a <;> rfl
  have hz3 : (![0, 0, 0] : Fin 3 → Nat) = fun _ => 0 := by funext a; fin_cases a <;> rfl
  funext y
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  refine View.canon_apply_of_pieces (extOf x0 x1 x2 (k0_pay4 (View.ld (Val := Elt Ideal) (S := S32x520x128) (e' := .f32) xs0 (Rect.unit (s := S32x520x128) ![0, 512, 0] ![32, 8, 128] inb_S32x520x128_S32x8x128_0_512_0)))) _ ?_ y (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 y)
  unfold kernelRun0_B
  dsimp only
  sl_unfold_words
  simp only [View.readAt_eq_ld, harg2.read_unread, harg3.read_unread, harg4.read_unread, harg5.read_unread, harg6.read_unread, harg7.read_unread, harg8.read_unread, harg14.read_unread, View.ld_unit_zero (S := S1x512x1024) hz3, View.ld_unit_zero (S := S1x1024) hz2, View.ld_unit_zero (S := S1024x128) hz2, View.ld_unit_zero (S := S1x128) hz2]
  exact slabs_ok x0 x1 x2 (k0_pay4 (View.ld (Val := Elt Ideal) (S := S32x520x128) (e' := .f32) xs0 (Rect.unit (s := S32x520x128) ![0, 512, 0] ![32, 8, 128] inb_S32x520x128_S32x8x128_0_512_0))) 32 (by omega)

theorem out0_B_7_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : ¬cond0_0 i) (hc1 : cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) (xs0 : Vec Ideal S32x520x128 .f32) :
    out0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 = zOf x0 x1 x2 := by
  have hz2 : (![0, 0] : Fin 2 → Nat) = fun _ => 0 := by funext a; fin_cases a <;> rfl
  have hz3 : (![0, 0, 0] : Fin 3 → Nat) = fun _ => 0 := by funext a; fin_cases a <;> rfl
  funext y
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  refine View.canon_apply_of_pieces (zOf x0 x1 x2) _ ?_ y (cover0_B_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 y)
  unfold kernelRun0_B
  dsimp only
  sl_unfold_words
  simp only [View.readAt_eq_ld, harg2.read_unread, harg3.read_unread, harg4.read_unread, harg5.read_unread, harg6.read_unread, harg7.read_unread, harg8.read_unread, harg14.read_unread, View.ld_unit_zero (S := S1x512x1024) hz3, View.ld_unit_zero (S := S1x1024) hz2, View.ld_unit_zero (S := S1024x128) hz2, View.ld_unit_zero (S := S1x128) hz2]
  exact piecesZ_ok x0 x1 x2 4 (by omega)

theorem out0_B_8_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : ¬cond0_0 i) (hc1 : cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) (xs0 : Vec Ideal S32x520x128 .f32) :
    out0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 = convWide x0 x1 x2 x4 x5 (k0_pay4 (View.ld (Val := Elt Ideal) (S := S32x520x128) (e' := .f32) xs0 (Rect.unit (s := S32x520x128) ![0, 512, 0] ![32, 8, 128] inb_S32x520x128_S32x8x128_0_512_0))) 0 (by omega) := by
  have hz2 : (![0, 0] : Fin 2 → Nat) = fun _ => 0 := by funext a; fin_cases a <;> rfl
  have hz3 : (![0, 0, 0] : Fin 3 → Nat) = fun _ => 0 := by funext a; fin_cases a <;> rfl
  funext y
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  refine View.canon_apply_of_pieces (convWide x0 x1 x2 x4 x5 (k0_pay4 (View.ld (Val := Elt Ideal) (S := S32x520x128) (e' := .f32) xs0 (Rect.unit (s := S32x520x128) ![0, 512, 0] ![32, 8, 128] inb_S32x520x128_S32x8x128_0_512_0))) 0 (by omega)) _ ?_ y (cover0_B_8 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 y)
  unfold kernelRun0_B
  dsimp only
  sl_unfold_words
  simp only [View.readAt_eq_ld, harg2.read_unread, harg3.read_unread, harg4.read_unread, harg5.read_unread, harg6.read_unread, harg7.read_unread, harg8.read_unread, harg14.read_unread, View.ld_unit_zero (S := S1x512x1024) hz3, View.ld_unit_zero (S := S1x1024) hz2, View.ld_unit_zero (S := S1024x128) hz2, View.ld_unit_zero (S := S1x128) hz2]
  exact piecesWide_ok x0 x1 x2 x4 x5 (k0_pay4 (View.ld (Val := Elt Ideal) (S := S32x520x128) (e' := .f32) xs0 (Rect.unit (s := S32x520x128) ![0, 512, 0] ![32, 8, 128] inb_S32x520x128_S32x8x128_0_512_0))) arg14 0 (by omega) 16 (by omega)

theorem out0_B_9_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : ¬cond0_0 i) (hc1 : cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) (xs0 : Vec Ideal S32x520x128 .f32) :
    out0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 = convHalf x0 x1 x2 x4 x5 (k0_pay4 (View.ld (Val := Elt Ideal) (S := S32x520x128) (e' := .f32) xs0 (Rect.unit (s := S32x520x128) ![0, 512, 0] ![32, 8, 128] inb_S32x520x128_S32x8x128_0_512_0))) 16 (by omega) := by
  have hz2 : (![0, 0] : Fin 2 → Nat) = fun _ => 0 := by funext a; fin_cases a <;> rfl
  have hz3 : (![0, 0, 0] : Fin 3 → Nat) = fun _ => 0 := by funext a; fin_cases a <;> rfl
  funext y
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  refine View.canon_apply_of_pieces (convHalf x0 x1 x2 x4 x5 (k0_pay4 (View.ld (Val := Elt Ideal) (S := S32x520x128) (e' := .f32) xs0 (Rect.unit (s := S32x520x128) ![0, 512, 0] ![32, 8, 128] inb_S32x520x128_S32x8x128_0_512_0))) 16 (by omega)) _ ?_ y (cover0_B_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 y)
  unfold kernelRun0_B
  dsimp only
  sl_unfold_words
  simp only [View.readAt_eq_ld, harg2.read_unread, harg3.read_unread, harg4.read_unread, harg5.read_unread, harg6.read_unread, harg7.read_unread, harg8.read_unread, harg14.read_unread, View.ld_unit_zero (S := S1x512x1024) hz3, View.ld_unit_zero (S := S1x1024) hz2, View.ld_unit_zero (S := S1024x128) hz2, View.ld_unit_zero (S := S1x128) hz2]
  exact piecesHalf_ok x0 x1 x2 x4 x5 (k0_pay4 (View.ld (Val := Elt Ideal) (S := S32x520x128) (e' := .f32) xs0 (Rect.unit (s := S32x520x128) ![0, 512, 0] ![32, 8, 128] inb_S32x520x128_S32x8x128_0_512_0))) arg14 16 (by omega) 8 (by omega)

theorem out0_B_10_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : ¬cond0_0 i) (hc1 : cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) (xs0 : Vec Ideal S32x520x128 .f32) :
    out0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 = convHalf x0 x1 x2 x4 x5 (k0_pay4 (View.ld (Val := Elt Ideal) (S := S32x520x128) (e' := .f32) xs0 (Rect.unit (s := S32x520x128) ![0, 512, 0] ![32, 8, 128] inb_S32x520x128_S32x8x128_0_512_0))) 24 (by omega) := by
  have hz2 : (![0, 0] : Fin 2 → Nat) = fun _ => 0 := by funext a; fin_cases a <;> rfl
  have hz3 : (![0, 0, 0] : Fin 3 → Nat) = fun _ => 0 := by funext a; fin_cases a <;> rfl
  funext y
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  refine View.canon_apply_of_pieces (convHalf x0 x1 x2 x4 x5 (k0_pay4 (View.ld (Val := Elt Ideal) (S := S32x520x128) (e' := .f32) xs0 (Rect.unit (s := S32x520x128) ![0, 512, 0] ![32, 8, 128] inb_S32x520x128_S32x8x128_0_512_0))) 24 (by omega)) _ ?_ y (cover0_B_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 y)
  unfold kernelRun0_B
  dsimp only
  sl_unfold_words
  simp only [View.readAt_eq_ld, harg2.read_unread, harg3.read_unread, harg4.read_unread, harg5.read_unread, harg6.read_unread, harg7.read_unread, harg8.read_unread, harg14.read_unread, View.ld_unit_zero (S := S1x512x1024) hz3, View.ld_unit_zero (S := S1x1024) hz2, View.ld_unit_zero (S := S1024x128) hz2, View.ld_unit_zero (S := S1x128) hz2]
  exact piecesHalf_ok x0 x1 x2 x4 x5 (k0_pay4 (View.ld (Val := Elt Ideal) (S := S32x520x128) (e' := .f32) xs0 (Rect.unit (s := S32x520x128) ![0, 512, 0] ![32, 8, 128] inb_S32x520x128_S32x8x128_0_512_0))) arg14 24 (by omega) 8 (by omega)

theorem out0_B_11_eq (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x6176 .bf16) (harg4 : arg4.IsWhole) (arg5 : Memref sig .tc .vmem S1024x128 .bf16) (harg5 : arg5.IsWhole) (arg6 : Memref sig .tc .vmem S4x4096 .f32) (harg6 : arg6.IsWhole) (arg7 : Memref sig .tc .vmem S1x4096 .f32) (harg7 : arg7.IsWhole) (arg8 : Memref sig .tc .vmem S1x128 .f32) (harg8 : arg8.IsWhole) (arg9 : Memref sig .tc .vmem S1x512x2048 .bf16) (harg9 : arg9.IsWhole) (arg10 : Memref sig .tc .vmem S1x512x2048 .bf16) (harg10 : arg10.IsWhole) (arg11 : Memref sig .tc .vmem S1x512x1024 .bf16) (harg11 : arg11.IsWhole) (arg12 : Memref sig .tc .vmem S1x512x1024 .bf16) (harg12 : arg12.IsWhole) (arg13 : Memref sig .tc .vmem S1x512x128 .f32) (harg13 : arg13.IsWhole) (arg14 : Memref sig .tc .vmem S32x520x128 .f32) (harg14 : arg14.IsWhole) (hc0 : ¬cond0_0 i) (hc1 : cond0_1 i)
    (x0 : Vec Ideal S1x512x1024 .f32) (x1 : Vec Ideal S1x1024 .f32) (x2 : Vec Ideal S1024x6176 .bf16) (x3 : Vec Ideal S1024x128 .bf16) (x4 : Vec Ideal S4x4096 .f32) (x5 : Vec Ideal S1x4096 .f32) (x6 : Vec Ideal S1x128 .f32) (xs0 : Vec Ideal S32x520x128 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0 = dtOf x0 x1 x3 x6 := by
  have hz2 : (![0, 0] : Fin 2 → Nat) = fun _ => 0 := by funext a; fin_cases a <;> rfl
  have hz3 : (![0, 0, 0] : Fin 3 → Nat) = fun _ => 0 := by funext a; fin_cases a <;> rfl
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg14.read_unread, View.ld_unit_zero (S := S1x512x1024) hz3, View.ld_unit_zero (S := S1x1024) hz2, View.ld_unit_zero (S := S1024x128) hz2, View.ld_unit_zero (S := S1x128) hz2]
  exact dt_all x0 x1 x3 x6

end Cert.Kernel5Ideal.Block

end
-- ==== Proof.SsdInArray.lean ====
/- The result arrays of the state space layer's input kernel: every row is the projected, convolved and activated row. Grid point
   `t` works on sequence `t / 16`, rows `512 (t % 16) …`, and starts from the last eight rows' projections of the point before. -/
module

public import proofs.«01_k».proof.Proof.SsdInOut
public import Idealize.ShloMosaic.Lib.Pipeline.ValueKit.Geometry

@[expose] public section

set_option maxRecDepth 65536

noncomputable section

namespace Cert.Kernel5Ideal.Block

open Cert.Kernel5Ideal Cert.Kernel5Ideal.Gen Cert.Layer Idealize.ShloMosaic Idealize.ShloMosaic.TcCoe Idealize.SL.Sem

variable (m : (ℓ : Loc nD τ sig) → Buf (Elt Ideal) ℓ) (ρ : Dev nD → PrngReg)

/-- The time step's weights and bias, padded with zeros to 128 columns. -/
def wdtOf (a : FVec Ideal S1x1024x6176 .f32) (k : Fin 1024) (l : Fin 128) : EReal := if hl : l.val < 32 then a (ix3 0 k ⟨6144 + l.val, by omega⟩) else 0
def dtbOf (a : FVec Ideal S1x32 .f32) (l : Fin 128) : EReal := if hl : l.val < 32 then a (ix2 0 ⟨l.val, hl⟩) else 0

/-- The gate's projections as a function of the arguments. -/
def resultZ (a0 : FVec Ideal S2x8192x1024 .f32) (a1 : FVec Ideal S4x1024 .f32) (a2 : FVec Ideal S1x1024x6176 .f32) : FVec Ideal S2x8192x2048 .bf16 := fun y =>
  projAt (normed (fun k => a0 (ix3 (y 0) (y 1) k)) (fun k => a1 (ix2 2 k))) (fun k c => a2 (ix3 0 k c)) ⟨(y 2).val, by have : (y 2).val < 2048 := (y 2).isLt; omega⟩

/-- One convolved channel as a function of the arguments. -/
def convOf (a0 : FVec Ideal S2x8192x1024 .f32) (a1 : FVec Ideal S4x1024 .f32) (a2 : FVec Ideal S1x1024x6176 .f32) (a3 : FVec Ideal S1x4x4096 .f32) (a4 : FVec Ideal S1x4096 .f32) (b : Fin 2) (s : Fin 8192) (c : Fin 4096) : EReal :=
  ssdConv (fun s k => a0 (ix3 b s k)) (fun k => a1 (ix2 2 k)) (fun k c => a2 (ix3 0 k c)) (fun q c => a3 (ix3 0 q c)) (fun c => a4 (ix2 0 c)) s c

/-- The first 2048 channels. -/
def resultX (a0 : FVec Ideal S2x8192x1024 .f32) (a1 : FVec Ideal S4x1024 .f32) (a2 : FVec Ideal S1x1024x6176 .f32) (a3 : FVec Ideal S1x4x4096 .f32) (a4 : FVec Ideal S1x4096 .f32) : FVec Ideal S2x8192x2048 .bf16 := fun y => convOf a0 a1 a2 a3 a4 (y 0) (y 1) ⟨(y 2).val, by have : (y 2).val < 2048 := (y 2).isLt; omega⟩
/-- The next 1024 channels. -/
def resultB (a0 : FVec Ideal S2x8192x1024 .f32) (a1 : FVec Ideal S4x1024 .f32) (a2 : FVec Ideal S1x1024x6176 .f32) (a3 : FVec Ideal S1x4x4096 .f32) (a4 : FVec Ideal S1x4096 .f32) : FVec Ideal S2x8192x1024 .bf16 := fun y => convOf a0 a1 a2 a3 a4 (y 0) (y 1) ⟨2048 + (y 2).val, by have : (y 2).val < 1024 := (y 2).isLt; omega⟩
/-- The last 1024 channels. -/
def resultC (a0 : FVec Ideal S2x8192x1024 .f32) (a1 : FVec Ideal S4x1024 .f32) (a2 : FVec Ideal S1x1024x6176 .f32) (a3 : FVec Ideal S1x4x4096 .f32) (a4 : FVec Ideal S1x4096 .f32) : FVec Ideal S2x8192x1024 .bf16 := fun y => convOf a0 a1 a2 a3 a4 (y 0) (y 1) ⟨3072 + (y 2).val, by have : (y 2).val < 1024 := (y 2).isLt; omega⟩
/-- The time steps. -/
def resultD (a0 : FVec Ideal S2x8192x1024 .f32) (a1 : FVec Ideal S4x1024 .f32) (a2 : FVec Ideal S1x1024x6176 .f32) (a5 : FVec Ideal S1x32 .f32) : FVec Ideal S2x8192x128 .f32 := fun y =>
  ssdDt (normed (fun k => a0 (ix3 (y 0) (y 1) k)) (fun k => a1 (ix2 2 k))) (fun k c => a2 (ix3 0 k c)) (fun l => a5 (ix2 0 l)) (y 2)

theorem w_apply (a : FVec Ideal S4x1024 .f32) (k : Fin 1024) :
    (broadcastInDim S1x1024 ![1] bcast_S1024_S1x1024_1 (shapeCast S1024 (extractStridedSlice S1x1024 ![2, 0] a slices_S4x1024_S1x1024_2_0) shapeCasts_S1x1024_S1024) : FVec Ideal S1x1024 .f32) (ix2 0 k) = a (ix2 2 k) := by
  pointwise

theorem V_w (c : Dev nD) (k : Fin 1024) : (V m c main_v6 : FVec Ideal S1x1024 .f32) (ix2 0 k) = (m ((c : Thread nD τ).loc main_arg1) : FVec Ideal S4x1024 .f32) (ix2 2 k) := by
  have h : (V m c main_v6 : FVec Ideal S1x1024 .f32) = broadcastInDim S1x1024 ![1] bcast_S1024_S1x1024_1 (shapeCast S1024 (extractStridedSlice S1x1024 ![2, 0] (m ((c : Thread nD τ).loc main_arg1) : FVec Ideal S4x1024 .f32) slices_S4x1024_S1x1024_2_0) shapeCasts_S1x1024_S1024) := by
    show StableHlo.after (List.flatten [hostOps0, hostOps0_1, hostOps0_2, hostOps0_3]) _ (Proc.devRef .tc main_v6) = _
    simp only [hostOps0, hostOps0_1, hostOps0_2, hostOps0_3, List.flatten_cons, List.flatten_nil, List.append_nil, List.cons_append, List.nil_append]
    after_results
    rfl
  rw [h]
  exact w_apply _ k

theorem win_apply (a : FVec Ideal S1x1024x6176 .f32) (k : Fin 1024) (j : Fin 6176) :
    ((truncf .bf16 (shapeCast S1024x6176 a shapeCasts_S1x1024x6176_S1024x6176 : FVec Ideal S1024x6176 .f32) bitsLt_bf16_f32 : FVec Ideal S1024x6176 .bf16) : FVec Ideal S1024x6176 .bf16) (ix2 k j) = a (ix3 0 k j) := by
  pointwise

theorem V_win (c : Dev nD) (k : Fin 1024) (j : Fin 6176) : (V m c main_v8 : FVec Ideal S1024x6176 .bf16) (ix2 k j) = (m ((c : Thread nD τ).loc main_arg2) : FVec Ideal S1x1024x6176 .f32) (ix3 0 k j) := by
  have h : (V m c main_v8 : FVec Ideal S1024x6176 .bf16) = (truncf .bf16 (shapeCast S1024x6176 (m ((c : Thread nD τ).loc main_arg2) : FVec Ideal S1x1024x6176 .f32) shapeCasts_S1x1024x6176_S1024x6176 : FVec Ideal S1024x6176 .f32) bitsLt_bf16_f32 : FVec Ideal S1024x6176 .bf16) := by
    show StableHlo.after (List.flatten [hostOps0, hostOps0_1, hostOps0_2, hostOps0_3]) _ (Proc.devRef .tc main_v8) = _
    simp only [hostOps0, hostOps0_1, hostOps0_2, hostOps0_3, List.flatten_cons, List.flatten_nil, List.append_nil, List.cons_append, List.nil_append]
    after_results
    rfl
  rw [h]
  exact win_apply _ k j

theorem cw_apply (a : FVec Ideal S1x4x4096 .f32) (q : Fin 4) (k : Fin 4096) :
    (shapeCast S4x4096 a shapeCasts_S1x4x4096_S4x4096 : FVec Ideal S4x4096 .f32) (ix2 q k) = a (ix3 0 q k) := by
  pointwise

theorem V_cw (c : Dev nD) (q : Fin 4) (k : Fin 4096) : (V m c main_v9 : FVec Ideal S4x4096 .f32) (ix2 q k) = (m ((c : Thread nD τ).loc main_arg3) : FVec Ideal S1x4x4096 .f32) (ix3 0 q k) := by
  have h : (V m c main_v9 : FVec Ideal S4x4096 .f32) = shapeCast S4x4096 (m ((c : Thread nD τ).loc main_arg3) : FVec Ideal S1x4x4096 .f32) shapeCasts_S1x4x4096_S4x4096 := by
    show StableHlo.after (List.flatten [hostOps0, hostOps0_1, hostOps0_2, hostOps0_3]) _ (Proc.devRef .tc main_v9) = _
    simp only [hostOps0, hostOps0_1, hostOps0_2, hostOps0_3, List.flatten_cons, List.flatten_nil, List.append_nil, List.cons_append, List.nil_append]
    after_results
    rfl
  rw [h]
  exact cw_apply _ q k

theorem cb_apply (a : FVec Ideal S1x4096 .f32) (k : Fin 4096) :
    (broadcastInDim S1x4096 ![1] bcast_S4096_S1x4096_1 (shapeCast S4096 a shapeCasts_S1x4096_S4096) : FVec Ideal S1x4096 .f32) (ix2 0 k) = a (ix2 0 k) := by
  pointwise

theorem V_cb (c : Dev nD) (k : Fin 4096) : (V m c main_v11 : FVec Ideal S1x4096 .f32) (ix2 0 k) = (m ((c : Thread nD τ).loc main_arg4) : FVec Ideal S1x4096 .f32) (ix2 0 k) := by
  have h : (V m c main_v11 : FVec Ideal S1x4096 .f32) = broadcastInDim S1x4096 ![1] bcast_S4096_S1x4096_1 (shapeCast S4096 (m ((c : Thread nD τ).loc main_arg4) : FVec Ideal S1x4096 .f32) shapeCasts_S1x4096_S4096) := by
    show StableHlo.after (List.flatten [hostOps0, hostOps0_1, hostOps0_2, hostOps0_3]) _ (Proc.devRef .tc main_v11) = _
    simp only [hostOps0, hostOps0_1, hostOps0_2, hostOps0_3, List.flatten_cons, List.flatten_nil, List.append_nil, List.cons_append, List.nil_append]
    after_results
    rfl
  rw [h]
  exact cb_apply _ k

theorem wdt_apply (a : FVec Ideal S1x1024x6176 .f32) (k : Fin 1024) (l : Fin 128) :
    ((truncf .bf16 (pad S1024x128 ![0, 0] ![0, 96] ![0, 0] (extractStridedSlice S1024x32 ![0, 6144] (shapeCast S1024x6176 a shapeCasts_S1x1024x6176_S1024x6176 : FVec Ideal S1024x6176 .f32) slices_S1024x6176_S1024x32_0_6144) (sitofp .f32 (constantI S_ 32 0#32)) pads_S1024x32_S1024x128_000_0960 h_S_ : FVec Ideal S1024x128 .f32) bitsLt_bf16_f32 : FVec Ideal S1024x128 .bf16) : FVec Ideal S1024x128 .bf16) (ix2 k l) = wdtOf a k l := by
  unfold wdtOf
  pointwise
  have hz : (FloatOps.sitofp FTy.f32 0#32 : Ideal .f32) = (0 : EReal) := by
    show (((0#32 : BitVec 32).toInt : ℝ) : EReal) = 0
    simp
  rw [hz]

theorem V_wdt (c : Dev nD) (k : Fin 1024) (l : Fin 128) : (V m c main_v3 : FVec Ideal S1024x128 .bf16) (ix2 k l) = wdtOf (m ((c : Thread nD τ).loc main_arg2) : FVec Ideal S1x1024x6176 .f32) k l := by
  have h : (V m c main_v3 : FVec Ideal S1024x128 .bf16) = (truncf .bf16 (pad S1024x128 ![0, 0] ![0, 96] ![0, 0] (extractStridedSlice S1024x32 ![0, 6144] (shapeCast S1024x6176 (m ((c : Thread nD τ).loc main_arg2) : FVec Ideal S1x1024x6176 .f32) shapeCasts_S1x1024x6176_S1024x6176 : FVec Ideal S1024x6176 .f32) slices_S1024x6176_S1024x32_0_6144) (sitofp .f32 (constantI S_ 32 0#32)) pads_S1024x32_S1024x128_000_0960 h_S_ : FVec Ideal S1024x128 .f32) bitsLt_bf16_f32 : FVec Ideal S1024x128 .bf16) := by
    show StableHlo.after (List.flatten [hostOps0, hostOps0_1, hostOps0_2, hostOps0_3]) _ (Proc.devRef .tc main_v3) = _
    simp only [hostOps0, hostOps0_1, hostOps0_2, hostOps0_3, List.flatten_cons, List.flatten_nil, List.append_nil, List.cons_append, List.nil_append]
    after_results
    rfl
  rw [h]
  exact wdt_apply _ k l

theorem dtb_apply (a : FVec Ideal S1x32 .f32) (l : Fin 128) :
    ((pad S1x128 ![0, 0] ![0, 96] ![0, 0] a (sitofp .f32 (constantI S_ 32 0#32)) pads_S1x32_S1x128_000_0960 h_S_ : FVec Ideal S1x128 .f32) : FVec Ideal S1x128 .f32) (ix2 0 l) = dtbOf a l := by
  unfold dtbOf
  pointwise
  have hz : (FloatOps.sitofp FTy.f32 0#32 : Ideal .f32) = (0 : EReal) := by
    show (((0#32 : BitVec 32).toInt : ℝ) : EReal) = 0
    simp
  rw [hz]

theorem V_dtb (c : Dev nD) (l : Fin 128) : (V m c main_v12 : FVec Ideal S1x128 .f32) (ix2 0 l) = dtbOf (m ((c : Thread nD τ).loc main_arg5) : FVec Ideal S1x32 .f32) l := by
  have h : (V m c main_v12 : FVec Ideal S1x128 .f32) = (pad S1x128 ![0, 0] ![0, 96] ![0, 0] (m ((c : Thread nD τ).loc main_arg5) : FVec Ideal S1x32 .f32) (sitofp .f32 (constantI S_ 32 0#32)) pads_S1x32_S1x128_000_0960 h_S_ : FVec Ideal S1x128 .f32) := by
    show StableHlo.after (List.flatten [hostOps0, hostOps0_1, hostOps0_2, hostOps0_3]) _ (Proc.devRef .tc main_v12) = _
    simp only [hostOps0, hostOps0_1, hostOps0_2, hostOps0_3, List.flatten_cons, List.flatten_nil, List.append_nil, List.cons_append, List.nil_append]
    after_results
    rfl
  rw [h]
  exact dtb_apply _ l
theorem idx0 : ∀ t : Fin cfg0.N, win0_0.index t 0 = t.val / 16 ∧ win0_0.index t 1 = t.val % 16 ∧ win0_0.index t 2 = 0 := by
  show ∀ t : Fin grid0.N, _
  decide +kernel
theorem idx1 : ∀ t : Fin cfg0.N, win0_1.index t 0 = 0 ∧ win0_1.index t 1 = 0 := by
  show ∀ t : Fin grid0.N, _
  decide +kernel
theorem idx2 : ∀ t : Fin cfg0.N, win0_2.index t 0 = 0 ∧ win0_2.index t 1 = 0 := by
  show ∀ t : Fin grid0.N, _
  decide +kernel
theorem idx3 : ∀ t : Fin cfg0.N, win0_3.index t 0 = 0 ∧ win0_3.index t 1 = 0 := by
  show ∀ t : Fin grid0.N, _
  decide +kernel
theorem idx4 : ∀ t : Fin cfg0.N, win0_4.index t 0 = 0 ∧ win0_4.index t 1 = 0 := by
  show ∀ t : Fin grid0.N, _
  decide +kernel
theorem idx5 : ∀ t : Fin cfg0.N, win0_5.index t 0 = 0 ∧ win0_5.index t 1 = 0 := by
  show ∀ t : Fin grid0.N, _
  decide +kernel
theorem idx6 : ∀ t : Fin cfg0.N, win0_6.index t 0 = 0 ∧ win0_6.index t 1 = 0 := by
  show ∀ t : Fin grid0.N, _
  decide +kernel
theorem idx7 : ∀ t : Fin cfg0.N, win0_7.index t 0 = t.val / 16 ∧ win0_7.index t 1 = t.val % 16 ∧ win0_7.index t 2 = 0 := by
  show ∀ t : Fin grid0.N, _
  decide +kernel
theorem idx8 : ∀ t : Fin cfg0.N, win0_8.index t 0 = t.val / 16 ∧ win0_8.index t 1 = t.val % 16 ∧ win0_8.index t 2 = 0 := by
  show ∀ t : Fin grid0.N, _
  decide +kernel
theorem idx9 : ∀ t : Fin cfg0.N, win0_9.index t 0 = t.val / 16 ∧ win0_9.index t 1 = t.val % 16 ∧ win0_9.index t 2 = 0 := by
  show ∀ t : Fin grid0.N, _
  decide +kernel
theorem idx10 : ∀ t : Fin cfg0.N, win0_10.index t 0 = t.val / 16 ∧ win0_10.index t 1 = t.val % 16 ∧ win0_10.index t 2 = 0 := by
  show ∀ t : Fin grid0.N, _
  decide +kernel
theorem idx11 : ∀ t : Fin cfg0.N, win0_11.index t 0 = t.val / 16 ∧ win0_11.index t 1 = t.val % 16 ∧ win0_11.index t 2 = 0 := by
  show ∀ t : Fin grid0.N, _
  decide +kernel

theorem tlt (t : Fin cfg0.N) : t.val < 32 := t.isLt

/-- The sequence of point `t` and the row of the sequence that row `r` of its block is. -/
def seqOf (t : Fin cfg0.N) : Fin 2 := ⟨t.val / 16, by have := tlt t; omega⟩
def posOf (t : Fin cfg0.N) (r : Fin 512) : Fin 8192 := ⟨t.val % 16 * 512 + r.val, by omega⟩

theorem blk0 (c : Dev nD) (t : Fin cfg0.N) (r : Fin 512) (k : Fin 1024) :
    (iblk m c 0 t : Vec Ideal S1x512x1024 .f32) (ix3 0 r k) = (m ((c : Thread nD τ).loc main_arg0) : FVec Ideal S2x8192x1024 .f32) (ix3 (seqOf t) (posOf t r) k) := by
  unfold iblk
  rw [View.read_apply, ← V_main_arg0 m c]
  show (V m c main_arg0 : FVec Ideal S2x8192x1024 .f32) ((win0_0.rect t).emb (ix3 0 r k)) = _
  refine congrArg _ (funext fun a => Fin.ext ?_)
  rw [Pipeline.Window.rect_emb_val win0_0 t _ a]
  match a with
  | ⟨0, _⟩ => show win0_0.index t 0 * 1 + 0 = t.val / 16; rw [(idx0 t).1]; all_goals omega
  | ⟨1, _⟩ => show win0_0.index t 1 * 512 + r.val = t.val % 16 * 512 + r.val; rw [(idx0 t).2.1]; all_goals omega
  | ⟨2, _⟩ => show win0_0.index t 2 * 1024 + k.val = k.val; rw [(idx0 t).2.2]; all_goals omega

theorem blk1 (c : Dev nD) (t : Fin cfg0.N) (k : Fin 1024) :
    (iblk m c 1 t : Vec Ideal S1x1024 .f32) (ix2 0 k) = (V m c main_v6 : FVec Ideal S1x1024 .f32) (ix2 0 k) := by
  unfold iblk
  rw [View.read_apply]
  show (V m c main_v6 : FVec Ideal S1x1024 .f32) ((win0_1.rect t).emb (ix2 0 k)) = _
  refine congrArg _ (funext fun a => Fin.ext ?_)
  rw [Pipeline.Window.rect_emb_val win0_1 t _ a]
  match a with
  | ⟨0, _⟩ => show win0_1.index t 0 * 1 + 0 = 0; rw [(idx1 t).1]; all_goals omega
  | ⟨1, _⟩ => show win0_1.index t 1 * 1024 + k.val = k.val; rw [(idx1 t).2]; all_goals omega

theorem blk2 (c : Dev nD) (t : Fin cfg0.N) (k : Fin 1024) (j : Fin 6176) :
    (iblk m c 2 t : Vec Ideal S1024x6176 .bf16) (ix2 k j) = (V m c main_v8 : FVec Ideal S1024x6176 .bf16) (ix2 k j) := by
  unfold iblk
  rw [View.read_apply]
  show (V m c main_v8 : FVec Ideal S1024x6176 .bf16) ((win0_2.rect t).emb (ix2 k j)) = _
  refine congrArg _ (funext fun a => Fin.ext ?_)
  rw [Pipeline.Window.rect_emb_val win0_2 t _ a]
  match a with
  | ⟨0, _⟩ => show win0_2.index t 0 * 1024 + k.val = k.val; rw [(idx2 t).1]; all_goals omega
  | ⟨1, _⟩ => show win0_2.index t 1 * 6176 + j.val = j.val; rw [(idx2 t).2]; all_goals omega

theorem blk3 (c : Dev nD) (t : Fin cfg0.N) (k : Fin 1024) (l : Fin 128) :
    (iblk m c 3 t : Vec Ideal S1024x128 .bf16) (ix2 k l) = (V m c main_v3 : FVec Ideal S1024x128 .bf16) (ix2 k l) := by
  unfold iblk
  rw [View.read_apply]
  show (V m c main_v3 : FVec Ideal S1024x128 .bf16) ((win0_3.rect t).emb (ix2 k l)) = _
  refine congrArg _ (funext fun a => Fin.ext ?_)
  rw [Pipeline.Window.rect_emb_val win0_3 t _ a]
  match a with
  | ⟨0, _⟩ => show win0_3.index t 0 * 1024 + k.val = k.val; rw [(idx3 t).1]; all_goals omega
  | ⟨1, _⟩ => show win0_3.index t 1 * 128 + l.val = l.val; rw [(idx3 t).2]; all_goals omega

theorem blk4 (c : Dev nD) (t : Fin cfg0.N) (q : Fin 4) (k : Fin 4096) :
    (iblk m c 4 t : Vec Ideal S4x4096 .f32) (ix2 q k) = (V m c main_v9 : FVec Ideal S4x4096 .f32) (ix2 q k) := by
  unfold iblk
  rw [View.read_apply]
  show (V m c main_v9 : FVec Ideal S4x4096 .f32) ((win0_4.rect t).emb (ix2 q k)) = _
  refine congrArg _ (funext fun a => Fin.ext ?_)
  rw [Pipeline.Window.rect_emb_val win0_4 t _ a]
  match a with
  | ⟨0, _⟩ => show win0_4.index t 0 * 4 + q.val = q.val; rw [(idx4 t).1]; all_goals omega
  | ⟨1, _⟩ => show win0_4.index t 1 * 4096 + k.val = k.val; rw [(idx4 t).2]; all_goals omega

theorem blk5 (c : Dev nD) (t : Fin cfg0.N) (k : Fin 4096) :
    (iblk m c 5 t : Vec Ideal S1x4096 .f32) (ix2 0 k) = (V m c main_v11 : FVec Ideal S1x4096 .f32) (ix2 0 k) := by
  unfold iblk
  rw [View.read_apply]
  show (V m c main_v11 : FVec Ideal S1x4096 .f32) ((win0_5.rect t).emb (ix2 0 k)) = _
  refine congrArg _ (funext fun a => Fin.ext ?_)
  rw [Pipeline.Window.rect_emb_val win0_5 t _ a]
  match a with
  | ⟨0, _⟩ => show win0_5.index t 0 * 1 + 0 = 0; rw [(idx5 t).1]; all_goals omega
  | ⟨1, _⟩ => show win0_5.index t 1 * 4096 + k.val = k.val; rw [(idx5 t).2]; all_goals omega

theorem blk6 (c : Dev nD) (t : Fin cfg0.N) (l : Fin 128) :
    (iblk m c 6 t : Vec Ideal S1x128 .f32) (ix2 0 l) = (V m c main_v12 : FVec Ideal S1x128 .f32) (ix2 0 l) := by
  unfold iblk
  rw [View.read_apply]
  show (V m c main_v12 : FVec Ideal S1x128 .f32) ((win0_6.rect t).emb (ix2 0 l)) = _
  refine congrArg _ (funext fun a => Fin.ext ?_)
  rw [Pipeline.Window.rect_emb_val win0_6 t _ a]
  match a with
  | ⟨0, _⟩ => show win0_6.index t 0 * 1 + 0 = 0; rw [(idx6 t).1]; all_goals omega
  | ⟨1, _⟩ => show win0_6.index t 1 * 128 + l.val = l.val; rw [(idx6 t).2]; all_goals omega

/-- The sequence's rows, and the layer's weights, as functions. -/
abbrev xf (c : Dev nD) (b : Fin 2) : Fin 8192 → Fin 1024 → EReal := fun s k => (m ((c : Thread nD τ).loc main_arg0) : FVec Ideal S2x8192x1024 .f32) (ix3 b s k)
abbrev wf (c : Dev nD) : Fin 1024 → EReal := fun k => (m ((c : Thread nD τ).loc main_arg1) : FVec Ideal S4x1024 .f32) (ix2 2 k)
abbrev winf (c : Dev nD) : Fin 1024 → Fin 6176 → EReal := fun k j => (m ((c : Thread nD τ).loc main_arg2) : FVec Ideal S1x1024x6176 .f32) (ix3 0 k j)
abbrev cwf (c : Dev nD) : Fin 4 → Fin 4096 → EReal := fun q k => (m ((c : Thread nD τ).loc main_arg3) : FVec Ideal S1x4x4096 .f32) (ix3 0 q k)
abbrev cbf (c : Dev nD) : Fin 4096 → EReal := fun k => (m ((c : Thread nD τ).loc main_arg4) : FVec Ideal S1x4096 .f32) (ix2 0 k)

theorem row_eq (c : Dev nD) (t : Fin cfg0.N) (r : Fin 512) : rowOf (iblk m c 0 t) r = xf m c (seqOf t) (posOf t r) := funext fun k => blk0 m c t r k
theorem w_eq (c : Dev nD) (t : Fin cfg0.N) : wOf (iblk m c 1 t) = wf m c := funext fun k => (blk1 m c t k).trans (V_w m c k)
theorem win_eq (c : Dev nD) (t : Fin cfg0.N) : winOf (iblk m c 2 t) = winf m c := funext fun k => funext fun j => (blk2 m c t k j).trans (V_win m c k j)
theorem cw_eq (c : Dev nD) (t : Fin cfg0.N) : (fun (q : Fin 4) (k : Fin 4096) => (iblk m c 4 t : Vec Ideal S4x4096 .f32) (ix2 q k)) = cwf m c := funext fun q => funext fun k => (blk4 m c t q k).trans (V_cw m c q k)
theorem cb_eq (c : Dev nD) (t : Fin cfg0.N) : (fun (k : Fin 4096) => (iblk m c 5 t : Vec Ideal S1x4096 .f32) (ix2 0 k)) = cbf m c := funext fun k => (blk5 m c t k).trans (V_cb m c k)

theorem proj_at (c : Dev nD) (t : Fin cfg0.N) (r : Fin 512) (k : Fin 6176) :
    projB (iblk m c 0 t) (iblk m c 1 t) (iblk m c 2 t) r k = projAt (normed (xf m c (seqOf t) (posOf t r)) (wf m c)) (winf m c) k := by
  unfold projB
  rw [row_eq, w_eq, win_eq]

theorem dt_at (c : Dev nD) (t : Fin cfg0.N) (r : Fin 512) (l : Fin 128) :
    dtB (iblk m c 0 t) (iblk m c 1 t) (iblk m c 3 t) (iblk m c 6 t) r l = ssdDt (normed (xf m c (seqOf t) (posOf t r)) (wf m c)) (winf m c) (fun l => (m ((c : Thread nD τ).loc main_arg5) : FVec Ideal S1x32 .f32) (ix2 0 l)) l := by
  unfold dtB ssdDt projAt
  rw [row_eq, w_eq]
  have hw : ∀ k : Fin 1024, (iblk m c 3 t : Vec Ideal S1024x128 .bf16) (ix2 k l) = wdtOf (m ((c : Thread nD τ).loc main_arg2) : FVec Ideal S1x1024x6176 .f32) k l := fun k => (blk3 m c t k l).trans (V_wdt m c k l)
  have hb : (iblk m c 6 t : Vec Ideal S1x128 .f32) (ix2 0 l) = dtbOf (m ((c : Thread nD τ).loc main_arg5) : FVec Ideal S1x32 .f32) l := (blk6 m c t l).trans (V_dtb m c l)
  rw [hb]
  simp only [hw, wdtOf, dtbOf]
  by_cases hl : l.val < 32
  · simp only [dif_pos hl]
  · simp only [dif_neg hl, mul_zero, Finset.sum_const_zero, add_zero]

/-- The eight rows a point starts from. -/
def haloAt (c : Dev nD) (t : Fin cfg0.N) : Vec Ideal S32x8x128 .f32 :=
  if t.val % 16 = 0 then k0_pay3 (F := Ideal)
  else (k0_pay4 (View.ld (Val := Elt Ideal) (S := S32x520x128) (e' := .f32) (outsAt0 m c (t.val - 1) (Nat.lt_of_le_of_lt (Nat.sub_le _ _) t.isLt)).2.2.2.2.2 (Rect.unit (s := S32x520x128) ![0, 512, 0] ![32, 8, 128] inb_S32x520x128_S32x8x128_0_512_0)))

theorem outs_eq (c : Dev nD) (t : Fin cfg0.N) :
    outsAt0 m c t.val t.isLt = (zOf (iblk m c 0 t) (iblk m c 1 t) (iblk m c 2 t),
      convWide (iblk m c 0 t) (iblk m c 1 t) (iblk m c 2 t) (iblk m c 4 t) (iblk m c 5 t) (haloAt m c t) 0 (by omega),
      convHalf (iblk m c 0 t) (iblk m c 1 t) (iblk m c 2 t) (iblk m c 4 t) (iblk m c 5 t) (haloAt m c t) 16 (by omega),
      convHalf (iblk m c 0 t) (iblk m c 1 t) (iblk m c 2 t) (iblk m c 4 t) (iblk m c 5 t) (haloAt m c t) 24 (by omega),
      dtOf (iblk m c 0 t) (iblk m c 1 t) (iblk m c 3 t) (iblk m c 6 t),
      extOf (iblk m c 0 t) (iblk m c 1 t) (iblk m c 2 t) (haloAt m c t)) := by
  unfold haloAt
  by_cases h0 : t.val % 16 = 0
  · rw [if_pos h0, outsAt0_A m c t h0 (by omega), out0_A_7_eq, out0_A_8_eq, out0_A_9_eq, out0_A_10_eq, out0_A_11_eq, sout0_A_0_eq]
  · rw [if_neg h0, outsAt0_B m c t h0 (by omega), out0_B_7_eq, out0_B_8_eq, out0_B_9_eq, out0_B_10_eq, out0_B_11_eq, sout0_B_0_eq]

theorem pay3_apply (s : Fin 32) (n : Fin 8) (l : Fin 128) : k0_pay3 (F := Ideal) (ix3 s n l) = 0 := by
  unfold k0_pay3
  pointwise

theorem pay4_apply (y : Vec Ideal S32x520x128 .f32) (s : Fin 32) (n : Fin 8) (l : Fin 128) :
    k0_pay4 (View.ld (Val := Elt Ideal) (S := S32x520x128) (e' := .f32) y (Rect.unit (s := S32x520x128) ![0, 512, 0] ![32, 8, 128] inb_S32x520x128_S32x8x128_0_512_0)) (ix3 s n l)
      = y (ix3 s ⟨512 + n.val, by omega⟩ l) := by
  unfold k0_pay4
  pointwise

/-- The carried scratch at `8 - d` rows below row `r` holds the projections `d` rows back. -/
theorem ext_at (c : Dev nD) (t : Fin cfg0.N) (d : Nat) (hd : 1 ≤ d) (hd' : d ≤ 8) (s : Fin 32) (r : Fin 512) (l : Fin 128) (n : Fin 520) (hn : n.val = 8 - d + r.val)
    (k : Fin 4096) (hk : k.val = 128 * s.val + l.val) :
    extAt (iblk m c 0 t) (iblk m c 1 t) (iblk m c 2 t) (haloAt m c t) s n l = ssdBack (xf m c (seqOf t)) (wf m c) (winf m c) d (posOf t r) k := by
  have hp : (posOf t r).val = t.val % 16 * 512 + r.val := rfl
  have ht := tlt t
  have hke : ∀ h, (⟨2048 + (128 * s.val + l.val), h⟩ : Fin 6176) = ⟨2048 + k.val, by omega⟩ := fun h => Fin.ext (by show 2048 + (128 * s.val + l.val) = 2048 + k.val; omega)
  unfold extAt ssdBack
  by_cases h : n.val < 8
  · rw [dif_pos h]
    unfold haloAt
    by_cases h0 : t.val % 16 = 0
    · rw [if_pos h0, dif_pos (by omega)]
      exact pay3_apply _ _ _
    · rw [if_neg h0, dif_neg (by omega), pay4_apply]
      have ho := outs_eq m c ⟨t.val - 1, Nat.lt_of_le_of_lt (Nat.sub_le _ _) t.isLt⟩
      dsimp only at ho
      rw [ho]
      show extAt _ _ _ _ s ⟨512 + n.val, _⟩ l = _
      unfold extAt
      rw [dif_neg (by show ¬ 512 + n.val < 8; omega), proj_at, hke]
      have e1 : seqOf ⟨t.val - 1, Nat.lt_of_le_of_lt (Nat.sub_le _ _) t.isLt⟩ = seqOf t := Fin.ext (by show (t.val - 1) / 16 = t.val / 16; omega)
      rw [e1]
      congr 3
      exact Fin.ext (by show (t.val - 1) % 16 * 512 + (512 + n.val - 8) = t.val % 16 * 512 + r.val - d; omega)
  · rw [dif_neg h, dif_neg (by omega), proj_at, hke]
    congr 3
    exact Fin.ext (by show t.val % 16 * 512 + (n.val - 8) = t.val % 16 * 512 + r.val - d; omega)

theorem conv_at (c : Dev nD) (t : Fin cfg0.N) (r : Fin 512) (k : Fin 4096) :
    convB (iblk m c 0 t) (iblk m c 1 t) (iblk m c 2 t) (iblk m c 4 t) (iblk m c 5 t) (haloAt m c t) r k
      = convOf (m ((c : Thread nD τ).loc main_arg0) : FVec Ideal S2x8192x1024 .f32) (m ((c : Thread nD τ).loc main_arg1) : FVec Ideal S4x1024 .f32) (m ((c : Thread nD τ).loc main_arg2) : FVec Ideal S1x1024x6176 .f32) (m ((c : Thread nD τ).loc main_arg3) : FVec Ideal S1x4x4096 .f32) (m ((c : Thread nD τ).loc main_arg4) : FVec Ideal S1x4096 .f32) (seqOf t) (posOf t r) k := by
  unfold convB convOf ssdConv
  rw [ext_at m c t 3 (by omega) (by omega) _ r _ _ (by show 5 + r.val = 8 - 3 + r.val; omega) k (by show k.val = 128 * (k.val / 128) + k.val % 128; omega),
    ext_at m c t 2 (by omega) (by omega) _ r _ _ (by show 6 + r.val = 8 - 2 + r.val; omega) k (by show k.val = 128 * (k.val / 128) + k.val % 128; omega),
    ext_at m c t 1 (by omega) (by omega) _ r _ _ (by show 7 + r.val = 8 - 1 + r.val; omega) k (by show k.val = 128 * (k.val / 128) + k.val % 128; omega),
    proj_at, cw_eq, cb_eq]

theorem emb7 (t : Fin cfg0.N) (r : Fin 512) (j : Fin 2048) :
    ((cfg0.win 7).blk t).view.emb (ix3 0 r j) = (ix3 (seqOf t) (posOf t r) j : S2x8192x2048.Idx) := by
  show (win0_7.rect t).emb (ix3 0 r j) = _
  refine funext fun a => Fin.ext ?_
  rw [Pipeline.Window.rect_emb_val win0_7 t _ a]
  match a with
  | ⟨0, _⟩ => show win0_7.index t 0 * 1 + 0 = t.val / 16; rw [(idx7 t).1]; all_goals omega
  | ⟨1, _⟩ => show win0_7.index t 1 * 512 + r.val = t.val % 16 * 512 + r.val; rw [(idx7 t).2.1]
  | ⟨2, _⟩ => show win0_7.index t 2 * 2048 + j.val = j.val; rw [(idx7 t).2.2]; all_goals omega

theorem covers7 : (cfg0.win 7).Covers := by decide +kernel

/-- What the array `main_v13_0` ends with. -/
def G7 (c : Dev nD) : Buf (Elt Ideal) ((c : Thread nD τ).loc main_v13_0) := resultZ (m ((c : Thread nD τ).loc main_arg0) : FVec Ideal S2x8192x1024 .f32) (m ((c : Thread nD τ).loc main_arg1) : FVec Ideal S4x1024 .f32) (m ((c : Thread nD τ).loc main_arg2) : FVec Ideal S1x1024x6176 .f32)

theorem flushed7_eq (c : Dev nD) (t : Fin cfg0.N) :
    (dats m 0 c).flushed 7 t = ((cfg0.win 7).blk t).view.read (Elt Ideal) (G7 m c) := by
  rw [Value.flushed7]
  funext y
  obtain ⟨r, j, rfl⟩ : ∃ (r : Fin 512) (j : Fin 2048), y = ix3 0 r j := ⟨y 1, y 2, by
    rw [ValueIdx.eq_ix3 y]
    congr 1
    exact Subsingleton.elim (α := Fin 1) _ _⟩
  rw [View.read_apply, emb7]
  show (outsAt0 m c t.val t.isLt).1 (ix3 0 r j) = _
  rw [outs_eq]
  exact proj_at m c t r _

theorem final7 (c : Dev nD) : (dats m 0 c).arrAt 7 cfg0.N = G7 m c :=
  (dats m 0 c).arrAt_eq_of_cover 7 (G7 m c) (fun t _ => flushed7_eq m c t) (covers7.cover _ (Memref.isWhole_whole _))

theorem emb8 (t : Fin cfg0.N) (r : Fin 512) (j : Fin 2048) :
    ((cfg0.win 8).blk t).view.emb (ix3 0 r j) = (ix3 (seqOf t) (posOf t r) j : S2x8192x2048.Idx) := by
  show (win0_8.rect t).emb (ix3 0 r j) = _
  refine funext fun a => Fin.ext ?_
  rw [Pipeline.Window.rect_emb_val win0_8 t _ a]
  match a with
  | ⟨0, _⟩ => show win0_8.index t 0 * 1 + 0 = t.val / 16; rw [(idx8 t).1]; all_goals omega
  | ⟨1, _⟩ => show win0_8.index t 1 * 512 + r.val = t.val % 16 * 512 + r.val; rw [(idx8 t).2.1]
  | ⟨2, _⟩ => show win0_8.index t 2 * 2048 + j.val = j.val; rw [(idx8 t).2.2]; all_goals omega

theorem covers8 : (cfg0.win 8).Covers := by decide +kernel

/-- What the array `main_v13_1` ends with. -/
def G8 (c : Dev nD) : Buf (Elt Ideal) ((c : Thread nD τ).loc main_v13_1) := resultX (m ((c : Thread nD τ).loc main_arg0) : FVec Ideal S2x8192x1024 .f32) (m ((c : Thread nD τ).loc main_arg1) : FVec Ideal S4x1024 .f32) (m ((c : Thread nD τ).loc main_arg2) : FVec Ideal S1x1024x6176 .f32) (m ((c : Thread nD τ).loc main_arg3) : FVec Ideal S1x4x4096 .f32) (m ((c : Thread nD τ).loc main_arg4) : FVec Ideal S1x4096 .f32)

theorem flushed8_eq (c : Dev nD) (t : Fin cfg0.N) :
    (dats m 0 c).flushed 8 t = ((cfg0.win 8).blk t).view.read (Elt Ideal) (G8 m c) := by
  rw [Value.flushed8]
  funext y
  obtain ⟨r, j, rfl⟩ : ∃ (r : Fin 512) (j : Fin 2048), y = ix3 0 r j := ⟨y 1, y 2, by
    rw [ValueIdx.eq_ix3 y]
    congr 1
    exact Subsingleton.elim (α := Fin 1) _ _⟩
  rw [View.read_apply, emb8]
  show (outsAt0 m c t.val t.isLt).2.1 (ix3 0 r j) = _
  rw [outs_eq]
  exact (conv_at m c t r _).trans (congrArg (convOf _ _ _ _ _ _ _) (Fin.ext (by show 128 * 0 + j.val = j.val; omega)))

theorem final8 (c : Dev nD) : (dats m 0 c).arrAt 8 cfg0.N = G8 m c :=
  (dats m 0 c).arrAt_eq_of_cover 8 (G8 m c) (fun t _ => flushed8_eq m c t) (covers8.cover _ (Memref.isWhole_whole _))

theorem emb9 (t : Fin cfg0.N) (r : Fin 512) (j : Fin 1024) :
    ((cfg0.win 9).blk t).view.emb (ix3 0 r j) = (ix3 (seqOf t) (posOf t r) j : S2x8192x1024.Idx) := by
  show (win0_9.rect t).emb (ix3 0 r j) = _
  refine funext fun a => Fin.ext ?_
  rw [Pipeline.Window.rect_emb_val win0_9 t _ a]
  match a with
  | ⟨0, _⟩ => show win0_9.index t 0 * 1 + 0 = t.val / 16; rw [(idx9 t).1]; all_goals omega
  | ⟨1, _⟩ => show win0_9.index t 1 * 512 + r.val = t.val % 16 * 512 + r.val; rw [(idx9 t).2.1]
  | ⟨2, _⟩ => show win0_9.index t 2 * 1024 + j.val = j.val; rw [(idx9 t).2.2]; all_goals omega

theorem covers9 : (cfg0.win 9).Covers := by decide +kernel

/-- What the array `main_v13_2` ends with. -/
def G9 (c : Dev nD) : Buf (Elt Ideal) ((c : Thread nD τ).loc main_v13_2) := resultB (m ((c : Thread nD τ).loc main_arg0) : FVec Ideal S2x8192x1024 .f32) (m ((c : Thread nD τ).loc main_arg1) : FVec Ideal S4x1024 .f32) (m ((c : Thread nD τ).loc main_arg2) : FVec Ideal S1x1024x6176 .f32) (m ((c : Thread nD τ).loc main_arg3) : FVec Ideal S1x4x4096 .f32) (m ((c : Thread nD τ).loc main_arg4) : FVec Ideal S1x4096 .f32)

theorem flushed9_eq (c : Dev nD) (t : Fin cfg0.N) :
    (dats m 0 c).flushed 9 t = ((cfg0.win 9).blk t).view.read (Elt Ideal) (G9 m c) := by
  rw [Value.flushed9]
  funext y
  obtain ⟨r, j, rfl⟩ : ∃ (r : Fin 512) (j : Fin 1024), y = ix3 0 r j := ⟨y 1, y 2, by
    rw [ValueIdx.eq_ix3 y]
    congr 1
    exact Subsingleton.elim (α := Fin 1) _ _⟩
  rw [View.read_apply, emb9]
  show (outsAt0 m c t.val t.isLt).2.2.1 (ix3 0 r j) = _
  rw [outs_eq]
  exact conv_at m c t r _

theorem final9 (c : Dev nD) : (dats m 0 c).arrAt 9 cfg0.N = G9 m c :=
  (dats m 0 c).arrAt_eq_of_cover 9 (G9 m c) (fun t _ => flushed9_eq m c t) (covers9.cover _ (Memref.isWhole_whole _))

theorem emb10 (t : Fin cfg0.N) (r : Fin 512) (j : Fin 1024) :
    ((cfg0.win 10).blk t).view.emb (ix3 0 r j) = (ix3 (seqOf t) (posOf t r) j : S2x8192x1024.Idx) := by
  show (win0_10.rect t).emb (ix3 0 r j) = _
  refine funext fun a => Fin.ext ?_
  rw [Pipeline.Window.rect_emb_val win0_10 t _ a]
  match a with
  | ⟨0, _⟩ => show win0_10.index t 0 * 1 + 0 = t.val / 16; rw [(idx10 t).1]; all_goals omega
  | ⟨1, _⟩ => show win0_10.index t 1 * 512 + r.val = t.val % 16 * 512 + r.val; rw [(idx10 t).2.1]
  | ⟨2, _⟩ => show win0_10.index t 2 * 1024 + j.val = j.val; rw [(idx10 t).2.2]; all_goals omega

theorem covers10 : (cfg0.win 10).Covers := by decide +kernel

/-- What the array `main_v13_3` ends with. -/
def G10 (c : Dev nD) : Buf (Elt Ideal) ((c : Thread nD τ).loc main_v13_3) := resultC (m ((c : Thread nD τ).loc main_arg0) : FVec Ideal S2x8192x1024 .f32) (m ((c : Thread nD τ).loc main_arg1) : FVec Ideal S4x1024 .f32) (m ((c : Thread nD τ).loc main_arg2) : FVec Ideal S1x1024x6176 .f32) (m ((c : Thread nD τ).loc main_arg3) : FVec Ideal S1x4x4096 .f32) (m ((c : Thread nD τ).loc main_arg4) : FVec Ideal S1x4096 .f32)

theorem flushed10_eq (c : Dev nD) (t : Fin cfg0.N) :
    (dats m 0 c).flushed 10 t = ((cfg0.win 10).blk t).view.read (Elt Ideal) (G10 m c) := by
  rw [Value.flushed10]
  funext y
  obtain ⟨r, j, rfl⟩ : ∃ (r : Fin 512) (j : Fin 1024), y = ix3 0 r j := ⟨y 1, y 2, by
    rw [ValueIdx.eq_ix3 y]
    congr 1
    exact Subsingleton.elim (α := Fin 1) _ _⟩
  rw [View.read_apply, emb10]
  show (outsAt0 m c t.val t.isLt).2.2.2.1 (ix3 0 r j) = _
  rw [outs_eq]
  exact conv_at m c t r _

theorem final10 (c : Dev nD) : (dats m 0 c).arrAt 10 cfg0.N = G10 m c :=
  (dats m 0 c).arrAt_eq_of_cover 10 (G10 m c) (fun t _ => flushed10_eq m c t) (covers10.cover _ (Memref.isWhole_whole _))

theorem emb11 (t : Fin cfg0.N) (r : Fin 512) (j : Fin 128) :
    ((cfg0.win 11).blk t).view.emb (ix3 0 r j) = (ix3 (seqOf t) (posOf t r) j : S2x8192x128.Idx) := by
  show (win0_11.rect t).emb (ix3 0 r j) = _
  refine funext fun a => Fin.ext ?_
  rw [Pipeline.Window.rect_emb_val win0_11 t _ a]
  match a with
  | ⟨0, _⟩ => show win0_11.index t 0 * 1 + 0 = t.val / 16; rw [(idx11 t).1]; all_goals omega
  | ⟨1, _⟩ => show win0_11.index t 1 * 512 + r.val = t.val % 16 * 512 + r.val; rw [(idx11 t).2.1]
  | ⟨2, _⟩ => show win0_11.index t 2 * 128 + j.val = j.val; rw [(idx11 t).2.2]; all_goals omega

theorem covers11 : (cfg0.win 11).Covers := by decide +kernel

/-- What the array `main_v13_4` ends with. -/
def G11 (c : Dev nD) : Buf (Elt Ideal) ((c : Thread nD τ).loc main_v13_4) := resultD (m ((c : Thread nD τ).loc main_arg0) : FVec Ideal S2x8192x1024 .f32) (m ((c : Thread nD τ).loc main_arg1) : FVec Ideal S4x1024 .f32) (m ((c : Thread nD τ).loc main_arg2) : FVec Ideal S1x1024x6176 .f32) (m ((c : Thread nD τ).loc main_arg5) : FVec Ideal S1x32 .f32)

theorem flushed11_eq (c : Dev nD) (t : Fin cfg0.N) :
    (dats m 0 c).flushed 11 t = ((cfg0.win 11).blk t).view.read (Elt Ideal) (G11 m c) := by
  rw [Value.flushed11]
  funext y
  obtain ⟨r, j, rfl⟩ : ∃ (r : Fin 512) (j : Fin 128), y = ix3 0 r j := ⟨y 1, y 2, by
    rw [ValueIdx.eq_ix3 y]
    congr 1
    exact Subsingleton.elim (α := Fin 1) _ _⟩
  rw [View.read_apply, emb11]
  show (outsAt0 m c t.val t.isLt).2.2.2.2.1 (ix3 0 r j) = _
  rw [outs_eq]
  exact dt_at m c t r j

theorem final11 (c : Dev nD) : (dats m 0 c).arrAt 11 cfg0.N = G11 m c :=
  (dats m 0 c).arrAt_eq_of_cover 11 (G11 m c) (fun t _ => flushed11_eq m c t) (covers11.cover _ (Memref.isWhole_whole _))

end Cert.Kernel5Ideal.Block

end
-- ==== Proof.SsdInRef.lean ====
/- The reference of the state space layer's input side, read at an index: the same row functions. -/
module

public import proofs.«01_k».proof.Proof.SsdInLayer
public import proofs.«01_k».proof.Proof.Gen.Reference5Ideal.Read

@[expose] public section

set_option maxRecDepth 65536

noncomputable section

namespace Cert.Reference5Ideal.RowValue

open Cert.Reference5Ideal Cert.Reference5Ideal.Gen Cert.Reference5Ideal.Read Cert.Layer Idealize.ShloMosaic Idealize.ShloMosaic.TcCoe Idealize.SL.Sem

variable (x0 : FVec Ideal S2x8192x1024 .f32) (x1 : FVec Ideal S4x1024 .f32) (x2 : FVec Ideal S1x1024x6176 .f32) (x3 : FVec Ideal S1x4x4096 .f32) (x4 : FVec Ideal S1x4096 .f32) (x5 : FVec Ideal S1x32 .f32)

theorem h_apply (b : Fin 2) (s : Fin 8192) (k : Fin 1024) :
    val_main_v14 (F := Ideal) x0 x1 (ix3 b s k) = normed (fun k => x0 (ix3 b s k)) (fun k => x1 (ix2 2 k)) k := by
  unfold normed rowScale
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise

theorem proj_apply (b : Fin 2) (s : Fin 8192) (c : Fin 6176) :
    val_main_v16 (F := Ideal) x0 x1 x2 (ix3 b s c) = projAt (normed (fun k => x0 (ix3 b s k)) (fun k => x1 (ix2 2 k))) (fun k c => x2 (ix3 0 k c)) c := by
  unfold projAt
  simp only [← h_apply]
  unfold val_main_v16 val_main_v15
  pointwise

theorem z_apply (b : Fin 2) (s : Fin 8192) (c : Fin 2048) :
    val_main_v63 (F := Ideal) x0 x1 x2 (ix3 b s c) = projAt (normed (fun k => x0 (ix3 b s k)) (fun k => x1 (ix2 2 k))) (fun k c => x2 (ix3 0 k c)) ⟨c.val, by omega⟩ := by
  simp only [← proj_apply]
  unfold val_main_v63 val_main_v17
  pointwise

theorem cv_apply (b : Fin 2) (s : Fin 8192) (c : Fin 4096) :
    val_main_v18 (F := Ideal) x0 x1 x2 (ix3 b s c) = projAt (normed (fun k => x0 (ix3 b s k)) (fun k => x1 (ix2 2 k))) (fun k c => x2 (ix3 0 k c)) ⟨2048 + c.val, by omega⟩ := by
  simp only [← proj_apply]
  unfold val_main_v18
  pointwise

theorem zero_eq : (FloatOps.sitofp FTy.f32 0#32 : Ideal .f32) = (0 : EReal) := by
  show (((0#32 : BitVec 32).toInt : ℝ) : EReal) = 0
  simp

theorem pad_apply (b : Fin 2) (s : Fin 8195) (c : Fin 4096) :
    val_main_v21 (F := Ideal) x0 x1 x2 (ix3 b s c) = if h : s.val < 3 then 0 else val_main_v18 (F := Ideal) x0 x1 x2 (ix3 b ⟨s.val - 3, by omega⟩ c) := by
  unfold val_main_v21 val_main_call0_v0 val_main_c
  pointwise
  rw [zero_eq]
  by_cases h : s.val < 3
  · rw [dif_pos h, dif_neg (by omega)]
  · rw [dif_neg h, dif_pos ⟨by omega, by omega⟩]

theorem back_apply (b : Fin 2) (s : Fin 8192) (c : Fin 4096) (d : Nat) (hd : d ≤ 3) :
    val_main_v21 (F := Ideal) x0 x1 x2 (ix3 b ⟨3 - d + s.val, by omega⟩ c) = ssdBack (fun s k => x0 (ix3 b s k)) (fun k => x1 (ix2 2 k)) (fun k c => x2 (ix3 0 k c)) d s c := by
  rw [pad_apply]
  unfold ssdBack
  by_cases h : s.val < d
  · rw [dif_pos h, dif_pos (by show 3 - d + s.val < 3; omega)]
  · rw [dif_neg h, dif_neg (by show ¬ 3 - d + s.val < 3; omega), cv_apply]
    have he : ∀ h', (⟨3 - d + s.val - 3, h'⟩ : Fin 8192) = ⟨s.val - d, by omega⟩ := fun h' => Fin.ext (by show 3 - d + s.val - 3 = s.val - d; omega)
    simp only [he]

theorem back0_apply (b : Fin 2) (s : Fin 8192) (c : Fin 4096) :
    val_main_v42 (F := Ideal) x0 x1 x2 (ix3 b s c) = projAt (normed (fun k => x0 (ix3 b s k)) (fun k => x1 (ix2 2 k))) (fun k c => x2 (ix3 0 k c)) ⟨2048 + c.val, by omega⟩ := by
  refine Eq.trans ?_ ((back_apply x0 x1 x2 b s c 0 (by omega)).trans ?_)
  · unfold val_main_v42
    pointwise
  · unfold ssdBack
    rw [dif_neg (by omega)]
    rfl

theorem back1_apply (b : Fin 2) (s : Fin 8192) (c : Fin 4096) :
    val_main_v35 (F := Ideal) x0 x1 x2 (ix3 b s c) = ssdBack (fun s k => x0 (ix3 b s k)) (fun k => x1 (ix2 2 k)) (fun k c => x2 (ix3 0 k c)) 1 s c := by
  refine Eq.trans ?_ (back_apply x0 x1 x2 b s c 1 (by omega))
  unfold val_main_v35
  pointwise

theorem back2_apply (b : Fin 2) (s : Fin 8192) (c : Fin 4096) :
    val_main_v28 (F := Ideal) x0 x1 x2 (ix3 b s c) = ssdBack (fun s k => x0 (ix3 b s k)) (fun k => x1 (ix2 2 k)) (fun k c => x2 (ix3 0 k c)) 2 s c := by
  refine Eq.trans ?_ (back_apply x0 x1 x2 b s c 2 (by omega))
  unfold val_main_v28
  pointwise

theorem back3_apply (b : Fin 2) (s : Fin 8192) (c : Fin 4096) :
    val_main_v22 (F := Ideal) x0 x1 x2 (ix3 b s c) = ssdBack (fun s k => x0 (ix3 b s k)) (fun k => x1 (ix2 2 k)) (fun k c => x2 (ix3 0 k c)) 3 s c := by
  refine Eq.trans ?_ (back_apply x0 x1 x2 b s c 3 (by omega))
  unfold val_main_v22
  pointwise

theorem taps_apply (b : Fin 2) (s : Fin 8192) (c : Fin 4096) :
    val_main_v52 (F := Ideal) x0 x1 x2 x3 x4 (ix3 b s c) = taps (fun q c => x3 (ix3 0 q c)) (fun c => x4 (ix2 0 c)) c
      (ssdBack (fun s k => x0 (ix3 b s k)) (fun k => x1 (ix2 2 k)) (fun k c => x2 (ix3 0 k c)) 3 s c) (ssdBack (fun s k => x0 (ix3 b s k)) (fun k => x1 (ix2 2 k)) (fun k c => x2 (ix3 0 k c)) 2 s c) (ssdBack (fun s k => x0 (ix3 b s k)) (fun k => x1 (ix2 2 k)) (fun k c => x2 (ix3 0 k c)) 1 s c) (projAt (normed (fun k => x0 (ix3 b s k)) (fun k => x1 (ix2 2 k))) (fun k c => x2 (ix3 0 k c)) ⟨2048 + c.val, by omega⟩) := by
  simp only [← back0_apply, ← back1_apply, ← back2_apply, ← back3_apply]
  have hs : ∀ (cw : Fin 4 → Fin 4096 → EReal) (cb : Fin 4096 → EReal) (e0 e1 e2 e3 : EReal),
      taps cw cb c e0 e1 e2 e3 = e0 * cw 0 c + e1 * cw 1 c + e2 * cw 2 c + e3 * cw 3 c + cb c := by
    intro cw cb e0 e1 e2 e3
    unfold taps
    ac_rfl
  rw [hs]
  unfold val_main_v52 val_main_v51 val_main_v50 val_main_v49 val_main_v48 val_main_v47 val_main_v46 val_main_v45 val_main_v44 val_main_v43 val_main_v41 val_main_v40 val_main_v39 val_main_v38 val_main_v37 val_main_v36 val_main_v34 val_main_v33 val_main_v32 val_main_v31 val_main_v30 val_main_v29 val_main_v27 val_main_v26 val_main_v25 val_main_v24 val_main_v23 val_main_v20
  pointwise

theorem conv_apply (b : Fin 2) (s : Fin 8192) (c : Fin 4096) :
    val_main_v53 (F := Ideal) x0 x1 x2 x3 x4 (ix3 b s c) = ssdConv (fun s k => x0 (ix3 b s k)) (fun k => x1 (ix2 2 k)) (fun k c => x2 (ix3 0 k c)) (fun q c => x3 (ix3 0 q c)) (fun c => x4 (ix2 0 c)) s c := by
  unfold ssdConv silu
  simp only [← taps_apply]
  unfold val_main_v53 val_main_call1_v5 val_main_call1_v4 val_main_call1_v3 val_main_call1_v2 val_main_call1_v1 val_main_call1_v0 val_main_call1_cst val_main_call1_cst_0
  pointwise
  rfl

theorem xs_apply (b : Fin 2) (s : Fin 8192) (j : Fin 2048) :
    val_main_v64 (F := Ideal) x0 x1 x2 x3 x4 (ix3 b s j) = ssdConv (fun s k => x0 (ix3 b s k)) (fun k => x1 (ix2 2 k)) (fun k c => x2 (ix3 0 k c)) (fun q c => x3 (ix3 0 q c)) (fun c => x4 (ix2 0 c)) s ⟨j.val, by omega⟩ := by
  simp only [← conv_apply]
  unfold val_main_v64 val_main_v54
  pointwise

theorem b_apply (b : Fin 2) (s : Fin 8192) (j : Fin 1024) :
    val_main_v65 (F := Ideal) x0 x1 x2 x3 x4 (ix3 b s j) = ssdConv (fun s k => x0 (ix3 b s k)) (fun k => x1 (ix2 2 k)) (fun k c => x2 (ix3 0 k c)) (fun q c => x3 (ix3 0 q c)) (fun c => x4 (ix2 0 c)) s ⟨2048 + j.val, by omega⟩ := by
  simp only [← conv_apply]
  unfold val_main_v65 val_main_v55
  pointwise

theorem c_apply (b : Fin 2) (s : Fin 8192) (j : Fin 1024) :
    val_main_v66 (F := Ideal) x0 x1 x2 x3 x4 (ix3 b s j) = ssdConv (fun s k => x0 (ix3 b s k)) (fun k => x1 (ix2 2 k)) (fun k c => x2 (ix3 0 k c)) (fun q c => x3 (ix3 0 q c)) (fun c => x4 (ix2 0 c)) s ⟨3072 + j.val, by omega⟩ := by
  simp only [← conv_apply]
  unfold val_main_v66 val_main_v56
  pointwise

theorem dt_lin (b : Fin 2) (s : Fin 8192) (l : Fin 128) :
    val_main_v61 (F := Ideal) x0 x1 x2 x5 (ix3 b s l) = if hl : l.val < 32 then projAt (normed (fun k => x0 (ix3 b s k)) (fun k => x1 (ix2 2 k))) (fun k c => x2 (ix3 0 k c)) ⟨6144 + l.val, by omega⟩ + x5 (ix2 0 ⟨l.val, hl⟩) else 0 := by
  simp only [← proj_apply]
  unfold val_main_v61 val_main_v60 val_main_v59 val_main_v58 val_main_v57 val_main_v19 val_main_call2_v0 val_main_c_2
  pointwise
  rw [zero_eq]

theorem dt_apply (b : Fin 2) (s : Fin 8192) (l : Fin 128) :
    val_main_v62 (F := Ideal) x0 x1 x2 x5 (ix3 b s l) = ssdDt (normed (fun k => x0 (ix3 b s k)) (fun k => x1 (ix2 2 k))) (fun k c => x2 (ix3 0 k c)) (fun l => x5 (ix2 0 l)) l := by
  unfold ssdDt softplus
  simp only [← dt_lin]
  unfold val_main_v62 val_main_call3_v11 val_main_call3_v10 val_main_call3_v9 val_main_call3_v8 val_main_call3_v7 val_main_call3_v6 val_main_call3_v5 val_main_call3_v4 val_main_call3_v3 val_main_call3_v2 val_main_call3_v1 val_main_call3_v0 val_main_call3_cst
  pointwise
  rw [if_neg (not_not.mpr rfl), zero_sub]
  rfl

end Cert.Reference5Ideal.RowValue

end
-- ==== Proof.SsdInPair.lean ====
/- The state space layer's input side: the kernel and the reference end with the same five arrays. -/
module

public import proofs.«01_k».proof.Defs
public import proofs.«01_k».proof.Proof.SsdInArray
public import proofs.«01_k».proof.Proof.SsdInRef
public import proofs.«01_k».proof.Proof.Gen.Reference5Ideal.Run

@[expose] public section

set_option maxRecDepth 65536

noncomputable section

namespace Cert.Kernel5Ideal.Pair

open Cert.Layer Idealize.ShloMosaic Idealize.ShloMosaic.TcCoe Idealize.SL.Sem

variable (a0 : FVec Ideal Cert.Reference5Ideal.S2x8192x1024 .f32) (a1 : FVec Ideal Cert.Reference5Ideal.S4x1024 .f32) (a2 : FVec Ideal Cert.Reference5Ideal.S1x1024x6176 .f32) (a3 : FVec Ideal Cert.Reference5Ideal.S1x4x4096 .f32) (a4 : FVec Ideal Cert.Reference5Ideal.S1x4096 .f32) (a5 : FVec Ideal Cert.Reference5Ideal.S1x32 .f32)

theorem z_eq : Cert.Reference5Ideal.Read.val_main_v63 (F := Ideal) a0 a1 a2 = Cert.Kernel5Ideal.Block.resultZ a0 a1 a2 := by
  funext y
  obtain ⟨b, s, j, rfl⟩ : ∃ (b : Fin 2) (s : Fin 8192) (j : Fin 2048), y = ix3 b s j := ⟨y 0, y 1, y 2, ValueIdx.eq_ix3 y⟩
  exact Cert.Reference5Ideal.RowValue.z_apply a0 a1 a2 b s j

theorem xs_eq : Cert.Reference5Ideal.Read.val_main_v64 (F := Ideal) a0 a1 a2 a3 a4 = Cert.Kernel5Ideal.Block.resultX a0 a1 a2 a3 a4 := by
  funext y
  obtain ⟨b, s, j, rfl⟩ : ∃ (b : Fin 2) (s : Fin 8192) (j : Fin 2048), y = ix3 b s j := ⟨y 0, y 1, y 2, ValueIdx.eq_ix3 y⟩
  exact (Cert.Reference5Ideal.RowValue.xs_apply a0 a1 a2 a3 a4 b s j)

theorem b_eq : Cert.Reference5Ideal.Read.val_main_v65 (F := Ideal) a0 a1 a2 a3 a4 = Cert.Kernel5Ideal.Block.resultB a0 a1 a2 a3 a4 := by
  funext y
  obtain ⟨b, s, j, rfl⟩ : ∃ (b : Fin 2) (s : Fin 8192) (j : Fin 1024), y = ix3 b s j := ⟨y 0, y 1, y 2, ValueIdx.eq_ix3 y⟩
  exact Cert.Reference5Ideal.RowValue.b_apply a0 a1 a2 a3 a4 b s j

theorem c_eq : Cert.Reference5Ideal.Read.val_main_v66 (F := Ideal) a0 a1 a2 a3 a4 = Cert.Kernel5Ideal.Block.resultC a0 a1 a2 a3 a4 := by
  funext y
  obtain ⟨b, s, j, rfl⟩ : ∃ (b : Fin 2) (s : Fin 8192) (j : Fin 1024), y = ix3 b s j := ⟨y 0, y 1, y 2, ValueIdx.eq_ix3 y⟩
  exact Cert.Reference5Ideal.RowValue.c_apply a0 a1 a2 a3 a4 b s j

theorem dt_eq : Cert.Reference5Ideal.Read.val_main_v62 (F := Ideal) a0 a1 a2 a5 = Cert.Kernel5Ideal.Block.resultD a0 a1 a2 a5 := by
  funext y
  obtain ⟨b, s, j, rfl⟩ : ∃ (b : Fin 2) (s : Fin 8192) (j : Fin 128), y = ix3 b s j := ⟨y 0, y 1, y 2, ValueIdx.eq_ix3 y⟩
  exact Cert.Reference5Ideal.RowValue.dt_apply a0 a1 a2 a5 b s j

theorem algebraic : Cert.algebraic_Kernel5Ideal_Reference5Ideal (hKernel5Ideal := Cert.Kernel5Ideal.Gen.facts) (hReference5Ideal := Cert.Reference5Ideal.Gen.facts) := by
  intro m g m' g' _ hag
  refine ⟨fun c => Cert.Kernel5Ideal.Block.G7 m c, fun c => Cert.Kernel5Ideal.Block.G8 m c, fun c => Cert.Kernel5Ideal.Block.G9 m c, fun c => Cert.Kernel5Ideal.Block.G10 m c, fun c => Cert.Kernel5Ideal.Block.G11 m c, ?_, ?_⟩
  · refine (θ_run _ _ _).mono (fun r h c => ?_) (Cert.Kernel5Ideal.Value.run_blocks m g)
    obtain ⟨h7, h8, h9, h10, h11, hr⟩ := h c
    exact ⟨h7.trans (Cert.Kernel5Ideal.Block.final7 m c), h8.trans (Cert.Kernel5Ideal.Block.final8 m c), h9.trans (Cert.Kernel5Ideal.Block.final9 m c), h10.trans (Cert.Kernel5Ideal.Block.final10 m c), h11.trans (Cert.Kernel5Ideal.Block.final11 m c), hr⟩
  · refine (θ_run _ _ _).mono (fun r h c => ?_) (Cert.Reference5Ideal.Value.run (F := Ideal) m' g')
    obtain ⟨h63, h64, h65, h66, h62, hr⟩ := h c
    obtain ⟨h0, h1, h2, h3, h4, h5⟩ := hag c
    refine ⟨h63.trans ((Cert.Reference5Ideal.Read.val_main_v63_eq (F := Ideal) _ _ _).trans ?_), h64.trans ((Cert.Reference5Ideal.Read.val_main_v64_eq (F := Ideal) m' c).trans ?_), h65.trans ((Cert.Reference5Ideal.Read.val_main_v65_eq (F := Ideal) m' c).trans ?_), h66.trans ((Cert.Reference5Ideal.Read.val_main_v66_eq (F := Ideal) m' c).trans ?_), h62.trans ((Cert.Reference5Ideal.Read.val_main_v62_eq (F := Ideal) m' c).trans ?_), hr⟩
    · rw [h0, h1, h2]
      exact z_eq _ _ _
    · rw [h0, h1, h2, h3, h4]
      exact xs_eq _ _ _ _ _
    · rw [h0, h1, h2, h3, h4]
      exact b_eq _ _ _ _ _
    · rw [h0, h1, h2, h3, h4]
      exact c_eq _ _ _ _ _
    · rw [h0, h1, h2, h5]
      exact dt_eq _ _ _ _

end Cert.Kernel5Ideal.Pair

end
-- ==== Proof.SsdLayer.lean ====
/- The mathematics of one row of the state space layer's output side, over extended reals. -/
module

public import Idealize.ShloMosaic.Lib.Pointwise

@[expose] public section

noncomputable section

namespace Cert.Layer

open Idealize.ShloMosaic

/-- The scan's output gated by `silu z`. -/
def gatedY (y z : Fin 2048 → EReal) (c : Fin 2048) : EReal := y c * (z c * Ideal.logistic (z c))

/-- The reciprocal root mean square of group `g` of 256 numbers, the small constant added under the root. -/
def groupScale (u : Fin 2048 → EReal) (g : Fin 8) : EReal :=
  Ideal.rsqrt (Ideal.div (∑ k : Fin 256, u ⟨g.val * 256 + k.val, by omega⟩ * u ⟨g.val * 256 + k.val, by omega⟩) (Ideal.ofBits FTy.f32 0x43800000#32) + Ideal.ofBits FTy.f32 0x358637BD#32)

/-- The row normalised group by group, times its weights. -/
def groupNormed (u w : Fin 2048 → EReal) (c : Fin 2048) : EReal := u c * groupScale u ⟨c.val / 256, by omega⟩ * w c

/-- The output side of a row: gated, normalised by groups, projected, the residual added. -/
def ssdOutRow (y z w : Fin 2048 → EReal) (wo : Fin 2048 → Fin 1024 → EReal) (x : Fin 1024 → EReal) (j : Fin 1024) : EReal :=
  x j + ∑ c, groupNormed (gatedY y z) w c * wo c j

end Cert.Layer

end
-- ==== Proof.SsdOutBlock.lean ====
/- What one grid point of the state space layer's output kernel leaves in its output block: the scratch holds the rows gated
   and normalised by groups of 256 columns, written piece by piece and read back whole. -/
module

public import proofs.«01_k».proof.Proof.SsdLayer
public import proofs.«01_k».proof.Proof.Gen.Kernel6Ideal.Value

@[expose] public section

set_option maxRecDepth 65536

noncomputable section

namespace Cert.Kernel6Ideal.Block

open Cert.Kernel6Ideal Cert.Kernel6Ideal.Gen Cert.Layer Idealize.ShloMosaic Idealize.ShloMosaic.TcCoe Idealize.SL.Sem

/-- Row `r` of a block of 2048 columns. -/
abbrev rowOf (x : Vec Ideal S1024x2048 .bf16) (r : Fin 1024) : Fin 2048 → EReal := fun c => x (ix2 r c)
/-- The norm's weights. -/
abbrev wOf (x2 : Vec Ideal S1x2048 .f32) : Fin 2048 → EReal := fun c => x2 (ix2 0 c)

theorem emb_a (o : Nat) (inb : ∀ a, (![0, o] : Fin 2 → Nat) a + (![1024, 256] : Fin 2 → Nat) a ≤ S1024x2048.size a) (r : Fin 1024) (c : Fin 256) :
    (Rect.unit (s := S1024x2048) ![0, o] ![1024, 256] inb).emb (ix2 r c) = (ix2 r ⟨o + c.val, by have h : o + 256 ≤ 2048 := inb 1; omega⟩ : S1024x2048.Idx) := by
  funext a
  apply Fin.ext
  rw [Rect.emb_apply]
  match a with
  | ⟨0, _⟩ => show 0 + 1 * r.val = r.val; omega
  | ⟨1, _⟩ => show o + 1 * c.val = o + c.val; omega

/-- A chunk of 256 columns of a block, at an index. -/
theorem ld_y (x : Vec Ideal S1024x2048 .bf16) (o : Nat) (inb : ∀ a, (![0, o] : Fin 2 → Nat) a + (![1024, 256] : Fin 2 → Nat) a ≤ S1024x2048.size a) (r : Fin 1024) (c : Fin 256) :
    View.ld (Val := Elt Ideal) (S := S1024x2048) (e' := .bf16) x (Rect.unit (s := S1024x2048) ![0, o] ![1024, 256] inb) (ix2 r c) = rowOf x r ⟨o + c.val, by have h : o + 256 ≤ 2048 := inb 1; omega⟩ := by
  unfold View.ld rowOf
  refine congrArg x (funext fun a => Fin.ext ?_)
  match a with
  | ⟨0, _⟩ => show 0 + 1 * r.val = r.val; omega
  | ⟨1, _⟩ => show o + 1 * c.val = o + c.val; omega

/-- A chunk of 256 columns of the norm's weights, at an index. -/
theorem ld_w (x : Vec Ideal S1x2048 .f32) (o : Nat) (inb : ∀ a, (![0, o] : Fin 2 → Nat) a + (![1, 256] : Fin 2 → Nat) a ≤ S1x2048.size a) (c : Fin 256) :
    View.ld (Val := Elt Ideal) (S := S1x2048) (e' := .f32) x (Rect.unit (s := S1x2048) ![0, o] ![1, 256] inb) (ix2 0 c) = wOf x ⟨o + c.val, by have h : o + 256 ≤ 2048 := inb 1; omega⟩ := by
  unfold View.ld wOf
  refine congrArg x (funext fun a => Fin.ext ?_)
  match a with
  | ⟨0, _⟩ => rfl
  | ⟨1, _⟩ => show o + 1 * c.val = o + c.val; omega

/-- What the scratch holds: every row gated and normalised. -/
def hidden (x0 x1 : Vec Ideal S1024x2048 .bf16) (x2 : Vec Ideal S1x2048 .f32) : Vec Ideal S1024x2048 .bf16 :=
  fun i => groupNormed (gatedY (rowOf x0 (i 0)) (rowOf x1 (i 0))) (wOf x2) (i 1)

theorem pay2_apply (x : Vec Ideal S1024x1024 .f32) (a : Vec Ideal S1024x2048 .bf16) (g : Vec Ideal S2048x1024 .bf16) (r k : Fin 1024) :
    k0_pay2 (F := Ideal) x a g (ix2 r k) = x (ix2 r k) + ∑ c, a (ix2 r c) * g (ix2 c k) := by
  unfold k0_pay2
  pointwise

/-- One gated number of a chunk. -/
abbrev gc (y z : Vec Ideal S1024x256 .bf16) (r : Fin 1024) (c : Fin 256) : EReal := y (ix2 r c) * (z (ix2 r c) * Ideal.logistic (z (ix2 r c)))

/-- A chunk of 256 columns, one group, is the scratch's at those columns. -/
theorem chunk (x0 x1 : Vec Ideal S1024x2048 .bf16) (x2 : Vec Ideal S1x2048 .f32) (g : Nat) (o : Nat) (ho : o = g * 256)
    (inb : ∀ a, (![0, o] : Fin 2 → Nat) a + (![1024, 256] : Fin 2 → Nat) a ≤ S1024x2048.size a)
    (inbw : ∀ a, (![0, o] : Fin 2 → Nat) a + (![1, 256] : Fin 2 → Nat) a ≤ S1x2048.size a)
    (v : S1024x256.Idx → EReal)
    (hv : ∀ (r : Fin 1024) (c : Fin 256), v (ix2 r c) =
      gc (View.ld (Val := Elt Ideal) (S := S1024x2048) (e' := .bf16) x0 (Rect.unit (s := S1024x2048) ![0, o] ![1024, 256] inb)) (View.ld (Val := Elt Ideal) (S := S1024x2048) (e' := .bf16) x1 (Rect.unit (s := S1024x2048) ![0, o] ![1024, 256] inb)) r c
        * Ideal.rsqrt (Ideal.div (∑ k, gc (View.ld (Val := Elt Ideal) (S := S1024x2048) (e' := .bf16) x0 (Rect.unit (s := S1024x2048) ![0, o] ![1024, 256] inb)) (View.ld (Val := Elt Ideal) (S := S1024x2048) (e' := .bf16) x1 (Rect.unit (s := S1024x2048) ![0, o] ![1024, 256] inb)) r k * gc (View.ld (Val := Elt Ideal) (S := S1024x2048) (e' := .bf16) x0 (Rect.unit (s := S1024x2048) ![0, o] ![1024, 256] inb)) (View.ld (Val := Elt Ideal) (S := S1024x2048) (e' := .bf16) x1 (Rect.unit (s := S1024x2048) ![0, o] ![1024, 256] inb)) r k) (Ideal.ofBits FTy.f32 0x43800000#32) + Ideal.ofBits FTy.f32 0x358637BD#32)
        * View.ld (Val := Elt Ideal) (S := S1x2048) (e' := .f32) x2 (Rect.unit (s := S1x2048) ![0, o] ![1, 256] inbw) (ix2 0 c))
    (y : S1024x256.Idx) :
    v y = hidden x0 x1 x2 ((Rect.unit (s := S1024x2048) ![0, o] ![1024, 256] inb).emb y) := by
  obtain ⟨r, c, rfl⟩ : ∃ (r : Fin 1024) (c : Fin 256), y = ix2 r c := ⟨y 0, y 1, ValueIdx.eq_ix2 y⟩
  have hb : o + 256 ≤ 2048 := inb 1
  rw [hv, emb_a o inb]
  unfold gc
  simp only [ld_y x0 o inb, ld_y x1 o inb, ld_w x2 o inbw]
  have hg : (⟨(o + c.val) / 256, by omega⟩ : Fin 8) = ⟨g, by omega⟩ := Fin.ext (by show (o + c.val) / 256 = g; omega)
  show _ = groupNormed (gatedY (rowOf x0 r) (rowOf x1 r)) (wOf x2) ⟨o + c.val, _⟩
  unfold groupNormed
  rw [hg]
  subst ho
  rfl

theorem out_A (c : Dev nD) (i : grid0.Coords) (arg1 : Memref sig .tc .vmem S1024x2048 .bf16) (harg1 : arg1.IsWhole) (arg2 : Memref sig .tc .vmem S1024x2048 .bf16) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x2048 .bf16) (harg7 : arg7.IsWhole)
    (x0 x1 : Vec Ideal S1024x2048 .bf16) (x2 : Vec Ideal S1x2048 .f32) (x3 : Vec Ideal S2048x1024 .bf16) (x4 : Vec Ideal S1024x1024 .f32) :
    out0_A_5 c i arg1 harg1 arg2 harg2 arg3 harg3 arg4 harg4 arg5 harg5 arg6 harg6 arg7 harg7 x0 x1 x2 x3 x4
      = fun y => ssdOutRow (rowOf x0 (y 0)) (rowOf x1 (y 0)) (wOf x2) (fun c j => x3 (ix2 c j)) (fun j => x4 (ix2 (y 0) j)) (y 1) := by
  have hz2 : (![0, 0] : Fin 2 → Nat) = fun _ => 0 := by funext a; fin_cases a <;> rfl
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero hz2]
  simp only [View.readAt_eq_ld, harg1.read_unread, harg2.read_unread, harg3.read_unread, harg4.read_unread, harg5.read_unread, View.ld_unit_zero (S := S1024x1024) hz2, View.ld_unit_zero (S := S2048x1024) hz2]
  rw [View.readCov_eq_canon']
  funext y
  obtain ⟨r, j, rfl⟩ : ∃ (r : Fin 1024) (j : Fin 1024), y = ix2 r j := ⟨y 0, y 1, ValueIdx.eq_ix2 y⟩
  rw [pay2_apply]
  unfold ssdOutRow
  refine congrArg _ (Finset.sum_congr rfl fun q _ => congrArg (· * _) ?_)
  have hid : ((Rect.unit (s := S1024x2048) ![0, 0] S1024x2048.size inb_S1024x2048_S1024x2048_0_0).toLoadRect.idx (ix2 r q) : S1024x2048.Idx) = ix2 r q := by
    funext a; apply Fin.ext
    match a with
    | ⟨0, _⟩ => show 0 + 1 * r.val = r.val; omega
    | ⟨1, _⟩ => show 0 + 1 * q.val = q.val; omega
  refine (congrArg _ hid).trans ?_
  refine (View.canon_apply_of_pieces (hidden x0 x1 x2) _ ?_ (ix2 r q) ?_).trans rfl
  · intro p hp
    simp only [List.mem_cons, List.not_mem_nil, or_false] at hp
    rcases hp with rfl | rfl | rfl | rfl | rfl | rfl | rfl | rfl
    · refine chunk x0 x1 x2 7 1792 rfl inb_S1024x2048_S1024x256_0_1792 inb_S1x2048_S1x256_0_1792 _ fun r c => ?_
      unfold k0_pay1 k0_pay18 gc
      pointwise
    · refine chunk x0 x1 x2 6 1536 rfl inb_S1024x2048_S1024x256_0_1536 inb_S1x2048_S1x256_0_1536 _ fun r c => ?_
      unfold k0_pay17 k0_pay14 k0_pay16 k0_pay15 gc
      pointwise
    · refine chunk x0 x1 x2 5 1280 rfl inb_S1024x2048_S1024x256_0_1280 inb_S1x2048_S1x256_0_1280 _ fun r c => ?_
      unfold k0_pay13 gc
      pointwise
    · refine chunk x0 x1 x2 4 1024 rfl inb_S1024x2048_S1024x256_0_1024 inb_S1x2048_S1x256_0_1024 _ fun r c => ?_
      unfold k0_pay12 k0_pay11 k0_pay10 gc
      pointwise
    · refine chunk x0 x1 x2 3 768 rfl inb_S1024x2048_S1024x256_0_768 inb_S1x2048_S1x256_0_768 _ fun r c => ?_
      unfold k0_pay9 k0_pay8 gc
      pointwise
    · refine chunk x0 x1 x2 2 512 rfl inb_S1024x2048_S1024x256_0_512 inb_S1x2048_S1x256_0_512 _ fun r c => ?_
      unfold k0_pay7 gc
      pointwise
    · refine chunk x0 x1 x2 1 256 rfl inb_S1024x2048_S1024x256_0_256 inb_S1x2048_S1x256_0_256 _ fun r c => ?_
      unfold k0_pay6 k0_pay5 k0_pay4 gc
      pointwise
    · refine chunk x0 x1 x2 0 0 rfl inb_S1024x2048_S1024x256_0_0 inb_S1x2048_S1x256_0_0 _ fun r c => ?_
      unfold k0_pay3 gc
      pointwise
  · exact View.cover_of_tiledL (s := S1024x2048) _ S1024x256.size (by sl_kernel_rfl) _

end Cert.Kernel6Ideal.Block

end
-- ==== Proof.SsdOutArray.lean ====
/- The result array of the state space layer's output kernel: grid point `t` reads rows `1024 t … 1024 t + 1023` and writes the
   same rows of the result. -/
module

public import proofs.«01_k».proof.Proof.SsdOutBlock
public import Idealize.ShloMosaic.Lib.Pipeline.ValueKit.Geometry

@[expose] public section

set_option maxRecDepth 65536

noncomputable section

namespace Cert.Kernel6Ideal.Block

open Cert.Kernel6Ideal Cert.Kernel6Ideal.Gen Cert.Layer Idealize.ShloMosaic Idealize.ShloMosaic.TcCoe Idealize.SL.Sem

variable (m : (ℓ : Loc nD τ sig) → Buf (Elt Ideal) ℓ) (ρ : Dev nD → PrngReg)

/-- The result as one function of the five arguments, read at a row of the flattened inputs. -/
def result (a0 a1 : FVec Ideal S2x8192x2048 .bf16) (a2 : FVec Ideal S1x2048 .f32) (a3 : FVec Ideal S1x2048x1024 .f32) (a4 : FVec Ideal S2x8192x1024 .f32) : FVec Ideal S16384x1024 .f32 := fun y =>
  ssdOutRow (fun c => shapeCast S16384x2048 a0 shapeCasts_S2x8192x2048_S16384x2048 (ix2 (y 0) c)) (fun c => shapeCast S16384x2048 a1 shapeCasts_S2x8192x2048_S16384x2048 (ix2 (y 0) c))
    (fun c => a2 (ix2 0 c)) (fun c j => a3 (ix3 0 c j)) (fun j => shapeCast S16384x1024 a4 shapeCasts_S2x8192x1024_S16384x1024 (ix2 (y 0) j)) (y 1)

theorem V_y (c : Dev nD) : V m c main_v0
    = (shapeCast S16384x2048 (m ((c : Thread nD τ).loc main_arg0) : FVec Ideal S2x8192x2048 .bf16) shapeCasts_S2x8192x2048_S16384x2048 : FVec Ideal S16384x2048 .bf16) := by
  show StableHlo.after hostOps0 _ (Proc.devRef .tc main_v0) = _
  after_results
  rfl

theorem V_z (c : Dev nD) : V m c main_v1
    = (shapeCast S16384x2048 (m ((c : Thread nD τ).loc main_arg1) : FVec Ideal S2x8192x2048 .bf16) shapeCasts_S2x8192x2048_S16384x2048 : FVec Ideal S16384x2048 .bf16) := by
  show StableHlo.after hostOps0 _ (Proc.devRef .tc main_v1) = _
  after_results
  rfl

theorem V_x (c : Dev nD) : V m c main_v4
    = (shapeCast S16384x1024 (m ((c : Thread nD τ).loc main_arg4) : FVec Ideal S2x8192x1024 .f32) shapeCasts_S2x8192x1024_S16384x1024 : FVec Ideal S16384x1024 .f32) := by
  show StableHlo.after hostOps0 _ (Proc.devRef .tc main_v4) = _
  after_results
  rfl

theorem wo_apply (a : FVec Ideal S1x2048x1024 .f32) (j : Fin 2048) (k : Fin 1024) :
    (truncf .bf16 (shapeCast S2048x1024 a shapeCasts_S1x2048x1024_S2048x1024 : FVec Ideal S2048x1024 .f32) bitsLt_bf16_f32 : FVec Ideal S2048x1024 .bf16) (ix2 j k) = a (ix3 0 j k) := by
  pointwise

theorem V_wo (c : Dev nD) (j : Fin 2048) (k : Fin 1024) : (V m c main_v3 : FVec Ideal S2048x1024 .bf16) (ix2 j k)
    = (m ((c : Thread nD τ).loc main_arg3) : FVec Ideal S1x2048x1024 .f32) (ix3 0 j k) := by
  have h : (V m c main_v3 : FVec Ideal S2048x1024 .bf16)
      = (truncf .bf16 (shapeCast S2048x1024 (m ((c : Thread nD τ).loc main_arg3) : FVec Ideal S1x2048x1024 .f32) shapeCasts_S1x2048x1024_S2048x1024 : FVec Ideal S2048x1024 .f32) bitsLt_bf16_f32 : FVec Ideal S2048x1024 .bf16) := by
    show StableHlo.after hostOps0 _ (Proc.devRef .tc main_v3) = _
    after_results
    rfl
  rw [h]
  exact wo_apply _ j k

theorem idx0 : ∀ t : Fin cfg0.N, win0_0.index t 0 = t.val ∧ win0_0.index t 1 = 0 := by
  show ∀ t : Fin grid0.N, _
  decide +kernel
theorem idx1 : ∀ t : Fin cfg0.N, win0_1.index t 0 = t.val ∧ win0_1.index t 1 = 0 := by
  show ∀ t : Fin grid0.N, _
  decide +kernel
theorem idx2 : ∀ t : Fin cfg0.N, win0_2.index t 0 = 0 ∧ win0_2.index t 1 = 0 := by
  show ∀ t : Fin grid0.N, _
  decide +kernel
theorem idx3 : ∀ t : Fin cfg0.N, win0_3.index t 0 = 0 ∧ win0_3.index t 1 = 0 := by
  show ∀ t : Fin grid0.N, _
  decide +kernel
theorem idx4 : ∀ t : Fin cfg0.N, win0_4.index t 0 = t.val ∧ win0_4.index t 1 = 0 := by
  show ∀ t : Fin grid0.N, _
  decide +kernel
theorem idx5 : ∀ t : Fin cfg0.N, win0_5.index t 0 = t.val ∧ win0_5.index t 1 = 0 := by
  show ∀ t : Fin grid0.N, _
  decide +kernel

theorem tlt (t : Fin cfg0.N) : t.val < 16 := t.isLt

theorem blk0 (c : Dev nD) (t : Fin cfg0.N) (r : Fin 1024) (k : Fin 2048) :
    (iblk m c 0 t : Vec Ideal S1024x2048 .bf16) (ix2 r k) = (V m c main_v0 : FVec Ideal S16384x2048 .bf16) (ix2 ⟨t.val * 1024 + r.val, by have := tlt t; omega⟩ k) := by
  unfold iblk
  rw [View.read_apply]
  show (V m c main_v0 : FVec Ideal S16384x2048 .bf16) ((win0_0.rect t).emb (ix2 r k)) = _
  refine congrArg _ (funext fun a => Fin.ext ?_)
  rw [Pipeline.Window.rect_emb_val win0_0 t _ a]
  match a with
  | ⟨0, _⟩ => show win0_0.index t 0 * 1024 + r.val = t.val * 1024 + r.val; rw [(idx0 t).1]
  | ⟨1, _⟩ => show win0_0.index t 1 * 2048 + k.val = k.val; rw [(idx0 t).2]; omega

theorem blk1 (c : Dev nD) (t : Fin cfg0.N) (r : Fin 1024) (k : Fin 2048) :
    (iblk m c 1 t : Vec Ideal S1024x2048 .bf16) (ix2 r k) = (V m c main_v1 : FVec Ideal S16384x2048 .bf16) (ix2 ⟨t.val * 1024 + r.val, by have := tlt t; omega⟩ k) := by
  unfold iblk
  rw [View.read_apply]
  show (V m c main_v1 : FVec Ideal S16384x2048 .bf16) ((win0_1.rect t).emb (ix2 r k)) = _
  refine congrArg _ (funext fun a => Fin.ext ?_)
  rw [Pipeline.Window.rect_emb_val win0_1 t _ a]
  match a with
  | ⟨0, _⟩ => show win0_1.index t 0 * 1024 + r.val = t.val * 1024 + r.val; rw [(idx1 t).1]
  | ⟨1, _⟩ => show win0_1.index t 1 * 2048 + k.val = k.val; rw [(idx1 t).2]; omega

theorem blk4 (c : Dev nD) (t : Fin cfg0.N) (r : Fin 1024) (k : Fin 1024) :
    (iblk m c 4 t : Vec Ideal S1024x1024 .f32) (ix2 r k) = (V m c main_v4 : FVec Ideal S16384x1024 .f32) (ix2 ⟨t.val * 1024 + r.val, by have := tlt t; omega⟩ k) := by
  unfold iblk
  rw [View.read_apply]
  show (V m c main_v4 : FVec Ideal S16384x1024 .f32) ((win0_4.rect t).emb (ix2 r k)) = _
  refine congrArg _ (funext fun a => Fin.ext ?_)
  rw [Pipeline.Window.rect_emb_val win0_4 t _ a]
  match a with
  | ⟨0, _⟩ => show win0_4.index t 0 * 1024 + r.val = t.val * 1024 + r.val; rw [(idx4 t).1]
  | ⟨1, _⟩ => show win0_4.index t 1 * 1024 + k.val = k.val; rw [(idx4 t).2]; omega

theorem blk3 (c : Dev nD) (t : Fin cfg0.N) (j : Fin 2048) (k : Fin 1024) :
    (iblk m c 3 t : Vec Ideal S2048x1024 .bf16) (ix2 j k) = (V m c main_v3 : FVec Ideal S2048x1024 .bf16) (ix2 j k) := by
  unfold iblk
  rw [View.read_apply]
  show (V m c main_v3 : FVec Ideal S2048x1024 .bf16) ((win0_3.rect t).emb (ix2 j k)) = _
  refine congrArg _ (funext fun a => Fin.ext ?_)
  rw [Pipeline.Window.rect_emb_val win0_3 t _ a]
  match a with
  | ⟨0, _⟩ => show win0_3.index t 0 * 2048 + j.val = j.val; rw [(idx3 t).1]; omega
  | ⟨1, _⟩ => show win0_3.index t 1 * 1024 + k.val = k.val; rw [(idx3 t).2]; omega

theorem blk2 (c : Dev nD) (t : Fin cfg0.N) (k : Fin 2048) :
    (iblk m c 2 t : Vec Ideal S1x2048 .f32) (ix2 0 k) = (m ((c : Thread nD τ).loc main_arg2) : FVec Ideal S1x2048 .f32) (ix2 0 k) := by
  unfold iblk
  rw [View.read_apply, ← V_main_arg2 m c]
  show (V m c main_arg2 : FVec Ideal S1x2048 .f32) ((win0_2.rect t).emb (ix2 0 k)) = _
  refine congrArg _ (funext fun a => Fin.ext ?_)
  rw [Pipeline.Window.rect_emb_val win0_2 t _ a]
  match a with
  | ⟨0, _⟩ => show win0_2.index t 0 * 1 + 0 = 0; rw [(idx2 t).1]
  | ⟨1, _⟩ => show win0_2.index t 1 * 2048 + k.val = k.val; rw [(idx2 t).2]; omega

theorem point_apply (c : Dev nD) (t : Fin cfg0.N) (r j : Fin 1024) :
    (outsAt0 m c t : Vec Ideal S1024x1024 .f32) (ix2 r j)
      = result (m ((c : Thread nD τ).loc main_arg0)) (m ((c : Thread nD τ).loc main_arg1)) (m ((c : Thread nD τ).loc main_arg2)) (m ((c : Thread nD τ).loc main_arg3)) (m ((c : Thread nD τ).loc main_arg4))
          (ix2 ⟨t.val * 1024 + r.val, by have := tlt t; omega⟩ j) := by
  unfold outsAt0
  rw [out_A]
  refine (show _ = ssdOutRow (rowOf (iblk m c 0 t) r) (rowOf (iblk m c 1 t) r) (wOf (iblk m c 2 t)) (fun q j => (iblk m c 3 t : Vec Ideal S2048x1024 .bf16) (ix2 q j)) (fun j => (iblk m c 4 t : Vec Ideal S1024x1024 .f32) (ix2 r j)) j from rfl).trans ?_
  have h0 : rowOf (iblk m c 0 t) r = fun k => (V m c main_v0 : FVec Ideal S16384x2048 .bf16) (ix2 ⟨t.val * 1024 + r.val, by have := tlt t; omega⟩ k) := funext fun k => blk0 m c t r k
  have h1 : rowOf (iblk m c 1 t) r = fun k => (V m c main_v1 : FVec Ideal S16384x2048 .bf16) (ix2 ⟨t.val * 1024 + r.val, by have := tlt t; omega⟩ k) := funext fun k => blk1 m c t r k
  have h2 : wOf (iblk m c 2 t) = fun k => (m ((c : Thread nD τ).loc main_arg2) : FVec Ideal S1x2048 .f32) (ix2 0 k) := funext fun k => blk2 m c t k
  have h3 : (fun q j => (iblk m c 3 t : Vec Ideal S2048x1024 .bf16) (ix2 q j)) = fun q j => (m ((c : Thread nD τ).loc main_arg3) : FVec Ideal S1x2048x1024 .f32) (ix3 0 q j) := funext fun q => funext fun j => (blk3 m c t q j).trans (V_wo m c q j)
  have h4 : (fun j => (iblk m c 4 t : Vec Ideal S1024x1024 .f32) (ix2 r j)) = fun k => (V m c main_v4 : FVec Ideal S16384x1024 .f32) (ix2 ⟨t.val * 1024 + r.val, by have := tlt t; omega⟩ k) := funext fun k => blk4 m c t r k
  rw [h0, h1, h2, h3, h4, V_y, V_z, V_x]
  rfl

theorem emb5 (t : Fin cfg0.N) (r j : Fin 1024) :
    ((cfg0.win 5).blk t).view.emb (ix2 r j) = (ix2 ⟨t.val * 1024 + r.val, by have := tlt t; omega⟩ j : S16384x1024.Idx) := by
  show (win0_5.rect t).emb (ix2 r j) = _
  refine funext fun a => Fin.ext ?_
  rw [Pipeline.Window.rect_emb_val win0_5 t _ a]
  match a with
  | ⟨0, _⟩ => show win0_5.index t 0 * 1024 + r.val = t.val * 1024 + r.val; rw [(idx5 t).1]
  | ⟨1, _⟩ => show win0_5.index t 1 * 1024 + j.val = j.val; rw [(idx5 t).2]; omega

theorem covers5 : (cfg0.win 5).Covers := by decide +kernel

/-- The result as the contents of the result array. -/
def G (c : Dev nD) : Buf (Elt Ideal) ((c : Thread nD τ).loc main_v5) :=
  result (m ((c : Thread nD τ).loc main_arg0)) (m ((c : Thread nD τ).loc main_arg1)) (m ((c : Thread nD τ).loc main_arg2)) (m ((c : Thread nD τ).loc main_arg3)) (m ((c : Thread nD τ).loc main_arg4))

theorem flushed_eq (c : Dev nD) (t : Fin cfg0.N) :
    (dats m 0 c).flushed 5 t = ((cfg0.win 5).blk t).view.read (Elt Ideal) (G m c) := by
  rw [Value.flushed5]
  funext y
  obtain ⟨r, j, rfl⟩ : ∃ (r : Fin 1024) (j : Fin 1024), y = ix2 r j := ⟨y 0, y 1, ValueIdx.eq_ix2 y⟩
  rw [View.read_apply, emb5]
  exact point_apply m c t r j

theorem final (c : Dev nD) : (dats m 0 c).arrAt 5 cfg0.N = G m c :=
  (dats m 0 c).arrAt_eq_of_cover 5 (G m c) (fun t _ => flushed_eq m c t) (covers5.cover _ (Memref.isWhole_whole _))

end Cert.Kernel6Ideal.Block

end
-- ==== Proof.SsdOutRef.lean ====
/- The reference of the state space layer's output side, read at an index: the same row function. -/
module

public import proofs.«01_k».proof.Proof.SsdLayer
public import proofs.«01_k».proof.Proof.Gen.Reference6Ideal.Read

@[expose] public section

set_option maxRecDepth 65536

noncomputable section

namespace Cert.Reference6Ideal.RowValue

open Cert.Reference6Ideal Cert.Reference6Ideal.Gen Cert.Reference6Ideal.Read Cert.Layer Idealize.ShloMosaic Idealize.ShloMosaic.TcCoe Idealize.SL.Sem

variable (x0 x1 : FVec Ideal S2x8192x2048 .bf16) (x2 : FVec Ideal S1x2048 .f32) (x3 : FVec Ideal S1x2048x1024 .f32) (x4 : FVec Ideal S2x8192x1024 .f32)

/-- Row `s` of batch row `b`, gated. -/
abbrev gRow (b : Fin 2) (s : Fin 8192) : Fin 2048 → EReal := gatedY (fun c => x0 (ix3 b s c)) (fun c => x1 (ix3 b s c))

theorem g_apply (b : Fin 2) (s : Fin 8192) (c : Fin 2048) : val_main_v3 (F := Ideal) x0 x1 (ix3 b s c) = gRow x0 x1 b s c := by
  unfold gRow gatedY
  unfold val_main_v3 val_main_v2 val_main_call0_v5 val_main_call0_v4 val_main_call0_v3 val_main_call0_v2 val_main_call0_v1 val_main_call0_v0 val_main_call0_cst val_main_call0_cst_0 val_main_v1 val_main_v0
  unfold Ideal.logistic
  pointwise

theorem gg_apply (b : Fin 2) (s : Fin 8192) (g : Fin 8) (k : Fin 256) : val_main_v4 (F := Ideal) x0 x1 (ix4 b s g k) = gRow x0 x1 b s ⟨g.val * 256 + k.val, by omega⟩ := by
  rw [← g_apply]
  unfold val_main_v4
  pointwise

theorem scale_apply (b : Fin 2) (s : Fin 8192) (g : Fin 8) : val_main_v12 (F := Ideal) x0 x1 (ix4 b s g 0) = groupScale (gRow x0 x1 b s) g := by
  unfold groupScale
  simp only [← gg_apply]
  unfold val_main_v12 val_main_v11 val_main_v10 val_main_v9 val_main_v8 val_main_v7 val_main_v6 val_main_v5 val_main_cst val_main_cst_0 val_main_cst_1
  pointwise

theorem n4_apply (b : Fin 2) (s : Fin 8192) (g : Fin 8) (k : Fin 256) : val_main_v14 (F := Ideal) x0 x1 (ix4 b s g k)
    = gRow x0 x1 b s ⟨g.val * 256 + k.val, by omega⟩ * groupScale (gRow x0 x1 b s) g := by
  rw [← gg_apply, ← scale_apply]
  unfold val_main_v14 val_main_v13
  pointwise

theorem n_apply (b : Fin 2) (s : Fin 8192) (c : Fin 2048) : val_main_v19 (F := Ideal) x0 x1 x2 (ix3 b s c)
    = groupNormed (gRow x0 x1 b s) (fun c => x2 (ix2 0 c)) c := by
  have h := n4_apply x0 x1 b s ⟨c.val / 256, by omega⟩ ⟨c.val % 256, by omega⟩
  have hc : (⟨c.val / 256 * 256 + c.val % 256, by omega⟩ : Fin 2048) = c := Fin.ext (by show c.val / 256 * 256 + c.val % 256 = c.val; omega)
  rw [hc] at h
  unfold groupNormed
  rw [← h]
  unfold val_main_v19 val_main_v18 val_main_v17 val_main_v16 val_main_v15
  pointwise

theorem out_apply (b : Fin 2) (s : Fin 8192) (j : Fin 1024) : val_main_v22 (F := Ideal) x0 x1 x2 x3 x4 (ix3 b s j)
    = ssdOutRow (fun c => x0 (ix3 b s c)) (fun c => x1 (ix3 b s c)) (fun c => x2 (ix2 0 c)) (fun c j => x3 (ix3 0 c j)) (fun j => x4 (ix3 b s j)) j := by
  unfold ssdOutRow
  simp only [← n_apply]
  unfold val_main_v22 val_main_v21 val_main_v20
  pointwise

end Cert.Reference6Ideal.RowValue

end
-- ==== Proof.SsdOutPair.lean ====
/- The state space layer's output side: the kernel and the reference end with the same array. -/
module

public import proofs.«01_k».proof.Defs
public import proofs.«01_k».proof.Proof.SsdOutArray
public import proofs.«01_k».proof.Proof.SsdOutRef
public import proofs.«01_k».proof.Proof.Gen.Reference6Ideal.Run

@[expose] public section

set_option maxRecDepth 65536

noncomputable section

namespace Cert.Kernel6Ideal.Pair

open  Cert.Layer Idealize.ShloMosaic Idealize.ShloMosaic.TcCoe Idealize.SL.Sem

theorem result_eq (a0 a1 : FVec Ideal Cert.Reference6Ideal.S2x8192x2048 .bf16) (a2 : FVec Ideal Cert.Reference6Ideal.S1x2048 .f32) (a3 : FVec Ideal Cert.Reference6Ideal.S1x2048x1024 .f32) (a4 : FVec Ideal Cert.Reference6Ideal.S2x8192x1024 .f32) :
    Cert.Reference6Ideal.Read.val_main_v23 (F := Ideal) a0 a1 a2 a3 a4 = Cert.Kernel6Ideal.Block.result a0 a1 a2 a3 a4 := by
  funext y
  obtain ⟨n, j, rfl⟩ : ∃ (n : Fin 16384) (j : Fin 1024), y = ix2 n j := ⟨y 0, y 1, ValueIdx.eq_ix2 y⟩
  show _ = ssdOutRow (fun c => shapeCast Cert.Kernel6Ideal.S16384x2048 a0 _ (ix2 n c)) (fun c => shapeCast Cert.Kernel6Ideal.S16384x2048 a1 _ (ix2 n c)) _ _ (fun j => shapeCast Cert.Kernel6Ideal.S16384x1024 a4 _ (ix2 n j)) j
  unfold Cert.Reference6Ideal.Read.val_main_v23
  pointwise [Cert.Reference6Ideal.RowValue.out_apply]

theorem algebraic : Cert.algebraic_Kernel6Ideal_Reference6Ideal (hKernel6Ideal := Cert.Kernel6Ideal.Gen.facts) (hReference6Ideal := Cert.Reference6Ideal.Gen.facts) := by
  intro m g m' g' _ hag
  refine ⟨fun c => Cert.Kernel6Ideal.Block.G m c, ?_, ?_⟩
  · refine (θ_run _ _ _).mono (fun r h c => ?_) (Cert.Kernel6Ideal.Value.run_blocks m g)
    exact ⟨(h c).1.trans (Cert.Kernel6Ideal.Block.final m c), (h c).2⟩
  · refine (θ_run _ _ _).mono (fun r h c => ?_) (Cert.Reference6Ideal.Value.run (F := Ideal) m' g')
    refine ⟨(h c).1.trans ((Cert.Reference6Ideal.Read.val_main_v23_eq (F := Ideal) _ _ _ _ _).trans ?_), (h c).2⟩
    obtain ⟨h0, h1, h2, h3, h4⟩ := hag c
    rw [h0, h1, h2, h3, h4]
    exact result_eq _ _ _ _ _

end Cert.Kernel6Ideal.Pair

end
-- ==== Proof.FoxLayer.lean ====
/- The mathematics of one row of the forgetting attention's input side, over extended reals: the heads' norms and the running
   sum of the gates. -/
module

public import proofs.«01_k».proof.Proof.SsdInLayer
public import Mathlib.Algebra.BigOperators.Fin

@[expose] public section

set_option maxRecDepth 65536

noncomputable section

namespace Cert.Layer

open Idealize.ShloMosaic

/-- One number of the projection of a row. -/
def foxProj (h : Fin 1024 → EReal) (W : Fin 1024 → Fin 3088 → EReal) (c : Fin 3088) : EReal := ∑ k, h k * W k c

/-- The width of a head, 64, and the small constant added under the root, as they print. -/
def headWidth : EReal := Ideal.ofBits FTy.f32 0x42800000#32
def rootEps : EReal := Ideal.ofBits FTy.f32 0x358637BD#32

/-- The reciprocal root mean square of head `a`, 64 of the row's 1024 numbers. -/
def headScale (q : Fin 1024 → EReal) (a : Fin 16) : EReal :=
  Ideal.rsqrt (Ideal.div (∑ d : Fin 64, q ⟨a.val * 64 + d.val, by omega⟩ * q ⟨a.val * 64 + d.val, by omega⟩) headWidth + rootEps)

/-- The row with each head normalised and weighted. -/
def headNormed (q : Fin 1024 → EReal) (g : Fin 64 → EReal) (c : Fin 1024) : EReal :=
  q c * headScale q ⟨c.val / 64, by omega⟩ * g ⟨c.val % 64, by omega⟩

/-- The logarithm of the forget gate of head `a`, to base two. -/
def foxLog (h : Fin 1024 → EReal) (W : Fin 1024 → Fin 3088 → EReal) (b : Fin 16 → EReal) (a : Fin 16) : EReal :=
  (0 - softplus (0 - (foxProj h W ⟨3072 + a.val, by omega⟩ + b a))) * Ideal.ofBits FTy.f32 0x3FB8AA3B#32

/-- The gates of a sequence of rows, by position; zero after the end. -/
def gateAt (x : Fin 8192 → Fin 1024 → EReal) (w : Fin 1024 → EReal) (W : Fin 1024 → Fin 3088 → EReal) (b : Fin 16 → EReal) (a : Fin 16) (i : Nat) : EReal :=
  if h : i < 8192 then foxLog (normed (x ⟨i, h⟩) w) W b a else 0

/-- The sum of the gates before position `n`. -/
def gateSum (x : Fin 8192 → Fin 1024 → EReal) (w : Fin 1024 → EReal) (W : Fin 1024 → Fin 3088 → EReal) (b : Fin 16 → EReal) (a : Fin 16) (n : Nat) : EReal :=
  ∑ i ∈ Finset.range n, gateAt x w W b a i

/-- Which head a column belongs to, as a number. -/
def pick (k : Fin 1024) (l : Fin 128) : EReal := if k.val / 64 = l.val then 1 else 0

theorem headWidth_eq : headWidth = ((64 : ℝ) : EReal) := by
  unfold headWidth
  simp [Ideal.ofBits, Ideal.ieee, -EReal.coe_mul]
  norm_num

theorem rootEps_pos : 0 < rootEps := by
  unfold rootEps
  simp [Ideal.ofBits, Ideal.ieee, -EReal.coe_mul]

theorem div_width (x : EReal) : Ideal.div x headWidth = x * (((64 : ℝ)⁻¹ : ℝ) : EReal) := by
  unfold Ideal.div
  rw [headWidth_eq, if_neg (by norm_num), ← EReal.coe_inv]

theorem sum_mul_coe {ι : Type} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- A sum over the 1024 columns is a sum over the heads of a sum over each head. -/
theorem sum_heads (f : Fin 1024 → EReal) : ∑ k, f k = ∑ a : Fin 16, ∑ d : Fin 64, f ⟨a.val * 64 + d.val, by omega⟩ := by
  rw [← Fintype.sum_prod_type' (fun (a : Fin 16) (d : Fin 64) => f ⟨a.val * 64 + d.val, by omega⟩)]
  refine (Fintype.sum_equiv (finProdFinEquiv (m := 16) (n := 64)) _ _ fun p => ?_).symm
  refine congrArg f (Fin.ext (Eq.trans ?_ (finProdFinEquiv_apply_val (m := 16) (n := 64) p).symm))
  show p.1.val * 64 + p.2.val = p.2.val + 64 * p.1.val
  omega

theorem sum_pick (f : Fin 1024 → EReal) (a : Fin 16) (l : Fin 128) (hl : l.val = a.val) (e : EReal) :
    ∑ k, f k * (pick k l * e) = ∑ d : Fin 64, f ⟨a.val * 64 + d.val, by omega⟩ * e := by
  rw [sum_heads]
  rw [Finset.sum_eq_single a]
  · refine Finset.sum_congr rfl fun d _ => ?_
    unfold pick
    rw [if_pos (by show (a.val * 64 + d.val) / 64 = l.val; omega), one_mul]
  · intro a' _ hne
    refine Finset.sum_eq_zero fun d _ => ?_
    unfold pick
    rw [if_neg (by
      show ¬ (a'.val * 64 + d.val) / 64 = l.val
      intro h
      exact hne (Fin.ext (by omega))), zero_mul, mul_zero]
  · intro h
    exact absurd (Finset.mem_univ _) h

/-- The scale of the head a column of the padded 128 stands for. -/
def scale128 (q : Fin 1024 → EReal) (l : Fin 128) : EReal :=
  Ideal.rsqrt (∑ k, q k * q k * Ideal.div (pick k l) headWidth + rootEps)

theorem scale128_eq (q : Fin 1024 → EReal) (a : Fin 16) (l : Fin 128) (hl : l.val = a.val) : scale128 q l = headScale q a := by
  unfold scale128 headScale
  congr 2
  simp only [div_width]
  rw [sum_pick (fun k => q k * q k) a l hl, sum_mul_coe _ _ _ (by norm_num)]

theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

theorem rsqrt_sub_self (x : EReal) (hx : 0 < x) : Ideal.rsqrt x - Ideal.rsqrt x = 0 := by
  induction x using EReal.rec with
  | bot => exact absurd hx (by simp)
  | top => show (0 : EReal) - 0 = 0; simp
  | coe r =>
    have hr : 0 < r := by exact_mod_cast hx
    have : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [this, ← EReal.coe_sub, sub_self]
    rfl

theorem scale128_sub_self (q : Fin 1024 → EReal) (l : Fin 128) : scale128 q l - scale128 q l = 0 := by
  refine rsqrt_sub_self _ (lt_of_lt_of_le rootEps_pos ?_)
  have : (0 : EReal) ≤ ∑ k, q k * q k * Ideal.div (pick k l) headWidth := by
    refine Finset.sum_nonneg fun k _ => mul_nonneg (sq_nonneg' _) ?_
    rw [div_width]
    refine mul_nonneg ?_ (by exact_mod_cast (by norm_num : (0 : ℝ) ≤ (64 : ℝ)⁻¹))
    unfold pick
    split <;> norm_num
  calc rootEps = 0 + rootEps := (zero_add _).symm
    _ ≤ _ := add_le_add this le_rfl

/-- The scales and their rounding errors, which are zero, spread back over the columns. -/
theorem spread (q : Fin 1024 → EReal) (A : Fin 1024 → Fin 128 → EReal) (B : Fin 256 → Fin 1024 → EReal)
    (hA : ∀ k l, A k l = Ideal.div (pick k l) headWidth) (hB : ∀ j c, B j c = pick c ⟨j.val % 128, by omega⟩) (c : Fin 1024) :
    (∑ l : Fin 128, Ideal.rsqrt (∑ k, q k * q k * A k l + rootEps) * B ⟨l.val, by omega⟩ c)
      + (∑ l : Fin 128, (Ideal.rsqrt (∑ k, q k * q k * A k l + rootEps) - Ideal.rsqrt (∑ k, q k * q k * A k l + rootEps)) * B ⟨128 + l.val, by omega⟩ c)
      = headScale q ⟨c.val / 64, by omega⟩ := by
  simp only [hA, hB]
  show (∑ l : Fin 128, scale128 q l * pick c ⟨l.val % 128, by omega⟩) + (∑ l : Fin 128, (scale128 q l - scale128 q l) * _) = _
  simp only [scale128_sub_self, zero_mul, Finset.sum_const_zero, add_zero]
  rw [Finset.sum_eq_single (⟨c.val / 64, by omega⟩ : Fin 128)]
  · rw [scale128_eq q ⟨c.val / 64, by omega⟩ _ rfl]
    unfold pick
    rw [if_pos (by show c.val / 64 = c.val / 64 % 128; omega), mul_one]
  · intro l _ hne
    unfold pick
    rw [if_neg (by
      show ¬ c.val / 64 = l.val % 128
      intro h
      exact hne (Fin.ext (by show l.val = c.val / 64; omega))), mul_zero]
  · intro h
    exact absurd (Finset.mem_univ _) h

/-- The last `n` numbers up to position `j`, added. -/
def lastSum (f : Nat → EReal) (n j : Nat) : EReal := ∑ i ∈ Finset.range n, if i ≤ j then f (j - i) else 0

theorem lastSum_one (f : Nat → EReal) (j : Nat) : lastSum f 1 j = f j := by
  unfold lastSum
  simp

/-- One doubling of the running sum. -/
theorem lastSum_double (f : Nat → EReal) (n j : Nat) : lastSum f n j + (if n ≤ j then lastSum f n (j - n) else 0) = lastSum f (n + n) j := by
  unfold lastSum
  rw [Finset.sum_range_add]
  congr 1
  by_cases h : n ≤ j
  · rw [if_pos h]
    refine Finset.sum_congr rfl fun i _ => ?_
    by_cases h' : i ≤ j - n
    · rw [if_pos h', if_pos (by omega), Nat.sub_sub]
    · rw [if_neg h', if_neg (by omega)]
  · rw [if_neg h]
    exact (Finset.sum_eq_zero fun i _ => if_neg (by omega)).symm

theorem lastSum_all (f : Nat → EReal) (n j : Nat) (hj : j < n) : lastSum f n j = ∑ i ∈ Finset.range (j + 1), f i := by
  unfold lastSum
  rw [← Finset.sum_range_reflect f (j + 1), show n = (j + 1) + (n - (j + 1)) by omega, Finset.sum_range_add]
  rw [Finset.sum_eq_zero (s := Finset.range (n - (j + 1))) fun i _ => if_neg (by omega), add_zero]
  refine Finset.sum_congr rfl fun i hi => ?_
  have := Finset.mem_range.mp hi
  rw [if_pos (by omega), show j + 1 - 1 - i = j - i by omega]

/-- A window of `n` numbers that ends at position `s`, what lies before the beginning left out. -/
theorem window_sum (G : Nat → EReal) (n s : Nat) (hs : s < n) :
    (∑ i : Fin n, if n - 1 ≤ s + i.val then G (s + i.val - (n - 1)) else 0) = ∑ i ∈ Finset.range (s + 1), G i := by
  rw [Fin.sum_univ_eq_sum_range (fun i => if n - 1 ≤ s + i then G (s + i - (n - 1)) else 0)]
  conv_lhs => rw [show n = (n - (s + 1)) + (s + 1) by omega, Finset.sum_range_add]
  rw [Finset.sum_eq_zero (s := Finset.range (n - (s + 1))) fun i hi => if_neg (by have := Finset.mem_range.mp hi; omega), zero_add]
  refine Finset.sum_congr rfl fun i hi => ?_
  have := Finset.mem_range.mp hi
  rw [if_pos (by omega)]
  congr 1
  omega

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

end Cert.Layer

end
-- ==== Proof.FoxInBlock.lean ====
/- What one grid point of the forgetting attention's input kernel computes: the queries and keys with each head normalised, where
   the kernel sums a head's squares and spreads the scale back with products by one-hot matrices; the values; and the running
   sum of the gates' logarithms, which the kernel builds by ten doublings. -/
module

public import proofs.«01_k».proof.Proof.FoxLayer
public import proofs.«01_k».proof.Proof.Gen.Kernel7Ideal.Value
public import Idealize.ShloMosaic.Lib.Pointwise

@[expose] public section

set_option maxRecDepth 65536

noncomputable section

namespace Cert.Kernel7Ideal.Block

open Cert.Kernel7Ideal Cert.Kernel7Ideal.Gen Cert.Layer Idealize.ShloMosaic Idealize.ShloMosaic.TcCoe Idealize.SL.Sem

/-- Row `r` of the input block. -/
abbrev rowOf (x0 : Vec Ideal S1x1024x1024 .f32) (r : Fin 1024) : Fin 1024 → EReal := fun k => x0 (ix3 0 r k)
/-- The norm's weights. -/
abbrev wOf (x1 : Vec Ideal S1x1024 .f32) : Fin 1024 → EReal := fun k => x1 (ix2 0 k)

theorem pay5_apply (x : Vec Ideal S1x1024x1024 .f32) (w : Vec Ideal S1x1024 .f32) (r k : Fin 1024) :
    k0_pay5 (F := Ideal) x w (ix2 r k) = normed (rowOf x r) (wOf w) k := by
  unfold k0_pay5 normed rowScale
  pointwise

/-- Column `c` of the queries', keys' and values' projection of row `r` of the block. -/
def qkvB (x0 : Vec Ideal S1x1024x1024 .f32) (x1 : Vec Ideal S1x1024 .f32) (x2 : Vec Ideal S1024x3072 .bf16) (r : Fin 1024) (c : Fin 3072) : EReal := ∑ k, normed (rowOf x0 r) (wOf x1) k * x2 (ix2 k c)

theorem pay6_sum (x0 : Vec Ideal S1x1024x1024 .f32) (x1 : Vec Ideal S1x1024 .f32) (x2 : Vec Ideal S1024x3072 .bf16) (r : Fin 1024) (c : Fin 3072) :
    k0_pay6 (F := Ideal) x0 x1 x2 (ix2 r c) = ∑ k, k0_pay5 (F := Ideal) x0 x1 (ix2 r k) * x2 (ix2 k c) := by
  unfold k0_pay6
  pointwise

theorem pay6_apply (x0 : Vec Ideal S1x1024x1024 .f32) (x1 : Vec Ideal S1x1024 .f32) (x2 : Vec Ideal S1024x3072 .bf16) (r : Fin 1024) (c : Fin 3072) : k0_pay6 (F := Ideal) x0 x1 x2 (ix2 r c) = qkvB x0 x1 x2 r c := by
  rw [pay6_sum]
  simp only [pay5_apply]
  rfl

/-- A projected row with each head normalised, times the gain. -/
def headB (q : Fin 1024 → EReal) (g : Vec Ideal S1x1024 .f32) (c : Fin 1024) : EReal := q c * headScale q ⟨c.val / 64, by omega⟩ * g (ix2 0 c)

theorem pay11_apply (x0 : Vec Ideal S1x1024x1024 .f32) (x1 : Vec Ideal S1x1024 .f32) (x2 : Vec Ideal S1024x3072 .bf16) (x5 : Vec Ideal S1x1024 .f32) (x7 : Vec Ideal S1024x128 .bf16) (x8 : Vec Ideal S256x1024 .bf16) (h7 : ∀ k l, x7 (ix2 k l) = Ideal.div (pick k l) headWidth) (h8 : ∀ j c, x8 (ix2 j c) = pick c ⟨j.val % 128, by omega⟩) (r c : Fin 1024) :
    k0_pay11 (k0_pay7 (F := Ideal) x0 x1 x2) (k0_pay8 x5) (k0_pay9 x0 x1 x2 x7) (k0_pay10 x8) (constant S1024x1024 .f32 0x00000000#32) (ix3 0 r c)
      = headB (fun k => qkvB x0 x1 x2 r ⟨k.val, by omega⟩) x5 c := by
  simp only [← pay6_apply]
  refine Eq.trans ?_ (congrArg (fun z => k0_pay6 (F := Ideal) x0 x1 x2 (ix2 r ⟨c.val, by omega⟩) * z * x5 (ix2 0 c))
    (spread (fun k => k0_pay6 (F := Ideal) x0 x1 x2 (ix2 r ⟨k.val, by omega⟩)) (fun k l => x7 (ix2 k l)) (fun j c => x8 (ix2 j c)) h7 h8 c))
  unfold k0_pay11 k0_pay8 k0_pay10 k0_pay9 k0_pay7
  pointwise
  rfl

theorem pay12_apply (x0 : Vec Ideal S1x1024x1024 .f32) (x1 : Vec Ideal S1x1024 .f32) (x2 : Vec Ideal S1024x3072 .bf16) (x6 : Vec Ideal S1x1024 .f32) (x7 : Vec Ideal S1024x128 .bf16) (x8 : Vec Ideal S256x1024 .bf16) (h7 : ∀ k l, x7 (ix2 k l) = Ideal.div (pick k l) headWidth) (h8 : ∀ j c, x8 (ix2 j c) = pick c ⟨j.val % 128, by omega⟩) (r c : Fin 1024) :
    k0_pay12 (k0_pay6 (F := Ideal) x0 x1 x2) x6 x7 x8 (ix3 0 r c) = headB (fun k => qkvB x0 x1 x2 r ⟨1024 + k.val, by omega⟩) x6 c := by
  simp only [← pay6_apply]
  refine Eq.trans ?_ (congrArg (fun z => k0_pay6 (F := Ideal) x0 x1 x2 (ix2 r ⟨1024 + c.val, by omega⟩) * z * x6 (ix2 0 c))
    (spread (fun k => k0_pay6 (F := Ideal) x0 x1 x2 (ix2 r ⟨1024 + k.val, by omega⟩)) (fun k l => x7 (ix2 k l)) (fun j c => x8 (ix2 j c)) h7 h8 c))
  generalize k0_pay6 (F := Ideal) x0 x1 x2 = y
  unfold k0_pay12
  pointwise
  rfl

theorem pay13_apply (x0 : Vec Ideal S1x1024x1024 .f32) (x1 : Vec Ideal S1x1024 .f32) (x2 : Vec Ideal S1024x3072 .bf16) (r c : Fin 1024) :
    k0_pay13 (k0_pay6 (F := Ideal) x0 x1 x2) (ix3 0 r c) = qkvB x0 x1 x2 r ⟨2048 + c.val, by omega⟩ := by
  rw [← pay6_apply]
  unfold k0_pay13
  pointwise

/-- The logarithms of the block's gates, to base two, a row for each head. -/
def logs (h : FVec Ideal S1024x1024 .bf16) (w : Vec Ideal S1024x128 .bf16) (b : Vec Ideal S1x128 .f32) : FVec Ideal S16x1024 .f32 :=
  let f := subf (broadcast S1024x128 (FloatOps.ofBits .f32 0x00000000#32)) (addf (matmul dot_S1024x1024_S1024x128_S1024x128_1_0_0_1_n_n none h (shapeCast S1024x128 w shapeCasts_S1024x128_S1024x128 : FVec Ideal S1024x128 .bf16) (constant S1024x128 .f32 0x00000000#32)) (broadcastTo S1024x128 (shapeCast S1x128 b shapeCasts_S1x128_S1x128) broadcasts_S1x128_S1024x128))
  let sp := addf (maximumf f (broadcast S1024x128 (FloatOps.ofBits .f32 0x00000000#32))) (log1p (exp (subf (broadcast S1024x128 (FloatOps.ofBits .f32 0x00000000#32)) (absf f))))
  extractStridedSlice S16x1024 ![0, 0] (transpose S128x1024 [1, 0] (mulf (subf (broadcast S1024x128 (FloatOps.ofBits .f32 0x00000000#32)) sp) (broadcast S1024x128 (FloatOps.ofBits .f32 0x3FB8AA3B#32))) transposes_S1024x128_p1_0_S128x1024) slices_S128x1024_o0_0_S16x1024

theorem logs_apply (h : FVec Ideal S1024x1024 .bf16) (w : Vec Ideal S1024x128 .bf16) (b : Vec Ideal S1x128 .f32) (a : Fin 16) (r : Fin 1024) :
    logs h w b (ix2 a r) = (0 - softplus (0 - ((∑ k, h (ix2 r k) * w (ix2 k ⟨a.val, by omega⟩)) + b (ix2 0 ⟨a.val, by omega⟩)))) * Ideal.ofBits .f32 0x3FB8AA3B#32 := by
  unfold logs softplus
  dsimp only
  pointwise
  rfl

/-- One doubling: a row plus itself moved `n` positions on. -/
def step (n : BitVec 32) (y : FVec Ideal S16x1024 .f32) : FVec Ideal S16x1024 .f32 :=
  addf y (select (cmpi .sge (iota .tc S16x1024 32 [1] iota_S16x1024_d1_w32) (broadcast S16x1024 n)) (dynamicRotate 1 n none y rotates_S16x1024_d1) (broadcast S16x1024 (FloatOps.ofBits .f32 0x00000000#32)))

theorem sge_eq (n : BitVec 32) (hn : n.toNat < 1024) (j : Fin 1024) :
    IntOp.cmpi .sge (BitVec.ofNat 32 j.val) n = if n.toNat ≤ j.val then 1#1 else 0#1 := by
  have hj : (BitVec.ofNat 32 j.val).toNat = j.val := by rw [BitVec.toNat_ofNat]; omega
  have e1 : (BitVec.ofNat 32 j.val).toInt = j.val := by rw [BitVec.toInt_eq_toNat_of_lt (by omega), hj]
  have e2 : n.toInt = n.toNat := BitVec.toInt_eq_toNat_of_lt (by omega)
  by_cases h : n.toNat ≤ j.val
  · rw [if_pos h]
    show BitVec.ofBool (decide (n.toInt ≤ (BitVec.ofNat 32 j.val).toInt)) = _
    rw [e1, e2, decide_eq_true (by omega)]
    rfl
  · rw [if_neg h]
    show BitVec.ofBool (decide (n.toInt ≤ (BitVec.ofNat 32 j.val).toInt)) = _
    rw [e1, e2, decide_eq_false (by omega)]
    rfl

theorem step_apply (n : BitVec 32) (hn : n.toNat < 1024) (y : FVec Ideal S16x1024 .f32) (a : Fin 16) (j : Fin 1024) :
    step n y (ix2 a j) = y (ix2 a j) + if h : n.toNat ≤ j.val then y (ix2 a ⟨j.val - n.toNat, by omega⟩) else 0 := by
  unfold step
  pointwise
  rw [sge_eq n hn]
  by_cases h : n.toNat ≤ j.val
  · rw [if_pos h, dif_pos h]
    show y _ + y _ = _
    congr 3
    exact Fin.ext (by show (j.val + 1024 - n.toNat % 1024) % 1024 = j.val - n.toNat; omega)
  · rw [if_neg h, dif_neg h]
    rfl

/-- A doubling of a running sum over the last `n` positions is the one over the last `2 n`. -/
theorem step_last (f : Nat → EReal) (a : Fin 16) (n : BitVec 32) (hn : n.toNat < 1024) (y : FVec Ideal S16x1024 .f32)
    (hy : ∀ j : Fin 1024, y (ix2 a j) = lastSum f n.toNat j.val) (j : Fin 1024) : step n y (ix2 a j) = lastSum f (n.toNat + n.toNat) j.val := by
  rw [step_apply n hn, ← lastSum_double, hy]
  congr 1
  by_cases h : n.toNat ≤ j.val
  · rw [dif_pos h, if_pos h, hy]
  · rw [dif_neg h, if_neg h]

/-- All ten doublings. -/
def cum (y : FVec Ideal S16x1024 .f32) : FVec Ideal S16x1024 .f32 :=
  step 512#32 (step 256#32 (step 128#32 (step 64#32 (step 32#32 (step 16#32 (step 8#32 (step 4#32 (step 2#32 (step 1#32 y)))))))))

theorem cum_apply (f : Nat → EReal) (a : Fin 16) (y : FVec Ideal S16x1024 .f32) (hy : ∀ j : Fin 1024, y (ix2 a j) = f j.val) (j : Fin 1024) :
    cum y (ix2 a j) = ∑ i ∈ Finset.range (j.val + 1), f i := by
  rw [← lastSum_all f 1024 j.val j.isLt]
  unfold cum
  have h0 : ∀ j : Fin 1024, y (ix2 a j) = lastSum f 1 j.val := fun j => (hy j).trans (lastSum_one f j.val).symm
  exact step_last f a 512#32 (by decide) _ (step_last f a 256#32 (by decide) _ (step_last f a 128#32 (by decide) _ (step_last f a 64#32 (by decide) _
    (step_last f a 32#32 (by decide) _ (step_last f a 16#32 (by decide) _ (step_last f a 8#32 (by decide) _ (step_last f a 4#32 (by decide) _
    (step_last f a 2#32 (by decide) _ (step_last f a 1#32 (by decide) _ h0))))))))) j

/-- The block's running sums, on top of what the blocks before left. -/
def ctB (h : FVec Ideal S1024x1024 .bf16) (w : Vec Ideal S1024x128 .bf16) (b : Vec Ideal S1x128 .f32) (s : Vec Ideal S16x1 .f32) : FVec Ideal S16x1024 .f32 :=
  addf (cum (logs h w b)) (broadcastTo S16x1024 s broadcasts_S16x1_S16x1024)

theorem ctB_apply (h : FVec Ideal S1024x1024 .bf16) (w : Vec Ideal S1024x128 .bf16) (b : Vec Ideal S1x128 .f32) (s : Vec Ideal S16x1 .f32) (f : Nat → EReal) (a : Fin 16)
    (hf : ∀ j : Fin 1024, logs h w b (ix2 a j) = f j.val) (r : Fin 1024) :
    ctB h w b s (ix2 a r) = (∑ i ∈ Finset.range (r.val + 1), f i) + s (ix2 a 0) := by
  rw [← cum_apply f a _ hf r]
  unfold ctB
  generalize cum (logs h w b) = y
  pointwise

theorem pay2_eq (h : FVec Ideal S1024x1024 .bf16) (w : Vec Ideal S1024x128 .bf16) (b : Vec Ideal S1x128 .f32) (s : Vec Ideal S16x1 .f32) :
    k0_pay2 (k0_pay16 (iota .tc S16x1024 32 [1] iota_S16x1024_d1_w32) (k0_pay14 h w b) (k0_pay15 h w b)) (k0_pay17 (iota .tc S16x1024 32 [1] iota_S16x1024_d1_w32))
      (k0_pay18 (iota .tc S16x1024 32 [1] iota_S16x1024_d1_w32) (k0_pay14 h w b) (k0_pay15 h w b)) s = ctB h w b s := by
  have h14 : k0_pay14 h w b = step 2#32 (step 1#32 (logs h w b)) := rfl
  have h15 : k0_pay15 h w b = select (cmpi .sge (iota .tc S16x1024 32 [1] iota_S16x1024_d1_w32) (broadcast S16x1024 4#32)) (dynamicRotate 1 4#32 none (k0_pay14 h w b) rotates_S16x1024_d1) (broadcast S16x1024 (FloatOps.ofBits .f32 0x00000000#32)) := rfl
  rw [h15, h14]
  unfold ctB cum
  generalize step 2#32 (step 1#32 (logs h w b)) = y
  rfl

theorem pay3_apply (v : FVec Ideal S16x1024 .f32) (p : IVec S16x1024 1) (u : FVec Ideal S16x1024 .f32) (s : Vec Ideal S16x1 .f32) (a : Fin 16) (r : Fin 1024) :
    k0_pay3 v p u s (ix3 0 a r) = k0_pay2 v p u s (ix2 a r) := by
  unfold k0_pay3
  generalize k0_pay2 v p u s = y
  pointwise

theorem pay4_apply (v : FVec Ideal S16x1024 .f32) (p : IVec S16x1024 1) (u : FVec Ideal S16x1024 .f32) (s : Vec Ideal S16x1 .f32) (a : Fin 16) (l : Fin 128) :
    k0_pay4 v p u s (ix2 a l) = k0_pay2 v p u s (ix2 a ⟨1023, by omega⟩) := by
  unfold k0_pay4
  generalize k0_pay2 v p u s = y
  pointwise

theorem pay1_apply (a : Fin 16) (l : Fin 128) : k0_pay1 (F := Ideal) (ix2 a l) = 0 := by
  unfold k0_pay1
  pointwise

end Cert.Kernel7Ideal.Block

end
-- ==== Proof.FoxInOut.lean ====
/- What one grid point of the forgetting attention's input kernel leaves behind: its four output blocks and the scratch it carries to
   the next point. -/
module

public import proofs.«01_k».proof.Proof.FoxInBlock

@[expose] public section

set_option maxRecDepth 65536

noncomputable section

namespace Cert.Kernel7Ideal.Block

open Cert.Kernel7Ideal Cert.Kernel7Ideal.Gen Cert.Layer Idealize.ShloMosaic Idealize.ShloMosaic.TcCoe Idealize.SL.Sem

theorem ix_block (x : S1x1024x1024.Idx) : ∃ (r k : Fin 1024), x = ix3 0 r k :=
  ⟨x 1, x 2, by
    rw [ValueIdx.eq_ix3 x]
    congr 1
    exact Subsingleton.elim (α := Fin 1) _ _⟩

theorem ix_ct (x : S1x16x1024.Idx) : ∃ (a : Fin 16) (r : Fin 1024), x = ix3 0 a r :=
  ⟨x 1, x 2, by
    rw [ValueIdx.eq_ix3 x]
    congr 1
    exact Subsingleton.elim (α := Fin 1) _ _⟩

/-- The queries', the keys' and the values' block. -/
def qOut (x0 : Vec Ideal S1x1024x1024 .f32) (x1 : Vec Ideal S1x1024 .f32) (x2 : Vec Ideal S1024x3072 .bf16) (x5 : Vec Ideal S1x1024 .f32) (x7 : Vec Ideal S1024x128 .bf16) (x8 : Vec Ideal S256x1024 .bf16) : Vec Ideal S1x1024x1024 .bf16 :=
  k0_pay11 (k0_pay7 x0 x1 x2) (k0_pay8 x5) (k0_pay9 x0 x1 x2 x7) (k0_pay10 x8) (constant S1024x1024 .f32 0x00000000#32)
def kOut (x0 : Vec Ideal S1x1024x1024 .f32) (x1 : Vec Ideal S1x1024 .f32) (x2 : Vec Ideal S1024x3072 .bf16) (x6 : Vec Ideal S1x1024 .f32) (x7 : Vec Ideal S1024x128 .bf16) (x8 : Vec Ideal S256x1024 .bf16) : Vec Ideal S1x1024x1024 .bf16 :=
  k0_pay12 (k0_pay6 x0 x1 x2) x6 x7 x8
def vOut (x0 : Vec Ideal S1x1024x1024 .f32) (x1 : Vec Ideal S1x1024 .f32) (x2 : Vec Ideal S1024x3072 .bf16) : Vec Ideal S1x1024x1024 .bf16 :=
  k0_pay13 (k0_pay6 x0 x1 x2)

/-- The block of running sums, and the last of them, which is carried on. -/
def ctOut (x0 : Vec Ideal S1x1024x1024 .f32) (x1 : Vec Ideal S1x1024 .f32) (x3 : Vec Ideal S1024x128 .bf16) (x4 : Vec Ideal S1x128 .f32) (s : Vec Ideal S16x1 .f32) : Vec Ideal S1x16x1024 .f32 :=
  fun y => ctB (k0_pay5 x0 x1) x3 x4 s (ix2 (y 1) (y 2))
def ctLast (x0 : Vec Ideal S1x1024x1024 .f32) (x1 : Vec Ideal S1x1024 .f32) (x3 : Vec Ideal S1024x128 .bf16) (x4 : Vec Ideal S1x128 .f32) (s : Vec Ideal S16x1 .f32) : Vec Ideal S16x128 .f32 :=
  fun y => ctB (k0_pay5 x0 x1) x3 x4 s (ix2 (y 0) ⟨1023, by omega⟩)

/-- The column of the scratch a point starts from. -/
def carryOf (v : Vec Ideal S16x128 .f32) : Vec Ideal S16x1 .f32 := View.ld (Val := Elt Ideal) (S := S16x128) (e' := .f32) v (Rect.unit (s := S16x128) ![0, 0] ![16, 1] inb_S16x128_S16x1_0_0)

theorem carryOf_apply (v : Vec Ideal S16x128 .f32) (a : Fin 16) : carryOf v (ix2 a 0) = v (ix2 a 0) := by
  unfold carryOf View.ld
  refine congrArg v (funext fun b => Fin.ext ?_)
  match b with
  | ⟨0, _⟩ => show 0 + 1 * a.val = a.val; omega
  | ⟨1, _⟩ => rfl

theorem ct_eq (x0 : Vec Ideal S1x1024x1024 .f32) (x1 : Vec Ideal S1x1024 .f32) (x3 : Vec Ideal S1024x128 .bf16) (x4 : Vec Ideal S1x128 .f32) (s : Vec Ideal S16x1 .f32) :
    k0_pay3 (k0_pay16 (iota .tc S16x1024 32 [1] iota_S16x1024_d1_w32) (k0_pay14 (k0_pay5 x0 x1) x3 x4) (k0_pay15 (k0_pay5 x0 x1) x3 x4)) (k0_pay17 (iota .tc S16x1024 32 [1] iota_S16x1024_d1_w32))
      (k0_pay18 (iota .tc S16x1024 32 [1] iota_S16x1024_d1_w32) (k0_pay14 (k0_pay5 x0 x1) x3 x4) (k0_pay15 (k0_pay5 x0 x1) x3 x4)) s = ctOut x0 x1 x3 x4 s := by
  funext y
  obtain ⟨a, r, rfl⟩ := ix_ct y
  rw [pay3_apply, pay2_eq]
  rfl

theorem last_eq (x0 : Vec Ideal S1x1024x1024 .f32) (x1 : Vec Ideal S1x1024 .f32) (x3 : Vec Ideal S1024x128 .bf16) (x4 : Vec Ideal S1x128 .f32) (s : Vec Ideal S16x1 .f32) :
    k0_pay4 (k0_pay16 (iota .tc S16x1024 32 [1] iota_S16x1024_d1_w32) (k0_pay14 (k0_pay5 x0 x1) x3 x4) (k0_pay15 (k0_pay5 x0 x1) x3 x4)) (k0_pay17 (iota .tc S16x1024 32 [1] iota_S16x1024_d1_w32))
      (k0_pay18 (iota .tc S16x1024 32 [1] iota_S16x1024_d1_w32) (k0_pay14 (k0_pay5 x0 x1) x3 x4) (k0_pay15 (k0_pay5 x0 x1) x3 x4)) s = ctLast x0 x1 x3 x4 s := by
  funext y
  obtain ⟨a, l, rfl⟩ : ∃ (a : Fin 16) (l : Fin 128), y = ix2 a l := ⟨y 0, y 1, ValueIdx.eq_ix2 y⟩
  rw [pay4_apply, pay2_eq]
  rfl

theorem out0_A_9_eq (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S256x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x16x1024 .f32) (harg14 : arg14.IsWhole) (arg15 : Memref sig .tc .vmem S16x128 .f32) (harg15 : arg15.IsWhole) (hc0 : cond0_0 i)
    (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x1024 .f32) (x6 : Vec Ideal S1x1024 .f32) (x7 : Vec Ideal S1024x128 .bf16) (x8 : Vec Ideal S256x1024 .bf16) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = qOut x0 x1 x2 x5 x7 x8 := by
  have hz2 : (![0, 0] : Fin 2 → Nat) = fun _ => 0 := by funext a; fin_cases a <;> rfl
  have hz3 : (![0, 0, 0] : Fin 3 → Nat) = fun _ => 0 := by funext a; fin_cases a <;> rfl
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg15.read_unread, View.ld_unit_zero (S := S1x1024x1024) hz3, View.ld_unit_zero (S := S1x1024) hz2, View.ld_unit_zero (S := S1024x3072) hz2, View.ld_unit_zero (S := S1024x128) hz2, View.ld_unit_zero (S := S1x128) hz2, View.ld_unit_zero (S := S256x1024) hz2]
  rfl

theorem out0_A_10_eq (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S256x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x16x1024 .f32) (harg14 : arg14.IsWhole) (arg15 : Memref sig .tc .vmem S16x128 .f32) (harg15 : arg15.IsWhole) (hc0 : cond0_0 i)
    (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x1024 .f32) (x6 : Vec Ideal S1x1024 .f32) (x7 : Vec Ideal S1024x128 .bf16) (x8 : Vec Ideal S256x1024 .bf16) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = kOut x0 x1 x2 x6 x7 x8 := by
  have hz2 : (![0, 0] : Fin 2 → Nat) = fun _ => 0 := by funext a; fin_cases a <;> rfl
  have hz3 : (![0, 0, 0] : Fin 3 → Nat) = fun _ => 0 := by funext a; fin_cases a <;> rfl
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg15.read_unread, View.ld_unit_zero (S := S1x1024x1024) hz3, View.ld_unit_zero (S := S1x1024) hz2, View.ld_unit_zero (S := S1024x3072) hz2, View.ld_unit_zero (S := S1024x128) hz2, View.ld_unit_zero (S := S1x128) hz2, View.ld_unit_zero (S := S256x1024) hz2]
  rfl

theorem out0_A_11_eq (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S256x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x16x1024 .f32) (harg14 : arg14.IsWhole) (arg15 : Memref sig .tc .vmem S16x128 .f32) (harg15 : arg15.IsWhole) (hc0 : cond0_0 i)
    (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x1024 .f32) (x6 : Vec Ideal S1x1024 .f32) (x7 : Vec Ideal S1024x128 .bf16) (x8 : Vec Ideal S256x1024 .bf16) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = vOut x0 x1 x2 := by
  have hz2 : (![0, 0] : Fin 2 → Nat) = fun _ => 0 := by funext a; fin_cases a <;> rfl
  have hz3 : (![0, 0, 0] : Fin 3 → Nat) = fun _ => 0 := by funext a; fin_cases a <;> rfl
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg15.read_unread, View.ld_unit_zero (S := S1x1024x1024) hz3, View.ld_unit_zero (S := S1x1024) hz2, View.ld_unit_zero (S := S1024x3072) hz2, View.ld_unit_zero (S := S1024x128) hz2, View.ld_unit_zero (S := S1x128) hz2, View.ld_unit_zero (S := S256x1024) hz2]
  rfl

theorem out0_A_12_eq (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S256x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x16x1024 .f32) (harg14 : arg14.IsWhole) (arg15 : Memref sig .tc .vmem S16x128 .f32) (harg15 : arg15.IsWhole) (hc0 : cond0_0 i)
    (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x1024 .f32) (x6 : Vec Ideal S1x1024 .f32) (x7 : Vec Ideal S1024x128 .bf16) (x8 : Vec Ideal S256x1024 .bf16) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = ctOut x0 x1 x3 x4 (carryOf (k0_pay1 (F := Ideal))) := by
  have hz2 : (![0, 0] : Fin 2 → Nat) = fun _ => 0 := by funext a; fin_cases a <;> rfl
  have hz3 : (![0, 0, 0] : Fin 3 → Nat) = fun _ => 0 := by funext a; fin_cases a <;> rfl
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg15.read_unread, View.ld_unit_zero (S := S1x1024x1024) hz3, View.ld_unit_zero (S := S1x1024) hz2, View.ld_unit_zero (S := S1024x3072) hz2, View.ld_unit_zero (S := S1024x128) hz2, View.ld_unit_zero (S := S1x128) hz2, View.ld_unit_zero (S := S256x1024) hz2]
  rw [View.readCov_eq_canon', View.canon_unit_zero hz2]
  exact ct_eq x0 x1 x3 x4 _

theorem sout0_A_0_eq (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S256x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x16x1024 .f32) (harg14 : arg14.IsWhole) (arg15 : Memref sig .tc .vmem S16x128 .f32) (harg15 : arg15.IsWhole) (hc0 : cond0_0 i)
    (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x1024 .f32) (x6 : Vec Ideal S1x1024 .f32) (x7 : Vec Ideal S1024x128 .bf16) (x8 : Vec Ideal S256x1024 .bf16) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 = ctLast x0 x1 x3 x4 (carryOf (k0_pay1 (F := Ideal))) := by
  have hz2 : (![0, 0] : Fin 2 → Nat) = fun _ => 0 := by funext a; fin_cases a <;> rfl
  have hz3 : (![0, 0, 0] : Fin 3 → Nat) = fun _ => 0 := by funext a; fin_cases a <;> rfl
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg15.read_unread, View.ld_unit_zero (S := S1x1024x1024) hz3, View.ld_unit_zero (S := S1x1024) hz2, View.ld_unit_zero (S := S1024x3072) hz2, View.ld_unit_zero (S := S1024x128) hz2, View.ld_unit_zero (S := S1x128) hz2, View.ld_unit_zero (S := S256x1024) hz2]
  rw [View.readCov_eq_canon', View.canon_unit_zero hz2]
  exact last_eq x0 x1 x3 x4 _

theorem out0_B_9_eq (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S256x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x16x1024 .f32) (harg14 : arg14.IsWhole) (arg15 : Memref sig .tc .vmem S16x128 .f32) (harg15 : arg15.IsWhole) (hc0 : ¬cond0_0 i)
    (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x1024 .f32) (x6 : Vec Ideal S1x1024 .f32) (x7 : Vec Ideal S1024x128 .bf16) (x8 : Vec Ideal S256x1024 .bf16) (xs0 : Vec Ideal S16x128 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 = qOut x0 x1 x2 x5 x7 x8 := by
  have hz2 : (![0, 0] : Fin 2 → Nat) = fun _ => 0 := by funext a; fin_cases a <;> rfl
  have hz3 : (![0, 0, 0] : Fin 3 → Nat) = fun _ => 0 := by funext a; fin_cases a <;> rfl
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg15.read_unread, View.ld_unit_zero (S := S1x1024x1024) hz3, View.ld_unit_zero (S := S1x1024) hz2, View.ld_unit_zero (S := S1024x3072) hz2, View.ld_unit_zero (S := S1024x128) hz2, View.ld_unit_zero (S := S1x128) hz2, View.ld_unit_zero (S := S256x1024) hz2]
  rfl

theorem out0_B_10_eq (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S256x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x16x1024 .f32) (harg14 : arg14.IsWhole) (arg15 : Memref sig .tc .vmem S16x128 .f32) (harg15 : arg15.IsWhole) (hc0 : ¬cond0_0 i)
    (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x1024 .f32) (x6 : Vec Ideal S1x1024 .f32) (x7 : Vec Ideal S1024x128 .bf16) (x8 : Vec Ideal S256x1024 .bf16) (xs0 : Vec Ideal S16x128 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 = kOut x0 x1 x2 x6 x7 x8 := by
  have hz2 : (![0, 0] : Fin 2 → Nat) = fun _ => 0 := by funext a; fin_cases a <;> rfl
  have hz3 : (![0, 0, 0] : Fin 3 → Nat) = fun _ => 0 := by funext a; fin_cases a <;> rfl
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg15.read_unread, View.ld_unit_zero (S := S1x1024x1024) hz3, View.ld_unit_zero (S := S1x1024) hz2, View.ld_unit_zero (S := S1024x3072) hz2, View.ld_unit_zero (S := S1024x128) hz2, View.ld_unit_zero (S := S1x128) hz2, View.ld_unit_zero (S := S256x1024) hz2]
  rfl

theorem out0_B_11_eq (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S256x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x16x1024 .f32) (harg14 : arg14.IsWhole) (arg15 : Memref sig .tc .vmem S16x128 .f32) (harg15 : arg15.IsWhole) (hc0 : ¬cond0_0 i)
    (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x1024 .f32) (x6 : Vec Ideal S1x1024 .f32) (x7 : Vec Ideal S1024x128 .bf16) (x8 : Vec Ideal S256x1024 .bf16) (xs0 : Vec Ideal S16x128 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 = vOut x0 x1 x2 := by
  have hz2 : (![0, 0] : Fin 2 → Nat) = fun _ => 0 := by funext a; fin_cases a <;> rfl
  have hz3 : (![0, 0, 0] : Fin 3 → Nat) = fun _ => 0 := by funext a; fin_cases a <;> rfl
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg15.read_unread, View.ld_unit_zero (S := S1x1024x1024) hz3, View.ld_unit_zero (S := S1x1024) hz2, View.ld_unit_zero (S := S1024x3072) hz2, View.ld_unit_zero (S := S1024x128) hz2, View.ld_unit_zero (S := S1x128) hz2, View.ld_unit_zero (S := S256x1024) hz2]
  rfl

theorem out0_B_12_eq (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S256x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x16x1024 .f32) (harg14 : arg14.IsWhole) (arg15 : Memref sig .tc .vmem S16x128 .f32) (harg15 : arg15.IsWhole) (hc0 : ¬cond0_0 i)
    (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x1024 .f32) (x6 : Vec Ideal S1x1024 .f32) (x7 : Vec Ideal S1024x128 .bf16) (x8 : Vec Ideal S256x1024 .bf16) (xs0 : Vec Ideal S16x128 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 = ctOut x0 x1 x3 x4 (carryOf xs0) := by
  have hz2 : (![0, 0] : Fin 2 → Nat) = fun _ => 0 := by funext a; fin_cases a <;> rfl
  have hz3 : (![0, 0, 0] : Fin 3 → Nat) = fun _ => 0 := by funext a; fin_cases a <;> rfl
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg15.read_unread, View.ld_unit_zero (S := S1x1024x1024) hz3, View.ld_unit_zero (S := S1x1024) hz2, View.ld_unit_zero (S := S1024x3072) hz2, View.ld_unit_zero (S := S1024x128) hz2, View.ld_unit_zero (S := S1x128) hz2, View.ld_unit_zero (S := S256x1024) hz2]
  exact ct_eq x0 x1 x3 x4 _

theorem sout0_B_0_eq (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1024x128 .bf16) (harg5 : arg5.IsWhole) (arg6 : Memref sig .tc .vmem S1x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x128 .bf16) (harg9 : arg9.IsWhole) (arg10 : Memref sig .tc .vmem S256x1024 .bf16) (harg10 : arg10.IsWhole) (arg11 : Memref sig .tc .vmem S1x1024x1024 .bf16) (harg11 : arg11.IsWhole) (arg12 : Memref sig .tc .vmem S1x1024x1024 .bf16) (harg12 : arg12.IsWhole) (arg13 : Memref sig .tc .vmem S1x1024x1024 .bf16) (harg13 : arg13.IsWhole) (arg14 : Memref sig .tc .vmem S1x16x1024 .f32) (harg14 : arg14.IsWhole) (arg15 : Memref sig .tc .vmem S16x128 .f32) (harg15 : arg15.IsWhole) (hc0 : ¬cond0_0 i)
    (x0 : Vec Ideal S1x1024x1024 .f32) (x1 : Vec Ideal S1x1024 .f32) (x2 : Vec Ideal S1024x3072 .bf16) (x3 : Vec Ideal S1024x128 .bf16) (x4 : Vec Ideal S1x128 .f32) (x5 : Vec Ideal S1x1024 .f32) (x6 : Vec Ideal S1x1024 .f32) (x7 : Vec Ideal S1024x128 .bf16) (x8 : Vec Ideal S256x1024 .bf16) (xs0 : Vec Ideal S16x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0 = ctLast x0 x1 x3 x4 (carryOf xs0) := by
  have hz2 : (![0, 0] : Fin 2 → Nat) = fun _ => 0 := by funext a; fin_cases a <;> rfl
  have hz3 : (![0, 0, 0] : Fin 3 → Nat) = fun _ => 0 := by funext a; fin_cases a <;> rfl
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg15.read_unread, View.ld_unit_zero (S := S1x1024x1024) hz3, View.ld_unit_zero (S := S1x1024) hz2, View.ld_unit_zero (S := S1024x3072) hz2, View.ld_unit_zero (S := S1024x128) hz2, View.ld_unit_zero (S := S1x128) hz2, View.ld_unit_zero (S := S256x1024) hz2]
  exact last_eq x0 x1 x3 x4 _

end Cert.Kernel7Ideal.Block

end
-- ==== Proof.FoxInArray.lean ====
/- The result arrays of the forgetting attention's input kernel. Grid point `t` works on sequence `t / 8`, rows `1024 (t % 8) …`, and
   starts from the sum of the gates of all the rows before, which the point before carried on. -/
module

public import proofs.«01_k».proof.Proof.FoxInOut
public import Idealize.ShloMosaic.Lib.Pipeline.ValueKit.Geometry

@[expose] public section

set_option maxRecDepth 65536

noncomputable section

namespace Cert.Kernel7Ideal.Block

open Cert.Kernel7Ideal Cert.Kernel7Ideal.Gen Cert.Layer Idealize.ShloMosaic Idealize.ShloMosaic.TcCoe Idealize.SL.Sem

variable (m : (ℓ : Loc nD τ sig) → Buf (Elt Ideal) ℓ) (ρ : Dev nD → PrngReg)

/-- The queries' gain with the attention's scale, as they print. -/
def queryGain (a : FVec Ideal S1x64 .f32) (d : Fin 64) : EReal := a (ix2 0 d) * Ideal.ofBits .f32 0x3E38AA3B#32

/-- The gates' weights and bias, padded with zeros to 128 columns. -/
def wfOf (a : FVec Ideal S1x1024x3088 .f32) (k : Fin 1024) (l : Fin 128) : EReal := if hl : l.val < 16 then a (ix3 0 k ⟨3072 + l.val, by omega⟩) else 0
def bfOf (a : FVec Ideal S1x16 .f32) (l : Fin 128) : EReal := if hl : l.val < 16 then a (ix2 0 ⟨l.val, hl⟩) else 0

/-- The queries, the keys, the values and the running sums of the gates as functions of the arguments. -/
def resultQ (a0 : FVec Ideal S2x8192x1024 .f32) (a1 : FVec Ideal S4x1024 .f32) (a2 : FVec Ideal S1x1024x3088 .f32) (a4 : FVec Ideal S1x64 .f32) : FVec Ideal S2x8192x1024 .bf16 := fun y =>
  headNormed (fun k => foxProj (normed (fun k => a0 (ix3 (y 0) (y 1) k)) (fun k => a1 (ix2 1 k))) (fun k c => a2 (ix3 0 k c)) ⟨k.val, by omega⟩) (queryGain a4) (y 2)
def resultK (a0 : FVec Ideal S2x8192x1024 .f32) (a1 : FVec Ideal S4x1024 .f32) (a2 : FVec Ideal S1x1024x3088 .f32) (a5 : FVec Ideal S1x64 .f32) : FVec Ideal S2x8192x1024 .bf16 := fun y =>
  headNormed (fun k => foxProj (normed (fun k => a0 (ix3 (y 0) (y 1) k)) (fun k => a1 (ix2 1 k))) (fun k c => a2 (ix3 0 k c)) ⟨1024 + k.val, by omega⟩) (fun d => a5 (ix2 0 d)) (y 2)
def resultV (a0 : FVec Ideal S2x8192x1024 .f32) (a1 : FVec Ideal S4x1024 .f32) (a2 : FVec Ideal S1x1024x3088 .f32) : FVec Ideal S2x8192x1024 .bf16 := fun y =>
  foxProj (normed (fun k => a0 (ix3 (y 0) (y 1) k)) (fun k => a1 (ix2 1 k))) (fun k c => a2 (ix3 0 k c)) ⟨2048 + (y 2).val, by have : (y 2).val < 1024 := (y 2).isLt; omega⟩
def resultT (a0 : FVec Ideal S2x8192x1024 .f32) (a1 : FVec Ideal S4x1024 .f32) (a2 : FVec Ideal S1x1024x3088 .f32) (a3 : FVec Ideal S1x16 .f32) : FVec Ideal S2x16x8192 .f32 := fun y =>
  gateSum (fun s k => a0 (ix3 (y 0) s k)) (fun k => a1 (ix2 1 k)) (fun k c => a2 (ix3 0 k c)) (fun a => a3 (ix2 0 a)) (y 1) ((y 2).val + 1)

theorem w_apply (a : FVec Ideal S4x1024 .f32) (k : Fin 1024) :
    (broadcastInDim S1x1024 ![1] bcast_S1024_S1x1024_1 (shapeCast S1024 (extractStridedSlice S1x1024 ![1, 0] a slices_S4x1024_S1x1024_1_0) shapeCasts_S1x1024_S1024) : FVec Ideal S1x1024 .f32) (ix2 0 k) = a (ix2 1 k) := by
  pointwise

theorem V_w (c : Dev nD) (k : Fin 1024) : (V m c main_v37 : FVec Ideal S1x1024 .f32) (ix2 0 k) = (m ((c : Thread nD τ).loc main_arg1) : FVec Ideal S4x1024 .f32) (ix2 1 k) := by
  have h : (V m c main_v37 : FVec Ideal S1x1024 .f32) = broadcastInDim S1x1024 ![1] bcast_S1024_S1x1024_1 (shapeCast S1024 (extractStridedSlice S1x1024 ![1, 0] (m ((c : Thread nD τ).loc main_arg1) : FVec Ideal S4x1024 .f32) slices_S4x1024_S1x1024_1_0) shapeCasts_S1x1024_S1024) := by
    show StableHlo.after (List.flatten [hostOps0, hostOps0_1, hostOps0_2, hostOps0_3, hostOps0_4, hostOps0_5]) _ (Proc.devRef .tc main_v37) = _
    simp only [hostOps0, hostOps0_1, hostOps0_2, hostOps0_3, hostOps0_4, hostOps0_5, List.flatten_cons, List.flatten_nil, List.append_nil, List.cons_append, List.nil_append]
    after_results
    rfl
  rw [h]
  exact w_apply _ k

theorem wqkv_apply (a : FVec Ideal S1x1024x3088 .f32) (k : Fin 1024) (j : Fin 3072) :
    ((truncf .bf16 (extractStridedSlice S1024x3072 ![0, 0] (shapeCast S1024x3088 a shapeCasts_S1x1024x3088_S1024x3088 : FVec Ideal S1024x3088 .f32) slices_S1024x3088_S1024x3072_0_0 : FVec Ideal S1024x3072 .f32) bitsLt_bf16_f32 : FVec Ideal S1024x3072 .bf16) : FVec Ideal S1024x3072 .bf16) (ix2 k j) = a (ix3 0 k ⟨j.val, by omega⟩) := by
  pointwise

theorem V_wqkv (c : Dev nD) (k : Fin 1024) (j : Fin 3072) : (V m c main_v2 : FVec Ideal S1024x3072 .bf16) (ix2 k j) = (m ((c : Thread nD τ).loc main_arg2) : FVec Ideal S1x1024x3088 .f32) (ix3 0 k ⟨j.val, by omega⟩) := by
  have h : (V m c main_v2 : FVec Ideal S1024x3072 .bf16) = (truncf .bf16 (extractStridedSlice S1024x3072 ![0, 0] (shapeCast S1024x3088 (m ((c : Thread nD τ).loc main_arg2) : FVec Ideal S1x1024x3088 .f32) shapeCasts_S1x1024x3088_S1024x3088 : FVec Ideal S1024x3088 .f32) slices_S1024x3088_S1024x3072_0_0 : FVec Ideal S1024x3072 .f32) bitsLt_bf16_f32 : FVec Ideal S1024x3072 .bf16) := by
    show StableHlo.after (List.flatten [hostOps0, hostOps0_1, hostOps0_2, hostOps0_3, hostOps0_4, hostOps0_5]) _ (Proc.devRef .tc main_v2) = _
    simp only [hostOps0, hostOps0_1, hostOps0_2, hostOps0_3, hostOps0_4, hostOps0_5, List.flatten_cons, List.flatten_nil, List.append_nil, List.cons_append, List.nil_append]
    after_results
    rfl
  rw [h]
  exact wqkv_apply _ k j

theorem wf_apply (a : FVec Ideal S1x1024x3088 .f32) (k : Fin 1024) (l : Fin 128) :
    ((truncf .bf16 (pad S1024x128 ![0, 0] ![0, 112] ![0, 0] (extractStridedSlice S1024x16 ![0, 3072] (shapeCast S1024x3088 a shapeCasts_S1x1024x3088_S1024x3088 : FVec Ideal S1024x3088 .f32) slices_S1024x3088_S1024x16_0_3072) (sitofp .f32 (constantI S_ 32 0#32)) pads_S1024x16_S1024x128_000_01120 h_S_ : FVec Ideal S1024x128 .f32) bitsLt_bf16_f32 : FVec Ideal S1024x128 .bf16) : FVec Ideal S1024x128 .bf16) (ix2 k l) = wfOf a k l := by
  unfold wfOf
  pointwise
  have hz : (FloatOps.sitofp FTy.f32 0#32 : Ideal .f32) = (0 : EReal) := by
    show (((0#32 : BitVec 32).toInt : ℝ) : EReal) = 0
    simp
  rw [hz]

theorem V_wf (c : Dev nD) (k : Fin 1024) (l : Fin 128) : (V m c main_v6 : FVec Ideal S1024x128 .bf16) (ix2 k l) = wfOf (m ((c : Thread nD τ).loc main_arg2) : FVec Ideal S1x1024x3088 .f32) k l := by
  have h : (V m c main_v6 : FVec Ideal S1024x128 .bf16) = (truncf .bf16 (pad S1024x128 ![0, 0] ![0, 112] ![0, 0] (extractStridedSlice S1024x16 ![0, 3072] (shapeCast S1024x3088 (m ((c : Thread nD τ).loc main_arg2) : FVec Ideal S1x1024x3088 .f32) shapeCasts_S1x1024x3088_S1024x3088 : FVec Ideal S1024x3088 .f32) slices_S1024x3088_S1024x16_0_3072) (sitofp .f32 (constantI S_ 32 0#32)) pads_S1024x16_S1024x128_000_01120 h_S_ : FVec Ideal S1024x128 .f32) bitsLt_bf16_f32 : FVec Ideal S1024x128 .bf16) := by
    show StableHlo.after (List.flatten [hostOps0, hostOps0_1, hostOps0_2, hostOps0_3, hostOps0_4, hostOps0_5]) _ (Proc.devRef .tc main_v6) = _
    simp only [hostOps0, hostOps0_1, hostOps0_2, hostOps0_3, hostOps0_4, hostOps0_5, List.flatten_cons, List.flatten_nil, List.append_nil, List.cons_append, List.nil_append]
    after_results
    rfl
  rw [h]
  exact wf_apply _ k l

theorem bf_apply (a : FVec Ideal S1x16 .f32) (l : Fin 128) :
    ((pad S1x128 ![0, 0] ![0, 112] ![0, 0] a (sitofp .f32 (constantI S_ 32 0#32)) pads_S1x16_S1x128_000_01120 h_S_ : FVec Ideal S1x128 .f32) : FVec Ideal S1x128 .f32) (ix2 0 l) = bfOf a l := by
  unfold bfOf
  pointwise
  have hz : (FloatOps.sitofp FTy.f32 0#32 : Ideal .f32) = (0 : EReal) := by
    show (((0#32 : BitVec 32).toInt : ℝ) : EReal) = 0
    simp
  rw [hz]

theorem V_bf (c : Dev nD) (l : Fin 128) : (V m c main_v38 : FVec Ideal S1x128 .f32) (ix2 0 l) = bfOf (m ((c : Thread nD τ).loc main_arg3) : FVec Ideal S1x16 .f32) l := by
  have h : (V m c main_v38 : FVec Ideal S1x128 .f32) = (pad S1x128 ![0, 0] ![0, 112] ![0, 0] (m ((c : Thread nD τ).loc main_arg3) : FVec Ideal S1x16 .f32) (sitofp .f32 (constantI S_ 32 0#32)) pads_S1x16_S1x128_000_01120 h_S_ : FVec Ideal S1x128 .f32) := by
    show StableHlo.after (List.flatten [hostOps0, hostOps0_1, hostOps0_2, hostOps0_3, hostOps0_4, hostOps0_5]) _ (Proc.devRef .tc main_v38) = _
    simp only [hostOps0, hostOps0_1, hostOps0_2, hostOps0_3, hostOps0_4, hostOps0_5, List.flatten_cons, List.flatten_nil, List.append_nil, List.cons_append, List.nil_append]
    after_results
    rfl
  rw [h]
  exact bf_apply _ l

theorem qg_apply (a : FVec Ideal S1x64 .f32) (k : Fin 1024) :
    (mulf (broadcastInDim S1x1024 ![1] bcast_S1024_S1x1024_1 (shapeCast S1024 (broadcastInDim S16x64 ![0, 1] bcast_S1x64_S16x64_0_1 (shapeCast S1x64 (shapeCast S64 a shapeCasts_S1x64_S64) shapeCasts_S64_S1x64)) shapeCasts_S16x64_S1024) : FVec Ideal S1x1024 .f32) (broadcastInDim S1x1024 ![] bcast_S_S1x1024 (constant S_ .f32 0x3E38AA3B#32)) : FVec Ideal S1x1024 .f32) (ix2 0 k) = queryGain a ⟨k.val % 64, by omega⟩ := by
  unfold queryGain
  pointwise

theorem V_qg (c : Dev nD) (k : Fin 1024) : (V m c main_v13 : FVec Ideal S1x1024 .f32) (ix2 0 k) = queryGain (m ((c : Thread nD τ).loc main_arg4) : FVec Ideal S1x64 .f32) ⟨k.val % 64, by omega⟩ := by
  have h : (V m c main_v13 : FVec Ideal S1x1024 .f32) = mulf (broadcastInDim S1x1024 ![1] bcast_S1024_S1x1024_1 (shapeCast S1024 (broadcastInDim S16x64 ![0, 1] bcast_S1x64_S16x64_0_1 (shapeCast S1x64 (shapeCast S64 (m ((c : Thread nD τ).loc main_arg4) : FVec Ideal S1x64 .f32) shapeCasts_S1x64_S64) shapeCasts_S64_S1x64)) shapeCasts_S16x64_S1024) : FVec Ideal S1x1024 .f32) (broadcastInDim S1x1024 ![] bcast_S_S1x1024 (constant S_ .f32 0x3E38AA3B#32)) := by
    show StableHlo.after (List.flatten [hostOps0, hostOps0_1, hostOps0_2, hostOps0_3, hostOps0_4, hostOps0_5]) _ (Proc.devRef .tc main_v13) = _
    simp only [hostOps0, hostOps0_1, hostOps0_2, hostOps0_3, hostOps0_4, hostOps0_5, List.flatten_cons, List.flatten_nil, List.append_nil, List.cons_append, List.nil_append]
    after_results
    rfl
  rw [h]
  exact qg_apply _ k

theorem kg_apply (a : FVec Ideal S1x64 .f32) (k : Fin 1024) :
    ((broadcastInDim S1x1024 ![1] bcast_S1024_S1x1024_1 (shapeCast S1024 (broadcastInDim S16x64 ![0, 1] bcast_S1x64_S16x64_0_1 (shapeCast S1x64 (shapeCast S64 a shapeCasts_S1x64_S64) shapeCasts_S64_S1x64)) shapeCasts_S16x64_S1024) : FVec Ideal S1x1024 .f32) : FVec Ideal S1x1024 .f32) (ix2 0 k) = a (ix2 0 ⟨k.val % 64, by omega⟩) := by
  pointwise

theorem V_kg (c : Dev nD) (k : Fin 1024) : (V m c main_v18 : FVec Ideal S1x1024 .f32) (ix2 0 k) = (m ((c : Thread nD τ).loc main_arg5) : FVec Ideal S1x64 .f32) (ix2 0 ⟨k.val % 64, by omega⟩) := by
  have h : (V m c main_v18 : FVec Ideal S1x1024 .f32) = (broadcastInDim S1x1024 ![1] bcast_S1024_S1x1024_1 (shapeCast S1024 (broadcastInDim S16x64 ![0, 1] bcast_S1x64_S16x64_0_1 (shapeCast S1x64 (shapeCast S64 (m ((c : Thread nD τ).loc main_arg5) : FVec Ideal S1x64 .f32) shapeCasts_S1x64_S64) shapeCasts_S64_S1x64)) shapeCasts_S16x64_S1024) : FVec Ideal S1x1024 .f32) := by
    show StableHlo.after (List.flatten [hostOps0, hostOps0_1, hostOps0_2, hostOps0_3, hostOps0_4, hostOps0_5]) _ (Proc.devRef .tc main_v18) = _
    simp only [hostOps0, hostOps0_1, hostOps0_2, hostOps0_3, hostOps0_4, hostOps0_5, List.flatten_cons, List.flatten_nil, List.append_nil, List.cons_append, List.nil_append]
    after_results
    rfl
  rw [h]
  exact kg_apply _ k

/-- The head of a column, as the host computes it: a division rounded down. -/
def colHead : IVec S1024 32 :=
  select (andi (cmpi .ne (signi (iotaInDim S1024 32 0)) (broadcastInDim S1024 ![] bcast_S_S1024 (signi (constantI S_ 32 64#32))))
      (cmpi .ne (Host.remsi (iotaInDim S1024 32 0) (broadcastInDim S1024 ![] bcast_S_S1024 (constantI S_ 32 64#32))) (broadcastInDim S1024 ![] bcast_S_S1024 (constantI S_ 32 0#32))))
    (subi (Host.divsi (iotaInDim S1024 32 0) (broadcastInDim S1024 ![] bcast_S_S1024 (constantI S_ 32 64#32))) (broadcastInDim S1024 ![] bcast_S_S1024 (constantI S_ 32 1#32)))
    (Host.divsi (iotaInDim S1024 32 0) (broadcastInDim S1024 ![] bcast_S_S1024 (constantI S_ 32 64#32)))

/-- The one-hot matrix of the columns' heads. -/
def oneHot : FVec Ideal S1024x128 .f32 :=
  uitofp .f32 (cmpi .eq (broadcastInDim S1024x128 ![0, 1] bcast_S1024x1_S1024x128_0_1 (broadcastInDim S1024x1 ![0] bcast_S1024_S1024x1_0 colHead))
    (broadcastInDim S1024x128 ![0, 1] bcast_S1x128_S1024x128_0_1 (broadcastInDim S1x128 ![1] bcast_S128_S1x128_1 (iotaInDim S128 32 0))))

theorem colHead_apply : ∀ k : Fin 1024, colHead (ix1 k) = BitVec.ofNat 32 (k.val / 64) := by
  decide +kernel

theorem oneHot_apply (k : Fin 1024) (l : Fin 128) : oneHot (ix2 k l) = pick k l := by
  have h : oneHot (ix2 k l) = FloatOps.uitofp .f32 (IntOp.cmpi .eq (colHead (ix1 k)) (BitVec.ofNat 32 l.val)) := by
    unfold oneHot
    generalize colHead = y
    pointwise
  rw [h, colHead_apply]
  unfold pick
  by_cases e : k.val / 64 = l.val
  · rw [if_pos e, e]
    show (((BitVec.ofBool (BitVec.ofNat 32 l.val == BitVec.ofNat 32 l.val)).toNat : ℝ) : EReal) = 1
    simp
  · rw [if_neg e]
    have hne : (BitVec.ofNat 32 (k.val / 64) == BitVec.ofNat 32 l.val) = false := by
      rw [beq_eq_false_iff_ne]
      intro h'
      have := congrArg BitVec.toNat h'
      rw [BitVec.toNat_ofNat, BitVec.toNat_ofNat] at this
      omega
    show (((BitVec.ofBool (BitVec.ofNat 32 (k.val / 64) == BitVec.ofNat 32 l.val)).toNat : ℝ) : EReal) = 0
    rw [hne]
    simp

theorem V_e (c : Dev nD) (k : Fin 1024) (l : Fin 128) : (V m c main_v34 : FVec Ideal S1024x128 .bf16) (ix2 k l) = Ideal.div (pick k l) headWidth := by
  have h : (V m c main_v34 : FVec Ideal S1024x128 .bf16) = truncf .bf16 (Host.divf oneHot (broadcastInDim S1024x128 ![] bcast_S_S1024x128 (constant S_ .f32 0x42800000#32))) bitsLt_bf16_f32 := by
    show StableHlo.after (List.flatten [hostOps0, hostOps0_1, hostOps0_2, hostOps0_3, hostOps0_4, hostOps0_5]) _ (Proc.devRef .tc main_v34) = _
    simp only [hostOps0, hostOps0_1, hostOps0_2, hostOps0_3, hostOps0_4, hostOps0_5, List.flatten_cons, List.flatten_nil, List.append_nil, List.cons_append, List.nil_append]
    after_results
    rfl
  rw [h, ← oneHot_apply]
  generalize oneHot = y
  pointwise
  rfl

theorem V_et (c : Dev nD) (j : Fin 256) (k : Fin 1024) : (V m c main_v31 : FVec Ideal S256x1024 .bf16) (ix2 j k) = pick k ⟨j.val % 128, by omega⟩ := by
  have h : (V m c main_v31 : FVec Ideal S256x1024 .bf16) = (truncf .bf16 (concatenate S256x1024 0 [⟨S128x1024, transpose S128x1024 [1, 0] oneHot transposes_S1024x128_S128x1024_1_0⟩, ⟨S128x1024, transpose S128x1024 [1, 0] oneHot transposes_S1024x128_S128x1024_1_0⟩] concatenates_S128x1024_S128x1024_S256x1024_d0 : FVec Ideal S256x1024 .f32) bitsLt_bf16_f32 : FVec Ideal S256x1024 .bf16) := by
    show StableHlo.after (List.flatten [hostOps0, hostOps0_1, hostOps0_2, hostOps0_3, hostOps0_4, hostOps0_5]) _ (Proc.devRef .tc main_v31) = _
    simp only [hostOps0, hostOps0_1, hostOps0_2, hostOps0_3, hostOps0_4, hostOps0_5, List.flatten_cons, List.flatten_nil, List.append_nil, List.cons_append, List.nil_append]
    after_results
    rfl
  rw [h, ← oneHot_apply]
  generalize oneHot = y
  pointwise
  by_cases hj : j.val < 128
  · rw [dif_pos hj]
    exact congrArg (fun l => y (ix2 k l)) (Fin.ext (by show j.val = j.val % 128; omega))
  · rw [dif_neg hj]
    exact congrArg (fun l => y (ix2 k l)) (Fin.ext (by show j.val - 128 = j.val % 128; omega))

theorem idx0 : ∀ t : Fin cfg0.N, win0_0.index t 0 = t.val / 8 ∧ win0_0.index t 1 = t.val % 8 ∧ win0_0.index t 2 = 0 := by
  show ∀ t : Fin grid0.N, _
  decide +kernel
theorem idx1 : ∀ t : Fin cfg0.N, win0_1.index t 0 = 0 ∧ win0_1.index t 1 = 0 := by
  show ∀ t : Fin grid0.N, _
  decide +kernel
theorem idx2 : ∀ t : Fin cfg0.N, win0_2.index t 0 = 0 ∧ win0_2.index t 1 = 0 := by
  show ∀ t : Fin grid0.N, _
  decide +kernel
theorem idx3 : ∀ t : Fin cfg0.N, win0_3.index t 0 = 0 ∧ win0_3.index t 1 = 0 := by
  show ∀ t : Fin grid0.N, _
  decide +kernel
theorem idx4 : ∀ t : Fin cfg0.N, win0_4.index t 0 = 0 ∧ win0_4.index t 1 = 0 := by
  show ∀ t : Fin grid0.N, _
  decide +kernel
theorem idx5 : ∀ t : Fin cfg0.N, win0_5.index t 0 = 0 ∧ win0_5.index t 1 = 0 := by
  show ∀ t : Fin grid0.N, _
  decide +kernel
theorem idx6 : ∀ t : Fin cfg0.N, win0_6.index t 0 = 0 ∧ win0_6.index t 1 = 0 := by
  show ∀ t : Fin grid0.N, _
  decide +kernel
theorem idx7 : ∀ t : Fin cfg0.N, win0_7.index t 0 = 0 ∧ win0_7.index t 1 = 0 := by
  show ∀ t : Fin grid0.N, _
  decide +kernel
theorem idx8 : ∀ t : Fin cfg0.N, win0_8.index t 0 = 0 ∧ win0_8.index t 1 = 0 := by
  show ∀ t : Fin grid0.N, _
  decide +kernel
theorem idx9 : ∀ t : Fin cfg0.N, win0_9.index t 0 = t.val / 8 ∧ win0_9.index t 1 = t.val % 8 ∧ win0_9.index t 2 = 0 := by
  show ∀ t : Fin grid0.N, _
  decide +kernel
theorem idx10 : ∀ t : Fin cfg0.N, win0_10.index t 0 = t.val / 8 ∧ win0_10.index t 1 = t.val % 8 ∧ win0_10.index t 2 = 0 := by
  show ∀ t : Fin grid0.N, _
  decide +kernel
theorem idx11 : ∀ t : Fin cfg0.N, win0_11.index t 0 = t.val / 8 ∧ win0_11.index t 1 = t.val % 8 ∧ win0_11.index t 2 = 0 := by
  show ∀ t : Fin grid0.N, _
  decide +kernel
theorem idx12 : ∀ t : Fin cfg0.N, win0_12.index t 0 = t.val / 8 ∧ win0_12.index t 1 = 0 ∧ win0_12.index t 2 = t.val % 8 := by
  show ∀ t : Fin grid0.N, _
  decide +kernel

theorem tlt (t : Fin cfg0.N) : t.val < 16 := t.isLt

/-- The sequence of point `t` and the row of the sequence that row `r` of its block is. -/
def seqOf (t : Fin cfg0.N) : Fin 2 := ⟨t.val / 8, by have := tlt t; omega⟩
def posOf (t : Fin cfg0.N) (r : Fin 1024) : Fin 8192 := ⟨t.val % 8 * 1024 + r.val, by omega⟩

theorem blk0 (c : Dev nD) (t : Fin cfg0.N) (r : Fin 1024) (k : Fin 1024) :
    (iblk m c 0 t : Vec Ideal S1x1024x1024 .f32) (ix3 0 r k) = (m ((c : Thread nD τ).loc main_arg0) : FVec Ideal S2x8192x1024 .f32) (ix3 (seqOf t) (posOf t r) k) := by
  unfold iblk
  rw [View.read_apply, ← V_main_arg0 m c]
  show (V m c main_arg0 : FVec Ideal S2x8192x1024 .f32) ((win0_0.rect t).emb (ix3 0 r k)) = _
  refine congrArg _ (funext fun a => Fin.ext ?_)
  rw [Pipeline.Window.rect_emb_val win0_0 t _ a]
  match a with
  | ⟨0, _⟩ => show win0_0.index t 0 * 1 + 0 = t.val / 8; rw [(idx0 t).1]; all_goals omega
  | ⟨1, _⟩ => show win0_0.index t 1 * 1024 + r.val = t.val % 8 * 1024 + r.val; rw [(idx0 t).2.1]; all_goals omega
  | ⟨2, _⟩ => show win0_0.index t 2 * 1024 + k.val = k.val; rw [(idx0 t).2.2]; all_goals omega

theorem blk1 (c : Dev nD) (t : Fin cfg0.N) (l : Fin 1024) :
    (iblk m c 1 t : Vec Ideal S1x1024 .f32) (ix2 0 l) = (V m c main_v37 : FVec Ideal S1x1024 .f32) (ix2 0 l) := by
  unfold iblk
  rw [View.read_apply]
  show (V m c main_v37 : FVec Ideal S1x1024 .f32) ((win0_1.rect t).emb (ix2 0 l)) = _
  refine congrArg _ (funext fun a => Fin.ext ?_)
  rw [Pipeline.Window.rect_emb_val win0_1 t _ a]
  match a with
  | ⟨0, _⟩ => show win0_1.index t 0 * 1 + 0 = 0; rw [(idx1 t).1]; all_goals omega
  | ⟨1, _⟩ => show win0_1.index t 1 * 1024 + l.val = l.val; rw [(idx1 t).2]; all_goals omega

theorem blk2 (c : Dev nD) (t : Fin cfg0.N) (k : Fin 1024) (l : Fin 3072) :
    (iblk m c 2 t : Vec Ideal S1024x3072 .bf16) (ix2 k l) = (V m c main_v2 : FVec Ideal S1024x3072 .bf16) (ix2 k l) := by
  unfold iblk
  rw [View.read_apply]
  show (V m c main_v2 : FVec Ideal S1024x3072 .bf16) ((win0_2.rect t).emb (ix2 k l)) = _
  refine congrArg _ (funext fun a => Fin.ext ?_)
  rw [Pipeline.Window.rect_emb_val win0_2 t _ a]
  match a with
  | ⟨0, _⟩ => show win0_2.index t 0 * 1024 + k.val = k.val; rw [(idx2 t).1]; all_goals omega
  | ⟨1, _⟩ => show win0_2.index t 1 * 3072 + l.val = l.val; rw [(idx2 t).2]; all_goals omega

theorem blk3 (c : Dev nD) (t : Fin cfg0.N) (k : Fin 1024) (l : Fin 128) :
    (iblk m c 3 t : Vec Ideal S1024x128 .bf16) (ix2 k l) = (V m c main_v6 : FVec Ideal S1024x128 .bf16) (ix2 k l) := by
  unfold iblk
  rw [View.read_apply]
  show (V m c main_v6 : FVec Ideal S1024x128 .bf16) ((win0_3.rect t).emb (ix2 k l)) = _
  refine congrArg _ (funext fun a => Fin.ext ?_)
  rw [Pipeline.Window.rect_emb_val win0_3 t _ a]
  match a with
  | ⟨0, _⟩ => show win0_3.index t 0 * 1024 + k.val = k.val; rw [(idx3 t).1]; all_goals omega
  | ⟨1, _⟩ => show win0_3.index t 1 * 128 + l.val = l.val; rw [(idx3 t).2]; all_goals omega

theorem blk4 (c : Dev nD) (t : Fin cfg0.N) (l : Fin 128) :
    (iblk m c 4 t : Vec Ideal S1x128 .f32) (ix2 0 l) = (V m c main_v38 : FVec Ideal S1x128 .f32) (ix2 0 l) := by
  unfold iblk
  rw [View.read_apply]
  show (V m c main_v38 : FVec Ideal S1x128 .f32) ((win0_4.rect t).emb (ix2 0 l)) = _
  refine congrArg _ (funext fun a => Fin.ext ?_)
  rw [Pipeline.Window.rect_emb_val win0_4 t _ a]
  match a with
  | ⟨0, _⟩ => show win0_4.index t 0 * 1 + 0 = 0; rw [(idx4 t).1]; all_goals omega
  | ⟨1, _⟩ => show win0_4.index t 1 * 128 + l.val = l.val; rw [(idx4 t).2]; all_goals omega

theorem blk5 (c : Dev nD) (t : Fin cfg0.N) (l : Fin 1024) :
    (iblk m c 5 t : Vec Ideal S1x1024 .f32) (ix2 0 l) = (V m c main_v13 : FVec Ideal S1x1024 .f32) (ix2 0 l) := by
  unfold iblk
  rw [View.read_apply]
  show (V m c main_v13 : FVec Ideal S1x1024 .f32) ((win0_5.rect t).emb (ix2 0 l)) = _
  refine congrArg _ (funext fun a => Fin.ext ?_)
  rw [Pipeline.Window.rect_emb_val win0_5 t _ a]
  match a with
  | ⟨0, _⟩ => show win0_5.index t 0 * 1 + 0 = 0; rw [(idx5 t).1]; all_goals omega
  | ⟨1, _⟩ => show win0_5.index t 1 * 1024 + l.val = l.val; rw [(idx5 t).2]; all_goals omega

theorem blk6 (c : Dev nD) (t : Fin cfg0.N) (l : Fin 1024) :
    (iblk m c 6 t : Vec Ideal S1x1024 .f32) (ix2 0 l) = (V m c main_v18 : FVec Ideal S1x1024 .f32) (ix2 0 l) := by
  unfold iblk
  rw [View.read_apply]
  show (V m c main_v18 : FVec Ideal S1x1024 .f32) ((win0_6.rect t).emb (ix2 0 l)) = _
  refine congrArg _ (funext fun a => Fin.ext ?_)
  rw [Pipeline.Window.rect_emb_val win0_6 t _ a]
  match a with
  | ⟨0, _⟩ => show win0_6.index t 0 * 1 + 0 = 0; rw [(idx6 t).1]; all_goals omega
  | ⟨1, _⟩ => show win0_6.index t 1 * 1024 + l.val = l.val; rw [(idx6 t).2]; all_goals omega

theorem blk7 (c : Dev nD) (t : Fin cfg0.N) (k : Fin 1024) (l : Fin 128) :
    (iblk m c 7 t : Vec Ideal S1024x128 .bf16) (ix2 k l) = (V m c main_v34 : FVec Ideal S1024x128 .bf16) (ix2 k l) := by
  unfold iblk
  rw [View.read_apply]
  show (V m c main_v34 : FVec Ideal S1024x128 .bf16) ((win0_7.rect t).emb (ix2 k l)) = _
  refine congrArg _ (funext fun a => Fin.ext ?_)
  rw [Pipeline.Window.rect_emb_val win0_7 t _ a]
  match a with
  | ⟨0, _⟩ => show win0_7.index t 0 * 1024 + k.val = k.val; rw [(idx7 t).1]; all_goals omega
  | ⟨1, _⟩ => show win0_7.index t 1 * 128 + l.val = l.val; rw [(idx7 t).2]; all_goals omega

theorem blk8 (c : Dev nD) (t : Fin cfg0.N) (k : Fin 256) (l : Fin 1024) :
    (iblk m c 8 t : Vec Ideal S256x1024 .bf16) (ix2 k l) = (V m c main_v31 : FVec Ideal S256x1024 .bf16) (ix2 k l) := by
  unfold iblk
  rw [View.read_apply]
  show (V m c main_v31 : FVec Ideal S256x1024 .bf16) ((win0_8.rect t).emb (ix2 k l)) = _
  refine congrArg _ (funext fun a => Fin.ext ?_)
  rw [Pipeline.Window.rect_emb_val win0_8 t _ a]
  match a with
  | ⟨0, _⟩ => show win0_8.index t 0 * 256 + k.val = k.val; rw [(idx8 t).1]; all_goals omega
  | ⟨1, _⟩ => show win0_8.index t 1 * 1024 + l.val = l.val; rw [(idx8 t).2]; all_goals omega

/-- The sequence's rows, and the layer's weights, as functions. -/
abbrev xf (c : Dev nD) (b : Fin 2) : Fin 8192 → Fin 1024 → EReal := fun s k => (m ((c : Thread nD τ).loc main_arg0) : FVec Ideal S2x8192x1024 .f32) (ix3 b s k)
abbrev wf (c : Dev nD) : Fin 1024 → EReal := fun k => (m ((c : Thread nD τ).loc main_arg1) : FVec Ideal S4x1024 .f32) (ix2 1 k)
abbrev winf (c : Dev nD) : Fin 1024 → Fin 3088 → EReal := fun k j => (m ((c : Thread nD τ).loc main_arg2) : FVec Ideal S1x1024x3088 .f32) (ix3 0 k j)
abbrev bf (c : Dev nD) : Fin 16 → EReal := fun a => (m ((c : Thread nD τ).loc main_arg3) : FVec Ideal S1x16 .f32) (ix2 0 a)

theorem row_eq (c : Dev nD) (t : Fin cfg0.N) (r : Fin 1024) : rowOf (iblk m c 0 t) r = xf m c (seqOf t) (posOf t r) := funext fun k => blk0 m c t r k
theorem w_eq (c : Dev nD) (t : Fin cfg0.N) : wOf (iblk m c 1 t) = wf m c := funext fun k => (blk1 m c t k).trans (V_w m c k)
theorem one7 (c : Dev nD) (t : Fin cfg0.N) (k : Fin 1024) (l : Fin 128) : (iblk m c 7 t : Vec Ideal S1024x128 .bf16) (ix2 k l) = Ideal.div (pick k l) headWidth := (blk7 m c t k l).trans (V_e m c k l)
theorem one8 (c : Dev nD) (t : Fin cfg0.N) (j : Fin 256) (k : Fin 1024) : (iblk m c 8 t : Vec Ideal S256x1024 .bf16) (ix2 j k) = pick k ⟨j.val % 128, by omega⟩ := (blk8 m c t j k).trans (V_et m c j k)

theorem qkv_at (c : Dev nD) (t : Fin cfg0.N) (r : Fin 1024) (k : Fin 3072) :
    qkvB (iblk m c 0 t) (iblk m c 1 t) (iblk m c 2 t) r k = foxProj (normed (xf m c (seqOf t) (posOf t r)) (wf m c)) (winf m c) ⟨k.val, by omega⟩ := by
  unfold qkvB foxProj
  rw [row_eq, w_eq]
  have hw : ∀ j : Fin 1024, (iblk m c 2 t : Vec Ideal S1024x3072 .bf16) (ix2 j k) = winf m c j ⟨k.val, by omega⟩ := fun j => (blk2 m c t j k).trans (V_wqkv m c j k)
  simp only [hw]

theorem q_at (c : Dev nD) (t : Fin cfg0.N) (r k : Fin 1024) :
    qOut (iblk m c 0 t) (iblk m c 1 t) (iblk m c 2 t) (iblk m c 5 t) (iblk m c 7 t) (iblk m c 8 t) (ix3 0 r k) = headNormed (fun k => foxProj (normed (xf m c (seqOf t) (posOf t r)) (wf m c)) (winf m c) ⟨k.val, by omega⟩) (queryGain (m ((c : Thread nD τ).loc main_arg4) : FVec Ideal S1x64 .f32)) k := by
  refine (pay11_apply _ _ _ _ _ _ (one7 m c t) (one8 m c t) r k).trans ?_
  unfold headB headNormed
  have hg : (iblk m c 5 t : Vec Ideal S1x1024 .f32) (ix2 0 k) = queryGain (m ((c : Thread nD τ).loc main_arg4) : FVec Ideal S1x64 .f32) ⟨k.val % 64, by omega⟩ := (blk5 m c t k).trans (V_qg m c k)
  rw [hg]
  simp only [qkv_at]

theorem k_at (c : Dev nD) (t : Fin cfg0.N) (r k : Fin 1024) :
    kOut (iblk m c 0 t) (iblk m c 1 t) (iblk m c 2 t) (iblk m c 6 t) (iblk m c 7 t) (iblk m c 8 t) (ix3 0 r k) = headNormed (fun k => foxProj (normed (xf m c (seqOf t) (posOf t r)) (wf m c)) (winf m c) ⟨1024 + k.val, by omega⟩) (fun d => (m ((c : Thread nD τ).loc main_arg5) : FVec Ideal S1x64 .f32) (ix2 0 d)) k := by
  refine (pay12_apply _ _ _ _ _ _ (one7 m c t) (one8 m c t) r k).trans ?_
  unfold headB headNormed
  have hg : (iblk m c 6 t : Vec Ideal S1x1024 .f32) (ix2 0 k) = (m ((c : Thread nD τ).loc main_arg5) : FVec Ideal S1x64 .f32) (ix2 0 ⟨k.val % 64, by omega⟩) := (blk6 m c t k).trans (V_kg m c k)
  rw [hg]
  simp only [qkv_at]

theorem v_at (c : Dev nD) (t : Fin cfg0.N) (r k : Fin 1024) :
    vOut (iblk m c 0 t) (iblk m c 1 t) (iblk m c 2 t) (ix3 0 r k) = foxProj (normed (xf m c (seqOf t) (posOf t r)) (wf m c)) (winf m c) ⟨2048 + k.val, by omega⟩ :=
  (pay13_apply _ _ _ r k).trans (qkv_at m c t r _)

theorem log_at (c : Dev nD) (t : Fin cfg0.N) (a : Fin 16) (r : Fin 1024) :
    logs (k0_pay5 (F := Ideal) (iblk m c 0 t) (iblk m c 1 t)) (iblk m c 3 t) (iblk m c 4 t) (ix2 a r) = gateAt (xf m c (seqOf t)) (wf m c) (winf m c) (bf m c) a (t.val % 8 * 1024 + r.val) := by
  have hp : t.val % 8 * 1024 + r.val < 8192 := (posOf t r).isLt
  rw [logs_apply]
  unfold gateAt foxLog foxProj
  rw [dif_pos hp]
  have hw : ∀ k : Fin 1024, (iblk m c 3 t : Vec Ideal S1024x128 .bf16) (ix2 k ⟨a.val, by omega⟩) = wfOf (m ((c : Thread nD τ).loc main_arg2) : FVec Ideal S1x1024x3088 .f32) k ⟨a.val, by omega⟩ := fun k => (blk3 m c t k _).trans (V_wf m c k _)
  have hb : (iblk m c 4 t : Vec Ideal S1x128 .f32) (ix2 0 ⟨a.val, by omega⟩) = bfOf (m ((c : Thread nD τ).loc main_arg3) : FVec Ideal S1x16 .f32) ⟨a.val, by omega⟩ := (blk4 m c t _).trans (V_bf m c _)
  have h5 : ∀ k : Fin 1024, k0_pay5 (F := Ideal) (iblk m c 0 t) (iblk m c 1 t) (ix2 r k) = normed (xf m c (seqOf t) (posOf t r)) (wf m c) k := fun k => by
    rw [pay5_apply, row_eq, w_eq]
  rw [hb]
  simp only [hw, h5, wfOf, bfOf, dif_pos a.isLt]
  rfl

/-- The scratch a point starts from. -/
def startAt (c : Dev nD) (t : Fin cfg0.N) : Vec Ideal S16x128 .f32 :=
  if t.val % 8 = 0 then k0_pay1 (F := Ideal)
  else (outsAt0 m c (t.val - 1) (Nat.lt_of_le_of_lt (Nat.sub_le _ _) t.isLt)).2.2.2.2

theorem outs_eq (c : Dev nD) (t : Fin cfg0.N) :
    outsAt0 m c t.val t.isLt = (qOut (iblk m c 0 t) (iblk m c 1 t) (iblk m c 2 t) (iblk m c 5 t) (iblk m c 7 t) (iblk m c 8 t), kOut (iblk m c 0 t) (iblk m c 1 t) (iblk m c 2 t) (iblk m c 6 t) (iblk m c 7 t) (iblk m c 8 t), vOut (iblk m c 0 t) (iblk m c 1 t) (iblk m c 2 t),
      ctOut (iblk m c 0 t) (iblk m c 1 t) (iblk m c 3 t) (iblk m c 4 t) (carryOf (startAt m c t)), ctLast (iblk m c 0 t) (iblk m c 1 t) (iblk m c 3 t) (iblk m c 4 t) (carryOf (startAt m c t))) := by
  unfold startAt
  by_cases h0 : t.val % 8 = 0
  · rw [if_pos h0, outsAt0_A m c t h0, out0_A_9_eq, out0_A_10_eq, out0_A_11_eq, out0_A_12_eq, sout0_A_0_eq]
  · rw [if_neg h0, outsAt0_B m c t h0, out0_B_9_eq, out0_B_10_eq, out0_B_11_eq, out0_B_12_eq, sout0_B_0_eq]

/-- A block's running sums on top of a carried sum of the gates before it. -/
theorem ct_step (c : Dev nD) (t : Fin cfg0.N) (a : Fin 16) (r : Fin 1024) (s : Vec Ideal S16x1 .f32)
    (hs : s (ix2 a 0) = gateSum (xf m c (seqOf t)) (wf m c) (winf m c) (bf m c) a (t.val % 8 * 1024)) :
    ctB (k0_pay5 (F := Ideal) (iblk m c 0 t) (iblk m c 1 t)) (iblk m c 3 t) (iblk m c 4 t) s (ix2 a r) = gateSum (xf m c (seqOf t)) (wf m c) (winf m c) (bf m c) a (t.val % 8 * 1024 + r.val + 1) := by
  rw [ctB_apply _ _ _ _ (fun i => gateAt (xf m c (seqOf t)) (wf m c) (winf m c) (bf m c) a (t.val % 8 * 1024 + i)) a (fun j => log_at m c t a j) r, hs]
  unfold gateSum
  rw [Nat.add_assoc, Finset.sum_range_add _ (t.val % 8 * 1024) (r.val + 1)]
  exact add_comm _ _

/-- What a point starts from: the sum of the gates of all the rows before. -/
theorem start_at (c : Dev nD) (a : Fin 16) : ∀ (n : Nat) (hn : n < cfg0.N),
    startAt m c ⟨n, hn⟩ (ix2 a 0) = gateSum (xf m c (seqOf ⟨n, hn⟩)) (wf m c) (winf m c) (bf m c) a (n % 8 * 1024) := by
  intro n
  induction n with
  | zero =>
    intro hn
    unfold startAt
    rw [if_pos (show (⟨0, hn⟩ : Fin cfg0.N).val % 8 = 0 from rfl), pay1_apply]
    rfl
  | succ n ih =>
    intro hn
    unfold startAt
    by_cases h0 : (n + 1) % 8 = 0
    · rw [if_pos h0, pay1_apply, h0]
      rfl
    · rw [if_neg h0]
      have hn' : n < cfg0.N := Nat.lt_of_succ_lt hn
      have ho := outs_eq m c ⟨n, hn'⟩
      dsimp only at ho
      show (outsAt0 m c n _).2.2.2.2 (ix2 a 0) = _
      rw [ho]
      have e1 : seqOf ⟨n + 1, hn⟩ = seqOf ⟨n, hn'⟩ := Fin.ext (by show (n + 1) / 8 = n / 8; omega)
      have e2 : (n + 1) % 8 * 1024 = n % 8 * 1024 + 1023 + 1 := by omega
      rw [e1, e2]
      exact ct_step m c ⟨n, hn'⟩ a ⟨1023, by omega⟩ _ ((carryOf_apply _ a).trans (ih hn'))

theorem ct_at (c : Dev nD) (t : Fin cfg0.N) (a : Fin 16) (r : Fin 1024) :
    ctOut (iblk m c 0 t) (iblk m c 1 t) (iblk m c 3 t) (iblk m c 4 t) (carryOf (startAt m c t)) (ix3 0 a r) = gateSum (xf m c (seqOf t)) (wf m c) (winf m c) (bf m c) a ((posOf t r).val + 1) :=
  ct_step m c t a r _ ((carryOf_apply _ a).trans (start_at m c a t.val t.isLt))

theorem emb9 (t : Fin cfg0.N) (r : Fin 1024) (j : Fin 1024) :
    ((cfg0.win 9).blk t).view.emb (ix3 0 r j) = (ix3 (seqOf t) (posOf t r) j : S2x8192x1024.Idx) := by
  show (win0_9.rect t).emb (ix3 0 r j) = _
  refine funext fun a => Fin.ext ?_
  rw [Pipeline.Window.rect_emb_val win0_9 t _ a]
  match a with
  | ⟨0, _⟩ => show win0_9.index t 0 * 1 + 0 = t.val / 8; rw [(idx9 t).1]; all_goals omega
  | ⟨1, _⟩ => show win0_9.index t 1 * 1024 + r.val = t.val % 8 * 1024 + r.val; rw [(idx9 t).2.1]
  | ⟨2, _⟩ => show win0_9.index t 2 * 1024 + j.val = j.val; rw [(idx9 t).2.2]; all_goals omega

theorem covers9 : (cfg0.win 9).Covers := by decide +kernel

/-- What the array `main_v39_0` ends with. -/
def G9 (c : Dev nD) : Buf (Elt Ideal) ((c : Thread nD τ).loc main_v39_0) := resultQ (m ((c : Thread nD τ).loc main_arg0) : FVec Ideal S2x8192x1024 .f32) (m ((c : Thread nD τ).loc main_arg1) : FVec Ideal S4x1024 .f32) (m ((c : Thread nD τ).loc main_arg2) : FVec Ideal S1x1024x3088 .f32) (m ((c : Thread nD τ).loc main_arg4) : FVec Ideal S1x64 .f32)

theorem flushed9_eq (c : Dev nD) (t : Fin cfg0.N) :
    (dats m 0 c).flushed 9 t = ((cfg0.win 9).blk t).view.read (Elt Ideal) (G9 m c) := by
  rw [Value.flushed9]
  funext y
  obtain ⟨r, j, rfl⟩ : ∃ (r : Fin 1024) (j : Fin 1024), y = ix3 0 r j := ix_block y
  rw [View.read_apply, emb9]
  show (outsAt0 m c t.val t.isLt).1 (ix3 0 r j) = _
  rw [outs_eq]
  exact q_at m c t r j

theorem final9 (c : Dev nD) : (dats m 0 c).arrAt 9 cfg0.N = G9 m c :=
  (dats m 0 c).arrAt_eq_of_cover 9 (G9 m c) (fun t _ => flushed9_eq m c t) (covers9.cover _ (Memref.isWhole_whole _))

theorem emb10 (t : Fin cfg0.N) (r : Fin 1024) (j : Fin 1024) :
    ((cfg0.win 10).blk t).view.emb (ix3 0 r j) = (ix3 (seqOf t) (posOf t r) j : S2x8192x1024.Idx) := by
  show (win0_10.rect t).emb (ix3 0 r j) = _
  refine funext fun a => Fin.ext ?_
  rw [Pipeline.Window.rect_emb_val win0_10 t _ a]
  match a with
  | ⟨0, _⟩ => show win0_10.index t 0 * 1 + 0 = t.val / 8; rw [(idx10 t).1]; all_goals omega
  | ⟨1, _⟩ => show win0_10.index t 1 * 1024 + r.val = t.val % 8 * 1024 + r.val; rw [(idx10 t).2.1]
  | ⟨2, _⟩ => show win0_10.index t 2 * 1024 + j.val = j.val; rw [(idx10 t).2.2]; all_goals omega

theorem covers10 : (cfg0.win 10).Covers := by decide +kernel

/-- What the array `main_v39_1` ends with. -/
def G10 (c : Dev nD) : Buf (Elt Ideal) ((c : Thread nD τ).loc main_v39_1) := resultK (m ((c : Thread nD τ).loc main_arg0) : FVec Ideal S2x8192x1024 .f32) (m ((c : Thread nD τ).loc main_arg1) : FVec Ideal S4x1024 .f32) (m ((c : Thread nD τ).loc main_arg2) : FVec Ideal S1x1024x3088 .f32) (m ((c : Thread nD τ).loc main_arg5) : FVec Ideal S1x64 .f32)

theorem flushed10_eq (c : Dev nD) (t : Fin cfg0.N) :
    (dats m 0 c).flushed 10 t = ((cfg0.win 10).blk t).view.read (Elt Ideal) (G10 m c) := by
  rw [Value.flushed10]
  funext y
  obtain ⟨r, j, rfl⟩ : ∃ (r : Fin 1024) (j : Fin 1024), y = ix3 0 r j := ix_block y
  rw [View.read_apply, emb10]
  show (outsAt0 m c t.val t.isLt).2.1 (ix3 0 r j) = _
  rw [outs_eq]
  exact k_at m c t r j

theorem final10 (c : Dev nD) : (dats m 0 c).arrAt 10 cfg0.N = G10 m c :=
  (dats m 0 c).arrAt_eq_of_cover 10 (G10 m c) (fun t _ => flushed10_eq m c t) (covers10.cover _ (Memref.isWhole_whole _))

theorem emb11 (t : Fin cfg0.N) (r : Fin 1024) (j : Fin 1024) :
    ((cfg0.win 11).blk t).view.emb (ix3 0 r j) = (ix3 (seqOf t) (posOf t r) j : S2x8192x1024.Idx) := by
  show (win0_11.rect t).emb (ix3 0 r j) = _
  refine funext fun a => Fin.ext ?_
  rw [Pipeline.Window.rect_emb_val win0_11 t _ a]
  match a with
  | ⟨0, _⟩ => show win0_11.index t 0 * 1 + 0 = t.val / 8; rw [(idx11 t).1]; all_goals omega
  | ⟨1, _⟩ => show win0_11.index t 1 * 1024 + r.val = t.val % 8 * 1024 + r.val; rw [(idx11 t).2.1]
  | ⟨2, _⟩ => show win0_11.index t 2 * 1024 + j.val = j.val; rw [(idx11 t).2.2]; all_goals omega

theorem covers11 : (cfg0.win 11).Covers := by decide +kernel

/-- What the array `main_v39_2` ends with. -/
def G11 (c : Dev nD) : Buf (Elt Ideal) ((c : Thread nD τ).loc main_v39_2) := resultV (m ((c : Thread nD τ).loc main_arg0) : FVec Ideal S2x8192x1024 .f32) (m ((c : Thread nD τ).loc main_arg1) : FVec Ideal S4x1024 .f32) (m ((c : Thread nD τ).loc main_arg2) : FVec Ideal S1x1024x3088 .f32)

theorem flushed11_eq (c : Dev nD) (t : Fin cfg0.N) :
    (dats m 0 c).flushed 11 t = ((cfg0.win 11).blk t).view.read (Elt Ideal) (G11 m c) := by
  rw [Value.flushed11]
  funext y
  obtain ⟨r, j, rfl⟩ : ∃ (r : Fin 1024) (j : Fin 1024), y = ix3 0 r j := ix_block y
  rw [View.read_apply, emb11]
  show (outsAt0 m c t.val t.isLt).2.2.1 (ix3 0 r j) = _
  rw [outs_eq]
  exact v_at m c t r j

theorem final11 (c : Dev nD) : (dats m 0 c).arrAt 11 cfg0.N = G11 m c :=
  (dats m 0 c).arrAt_eq_of_cover 11 (G11 m c) (fun t _ => flushed11_eq m c t) (covers11.cover _ (Memref.isWhole_whole _))

theorem emb12 (t : Fin cfg0.N) (r : Fin 16) (j : Fin 1024) :
    ((cfg0.win 12).blk t).view.emb (ix3 0 r j) = (ix3 (seqOf t) r (posOf t j) : S2x16x8192.Idx) := by
  show (win0_12.rect t).emb (ix3 0 r j) = _
  refine funext fun a => Fin.ext ?_
  rw [Pipeline.Window.rect_emb_val win0_12 t _ a]
  match a with
  | ⟨0, _⟩ => show win0_12.index t 0 * 1 + 0 = t.val / 8; rw [(idx12 t).1]; all_goals omega
  | ⟨1, _⟩ => show win0_12.index t 1 * 16 + r.val = r.val; rw [(idx12 t).2.1]; all_goals omega
  | ⟨2, _⟩ => show win0_12.index t 2 * 1024 + j.val = t.val % 8 * 1024 + j.val; rw [(idx12 t).2.2]

theorem covers12 : (cfg0.win 12).Covers := by decide +kernel

/-- What the array `main_v39_3` ends with. -/
def G12 (c : Dev nD) : Buf (Elt Ideal) ((c : Thread nD τ).loc main_v39_3) := resultT (m ((c : Thread nD τ).loc main_arg0) : FVec Ideal S2x8192x1024 .f32) (m ((c : Thread nD τ).loc main_arg1) : FVec Ideal S4x1024 .f32) (m ((c : Thread nD τ).loc main_arg2) : FVec Ideal S1x1024x3088 .f32) (m ((c : Thread nD τ).loc main_arg3) : FVec Ideal S1x16 .f32)

theorem flushed12_eq (c : Dev nD) (t : Fin cfg0.N) :
    (dats m 0 c).flushed 12 t = ((cfg0.win 12).blk t).view.read (Elt Ideal) (G12 m c) := by
  rw [Value.flushed12]
  funext y
  obtain ⟨r, j, rfl⟩ : ∃ (r : Fin 16) (j : Fin 1024), y = ix3 0 r j := ix_ct y
  rw [View.read_apply, emb12]
  show (outsAt0 m c t.val t.isLt).2.2.2.1 (ix3 0 r j) = _
  rw [outs_eq]
  exact ct_at m c t r j

theorem final12 (c : Dev nD) : (dats m 0 c).arrAt 12 cfg0.N = G12 m c :=
  (dats m 0 c).arrAt_eq_of_cover 12 (G12 m c) (fun t _ => flushed12_eq m c t) (covers12.cover _ (Memref.isWhole_whole _))

end Cert.Kernel7Ideal.Block

end
-- ==== Proof.FoxInRef.lean ====
/- The reference of the forgetting attention's input side, read at an index: the same row functions. -/
module

public import proofs.«01_k».proof.Proof.FoxLayer
public import proofs.«01_k».proof.Proof.Gen.Reference7Ideal.Read

@[expose] public section

set_option maxRecDepth 65536

noncomputable section

namespace Cert.Reference7Ideal.RowValue

open Cert.Reference7Ideal Cert.Reference7Ideal.Gen Cert.Reference7Ideal.Read Cert.Layer Idealize.ShloMosaic Idealize.ShloMosaic.TcCoe Idealize.SL.Sem

variable (x0 : FVec Ideal S2x8192x1024 .f32) (x1 : FVec Ideal S4x1024 .f32) (x2 : FVec Ideal S1x1024x3088 .f32) (x3 : FVec Ideal S1x16 .f32) (x4 : FVec Ideal S1x64 .f32) (x5 : FVec Ideal S1x64 .f32)

theorem h_apply (b : Fin 2) (s : Fin 8192) (k : Fin 1024) :
    val_main_v14 (F := Ideal) x0 x1 (ix3 b s k) = normed (fun k => x0 (ix3 b s k)) (fun k => x1 (ix2 1 k)) k := by
  unfold normed rowScale
  unfold val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise

theorem proj_apply (b : Fin 2) (s : Fin 8192) (c : Fin 3088) :
    val_main_v16 (F := Ideal) x0 x1 x2 (ix3 b s c) = foxProj (normed (fun k => x0 (ix3 b s k)) (fun k => x1 (ix2 1 k))) (fun k c => x2 (ix3 0 k c)) c := by
  unfold foxProj
  simp only [← h_apply]
  unfold val_main_v16 val_main_v15
  pointwise

theorem ql_apply (b : Fin 2) (s : Fin 8192) (c : Fin 1024) :
    val_main_v17 (F := Ideal) x0 x1 x2 (ix3 b s c) = foxProj (normed (fun k => x0 (ix3 b s k)) (fun k => x1 (ix2 1 k))) (fun k c => x2 (ix3 0 k c)) ⟨c.val, by omega⟩ := by
  simp only [← proj_apply]
  unfold val_main_v17
  pointwise

theorem kl_apply (b : Fin 2) (s : Fin 8192) (c : Fin 1024) :
    val_main_v18 (F := Ideal) x0 x1 x2 (ix3 b s c) = foxProj (normed (fun k => x0 (ix3 b s k)) (fun k => x1 (ix2 1 k))) (fun k c => x2 (ix3 0 k c)) ⟨1024 + c.val, by omega⟩ := by
  simp only [← proj_apply]
  unfold val_main_v18
  pointwise

theorem v_apply (b : Fin 2) (s : Fin 8192) (c : Fin 1024) :
    val_main_v65 (F := Ideal) x0 x1 x2 (ix3 b s c) = foxProj (normed (fun k => x0 (ix3 b s k)) (fun k => x1 (ix2 1 k))) (fun k c => x2 (ix3 0 k c)) ⟨2048 + c.val, by omega⟩ := by
  simp only [← proj_apply]
  unfold val_main_v65 val_main_v19
  pointwise

/-- A row of 1024 numbers and its sixteen heads: the number a position of a head is. -/
theorem head_idx (b : Fin 2) (s : Fin 8192) (a : Fin 16) (d : Fin 64) : idx_main_v21 (ix4 b s a d) = ix3 b s ⟨a.val * 64 + d.val, by omega⟩ := by
  funext x
  match x with
  | ⟨0, _⟩ => exact Fin.ext (by show (((b.val * 8192 + s.val) * 16 + a.val) * 64 + d.val) / 8388608 = b.val; omega)
  | ⟨1, _⟩ => exact Fin.ext (by show (((b.val * 8192 + s.val) * 16 + a.val) * 64 + d.val) / 1024 % 8192 = s.val; omega)
  | ⟨2, _⟩ => exact Fin.ext (by show (((b.val * 8192 + s.val) * 16 + a.val) * 64 + d.val) % 1024 = a.val * 64 + d.val; omega)

theorem col_idx (b : Fin 2) (s : Fin 8192) (c : Fin 1024) : idx_main_v61 (ix3 b s c) = ix4 b s ⟨c.val / 64, by omega⟩ ⟨c.val % 64, by omega⟩ := by
  funext x
  match x with
  | ⟨0, _⟩ => exact Fin.ext (by show ((b.val * 8192 + s.val) * 1024 + c.val) / 8388608 = b.val; omega)
  | ⟨1, _⟩ => exact Fin.ext (by show ((b.val * 8192 + s.val) * 1024 + c.val) / 1024 % 8192 = s.val; omega)
  | ⟨2, _⟩ => exact Fin.ext (by show ((b.val * 8192 + s.val) * 1024 + c.val) / 64 % 16 = c.val / 64; omega)
  | ⟨3, _⟩ => exact Fin.ext (by show ((b.val * 8192 + s.val) * 1024 + c.val) % 64 = c.val % 64; omega)

theorem q_head (b : Fin 2) (s : Fin 8192) (a : Fin 16) (d : Fin 64) :
    val_main_v21 (F := Ideal) x0 x1 x2 (ix4 b s a d) = foxProj (normed (fun k => x0 (ix3 b s k)) (fun k => x1 (ix2 1 k))) (fun k c => x2 (ix3 0 k c)) ⟨(a.val * 64 + d.val), by omega⟩ := by
  refine (val_main_v21_apply (F := Ideal) x0 x1 x2 _).trans ((congrArg _ (head_idx b s a d)).trans ?_)
  exact ql_apply x0 x1 x2 b s _

theorem q_scaled (b : Fin 2) (s : Fin 8192) (a : Fin 16) (d : Fin 64) :
    val_main_v37 (F := Ideal) x0 x1 x2 x4 (ix4 b s a d)
      = val_main_v21 (F := Ideal) x0 x1 x2 (ix4 b s a d) * Ideal.rsqrt (Ideal.div (∑ d : Fin 64, val_main_v21 (F := Ideal) x0 x1 x2 (ix4 b s a d) * val_main_v21 (F := Ideal) x0 x1 x2 (ix4 b s a d)) headWidth + rootEps) * x4 (ix2 0 d) * Ideal.ofBits FTy.f32 0x3E38AA3B#32 := by
  unfold headWidth rootEps
  unfold val_main_v37 val_main_v36 val_main_v35 val_main_v34 val_main_v33 val_main_v32 val_main_v31 val_main_v30 val_main_v29 val_main_v28 val_main_v27 val_main_v26 val_main_v25 val_main_v24 val_main_v23 val_main_v22 val_main_cst_2 val_main_cst_3 val_main_cst_4 val_main_cst_5
  pointwise

theorem q_apply (b : Fin 2) (s : Fin 8192) (c : Fin 1024) :
    val_main_v62 (F := Ideal) x0 x1 x2 x4 (ix3 b s c) = headNormed (fun c => foxProj (normed (fun k => x0 (ix3 b s k)) (fun k => x1 (ix2 1 k))) (fun k c => x2 (ix3 0 k c)) ⟨c.val, by omega⟩) (fun d => x4 (ix2 0 d) * Ideal.ofBits FTy.f32 0x3E38AA3B#32) c := by
  refine Eq.trans (b := val_main_v61 (F := Ideal) x0 x1 x2 x4 (ix3 b s c)) rfl ?_
  refine (val_main_v61_apply (F := Ideal) x0 x1 x2 x4 _).trans ((congrArg _ (col_idx b s c)).trans ?_)
  rw [q_scaled]
  simp only [q_head, show c.val / 64 * 64 + c.val % 64 = c.val by omega]
  unfold headNormed headScale
  exact mul_assoc _ _ _

theorem k_head (b : Fin 2) (s : Fin 8192) (a : Fin 16) (d : Fin 64) :
    val_main_v38 (F := Ideal) x0 x1 x2 (ix4 b s a d) = foxProj (normed (fun k => x0 (ix3 b s k)) (fun k => x1 (ix2 1 k))) (fun k c => x2 (ix3 0 k c)) ⟨1024 + (a.val * 64 + d.val), by omega⟩ := by
  refine (val_main_v38_apply (F := Ideal) x0 x1 x2 _).trans ((congrArg _ (head_idx b s a d)).trans ?_)
  exact kl_apply x0 x1 x2 b s _

theorem k_scaled (b : Fin 2) (s : Fin 8192) (a : Fin 16) (d : Fin 64) :
    val_main_v52 (F := Ideal) x0 x1 x2 x5 (ix4 b s a d)
      = val_main_v38 (F := Ideal) x0 x1 x2 (ix4 b s a d) * Ideal.rsqrt (Ideal.div (∑ d : Fin 64, val_main_v38 (F := Ideal) x0 x1 x2 (ix4 b s a d) * val_main_v38 (F := Ideal) x0 x1 x2 (ix4 b s a d)) headWidth + rootEps) * x5 (ix2 0 d) := by
  unfold headWidth rootEps
  unfold val_main_v52 val_main_v51 val_main_v50 val_main_v49 val_main_v48 val_main_v47 val_main_v46 val_main_v45 val_main_v44 val_main_v43 val_main_v42 val_main_v41 val_main_v40 val_main_v39 val_main_cst_6 val_main_cst_7 val_main_cst_8
  pointwise

theorem k_apply (b : Fin 2) (s : Fin 8192) (c : Fin 1024) :
    val_main_v64 (F := Ideal) x0 x1 x2 x5 (ix3 b s c) = headNormed (fun c => foxProj (normed (fun k => x0 (ix3 b s k)) (fun k => x1 (ix2 1 k))) (fun k c => x2 (ix3 0 k c)) ⟨1024 + c.val, by omega⟩) (fun d => x5 (ix2 0 d)) c := by
  refine Eq.trans (b := val_main_v63 (F := Ideal) x0 x1 x2 x5 (ix3 b s c)) rfl ?_
  refine (val_main_v63_apply (F := Ideal) x0 x1 x2 x5 _).trans ((congrArg _ (col_idx b s c)).trans ?_)
  rw [k_scaled]
  simp only [k_head, show c.val / 64 * 64 + c.val % 64 = c.val by omega]
  unfold headNormed headScale
  rfl

theorem gate_lin (b : Fin 2) (s : Fin 8192) (a : Fin 16) :
    val_main_v56 (F := Ideal) x0 x1 x2 x3 (ix3 b s a) = foxProj (normed (fun k => x0 (ix3 b s k)) (fun k => x1 (ix2 1 k))) (fun k c => x2 (ix3 0 k c)) ⟨3072 + a.val, by omega⟩ + x3 (ix2 0 a) := by
  simp only [← proj_apply]
  unfold val_main_v56 val_main_v55 val_main_v54 val_main_v53 val_main_v20
  pointwise

theorem gate_apply (b : Fin 2) (s : Fin 8192) (a : Fin 16) :
    val_main_v59 (F := Ideal) x0 x1 x2 x3 (ix3 b s a) = foxLog (normed (fun k => x0 (ix3 b s k)) (fun k => x1 (ix2 1 k))) (fun k c => x2 (ix3 0 k c)) (fun a => x3 (ix2 0 a)) a := by
  unfold foxLog softplus
  simp only [← gate_lin]
  unfold val_main_v59 val_main_v58 val_main_v57 val_main_cst_9 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0
  pointwise
  rw [if_neg (not_not.mpr rfl)]
  simp only [zero_sub]
  rfl

/-- The window of the running sum: one number of the batch, all of the positions, one head. -/
def windowEquiv : Fin 8192 ≃ Fin (Shape.numel ⟨3, ![1, 8192, 1]⟩) where
  toFun i := ⟨i.val, i.isLt⟩
  invFun n := ⟨n.val, n.isLt⟩
  left_inv _ := rfl
  right_inv _ := rfl

theorem window_pos (n : Fin (Shape.numel ⟨3, ![1, 8192, 1]⟩)) :
    ((Shape.rowMajor ⟨3, ![1, 8192, 1]⟩).symm n 0).val = 0 ∧ ((Shape.rowMajor ⟨3, ![1, 8192, 1]⟩).symm n 1).val = n.val ∧ ((Shape.rowMajor ⟨3, ![1, 8192, 1]⟩).symm n 2).val = 0 := by
  have e := congrArg Fin.val ((Shape.rowMajor ⟨3, ![1, 8192, 1]⟩).apply_symm_apply n)
  rw [Shape.rowMajor_val_three] at e
  have h0 : ((Shape.rowMajor ⟨3, ![1, 8192, 1]⟩).symm n 0).val < 1 := ((Shape.rowMajor ⟨3, ![1, 8192, 1]⟩).symm n 0).isLt
  have h2 : ((Shape.rowMajor ⟨3, ![1, 8192, 1]⟩).symm n 2).val < 1 := ((Shape.rowMajor ⟨3, ![1, 8192, 1]⟩).symm n 2).isLt
  have e' : (((Shape.rowMajor ⟨3, ![1, 8192, 1]⟩).symm n 0).val * 8192 + ((Shape.rowMajor ⟨3, ![1, 8192, 1]⟩).symm n 1).val) * 1 + ((Shape.rowMajor ⟨3, ![1, 8192, 1]⟩).symm n 2).val = n.val := e
  omega

/-- The running sum over the positions, as a sum over a range. -/
theorem running_sum (x : FVec Ideal S2x8192x16 .f32) (v : FVec Ideal S_ .f32) (hv : v (Shape.Idx.first h_S_) = (0 : EReal)) (b : Fin 2) (s : Fin 8192) (a : Fin 16) :
    Host.reduceWindowAdd ![1, 8192, 1] ![1, 1, 1] ![0, 8191, 0] ![0, 0, 0] x v reduceWindows_S2x8192x16_S2x8192x16_w1s1p0_0_w8192s1p8191_0_w1s1p0_0 h_S_ (ix3 b s a)
      = ∑ i ∈ Finset.range (s.val + 1), if h : i < 8192 then x (ix3 b ⟨i, h⟩ a) else (0 : EReal) := by
  rw [← window_sum (fun i => if h : i < 8192 then x (ix3 b ⟨i, h⟩ a) else (0 : EReal)) 8192 s.val s.isLt]
  unfold Host.reduceWindowAdd
  rw [Ideal.hostReduceWindowAdd_def, hv]
  unfold Ideal.hostReduceWindowAdd Host.reduceWindow
  refine (foldl_add _ _ _).trans ?_
  rw [zero_add, ← Fin.sum_univ_def]
  refine (Equiv.sum_comp windowEquiv _).symm.trans (Finset.sum_congr rfl fun i _ => ?_)
  obtain ⟨w0, w1, w2⟩ := window_pos (windowEquiv i)
  have w1' : ((Shape.rowMajor ⟨3, ![1, 8192, 1]⟩).symm (windowEquiv i) 1).val = i.val := w1
  by_cases hi : 8191 ≤ s.val + i.val
  · have hs := s.isLt
    have hb := b.isLt
    have ha := a.isLt
    have hi' := i.isLt
    rw [if_pos (show 8192 - 1 ≤ s.val + i.val from hi), dif_pos (show s.val + i.val - (8192 - 1) < 8192 by omega)]
    refine (dif_pos ?_).trans (congrArg x (funext fun y => Fin.ext ?_))
    · intro y
      match y with
      | ⟨0, _⟩ => exact ⟨Nat.zero_le _, by show b.val * 1 + ((Shape.rowMajor ⟨3, ![1, 8192, 1]⟩).symm (windowEquiv i) 0).val - 0 < 2; omega⟩
      | ⟨1, _⟩ => exact ⟨by show 8191 ≤ s.val * 1 + ((Shape.rowMajor ⟨3, ![1, 8192, 1]⟩).symm (windowEquiv i) 1).val; omega, by show s.val * 1 + ((Shape.rowMajor ⟨3, ![1, 8192, 1]⟩).symm (windowEquiv i) 1).val - 8191 < 8192; omega⟩
      | ⟨2, _⟩ => exact ⟨Nat.zero_le _, by show a.val * 1 + ((Shape.rowMajor ⟨3, ![1, 8192, 1]⟩).symm (windowEquiv i) 2).val - 0 < 16; omega⟩
    · match y with
      | ⟨0, _⟩ => show b.val * 1 + ((Shape.rowMajor ⟨3, ![1, 8192, 1]⟩).symm (windowEquiv i) 0).val - 0 = b.val; omega
      | ⟨1, _⟩ => show s.val * 1 + ((Shape.rowMajor ⟨3, ![1, 8192, 1]⟩).symm (windowEquiv i) 1).val - 8191 = s.val + i.val - (8192 - 1); omega
      | ⟨2, _⟩ => show a.val * 1 + ((Shape.rowMajor ⟨3, ![1, 8192, 1]⟩).symm (windowEquiv i) 2).val - 0 = a.val; omega
  · rw [if_neg (show ¬ 8192 - 1 ≤ s.val + i.val from hi)]
    refine dif_neg fun hin => hi ?_
    have h1 : 8191 ≤ s.val * 1 + ((Shape.rowMajor ⟨3, ![1, 8192, 1]⟩).symm (windowEquiv i) 1).val := (hin 1).1
    omega

theorem sum_apply (b : Fin 2) (s : Fin 8192) (a : Fin 16) :
    val_main_v60 (F := Ideal) x0 x1 x2 x3 (ix3 b s a) = gateSum (fun s k => x0 (ix3 b s k)) (fun k => x1 (ix2 1 k)) (fun k c => x2 (ix3 0 k c)) (fun a => x3 (ix2 0 a)) a (s.val + 1) := by
  refine (running_sum (val_main_v59 (F := Ideal) x0 x1 x2 x3) (val_main_call1_call0_v0 (F := Ideal)) ?_ b s a).trans ?_
  · unfold val_main_call1_call0_v0 val_main_call1_call0_cst
    pointwise
  · unfold gateSum gateAt
    simp only [gate_apply]

theorem t_apply (b : Fin 2) (a : Fin 16) (s : Fin 8192) :
    val_main_v66 (F := Ideal) x0 x1 x2 x3 (ix3 b a s) = gateSum (fun s k => x0 (ix3 b s k)) (fun k => x1 (ix2 1 k)) (fun k c => x2 (ix3 0 k c)) (fun a => x3 (ix2 0 a)) a (s.val + 1) := by
  simp only [← sum_apply]
  unfold val_main_v66
  generalize val_main_v60 (F := Ideal) x0 x1 x2 x3 = y
  pointwise

end Cert.Reference7Ideal.RowValue

end
-- ==== Proof.FoxInPair.lean ====
/- The forgetting attention's input side: the kernel and the reference end with the same four arrays. -/
module

public import proofs.«01_k».proof.Defs
public import proofs.«01_k».proof.Proof.FoxInArray
public import proofs.«01_k».proof.Proof.FoxInRef
public import proofs.«01_k».proof.Proof.Gen.Reference7Ideal.Run

@[expose] public section

set_option maxRecDepth 65536

noncomputable section

namespace Cert.Kernel7Ideal.Pair

open Cert.Layer Idealize.ShloMosaic Idealize.ShloMosaic.TcCoe Idealize.SL.Sem

variable (a0 : FVec Ideal Cert.Reference7Ideal.S2x8192x1024 .f32) (a1 : FVec Ideal Cert.Reference7Ideal.S4x1024 .f32) (a2 : FVec Ideal Cert.Reference7Ideal.S1x1024x3088 .f32) (a3 : FVec Ideal Cert.Reference7Ideal.S1x16 .f32) (a4 : FVec Ideal Cert.Reference7Ideal.S1x64 .f32) (a5 : FVec Ideal Cert.Reference7Ideal.S1x64 .f32)

theorem q_eq : Cert.Reference7Ideal.Read.val_main_v62 (F := Ideal) a0 a1 a2 a4 = Cert.Kernel7Ideal.Block.resultQ a0 a1 a2 a4 := by
  funext y
  obtain ⟨b, s, j, rfl⟩ : ∃ (b : Fin 2) (s : Fin 8192) (j : Fin 1024), y = ix3 b s j := ⟨y 0, y 1, y 2, ValueIdx.eq_ix3 y⟩
  exact Cert.Reference7Ideal.RowValue.q_apply a0 a1 a2 a4 b s j

theorem k_eq : Cert.Reference7Ideal.Read.val_main_v64 (F := Ideal) a0 a1 a2 a5 = Cert.Kernel7Ideal.Block.resultK a0 a1 a2 a5 := by
  funext y
  obtain ⟨b, s, j, rfl⟩ : ∃ (b : Fin 2) (s : Fin 8192) (j : Fin 1024), y = ix3 b s j := ⟨y 0, y 1, y 2, ValueIdx.eq_ix3 y⟩
  exact Cert.Reference7Ideal.RowValue.k_apply a0 a1 a2 a5 b s j

theorem v_eq : Cert.Reference7Ideal.Read.val_main_v65 (F := Ideal) a0 a1 a2 = Cert.Kernel7Ideal.Block.resultV a0 a1 a2 := by
  funext y
  obtain ⟨b, s, j, rfl⟩ : ∃ (b : Fin 2) (s : Fin 8192) (j : Fin 1024), y = ix3 b s j := ⟨y 0, y 1, y 2, ValueIdx.eq_ix3 y⟩
  exact Cert.Reference7Ideal.RowValue.v_apply a0 a1 a2 b s j

theorem t_eq : Cert.Reference7Ideal.Read.val_main_v66 (F := Ideal) a0 a1 a2 a3 = Cert.Kernel7Ideal.Block.resultT a0 a1 a2 a3 := by
  funext y
  obtain ⟨b, a, s, rfl⟩ : ∃ (b : Fin 2) (a : Fin 16) (s : Fin 8192), y = ix3 b a s := ⟨y 0, y 1, y 2, ValueIdx.eq_ix3 y⟩
  exact Cert.Reference7Ideal.RowValue.t_apply a0 a1 a2 a3 b a s

theorem algebraic : Cert.algebraic_Kernel7Ideal_Reference7Ideal (hKernel7Ideal := Cert.Kernel7Ideal.Gen.facts) (hReference7Ideal := Cert.Reference7Ideal.Gen.facts) := by
  intro m g m' g' _ hag
  refine ⟨fun c => Cert.Kernel7Ideal.Block.G9 m c, fun c => Cert.Kernel7Ideal.Block.G10 m c, fun c => Cert.Kernel7Ideal.Block.G11 m c, fun c => Cert.Kernel7Ideal.Block.G12 m c, ?_, ?_⟩
  · refine (θ_run _ _ _).mono (fun r h c => ?_) (Cert.Kernel7Ideal.Value.run_blocks m g)
    obtain ⟨h9, h10, h11, h12, hr⟩ := h c
    exact ⟨h9.trans (Cert.Kernel7Ideal.Block.final9 m c), h10.trans (Cert.Kernel7Ideal.Block.final10 m c), h11.trans (Cert.Kernel7Ideal.Block.final11 m c), h12.trans (Cert.Kernel7Ideal.Block.final12 m c), hr⟩
  · refine (θ_run _ _ _).mono (fun r h c => ?_) (Cert.Reference7Ideal.Value.run (F := Ideal) m' g')
    obtain ⟨h62, h64, h65, h66, hr⟩ := h c
    obtain ⟨h0, h1, h2, h3, h4, h5⟩ := hag c
    refine ⟨h62.trans ((Cert.Reference7Ideal.Read.val_main_v62_eq (F := Ideal) m' c).trans ?_), h64.trans ((Cert.Reference7Ideal.Read.val_main_v64_eq (F := Ideal) m' c).trans ?_), h65.trans ((Cert.Reference7Ideal.Read.val_main_v65_eq (F := Ideal) _ _ _).trans ?_), h66.trans ((Cert.Reference7Ideal.Read.val_main_v66_eq (F := Ideal) m' c).trans ?_), hr⟩
    · rw [h0, h1, h2, h4]
      exact q_eq _ _ _ _
    · rw [h0, h1, h2, h5]
      exact k_eq _ _ _ _
    · rw [h0, h1, h2]
      exact v_eq _ _ _
    · rw [h0, h1, h2, h3]
      exact t_eq _ _ _ _

end Cert.Kernel7Ideal.Pair

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.ConvPair
public import proofs.«01_k».proof.Proof.FfnPair
public import proofs.«01_k».proof.Proof.Ffn3Pair
public import proofs.«01_k».proof.Proof.SsdInPair
public import proofs.«01_k».proof.Proof.SsdOutPair
public import proofs.«01_k».proof.Proof.FoxInPair
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of the convolution layer leaves its arguments as they were, and has no counter to leave raised. -/
theorem reference_frame : Cert.quiescent_ReferenceIdeal (hReferenceIdeal := Cert.ReferenceIdeal.Gen.facts) :=
  fun m g _ => (θ_run _ _ _).mono (fun r h => ⟨fun c => (h c).2, sem_eq_zero_of_no_sems rfl r.2⟩)
    (Cert.ReferenceIdeal.Value.run (F := Ideal) m g)

/-- The reference of the feed-forward layer leaves its arguments as they were, and has no counter to leave raised. -/
theorem reference2_frame : Cert.quiescent_Reference2Ideal (hReference2Ideal := Cert.Reference2Ideal.Gen.facts) :=
  fun m g _ => (θ_run _ _ _).mono (fun r h => ⟨fun c => (h c).2, sem_eq_zero_of_no_sems rfl r.2⟩)
    (Cert.Reference2Ideal.Value.run (F := Ideal) m g)

/-- The reference of the feed-forward layer with the projection leaves its arguments as they were, and has no counter to leave raised. -/
theorem reference3_frame : Cert.quiescent_Reference3Ideal (hReference3Ideal := Cert.Reference3Ideal.Gen.facts) :=
  fun m g _ => (θ_run _ _ _).mono (fun r h => ⟨fun c => (h c).2, sem_eq_zero_of_no_sems rfl r.2⟩)
    (Cert.Reference3Ideal.Value.run (F := Ideal) m g)

/-- The reference of the input side of the state space layer leaves its arguments as they were, and has no counter to leave raised. -/
theorem reference5_frame : Cert.quiescent_Reference5Ideal (hReference5Ideal := Cert.Reference5Ideal.Gen.facts) :=
  fun m g _ => (θ_run _ _ _).mono (fun r h => ⟨fun c => (h c).2.2.2.2.2, sem_eq_zero_of_no_sems rfl r.2⟩)
    (Cert.Reference5Ideal.Value.run (F := Ideal) m g)

/-- The reference of the output side of the state space layer leaves its arguments as they were, and has no counter to leave raised. -/
theorem reference6_frame : Cert.quiescent_Reference6Ideal (hReference6Ideal := Cert.Reference6Ideal.Gen.facts) :=
  fun m g _ => (θ_run _ _ _).mono (fun r h => ⟨fun c => (h c).2, sem_eq_zero_of_no_sems rfl r.2⟩)
    (Cert.Reference6Ideal.Value.run (F := Ideal) m g)

/-- The reference of the input side of the attention layer leaves its arguments as they were, and has no counter to leave raised. -/
theorem reference7_frame : Cert.quiescent_Reference7Ideal (hReference7Ideal := Cert.Reference7Ideal.Gen.facts) :=
  fun m g _ => (θ_run _ _ _).mono (fun r h => ⟨fun c => (h c).2.2.2.2, sem_eq_zero_of_no_sems rfl r.2⟩)
    (Cert.Reference7Ideal.Value.run (F := Ideal) m g)

theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   fun m g _ => Cert.Kernel.Gen.frame m g, fun m g _ => Cert.KernelIdeal.Gen.frame m g, reference_frame,
   fun m g _ => Cert.Kernel2.Gen.frame m g, fun m g _ => Cert.Kernel2Ideal.Gen.frame m g, reference2_frame,
   fun m g _ => Cert.Kernel3.Gen.frame m g, fun m g _ => Cert.Kernel3Ideal.Gen.frame m g, reference3_frame,
   fun m g _ => Cert.Kernel4.Gen.frame m g, fun m g _ => Cert.Kernel4Ideal.Gen.frame m g,
   fun m g _ => Cert.Kernel5.Gen.frame m g, fun m g _ => Cert.Kernel5Ideal.Gen.frame m g, reference5_frame,
   fun m g _ => Cert.Kernel6.Gen.frame m g, fun m g _ => Cert.Kernel6Ideal.Gen.frame m g, reference6_frame,
   fun m g _ => Cert.Kernel7.Gen.frame m g, fun m g _ => Cert.Kernel7Ideal.Gen.frame m g, reference7_frame,
   trivial, Cert.KernelIdeal.Pair.algebraic,
   trivial, Cert.Kernel2Ideal.Pair.algebraic,
   trivial, Cert.Kernel3Ideal.Pair.algebraic,
   trivial,
   trivial, Cert.Kernel5Ideal.Pair.algebraic,
   trivial, Cert.Kernel6Ideal.Pair.algebraic,
   trivial, Cert.Kernel7Ideal.Pair.algebraic⟩

end Cert.Proof

end
